-- ==== Defs.lean ====
def Pre_Logits (m : (ℓ : Loc Cert.Logits.nD Cert.Logits.τ Cert.Logits.sig) → Buf (Elt Bits) ℓ) : Prop :=
  True

def Pre_LogitsIdeal (m : (ℓ : Loc Cert.LogitsIdeal.nD Cert.LogitsIdeal.τ Cert.LogitsIdeal.sig) → Buf (Elt Ideal) ℓ) : Prop :=
  True

def Pre_LogitsRefIdeal (m : (ℓ : Loc Cert.LogitsRefIdeal.nD Cert.LogitsRefIdeal.τ Cert.LogitsRefIdeal.sig) → Buf (Elt Ideal) ℓ) : Prop :=
  True

def Pre_Down0 (m : (ℓ : Loc Cert.Down0.nD Cert.Down0.τ Cert.Down0.sig) → Buf (Elt Bits) ℓ) : Prop :=
  True

def Pre_Down0Ideal (m : (ℓ : Loc Cert.Down0Ideal.nD Cert.Down0Ideal.τ Cert.Down0Ideal.sig) → Buf (Elt Ideal) ℓ) : Prop :=
  True

def Pre_Down0RefIdeal (m : (ℓ : Loc Cert.Down0RefIdeal.nD Cert.Down0RefIdeal.τ Cert.Down0RefIdeal.sig) → Buf (Elt Ideal) ℓ) : Prop :=
  True

def Pre_Down1 (m : (ℓ : Loc Cert.Down1.nD Cert.Down1.τ Cert.Down1.sig) → Buf (Elt Bits) ℓ) : Prop :=
  True

def Pre_Down1Ideal (m : (ℓ : Loc Cert.Down1Ideal.nD Cert.Down1Ideal.τ Cert.Down1Ideal.sig) → Buf (Elt Ideal) ℓ) : Prop :=
  True

def Pre_Down1RefIdeal (m : (ℓ : Loc Cert.Down1RefIdeal.nD Cert.Down1RefIdeal.τ Cert.Down1RefIdeal.sig) → Buf (Elt Ideal) ℓ) : Prop :=
  True

def Pre_Merge0 (m : (ℓ : Loc Cert.Merge0.nD Cert.Merge0.τ Cert.Merge0.sig) → Buf (Elt Bits) ℓ) : Prop :=
  True

def Pre_Merge0Ideal (m : (ℓ : Loc Cert.Merge0Ideal.nD Cert.Merge0Ideal.τ Cert.Merge0Ideal.sig) → Buf (Elt Ideal) ℓ) : Prop :=
  True

def Pre_Merge0RefIdeal (m : (ℓ : Loc Cert.Merge0RefIdeal.nD Cert.Merge0RefIdeal.τ Cert.Merge0RefIdeal.sig) → Buf (Elt Ideal) ℓ) : Prop :=
  True

def Pre_Merge1 (m : (ℓ : Loc Cert.Merge1.nD Cert.Merge1.τ Cert.Merge1.sig) → Buf (Elt Bits) ℓ) : Prop :=
  True

def Pre_Merge1Ideal (m : (ℓ : Loc Cert.Merge1Ideal.nD Cert.Merge1Ideal.τ Cert.Merge1Ideal.sig) → Buf (Elt Ideal) ℓ) : Prop :=
  True

def Pre_Merge1RefIdeal (m : (ℓ : Loc Cert.Merge1RefIdeal.nD Cert.Merge1RefIdeal.τ Cert.Merge1RefIdeal.sig) → Buf (Elt Ideal) ℓ) : Prop :=
  True

def Pre_Out0 (m : (ℓ : Loc Cert.Out0.nD Cert.Out0.τ Cert.Out0.sig) → Buf (Elt Bits) ℓ) : Prop :=
  True

def Pre_Out0Ideal (m : (ℓ : Loc Cert.Out0Ideal.nD Cert.Out0Ideal.τ Cert.Out0Ideal.sig) → Buf (Elt Ideal) ℓ) : Prop :=
  True

def Pre_Out0RefIdeal (m : (ℓ : Loc Cert.Out0RefIdeal.nD Cert.Out0RefIdeal.τ Cert.Out0RefIdeal.sig) → Buf (Elt Ideal) ℓ) : Prop :=
  True

def Pre_Out1 (m : (ℓ : Loc Cert.Out1.nD Cert.Out1.τ Cert.Out1.sig) → Buf (Elt Bits) ℓ) : Prop :=
  True

def Pre_Out1Ideal (m : (ℓ : Loc Cert.Out1Ideal.nD Cert.Out1Ideal.τ Cert.Out1Ideal.sig) → Buf (Elt Ideal) ℓ) : Prop :=
  True

def Pre_Out1RefIdeal (m : (ℓ : Loc Cert.Out1RefIdeal.nD Cert.Out1RefIdeal.τ Cert.Out1RefIdeal.sig) → Buf (Elt Ideal) ℓ) : Prop :=
  True

def Pre_Qkv0 (m : (ℓ : Loc Cert.Qkv0.nD Cert.Qkv0.τ Cert.Qkv0.sig) → Buf (Elt Bits) ℓ) : Prop :=
  True

def Pre_Qkv0Ideal (m : (ℓ : Loc Cert.Qkv0Ideal.nD Cert.Qkv0Ideal.τ Cert.Qkv0Ideal.sig) → Buf (Elt Ideal) ℓ) : Prop :=
  True

def Pre_Qkv0RefIdeal (m : (ℓ : Loc Cert.Qkv0RefIdeal.nD Cert.Qkv0RefIdeal.τ Cert.Qkv0RefIdeal.sig) → Buf (Elt Ideal) ℓ) : Prop :=
  True

def Pre_Qkv1 (m : (ℓ : Loc Cert.Qkv1.nD Cert.Qkv1.τ Cert.Qkv1.sig) → Buf (Elt Bits) ℓ) : Prop :=
  True

def Pre_Qkv1Ideal (m : (ℓ : Loc Cert.Qkv1Ideal.nD Cert.Qkv1Ideal.τ Cert.Qkv1Ideal.sig) → Buf (Elt Ideal) ℓ) : Prop :=
  True

def Pre_Qkv1RefIdeal (m : (ℓ : Loc Cert.Qkv1RefIdeal.nD Cert.Qkv1RefIdeal.τ Cert.Qkv1RefIdeal.sig) → Buf (Elt Ideal) ℓ) : Prop :=
  True

def quiescent_Logits [hLogits : Cert.Logits.Facts] : Prop :=
  ∀ (m : (ℓ : Loc Cert.Logits.nD Cert.Logits.τ Cert.Logits.sig) → Buf (Elt Bits) ℓ) (g : Dev Cert.Logits.nD → PrngReg), Pre_Logits m →
    θ_run (Cert.Logits.defs (F := Bits)) (onTc (τ := Cert.Logits.τ) (Cert.Logits.main (F := Bits))) ⟨m, fun _ => 0, g⟩ (fun r => (∀ c : Dev Cert.Logits.nD,
      r.2.mem ((c.tc : Thread Cert.Logits.nD Cert.Logits.τ).loc Cert.Logits.main_arg0) = m ((c.tc : Thread Cert.Logits.nD Cert.Logits.τ).loc Cert.Logits.main_arg0)
      ∧ r.2.mem ((c.tc : Thread Cert.Logits.nD Cert.Logits.τ).loc Cert.Logits.main_arg1) = m ((c.tc : Thread Cert.Logits.nD Cert.Logits.τ).loc Cert.Logits.main_arg1)
      ∧ r.2.mem ((c.tc : Thread Cert.Logits.nD Cert.Logits.τ).loc Cert.Logits.main_arg2) = m ((c.tc : Thread Cert.Logits.nD Cert.Logits.τ).loc Cert.Logits.main_arg2)
      ∧ r.2.mem ((c.tc : Thread Cert.Logits.nD Cert.Logits.τ).loc Cert.Logits.main_arg3) = m ((c.tc : Thread Cert.Logits.nD Cert.Logits.τ).loc Cert.Logits.main_arg3)
      ∧ r.2.mem ((c.tc : Thread Cert.Logits.nD Cert.Logits.τ).loc Cert.Logits.main_arg4) = m ((c.tc : Thread Cert.Logits.nD Cert.Logits.τ).loc Cert.Logits.main_arg4)
      ∧ r.2.mem ((c.tc : Thread Cert.Logits.nD Cert.Logits.τ).loc Cert.Logits.main_arg5) = m ((c.tc : Thread Cert.Logits.nD Cert.Logits.τ).loc Cert.Logits.main_arg5)
      ∧ r.2.mem ((c.tc : Thread Cert.Logits.nD Cert.Logits.τ).loc Cert.Logits.main_arg6) = m ((c.tc : Thread Cert.Logits.nD Cert.Logits.τ).loc Cert.Logits.main_arg6)
      ∧ r.2.mem ((c.tc : Thread Cert.Logits.nD Cert.Logits.τ).loc Cert.Logits.main_arg7) = m ((c.tc : Thread Cert.Logits.nD Cert.Logits.τ).loc Cert.Logits.main_arg7))
      ∧ r.2.sem = fun _ => 0)

def quiescent_LogitsIdeal [hLogitsIdeal : Cert.LogitsIdeal.Facts] : Prop :=
  ∀ (m : (ℓ : Loc Cert.LogitsIdeal.nD Cert.LogitsIdeal.τ Cert.LogitsIdeal.sig) → Buf (Elt Ideal) ℓ) (g : Dev Cert.LogitsIdeal.nD → PrngReg), Pre_LogitsIdeal m →
    θ_run (Cert.LogitsIdeal.defs (F := Ideal)) (onTc (τ := Cert.LogitsIdeal.τ) (Cert.LogitsIdeal.main (F := Ideal))) ⟨m, fun _ => 0, g⟩ (fun r => (∀ c : Dev Cert.LogitsIdeal.nD,
      r.2.mem ((c.tc : Thread Cert.LogitsIdeal.nD Cert.LogitsIdeal.τ).loc Cert.LogitsIdeal.main_arg0) = m ((c.tc : Thread Cert.LogitsIdeal.nD Cert.LogitsIdeal.τ).loc Cert.LogitsIdeal.main_arg0)
      ∧ r.2.mem ((c.tc : Thread Cert.LogitsIdeal.nD Cert.LogitsIdeal.τ).loc Cert.LogitsIdeal.main_arg1) = m ((c.tc : Thread Cert.LogitsIdeal.nD Cert.LogitsIdeal.τ).loc Cert.LogitsIdeal.main_arg1)
      ∧ r.2.mem ((c.tc : Thread Cert.LogitsIdeal.nD Cert.LogitsIdeal.τ).loc Cert.LogitsIdeal.main_arg2) = m ((c.tc : Thread Cert.LogitsIdeal.nD Cert.LogitsIdeal.τ).loc Cert.LogitsIdeal.main_arg2)
      ∧ r.2.mem ((c.tc : Thread Cert.LogitsIdeal.nD Cert.LogitsIdeal.τ).loc Cert.LogitsIdeal.main_arg3) = m ((c.tc : Thread Cert.LogitsIdeal.nD Cert.LogitsIdeal.τ).loc Cert.LogitsIdeal.main_arg3)
      ∧ r.2.mem ((c.tc : Thread Cert.LogitsIdeal.nD Cert.LogitsIdeal.τ).loc Cert.LogitsIdeal.main_arg4) = m ((c.tc : Thread Cert.LogitsIdeal.nD Cert.LogitsIdeal.τ).loc Cert.LogitsIdeal.main_arg4)
      ∧ r.2.mem ((c.tc : Thread Cert.LogitsIdeal.nD Cert.LogitsIdeal.τ).loc Cert.LogitsIdeal.main_arg5) = m ((c.tc : Thread Cert.LogitsIdeal.nD Cert.LogitsIdeal.τ).loc Cert.LogitsIdeal.main_arg5)
      ∧ r.2.mem ((c.tc : Thread Cert.LogitsIdeal.nD Cert.LogitsIdeal.τ).loc Cert.LogitsIdeal.main_arg6) = m ((c.tc : Thread Cert.LogitsIdeal.nD Cert.LogitsIdeal.τ).loc Cert.LogitsIdeal.main_arg6)
      ∧ r.2.mem ((c.tc : Thread Cert.LogitsIdeal.nD Cert.LogitsIdeal.τ).loc Cert.LogitsIdeal.main_arg7) = m ((c.tc : Thread Cert.LogitsIdeal.nD Cert.LogitsIdeal.τ).loc Cert.LogitsIdeal.main_arg7))
      ∧ r.2.sem = fun _ => 0)

def quiescent_LogitsRefIdeal [hLogitsRefIdeal : Cert.LogitsRefIdeal.Facts] : Prop :=
  ∀ (m : (ℓ : Loc Cert.LogitsRefIdeal.nD Cert.LogitsRefIdeal.τ Cert.LogitsRefIdeal.sig) → Buf (Elt Ideal) ℓ) (g : Dev Cert.LogitsRefIdeal.nD → PrngReg), Pre_LogitsRefIdeal m →
    θ_run (Cert.LogitsRefIdeal.defs (F := Ideal)) (onTc (τ := Cert.LogitsRefIdeal.τ) (Cert.LogitsRefIdeal.main (F := Ideal))) ⟨m, fun _ => 0, g⟩ (fun r => (∀ c : Dev Cert.LogitsRefIdeal.nD,
      r.2.mem ((c.tc : Thread Cert.LogitsRefIdeal.nD Cert.LogitsRefIdeal.τ).loc Cert.LogitsRefIdeal.main_arg0) = m ((c.tc : Thread Cert.LogitsRefIdeal.nD Cert.LogitsRefIdeal.τ).loc Cert.LogitsRefIdeal.main_arg0)
      ∧ r.2.mem ((c.tc : Thread Cert.LogitsRefIdeal.nD Cert.LogitsRefIdeal.τ).loc Cert.LogitsRefIdeal.main_arg1) = m ((c.tc : Thread Cert.LogitsRefIdeal.nD Cert.LogitsRefIdeal.τ).loc Cert.LogitsRefIdeal.main_arg1)
      ∧ r.2.mem ((c.tc : Thread Cert.LogitsRefIdeal.nD Cert.LogitsRefIdeal.τ).loc Cert.LogitsRefIdeal.main_arg2) = m ((c.tc : Thread Cert.LogitsRefIdeal.nD Cert.LogitsRefIdeal.τ).loc Cert.LogitsRefIdeal.main_arg2)
      ∧ r.2.mem ((c.tc : Thread Cert.LogitsRefIdeal.nD Cert.LogitsRefIdeal.τ).loc Cert.LogitsRefIdeal.main_arg3) = m ((c.tc : Thread Cert.LogitsRefIdeal.nD Cert.LogitsRefIdeal.τ).loc Cert.LogitsRefIdeal.main_arg3)
      ∧ r.2.mem ((c.tc : Thread Cert.LogitsRefIdeal.nD Cert.LogitsRefIdeal.τ).loc Cert.LogitsRefIdeal.main_arg4) = m ((c.tc : Thread Cert.LogitsRefIdeal.nD Cert.LogitsRefIdeal.τ).loc Cert.LogitsRefIdeal.main_arg4)
      ∧ r.2.mem ((c.tc : Thread Cert.LogitsRefIdeal.nD Cert.LogitsRefIdeal.τ).loc Cert.LogitsRefIdeal.main_arg5) = m ((c.tc : Thread Cert.LogitsRefIdeal.nD Cert.LogitsRefIdeal.τ).loc Cert.LogitsRefIdeal.main_arg5)
      ∧ r.2.mem ((c.tc : Thread Cert.LogitsRefIdeal.nD Cert.LogitsRefIdeal.τ).loc Cert.LogitsRefIdeal.main_arg6) = m ((c.tc : Thread Cert.LogitsRefIdeal.nD Cert.LogitsRefIdeal.τ).loc Cert.LogitsRefIdeal.main_arg6)
      ∧ r.2.mem ((c.tc : Thread Cert.LogitsRefIdeal.nD Cert.LogitsRefIdeal.τ).loc Cert.LogitsRefIdeal.main_arg7) = m ((c.tc : Thread Cert.LogitsRefIdeal.nD Cert.LogitsRefIdeal.τ).loc Cert.LogitsRefIdeal.main_arg7))
      ∧ r.2.sem = fun _ => 0)

def quiescent_Down0 [hDown0 : Cert.Down0.Facts] : Prop :=
  ∀ (m : (ℓ : Loc Cert.Down0.nD Cert.Down0.τ Cert.Down0.sig) → Buf (Elt Bits) ℓ) (g : Dev Cert.Down0.nD → PrngReg), Pre_Down0 m →
    θ_run (Cert.Down0.defs (F := Bits)) (onTc (τ := Cert.Down0.τ) (Cert.Down0.main (F := Bits))) ⟨m, fun _ => 0, g⟩ (fun r => (∀ c : Dev Cert.Down0.nD,
      r.2.mem ((c.tc : Thread Cert.Down0.nD Cert.Down0.τ).loc Cert.Down0.main_arg0) = m ((c.tc : Thread Cert.Down0.nD Cert.Down0.τ).loc Cert.Down0.main_arg0)
      ∧ r.2.mem ((c.tc : Thread Cert.Down0.nD Cert.Down0.τ).loc Cert.Down0.main_arg1) = m ((c.tc : Thread Cert.Down0.nD Cert.Down0.τ).loc Cert.Down0.main_arg1)
      ∧ r.2.mem ((c.tc : Thread Cert.Down0.nD Cert.Down0.τ).loc Cert.Down0.main_arg2) = m ((c.tc : Thread Cert.Down0.nD Cert.Down0.τ).loc Cert.Down0.main_arg2)
      ∧ r.2.mem ((c.tc : Thread Cert.Down0.nD Cert.Down0.τ).loc Cert.Down0.main_arg3) = m ((c.tc : Thread Cert.Down0.nD Cert.Down0.τ).loc Cert.Down0.main_arg3))
      ∧ r.2.sem = fun _ => 0)

def quiescent_Down0Ideal [hDown0Ideal : Cert.Down0Ideal.Facts] : Prop :=
  ∀ (m : (ℓ : Loc Cert.Down0Ideal.nD Cert.Down0Ideal.τ Cert.Down0Ideal.sig) → Buf (Elt Ideal) ℓ) (g : Dev Cert.Down0Ideal.nD → PrngReg), Pre_Down0Ideal m →
    θ_run (Cert.Down0Ideal.defs (F := Ideal)) (onTc (τ := Cert.Down0Ideal.τ) (Cert.Down0Ideal.main (F := Ideal))) ⟨m, fun _ => 0, g⟩ (fun r => (∀ c : Dev Cert.Down0Ideal.nD,
      r.2.mem ((c.tc : Thread Cert.Down0Ideal.nD Cert.Down0Ideal.τ).loc Cert.Down0Ideal.main_arg0) = m ((c.tc : Thread Cert.Down0Ideal.nD Cert.Down0Ideal.τ).loc Cert.Down0Ideal.main_arg0)
      ∧ r.2.mem ((c.tc : Thread Cert.Down0Ideal.nD Cert.Down0Ideal.τ).loc Cert.Down0Ideal.main_arg1) = m ((c.tc : Thread Cert.Down0Ideal.nD Cert.Down0Ideal.τ).loc Cert.Down0Ideal.main_arg1)
      ∧ r.2.mem ((c.tc : Thread Cert.Down0Ideal.nD Cert.Down0Ideal.τ).loc Cert.Down0Ideal.main_arg2) = m ((c.tc : Thread Cert.Down0Ideal.nD Cert.Down0Ideal.τ).loc Cert.Down0Ideal.main_arg2)
      ∧ r.2.mem ((c.tc : Thread Cert.Down0Ideal.nD Cert.Down0Ideal.τ).loc Cert.Down0Ideal.main_arg3) = m ((c.tc : Thread Cert.Down0Ideal.nD Cert.Down0Ideal.τ).loc Cert.Down0Ideal.main_arg3))
      ∧ r.2.sem = fun _ => 0)

def quiescent_Down0RefIdeal [hDown0RefIdeal : Cert.Down0RefIdeal.Facts] : Prop :=
  ∀ (m : (ℓ : Loc Cert.Down0RefIdeal.nD Cert.Down0RefIdeal.τ Cert.Down0RefIdeal.sig) → Buf (Elt Ideal) ℓ) (g : Dev Cert.Down0RefIdeal.nD → PrngReg), Pre_Down0RefIdeal m →
    θ_run (Cert.Down0RefIdeal.defs (F := Ideal)) (onTc (τ := Cert.Down0RefIdeal.τ) (Cert.Down0RefIdeal.main (F := Ideal))) ⟨m, fun _ => 0, g⟩ (fun r => (∀ c : Dev Cert.Down0RefIdeal.nD,
      r.2.mem ((c.tc : Thread Cert.Down0RefIdeal.nD Cert.Down0RefIdeal.τ).loc Cert.Down0RefIdeal.main_arg0) = m ((c.tc : Thread Cert.Down0RefIdeal.nD Cert.Down0RefIdeal.τ).loc Cert.Down0RefIdeal.main_arg0)
      ∧ r.2.mem ((c.tc : Thread Cert.Down0RefIdeal.nD Cert.Down0RefIdeal.τ).loc Cert.Down0RefIdeal.main_arg1) = m ((c.tc : Thread Cert.Down0RefIdeal.nD Cert.Down0RefIdeal.τ).loc Cert.Down0RefIdeal.main_arg1)
      ∧ r.2.mem ((c.tc : Thread Cert.Down0RefIdeal.nD Cert.Down0RefIdeal.τ).loc Cert.Down0RefIdeal.main_arg2) = m ((c.tc : Thread Cert.Down0RefIdeal.nD Cert.Down0RefIdeal.τ).loc Cert.Down0RefIdeal.main_arg2)
      ∧ r.2.mem ((c.tc : Thread Cert.Down0RefIdeal.nD Cert.Down0RefIdeal.τ).loc Cert.Down0RefIdeal.main_arg3) = m ((c.tc : Thread Cert.Down0RefIdeal.nD Cert.Down0RefIdeal.τ).loc Cert.Down0RefIdeal.main_arg3))
      ∧ r.2.sem = fun _ => 0)

def quiescent_Down1 [hDown1 : Cert.Down1.Facts] : Prop :=
  ∀ (m : (ℓ : Loc Cert.Down1.nD Cert.Down1.τ Cert.Down1.sig) → Buf (Elt Bits) ℓ) (g : Dev Cert.Down1.nD → PrngReg), Pre_Down1 m →
    θ_run (Cert.Down1.defs (F := Bits)) (onTc (τ := Cert.Down1.τ) (Cert.Down1.main (F := Bits))) ⟨m, fun _ => 0, g⟩ (fun r => (∀ c : Dev Cert.Down1.nD,
      r.2.mem ((c.tc : Thread Cert.Down1.nD Cert.Down1.τ).loc Cert.Down1.main_arg0) = m ((c.tc : Thread Cert.Down1.nD Cert.Down1.τ).loc Cert.Down1.main_arg0)
      ∧ r.2.mem ((c.tc : Thread Cert.Down1.nD Cert.Down1.τ).loc Cert.Down1.main_arg1) = m ((c.tc : Thread Cert.Down1.nD Cert.Down1.τ).loc Cert.Down1.main_arg1)
      ∧ r.2.mem ((c.tc : Thread Cert.Down1.nD Cert.Down1.τ).loc Cert.Down1.main_arg2) = m ((c.tc : Thread Cert.Down1.nD Cert.Down1.τ).loc Cert.Down1.main_arg2)
      ∧ r.2.mem ((c.tc : Thread Cert.Down1.nD Cert.Down1.τ).loc Cert.Down1.main_arg3) = m ((c.tc : Thread Cert.Down1.nD Cert.Down1.τ).loc Cert.Down1.main_arg3))
      ∧ r.2.sem = fun _ => 0)

def quiescent_Down1Ideal [hDown1Ideal : Cert.Down1Ideal.Facts] : Prop :=
  ∀ (m : (ℓ : Loc Cert.Down1Ideal.nD Cert.Down1Ideal.τ Cert.Down1Ideal.sig) → Buf (Elt Ideal) ℓ) (g : Dev Cert.Down1Ideal.nD → PrngReg), Pre_Down1Ideal m →
    θ_run (Cert.Down1Ideal.defs (F := Ideal)) (onTc (τ := Cert.Down1Ideal.τ) (Cert.Down1Ideal.main (F := Ideal))) ⟨m, fun _ => 0, g⟩ (fun r => (∀ c : Dev Cert.Down1Ideal.nD,
      r.2.mem ((c.tc : Thread Cert.Down1Ideal.nD Cert.Down1Ideal.τ).loc Cert.Down1Ideal.main_arg0) = m ((c.tc : Thread Cert.Down1Ideal.nD Cert.Down1Ideal.τ).loc Cert.Down1Ideal.main_arg0)
      ∧ r.2.mem ((c.tc : Thread Cert.Down1Ideal.nD Cert.Down1Ideal.τ).loc Cert.Down1Ideal.main_arg1) = m ((c.tc : Thread Cert.Down1Ideal.nD Cert.Down1Ideal.τ).loc Cert.Down1Ideal.main_arg1)
      ∧ r.2.mem ((c.tc : Thread Cert.Down1Ideal.nD Cert.Down1Ideal.τ).loc Cert.Down1Ideal.main_arg2) = m ((c.tc : Thread Cert.Down1Ideal.nD Cert.Down1Ideal.τ).loc Cert.Down1Ideal.main_arg2)
      ∧ r.2.mem ((c.tc : Thread Cert.Down1Ideal.nD Cert.Down1Ideal.τ).loc Cert.Down1Ideal.main_arg3) = m ((c.tc : Thread Cert.Down1Ideal.nD Cert.Down1Ideal.τ).loc Cert.Down1Ideal.main_arg3))
      ∧ r.2.sem = fun _ => 0)

def quiescent_Down1RefIdeal [hDown1RefIdeal : Cert.Down1RefIdeal.Facts] : Prop :=
  ∀ (m : (ℓ : Loc Cert.Down1RefIdeal.nD Cert.Down1RefIdeal.τ Cert.Down1RefIdeal.sig) → Buf (Elt Ideal) ℓ) (g : Dev Cert.Down1RefIdeal.nD → PrngReg), Pre_Down1RefIdeal m →
    θ_run (Cert.Down1RefIdeal.defs (F := Ideal)) (onTc (τ := Cert.Down1RefIdeal.τ) (Cert.Down1RefIdeal.main (F := Ideal))) ⟨m, fun _ => 0, g⟩ (fun r => (∀ c : Dev Cert.Down1RefIdeal.nD,
      r.2.mem ((c.tc : Thread Cert.Down1RefIdeal.nD Cert.Down1RefIdeal.τ).loc Cert.Down1RefIdeal.main_arg0) = m ((c.tc : Thread Cert.Down1RefIdeal.nD Cert.Down1RefIdeal.τ).loc Cert.Down1RefIdeal.main_arg0)
      ∧ r.2.mem ((c.tc : Thread Cert.Down1RefIdeal.nD Cert.Down1RefIdeal.τ).loc Cert.Down1RefIdeal.main_arg1) = m ((c.tc : Thread Cert.Down1RefIdeal.nD Cert.Down1RefIdeal.τ).loc Cert.Down1RefIdeal.main_arg1)
      ∧ r.2.mem ((c.tc : Thread Cert.Down1RefIdeal.nD Cert.Down1RefIdeal.τ).loc Cert.Down1RefIdeal.main_arg2) = m ((c.tc : Thread Cert.Down1RefIdeal.nD Cert.Down1RefIdeal.τ).loc Cert.Down1RefIdeal.main_arg2)
      ∧ r.2.mem ((c.tc : Thread Cert.Down1RefIdeal.nD Cert.Down1RefIdeal.τ).loc Cert.Down1RefIdeal.main_arg3) = m ((c.tc : Thread Cert.Down1RefIdeal.nD Cert.Down1RefIdeal.τ).loc Cert.Down1RefIdeal.main_arg3))
      ∧ r.2.sem = fun _ => 0)

def quiescent_Merge0 [hMerge0 : Cert.Merge0.Facts] : Prop :=
  ∀ (m : (ℓ : Loc Cert.Merge0.nD Cert.Merge0.τ Cert.Merge0.sig) → Buf (Elt Bits) ℓ) (g : Dev Cert.Merge0.nD → PrngReg), Pre_Merge0 m →
    θ_run (Cert.Merge0.defs (F := Bits)) (onTc (τ := Cert.Merge0.τ) (Cert.Merge0.main (F := Bits))) ⟨m, fun _ => 0, g⟩ (fun r => (∀ c : Dev Cert.Merge0.nD,
      r.2.mem ((c.tc : Thread Cert.Merge0.nD Cert.Merge0.τ).loc Cert.Merge0.main_arg0) = m ((c.tc : Thread Cert.Merge0.nD Cert.Merge0.τ).loc Cert.Merge0.main_arg0)
      ∧ r.2.mem ((c.tc : Thread Cert.Merge0.nD Cert.Merge0.τ).loc Cert.Merge0.main_arg1) = m ((c.tc : Thread Cert.Merge0.nD Cert.Merge0.τ).loc Cert.Merge0.main_arg1)
      ∧ r.2.mem ((c.tc : Thread Cert.Merge0.nD Cert.Merge0.τ).loc Cert.Merge0.main_arg2) = m ((c.tc : Thread Cert.Merge0.nD Cert.Merge0.τ).loc Cert.Merge0.main_arg2))
      ∧ r.2.sem = fun _ => 0)

def quiescent_Merge0Ideal [hMerge0Ideal : Cert.Merge0Ideal.Facts] : Prop :=
  ∀ (m : (ℓ : Loc Cert.Merge0Ideal.nD Cert.Merge0Ideal.τ Cert.Merge0Ideal.sig) → Buf (Elt Ideal) ℓ) (g : Dev Cert.Merge0Ideal.nD → PrngReg), Pre_Merge0Ideal m →
    θ_run (Cert.Merge0Ideal.defs (F := Ideal)) (onTc (τ := Cert.Merge0Ideal.τ) (Cert.Merge0Ideal.main (F := Ideal))) ⟨m, fun _ => 0, g⟩ (fun r => (∀ c : Dev Cert.Merge0Ideal.nD,
      r.2.mem ((c.tc : Thread Cert.Merge0Ideal.nD Cert.Merge0Ideal.τ).loc Cert.Merge0Ideal.main_arg0) = m ((c.tc : Thread Cert.Merge0Ideal.nD Cert.Merge0Ideal.τ).loc Cert.Merge0Ideal.main_arg0)
      ∧ r.2.mem ((c.tc : Thread Cert.Merge0Ideal.nD Cert.Merge0Ideal.τ).loc Cert.Merge0Ideal.main_arg1) = m ((c.tc : Thread Cert.Merge0Ideal.nD Cert.Merge0Ideal.τ).loc Cert.Merge0Ideal.main_arg1)
      ∧ r.2.mem ((c.tc : Thread Cert.Merge0Ideal.nD Cert.Merge0Ideal.τ).loc Cert.Merge0Ideal.main_arg2) = m ((c.tc : Thread Cert.Merge0Ideal.nD Cert.Merge0Ideal.τ).loc Cert.Merge0Ideal.main_arg2))
      ∧ r.2.sem = fun _ => 0)

def quiescent_Merge0RefIdeal [hMerge0RefIdeal : Cert.Merge0RefIdeal.Facts] : Prop :=
  ∀ (m : (ℓ : Loc Cert.Merge0RefIdeal.nD Cert.Merge0RefIdeal.τ Cert.Merge0RefIdeal.sig) → Buf (Elt Ideal) ℓ) (g : Dev Cert.Merge0RefIdeal.nD → PrngReg), Pre_Merge0RefIdeal m →
    θ_run (Cert.Merge0RefIdeal.defs (F := Ideal)) (onTc (τ := Cert.Merge0RefIdeal.τ) (Cert.Merge0RefIdeal.main (F := Ideal))) ⟨m, fun _ => 0, g⟩ (fun r => (∀ c : Dev Cert.Merge0RefIdeal.nD,
      r.2.mem ((c.tc : Thread Cert.Merge0RefIdeal.nD Cert.Merge0RefIdeal.τ).loc Cert.Merge0RefIdeal.main_arg0) = m ((c.tc : Thread Cert.Merge0RefIdeal.nD Cert.Merge0RefIdeal.τ).loc Cert.Merge0RefIdeal.main_arg0)
      ∧ r.2.mem ((c.tc : Thread Cert.Merge0RefIdeal.nD Cert.Merge0RefIdeal.τ).loc Cert.Merge0RefIdeal.main_arg1) = m ((c.tc : Thread Cert.Merge0RefIdeal.nD Cert.Merge0RefIdeal.τ).loc Cert.Merge0RefIdeal.main_arg1)
      ∧ r.2.mem ((c.tc : Thread Cert.Merge0RefIdeal.nD Cert.Merge0RefIdeal.τ).loc Cert.Merge0RefIdeal.main_arg2) = m ((c.tc : Thread Cert.Merge0RefIdeal.nD Cert.Merge0RefIdeal.τ).loc Cert.Merge0RefIdeal.main_arg2))
      ∧ r.2.sem = fun _ => 0)

def quiescent_Merge1 [hMerge1 : Cert.Merge1.Facts] : Prop :=
  ∀ (m : (ℓ : Loc Cert.Merge1.nD Cert.Merge1.τ Cert.Merge1.sig) → Buf (Elt Bits) ℓ) (g : Dev Cert.Merge1.nD → PrngReg), Pre_Merge1 m →
    θ_run (Cert.Merge1.defs (F := Bits)) (onTc (τ := Cert.Merge1.τ) (Cert.Merge1.main (F := Bits))) ⟨m, fun _ => 0, g⟩ (fun r => (∀ c : Dev Cert.Merge1.nD,
      r.2.mem ((c.tc : Thread Cert.Merge1.nD Cert.Merge1.τ).loc Cert.Merge1.main_arg0) = m ((c.tc : Thread Cert.Merge1.nD Cert.Merge1.τ).loc Cert.Merge1.main_arg0)
      ∧ r.2.mem ((c.tc : Thread Cert.Merge1.nD Cert.Merge1.τ).loc Cert.Merge1.main_arg1) = m ((c.tc : Thread Cert.Merge1.nD Cert.Merge1.τ).loc Cert.Merge1.main_arg1)
      ∧ r.2.mem ((c.tc : Thread Cert.Merge1.nD Cert.Merge1.τ).loc Cert.Merge1.main_arg2) = m ((c.tc : Thread Cert.Merge1.nD Cert.Merge1.τ).loc Cert.Merge1.main_arg2))
      ∧ r.2.sem = fun _ => 0)

def quiescent_Merge1Ideal [hMerge1Ideal : Cert.Merge1Ideal.Facts] : Prop :=
  ∀ (m : (ℓ : Loc Cert.Merge1Ideal.nD Cert.Merge1Ideal.τ Cert.Merge1Ideal.sig) → Buf (Elt Ideal) ℓ) (g : Dev Cert.Merge1Ideal.nD → PrngReg), Pre_Merge1Ideal m →
    θ_run (Cert.Merge1Ideal.defs (F := Ideal)) (onTc (τ := Cert.Merge1Ideal.τ) (Cert.Merge1Ideal.main (F := Ideal))) ⟨m, fun _ => 0, g⟩ (fun r => (∀ c : Dev Cert.Merge1Ideal.nD,
      r.2.mem ((c.tc : Thread Cert.Merge1Ideal.nD Cert.Merge1Ideal.τ).loc Cert.Merge1Ideal.main_arg0) = m ((c.tc : Thread Cert.Merge1Ideal.nD Cert.Merge1Ideal.τ).loc Cert.Merge1Ideal.main_arg0)
      ∧ r.2.mem ((c.tc : Thread Cert.Merge1Ideal.nD Cert.Merge1Ideal.τ).loc Cert.Merge1Ideal.main_arg1) = m ((c.tc : Thread Cert.Merge1Ideal.nD Cert.Merge1Ideal.τ).loc Cert.Merge1Ideal.main_arg1)
      ∧ r.2.mem ((c.tc : Thread Cert.Merge1Ideal.nD Cert.Merge1Ideal.τ).loc Cert.Merge1Ideal.main_arg2) = m ((c.tc : Thread Cert.Merge1Ideal.nD Cert.Merge1Ideal.τ).loc Cert.Merge1Ideal.main_arg2))
      ∧ r.2.sem = fun _ => 0)

def quiescent_Merge1RefIdeal [hMerge1RefIdeal : Cert.Merge1RefIdeal.Facts] : Prop :=
  ∀ (m : (ℓ : Loc Cert.Merge1RefIdeal.nD Cert.Merge1RefIdeal.τ Cert.Merge1RefIdeal.sig) → Buf (Elt Ideal) ℓ) (g : Dev Cert.Merge1RefIdeal.nD → PrngReg), Pre_Merge1RefIdeal m →
    θ_run (Cert.Merge1RefIdeal.defs (F := Ideal)) (onTc (τ := Cert.Merge1RefIdeal.τ) (Cert.Merge1RefIdeal.main (F := Ideal))) ⟨m, fun _ => 0, g⟩ (fun r => (∀ c : Dev Cert.Merge1RefIdeal.nD,
      r.2.mem ((c.tc : Thread Cert.Merge1RefIdeal.nD Cert.Merge1RefIdeal.τ).loc Cert.Merge1RefIdeal.main_arg0) = m ((c.tc : Thread Cert.Merge1RefIdeal.nD Cert.Merge1RefIdeal.τ).loc Cert.Merge1RefIdeal.main_arg0)
      ∧ r.2.mem ((c.tc : Thread Cert.Merge1RefIdeal.nD Cert.Merge1RefIdeal.τ).loc Cert.Merge1RefIdeal.main_arg1) = m ((c.tc : Thread Cert.Merge1RefIdeal.nD Cert.Merge1RefIdeal.τ).loc Cert.Merge1RefIdeal.main_arg1)
      ∧ r.2.mem ((c.tc : Thread Cert.Merge1RefIdeal.nD Cert.Merge1RefIdeal.τ).loc Cert.Merge1RefIdeal.main_arg2) = m ((c.tc : Thread Cert.Merge1RefIdeal.nD Cert.Merge1RefIdeal.τ).loc Cert.Merge1RefIdeal.main_arg2))
      ∧ r.2.sem = fun _ => 0)

def quiescent_Out0 [hOut0 : Cert.Out0.Facts] : Prop :=
  ∀ (m : (ℓ : Loc Cert.Out0.nD Cert.Out0.τ Cert.Out0.sig) → Buf (Elt Bits) ℓ) (g : Dev Cert.Out0.nD → PrngReg), Pre_Out0 m →
    θ_run (Cert.Out0.defs (F := Bits)) (onTc (τ := Cert.Out0.τ) (Cert.Out0.main (F := Bits))) ⟨m, fun _ => 0, g⟩ (fun r => (∀ c : Dev Cert.Out0.nD,
      r.2.mem ((c.tc : Thread Cert.Out0.nD Cert.Out0.τ).loc Cert.Out0.main_arg0) = m ((c.tc : Thread Cert.Out0.nD Cert.Out0.τ).loc Cert.Out0.main_arg0)
      ∧ r.2.mem ((c.tc : Thread Cert.Out0.nD Cert.Out0.τ).loc Cert.Out0.main_arg1) = m ((c.tc : Thread Cert.Out0.nD Cert.Out0.τ).loc Cert.Out0.main_arg1)
      ∧ r.2.mem ((c.tc : Thread Cert.Out0.nD Cert.Out0.τ).loc Cert.Out0.main_arg2) = m ((c.tc : Thread Cert.Out0.nD Cert.Out0.τ).loc Cert.Out0.main_arg2)
      ∧ r.2.mem ((c.tc : Thread Cert.Out0.nD Cert.Out0.τ).loc Cert.Out0.main_arg3) = m ((c.tc : Thread Cert.Out0.nD Cert.Out0.τ).loc Cert.Out0.main_arg3))
      ∧ r.2.sem = fun _ => 0)

def quiescent_Out0Ideal [hOut0Ideal : Cert.Out0Ideal.Facts] : Prop :=
  ∀ (m : (ℓ : Loc Cert.Out0Ideal.nD Cert.Out0Ideal.τ Cert.Out0Ideal.sig) → Buf (Elt Ideal) ℓ) (g : Dev Cert.Out0Ideal.nD → PrngReg), Pre_Out0Ideal m →
    θ_run (Cert.Out0Ideal.defs (F := Ideal)) (onTc (τ := Cert.Out0Ideal.τ) (Cert.Out0Ideal.main (F := Ideal))) ⟨m, fun _ => 0, g⟩ (fun r => (∀ c : Dev Cert.Out0Ideal.nD,
      r.2.mem ((c.tc : Thread Cert.Out0Ideal.nD Cert.Out0Ideal.τ).loc Cert.Out0Ideal.main_arg0) = m ((c.tc : Thread Cert.Out0Ideal.nD Cert.Out0Ideal.τ).loc Cert.Out0Ideal.main_arg0)
      ∧ r.2.mem ((c.tc : Thread Cert.Out0Ideal.nD Cert.Out0Ideal.τ).loc Cert.Out0Ideal.main_arg1) = m ((c.tc : Thread Cert.Out0Ideal.nD Cert.Out0Ideal.τ).loc Cert.Out0Ideal.main_arg1)
      ∧ r.2.mem ((c.tc : Thread Cert.Out0Ideal.nD Cert.Out0Ideal.τ).loc Cert.Out0Ideal.main_arg2) = m ((c.tc : Thread Cert.Out0Ideal.nD Cert.Out0Ideal.τ).loc Cert.Out0Ideal.main_arg2)
      ∧ r.2.mem ((c.tc : Thread Cert.Out0Ideal.nD Cert.Out0Ideal.τ).loc Cert.Out0Ideal.main_arg3) = m ((c.tc : Thread Cert.Out0Ideal.nD Cert.Out0Ideal.τ).loc Cert.Out0Ideal.main_arg3))
      ∧ r.2.sem = fun _ => 0)

def quiescent_Out0RefIdeal [hOut0RefIdeal : Cert.Out0RefIdeal.Facts] : Prop :=
  ∀ (m : (ℓ : Loc Cert.Out0RefIdeal.nD Cert.Out0RefIdeal.τ Cert.Out0RefIdeal.sig) → Buf (Elt Ideal) ℓ) (g : Dev Cert.Out0RefIdeal.nD → PrngReg), Pre_Out0RefIdeal m →
    θ_run (Cert.Out0RefIdeal.defs (F := Ideal)) (onTc (τ := Cert.Out0RefIdeal.τ) (Cert.Out0RefIdeal.main (F := Ideal))) ⟨m, fun _ => 0, g⟩ (fun r => (∀ c : Dev Cert.Out0RefIdeal.nD,
      r.2.mem ((c.tc : Thread Cert.Out0RefIdeal.nD Cert.Out0RefIdeal.τ).loc Cert.Out0RefIdeal.main_arg0) = m ((c.tc : Thread Cert.Out0RefIdeal.nD Cert.Out0RefIdeal.τ).loc Cert.Out0RefIdeal.main_arg0)
      ∧ r.2.mem ((c.tc : Thread Cert.Out0RefIdeal.nD Cert.Out0RefIdeal.τ).loc Cert.Out0RefIdeal.main_arg1) = m ((c.tc : Thread Cert.Out0RefIdeal.nD Cert.Out0RefIdeal.τ).loc Cert.Out0RefIdeal.main_arg1)
      ∧ r.2.mem ((c.tc : Thread Cert.Out0RefIdeal.nD Cert.Out0RefIdeal.τ).loc Cert.Out0RefIdeal.main_arg2) = m ((c.tc : Thread Cert.Out0RefIdeal.nD Cert.Out0RefIdeal.τ).loc Cert.Out0RefIdeal.main_arg2)
      ∧ r.2.mem ((c.tc : Thread Cert.Out0RefIdeal.nD Cert.Out0RefIdeal.τ).loc Cert.Out0RefIdeal.main_arg3) = m ((c.tc : Thread Cert.Out0RefIdeal.nD Cert.Out0RefIdeal.τ).loc Cert.Out0RefIdeal.main_arg3))
      ∧ r.2.sem = fun _ => 0)

def quiescent_Out1 [hOut1 : Cert.Out1.Facts] : Prop :=
  ∀ (m : (ℓ : Loc Cert.Out1.nD Cert.Out1.τ Cert.Out1.sig) → Buf (Elt Bits) ℓ) (g : Dev Cert.Out1.nD → PrngReg), Pre_Out1 m →
    θ_run (Cert.Out1.defs (F := Bits)) (onTc (τ := Cert.Out1.τ) (Cert.Out1.main (F := Bits))) ⟨m, fun _ => 0, g⟩ (fun r => (∀ c : Dev Cert.Out1.nD,
      r.2.mem ((c.tc : Thread Cert.Out1.nD Cert.Out1.τ).loc Cert.Out1.main_arg0) = m ((c.tc : Thread Cert.Out1.nD Cert.Out1.τ).loc Cert.Out1.main_arg0)
      ∧ r.2.mem ((c.tc : Thread Cert.Out1.nD Cert.Out1.τ).loc Cert.Out1.main_arg1) = m ((c.tc : Thread Cert.Out1.nD Cert.Out1.τ).loc Cert.Out1.main_arg1)
      ∧ r.2.mem ((c.tc : Thread Cert.Out1.nD Cert.Out1.τ).loc Cert.Out1.main_arg2) = m ((c.tc : Thread Cert.Out1.nD Cert.Out1.τ).loc Cert.Out1.main_arg2)
      ∧ r.2.mem ((c.tc : Thread Cert.Out1.nD Cert.Out1.τ).loc Cert.Out1.main_arg3) = m ((c.tc : Thread Cert.Out1.nD Cert.Out1.τ).loc Cert.Out1.main_arg3))
      ∧ r.2.sem = fun _ => 0)

def quiescent_Out1Ideal [hOut1Ideal : Cert.Out1Ideal.Facts] : Prop :=
  ∀ (m : (ℓ : Loc Cert.Out1Ideal.nD Cert.Out1Ideal.τ Cert.Out1Ideal.sig) → Buf (Elt Ideal) ℓ) (g : Dev Cert.Out1Ideal.nD → PrngReg), Pre_Out1Ideal m →
    θ_run (Cert.Out1Ideal.defs (F := Ideal)) (onTc (τ := Cert.Out1Ideal.τ) (Cert.Out1Ideal.main (F := Ideal))) ⟨m, fun _ => 0, g⟩ (fun r => (∀ c : Dev Cert.Out1Ideal.nD,
      r.2.mem ((c.tc : Thread Cert.Out1Ideal.nD Cert.Out1Ideal.τ).loc Cert.Out1Ideal.main_arg0) = m ((c.tc : Thread Cert.Out1Ideal.nD Cert.Out1Ideal.τ).loc Cert.Out1Ideal.main_arg0)
      ∧ r.2.mem ((c.tc : Thread Cert.Out1Ideal.nD Cert.Out1Ideal.τ).loc Cert.Out1Ideal.main_arg1) = m ((c.tc : Thread Cert.Out1Ideal.nD Cert.Out1Ideal.τ).loc Cert.Out1Ideal.main_arg1)
      ∧ r.2.mem ((c.tc : Thread Cert.Out1Ideal.nD Cert.Out1Ideal.τ).loc Cert.Out1Ideal.main_arg2) = m ((c.tc : Thread Cert.Out1Ideal.nD Cert.Out1Ideal.τ).loc Cert.Out1Ideal.main_arg2)
      ∧ r.2.mem ((c.tc : Thread Cert.Out1Ideal.nD Cert.Out1Ideal.τ).loc Cert.Out1Ideal.main_arg3) = m ((c.tc : Thread Cert.Out1Ideal.nD Cert.Out1Ideal.τ).loc Cert.Out1Ideal.main_arg3))
      ∧ r.2.sem = fun _ => 0)

def quiescent_Out1RefIdeal [hOut1RefIdeal : Cert.Out1RefIdeal.Facts] : Prop :=
  ∀ (m : (ℓ : Loc Cert.Out1RefIdeal.nD Cert.Out1RefIdeal.τ Cert.Out1RefIdeal.sig) → Buf (Elt Ideal) ℓ) (g : Dev Cert.Out1RefIdeal.nD → PrngReg), Pre_Out1RefIdeal m →
    θ_run (Cert.Out1RefIdeal.defs (F := Ideal)) (onTc (τ := Cert.Out1RefIdeal.τ) (Cert.Out1RefIdeal.main (F := Ideal))) ⟨m, fun _ => 0, g⟩ (fun r => (∀ c : Dev Cert.Out1RefIdeal.nD,
      r.2.mem ((c.tc : Thread Cert.Out1RefIdeal.nD Cert.Out1RefIdeal.τ).loc Cert.Out1RefIdeal.main_arg0) = m ((c.tc : Thread Cert.Out1RefIdeal.nD Cert.Out1RefIdeal.τ).loc Cert.Out1RefIdeal.main_arg0)
      ∧ r.2.mem ((c.tc : Thread Cert.Out1RefIdeal.nD Cert.Out1RefIdeal.τ).loc Cert.Out1RefIdeal.main_arg1) = m ((c.tc : Thread Cert.Out1RefIdeal.nD Cert.Out1RefIdeal.τ).loc Cert.Out1RefIdeal.main_arg1)
      ∧ r.2.mem ((c.tc : Thread Cert.Out1RefIdeal.nD Cert.Out1RefIdeal.τ).loc Cert.Out1RefIdeal.main_arg2) = m ((c.tc : Thread Cert.Out1RefIdeal.nD Cert.Out1RefIdeal.τ).loc Cert.Out1RefIdeal.main_arg2)
      ∧ r.2.mem ((c.tc : Thread Cert.Out1RefIdeal.nD Cert.Out1RefIdeal.τ).loc Cert.Out1RefIdeal.main_arg3) = m ((c.tc : Thread Cert.Out1RefIdeal.nD Cert.Out1RefIdeal.τ).loc Cert.Out1RefIdeal.main_arg3))
      ∧ r.2.sem = fun _ => 0)

def quiescent_Qkv0 [hQkv0 : Cert.Qkv0.Facts] : Prop :=
  ∀ (m : (ℓ : Loc Cert.Qkv0.nD Cert.Qkv0.τ Cert.Qkv0.sig) → Buf (Elt Bits) ℓ) (g : Dev Cert.Qkv0.nD → PrngReg), Pre_Qkv0 m →
    θ_run (Cert.Qkv0.defs (F := Bits)) (onTc (τ := Cert.Qkv0.τ) (Cert.Qkv0.main (F := Bits))) ⟨m, fun _ => 0, g⟩ (fun r => (∀ c : Dev Cert.Qkv0.nD,
      r.2.mem ((c.tc : Thread Cert.Qkv0.nD Cert.Qkv0.τ).loc Cert.Qkv0.main_arg0) = m ((c.tc : Thread Cert.Qkv0.nD Cert.Qkv0.τ).loc Cert.Qkv0.main_arg0)
      ∧ r.2.mem ((c.tc : Thread Cert.Qkv0.nD Cert.Qkv0.τ).loc Cert.Qkv0.main_arg1) = m ((c.tc : Thread Cert.Qkv0.nD Cert.Qkv0.τ).loc Cert.Qkv0.main_arg1)
      ∧ r.2.mem ((c.tc : Thread Cert.Qkv0.nD Cert.Qkv0.τ).loc Cert.Qkv0.main_arg2) = m ((c.tc : Thread Cert.Qkv0.nD Cert.Qkv0.τ).loc Cert.Qkv0.main_arg2)
      ∧ r.2.mem ((c.tc : Thread Cert.Qkv0.nD Cert.Qkv0.τ).loc Cert.Qkv0.main_arg3) = m ((c.tc : Thread Cert.Qkv0.nD Cert.Qkv0.τ).loc Cert.Qkv0.main_arg3)
      ∧ r.2.mem ((c.tc : Thread Cert.Qkv0.nD Cert.Qkv0.τ).loc Cert.Qkv0.main_arg4) = m ((c.tc : Thread Cert.Qkv0.nD Cert.Qkv0.τ).loc Cert.Qkv0.main_arg4))
      ∧ r.2.sem = fun _ => 0)

def quiescent_Qkv0Ideal [hQkv0Ideal : Cert.Qkv0Ideal.Facts] : Prop :=
  ∀ (m : (ℓ : Loc Cert.Qkv0Ideal.nD Cert.Qkv0Ideal.τ Cert.Qkv0Ideal.sig) → Buf (Elt Ideal) ℓ) (g : Dev Cert.Qkv0Ideal.nD → PrngReg), Pre_Qkv0Ideal m →
    θ_run (Cert.Qkv0Ideal.defs (F := Ideal)) (onTc (τ := Cert.Qkv0Ideal.τ) (Cert.Qkv0Ideal.main (F := Ideal))) ⟨m, fun _ => 0, g⟩ (fun r => (∀ c : Dev Cert.Qkv0Ideal.nD,
      r.2.mem ((c.tc : Thread Cert.Qkv0Ideal.nD Cert.Qkv0Ideal.τ).loc Cert.Qkv0Ideal.main_arg0) = m ((c.tc : Thread Cert.Qkv0Ideal.nD Cert.Qkv0Ideal.τ).loc Cert.Qkv0Ideal.main_arg0)
      ∧ r.2.mem ((c.tc : Thread Cert.Qkv0Ideal.nD Cert.Qkv0Ideal.τ).loc Cert.Qkv0Ideal.main_arg1) = m ((c.tc : Thread Cert.Qkv0Ideal.nD Cert.Qkv0Ideal.τ).loc Cert.Qkv0Ideal.main_arg1)
      ∧ r.2.mem ((c.tc : Thread Cert.Qkv0Ideal.nD Cert.Qkv0Ideal.τ).loc Cert.Qkv0Ideal.main_arg2) = m ((c.tc : Thread Cert.Qkv0Ideal.nD Cert.Qkv0Ideal.τ).loc Cert.Qkv0Ideal.main_arg2)
      ∧ r.2.mem ((c.tc : Thread Cert.Qkv0Ideal.nD Cert.Qkv0Ideal.τ).loc Cert.Qkv0Ideal.main_arg3) = m ((c.tc : Thread Cert.Qkv0Ideal.nD Cert.Qkv0Ideal.τ).loc Cert.Qkv0Ideal.main_arg3)
      ∧ r.2.mem ((c.tc : Thread Cert.Qkv0Ideal.nD Cert.Qkv0Ideal.τ).loc Cert.Qkv0Ideal.main_arg4) = m ((c.tc : Thread Cert.Qkv0Ideal.nD Cert.Qkv0Ideal.τ).loc Cert.Qkv0Ideal.main_arg4))
      ∧ r.2.sem = fun _ => 0)

def quiescent_Qkv0RefIdeal [hQkv0RefIdeal : Cert.Qkv0RefIdeal.Facts] : Prop :=
  ∀ (m : (ℓ : Loc Cert.Qkv0RefIdeal.nD Cert.Qkv0RefIdeal.τ Cert.Qkv0RefIdeal.sig) → Buf (Elt Ideal) ℓ) (g : Dev Cert.Qkv0RefIdeal.nD → PrngReg), Pre_Qkv0RefIdeal m →
    θ_run (Cert.Qkv0RefIdeal.defs (F := Ideal)) (onTc (τ := Cert.Qkv0RefIdeal.τ) (Cert.Qkv0RefIdeal.main (F := Ideal))) ⟨m, fun _ => 0, g⟩ (fun r => (∀ c : Dev Cert.Qkv0RefIdeal.nD,
      r.2.mem ((c.tc : Thread Cert.Qkv0RefIdeal.nD Cert.Qkv0RefIdeal.τ).loc Cert.Qkv0RefIdeal.main_arg0) = m ((c.tc : Thread Cert.Qkv0RefIdeal.nD Cert.Qkv0RefIdeal.τ).loc Cert.Qkv0RefIdeal.main_arg0)
      ∧ r.2.mem ((c.tc : Thread Cert.Qkv0RefIdeal.nD Cert.Qkv0RefIdeal.τ).loc Cert.Qkv0RefIdeal.main_arg1) = m ((c.tc : Thread Cert.Qkv0RefIdeal.nD Cert.Qkv0RefIdeal.τ).loc Cert.Qkv0RefIdeal.main_arg1)
      ∧ r.2.mem ((c.tc : Thread Cert.Qkv0RefIdeal.nD Cert.Qkv0RefIdeal.τ).loc Cert.Qkv0RefIdeal.main_arg2) = m ((c.tc : Thread Cert.Qkv0RefIdeal.nD Cert.Qkv0RefIdeal.τ).loc Cert.Qkv0RefIdeal.main_arg2)
      ∧ r.2.mem ((c.tc : Thread Cert.Qkv0RefIdeal.nD Cert.Qkv0RefIdeal.τ).loc Cert.Qkv0RefIdeal.main_arg3) = m ((c.tc : Thread Cert.Qkv0RefIdeal.nD Cert.Qkv0RefIdeal.τ).loc Cert.Qkv0RefIdeal.main_arg3)
      ∧ r.2.mem ((c.tc : Thread Cert.Qkv0RefIdeal.nD Cert.Qkv0RefIdeal.τ).loc Cert.Qkv0RefIdeal.main_arg4) = m ((c.tc : Thread Cert.Qkv0RefIdeal.nD Cert.Qkv0RefIdeal.τ).loc Cert.Qkv0RefIdeal.main_arg4))
      ∧ r.2.sem = fun _ => 0)

def quiescent_Qkv1 [hQkv1 : Cert.Qkv1.Facts] : Prop :=
  ∀ (m : (ℓ : Loc Cert.Qkv1.nD Cert.Qkv1.τ Cert.Qkv1.sig) → Buf (Elt Bits) ℓ) (g : Dev Cert.Qkv1.nD → PrngReg), Pre_Qkv1 m →
    θ_run (Cert.Qkv1.defs (F := Bits)) (onTc (τ := Cert.Qkv1.τ) (Cert.Qkv1.main (F := Bits))) ⟨m, fun _ => 0, g⟩ (fun r => (∀ c : Dev Cert.Qkv1.nD,
      r.2.mem ((c.tc : Thread Cert.Qkv1.nD Cert.Qkv1.τ).loc Cert.Qkv1.main_arg0) = m ((c.tc : Thread Cert.Qkv1.nD Cert.Qkv1.τ).loc Cert.Qkv1.main_arg0)
      ∧ r.2.mem ((c.tc : Thread Cert.Qkv1.nD Cert.Qkv1.τ).loc Cert.Qkv1.main_arg1) = m ((c.tc : Thread Cert.Qkv1.nD Cert.Qkv1.τ).loc Cert.Qkv1.main_arg1)
      ∧ r.2.mem ((c.tc : Thread Cert.Qkv1.nD Cert.Qkv1.τ).loc Cert.Qkv1.main_arg2) = m ((c.tc : Thread Cert.Qkv1.nD Cert.Qkv1.τ).loc Cert.Qkv1.main_arg2)
      ∧ r.2.mem ((c.tc : Thread Cert.Qkv1.nD Cert.Qkv1.τ).loc Cert.Qkv1.main_arg3) = m ((c.tc : Thread Cert.Qkv1.nD Cert.Qkv1.τ).loc Cert.Qkv1.main_arg3)
      ∧ r.2.mem ((c.tc : Thread Cert.Qkv1.nD Cert.Qkv1.τ).loc Cert.Qkv1.main_arg4) = m ((c.tc : Thread Cert.Qkv1.nD Cert.Qkv1.τ).loc Cert.Qkv1.main_arg4))
      ∧ r.2.sem = fun _ => 0)

def quiescent_Qkv1Ideal [hQkv1Ideal : Cert.Qkv1Ideal.Facts] : Prop :=
  ∀ (m : (ℓ : Loc Cert.Qkv1Ideal.nD Cert.Qkv1Ideal.τ Cert.Qkv1Ideal.sig) → Buf (Elt Ideal) ℓ) (g : Dev Cert.Qkv1Ideal.nD → PrngReg), Pre_Qkv1Ideal m →
    θ_run (Cert.Qkv1Ideal.defs (F := Ideal)) (onTc (τ := Cert.Qkv1Ideal.τ) (Cert.Qkv1Ideal.main (F := Ideal))) ⟨m, fun _ => 0, g⟩ (fun r => (∀ c : Dev Cert.Qkv1Ideal.nD,
      r.2.mem ((c.tc : Thread Cert.Qkv1Ideal.nD Cert.Qkv1Ideal.τ).loc Cert.Qkv1Ideal.main_arg0) = m ((c.tc : Thread Cert.Qkv1Ideal.nD Cert.Qkv1Ideal.τ).loc Cert.Qkv1Ideal.main_arg0)
      ∧ r.2.mem ((c.tc : Thread Cert.Qkv1Ideal.nD Cert.Qkv1Ideal.τ).loc Cert.Qkv1Ideal.main_arg1) = m ((c.tc : Thread Cert.Qkv1Ideal.nD Cert.Qkv1Ideal.τ).loc Cert.Qkv1Ideal.main_arg1)
      ∧ r.2.mem ((c.tc : Thread Cert.Qkv1Ideal.nD Cert.Qkv1Ideal.τ).loc Cert.Qkv1Ideal.main_arg2) = m ((c.tc : Thread Cert.Qkv1Ideal.nD Cert.Qkv1Ideal.τ).loc Cert.Qkv1Ideal.main_arg2)
      ∧ r.2.mem ((c.tc : Thread Cert.Qkv1Ideal.nD Cert.Qkv1Ideal.τ).loc Cert.Qkv1Ideal.main_arg3) = m ((c.tc : Thread Cert.Qkv1Ideal.nD Cert.Qkv1Ideal.τ).loc Cert.Qkv1Ideal.main_arg3)
      ∧ r.2.mem ((c.tc : Thread Cert.Qkv1Ideal.nD Cert.Qkv1Ideal.τ).loc Cert.Qkv1Ideal.main_arg4) = m ((c.tc : Thread Cert.Qkv1Ideal.nD Cert.Qkv1Ideal.τ).loc Cert.Qkv1Ideal.main_arg4))
      ∧ r.2.sem = fun _ => 0)

def quiescent_Qkv1RefIdeal [hQkv1RefIdeal : Cert.Qkv1RefIdeal.Facts] : Prop :=
  ∀ (m : (ℓ : Loc Cert.Qkv1RefIdeal.nD Cert.Qkv1RefIdeal.τ Cert.Qkv1RefIdeal.sig) → Buf (Elt Ideal) ℓ) (g : Dev Cert.Qkv1RefIdeal.nD → PrngReg), Pre_Qkv1RefIdeal m →
    θ_run (Cert.Qkv1RefIdeal.defs (F := Ideal)) (onTc (τ := Cert.Qkv1RefIdeal.τ) (Cert.Qkv1RefIdeal.main (F := Ideal))) ⟨m, fun _ => 0, g⟩ (fun r => (∀ c : Dev Cert.Qkv1RefIdeal.nD,
      r.2.mem ((c.tc : Thread Cert.Qkv1RefIdeal.nD Cert.Qkv1RefIdeal.τ).loc Cert.Qkv1RefIdeal.main_arg0) = m ((c.tc : Thread Cert.Qkv1RefIdeal.nD Cert.Qkv1RefIdeal.τ).loc Cert.Qkv1RefIdeal.main_arg0)
      ∧ r.2.mem ((c.tc : Thread Cert.Qkv1RefIdeal.nD Cert.Qkv1RefIdeal.τ).loc Cert.Qkv1RefIdeal.main_arg1) = m ((c.tc : Thread Cert.Qkv1RefIdeal.nD Cert.Qkv1RefIdeal.τ).loc Cert.Qkv1RefIdeal.main_arg1)
      ∧ r.2.mem ((c.tc : Thread Cert.Qkv1RefIdeal.nD Cert.Qkv1RefIdeal.τ).loc Cert.Qkv1RefIdeal.main_arg2) = m ((c.tc : Thread Cert.Qkv1RefIdeal.nD Cert.Qkv1RefIdeal.τ).loc Cert.Qkv1RefIdeal.main_arg2)
      ∧ r.2.mem ((c.tc : Thread Cert.Qkv1RefIdeal.nD Cert.Qkv1RefIdeal.τ).loc Cert.Qkv1RefIdeal.main_arg3) = m ((c.tc : Thread Cert.Qkv1RefIdeal.nD Cert.Qkv1RefIdeal.τ).loc Cert.Qkv1RefIdeal.main_arg3)
      ∧ r.2.mem ((c.tc : Thread Cert.Qkv1RefIdeal.nD Cert.Qkv1RefIdeal.τ).loc Cert.Qkv1RefIdeal.main_arg4) = m ((c.tc : Thread Cert.Qkv1RefIdeal.nD Cert.Qkv1RefIdeal.τ).loc Cert.Qkv1RefIdeal.main_arg4))
      ∧ r.2.sem = fun _ => 0)

def preserves_Logits_LogitsIdeal : Prop :=
  True

def algebraic_LogitsIdeal_LogitsRefIdeal [hLogitsIdeal : Cert.LogitsIdeal.Facts] [hLogitsRefIdeal : Cert.LogitsRefIdeal.Facts] : Prop :=
  ∀ (m : (ℓ : Loc Cert.LogitsIdeal.nD Cert.LogitsIdeal.τ Cert.LogitsIdeal.sig) → Buf (Elt Ideal) ℓ) (g : Dev Cert.LogitsIdeal.nD → PrngReg)
    (m' : (ℓ : Loc Cert.LogitsRefIdeal.nD Cert.LogitsRefIdeal.τ Cert.LogitsRefIdeal.sig) → Buf (Elt Ideal) ℓ) (g' : Dev Cert.LogitsRefIdeal.nD → PrngReg), Pre_LogitsIdeal m →
    (∀ c : Dev Cert.LogitsIdeal.nD,
      m' ((c.tc : Thread Cert.LogitsRefIdeal.nD Cert.LogitsRefIdeal.τ).loc Cert.LogitsRefIdeal.main_arg0) = m ((c.tc : Thread Cert.LogitsIdeal.nD Cert.LogitsIdeal.τ).loc Cert.LogitsIdeal.main_arg0)
      ∧ m' ((c.tc : Thread Cert.LogitsRefIdeal.nD Cert.LogitsRefIdeal.τ).loc Cert.LogitsRefIdeal.main_arg1) = m ((c.tc : Thread Cert.LogitsIdeal.nD Cert.LogitsIdeal.τ).loc Cert.LogitsIdeal.main_arg1)
      ∧ m' ((c.tc : Thread Cert.LogitsRefIdeal.nD Cert.LogitsRefIdeal.τ).loc Cert.LogitsRefIdeal.main_arg2) = m ((c.tc : Thread Cert.LogitsIdeal.nD Cert.LogitsIdeal.τ).loc Cert.LogitsIdeal.main_arg2)
      ∧ m' ((c.tc : Thread Cert.LogitsRefIdeal.nD Cert.LogitsRefIdeal.τ).loc Cert.LogitsRefIdeal.main_arg3) = m ((c.tc : Thread Cert.LogitsIdeal.nD Cert.LogitsIdeal.τ).loc Cert.LogitsIdeal.main_arg3)
      ∧ m' ((c.tc : Thread Cert.LogitsRefIdeal.nD Cert.LogitsRefIdeal.τ).loc Cert.LogitsRefIdeal.main_arg4) = m ((c.tc : Thread Cert.LogitsIdeal.nD Cert.LogitsIdeal.τ).loc Cert.LogitsIdeal.main_arg4)
      ∧ m' ((c.tc : Thread Cert.LogitsRefIdeal.nD Cert.LogitsRefIdeal.τ).loc Cert.LogitsRefIdeal.main_arg5) = m ((c.tc : Thread Cert.LogitsIdeal.nD Cert.LogitsIdeal.τ).loc Cert.LogitsIdeal.main_arg5)
      ∧ m' ((c.tc : Thread Cert.LogitsRefIdeal.nD Cert.LogitsRefIdeal.τ).loc Cert.LogitsRefIdeal.main_arg6) = m ((c.tc : Thread Cert.LogitsIdeal.nD Cert.LogitsIdeal.τ).loc Cert.LogitsIdeal.main_arg6)
      ∧ m' ((c.tc : Thread Cert.LogitsRefIdeal.nD Cert.LogitsRefIdeal.τ).loc Cert.LogitsRefIdeal.main_arg7) = m ((c.tc : Thread Cert.LogitsIdeal.nD Cert.LogitsIdeal.τ).loc Cert.LogitsIdeal.main_arg7)) →
    ∃ (v0 : (c : Dev Cert.LogitsIdeal.nD) → Buf (Elt Ideal) ((c.tc : Thread Cert.LogitsIdeal.nD Cert.LogitsIdeal.τ).loc Cert.LogitsIdeal.main_v11_0)) (v1 : (c : Dev Cert.LogitsIdeal.nD) → Buf (Elt Ideal) ((c.tc : Thread Cert.LogitsIdeal.nD Cert.LogitsIdeal.τ).loc Cert.LogitsIdeal.main_v11_1)),
      θ_run (Cert.LogitsIdeal.defs (F := Ideal)) (onTc (τ := Cert.LogitsIdeal.τ) (Cert.LogitsIdeal.main (F := Ideal))) ⟨m, fun _ => 0, g⟩ (fun r => ∀ c : Dev Cert.LogitsIdeal.nD,
          r.2.mem ((c.tc : Thread Cert.LogitsIdeal.nD Cert.LogitsIdeal.τ).loc Cert.LogitsIdeal.main_v11_0) = v0 c
          ∧ r.2.mem ((c.tc : Thread Cert.LogitsIdeal.nD Cert.LogitsIdeal.τ).loc Cert.LogitsIdeal.main_v11_1) = v1 c
          ∧ r.2.mem ((c.tc : Thread Cert.LogitsIdeal.nD Cert.LogitsIdeal.τ).loc Cert.LogitsIdeal.main_arg0) = m ((c.tc : Thread Cert.LogitsIdeal.nD Cert.LogitsIdeal.τ).loc Cert.LogitsIdeal.main_arg0)
          ∧ r.2.mem ((c.tc : Thread Cert.LogitsIdeal.nD Cert.LogitsIdeal.τ).loc Cert.LogitsIdeal.main_arg1) = m ((c.tc : Thread Cert.LogitsIdeal.nD Cert.LogitsIdeal.τ).loc Cert.LogitsIdeal.main_arg1)
          ∧ r.2.mem ((c.tc : Thread Cert.LogitsIdeal.nD Cert.LogitsIdeal.τ).loc Cert.LogitsIdeal.main_arg2) = m ((c.tc : Thread Cert.LogitsIdeal.nD Cert.LogitsIdeal.τ).loc Cert.LogitsIdeal.main_arg2)
          ∧ r.2.mem ((c.tc : Thread Cert.LogitsIdeal.nD Cert.LogitsIdeal.τ).loc Cert.LogitsIdeal.main_arg3) = m ((c.tc : Thread Cert.LogitsIdeal.nD Cert.LogitsIdeal.τ).loc Cert.LogitsIdeal.main_arg3)
          ∧ r.2.mem ((c.tc : Thread Cert.LogitsIdeal.nD Cert.LogitsIdeal.τ).loc Cert.LogitsIdeal.main_arg4) = m ((c.tc : Thread Cert.LogitsIdeal.nD Cert.LogitsIdeal.τ).loc Cert.LogitsIdeal.main_arg4)
          ∧ r.2.mem ((c.tc : Thread Cert.LogitsIdeal.nD Cert.LogitsIdeal.τ).loc Cert.LogitsIdeal.main_arg5) = m ((c.tc : Thread Cert.LogitsIdeal.nD Cert.LogitsIdeal.τ).loc Cert.LogitsIdeal.main_arg5)
          ∧ r.2.mem ((c.tc : Thread Cert.LogitsIdeal.nD Cert.LogitsIdeal.τ).loc Cert.LogitsIdeal.main_arg6) = m ((c.tc : Thread Cert.LogitsIdeal.nD Cert.LogitsIdeal.τ).loc Cert.LogitsIdeal.main_arg6)
          ∧ r.2.mem ((c.tc : Thread Cert.LogitsIdeal.nD Cert.LogitsIdeal.τ).loc Cert.LogitsIdeal.main_arg7) = m ((c.tc : Thread Cert.LogitsIdeal.nD Cert.LogitsIdeal.τ).loc Cert.LogitsIdeal.main_arg7))
      ∧ θ_run (Cert.LogitsRefIdeal.defs (F := Ideal)) (onTc (τ := Cert.LogitsRefIdeal.τ) (Cert.LogitsRefIdeal.main (F := Ideal))) ⟨m', fun _ => 0, g'⟩ (fun r => ∀ c : Dev Cert.LogitsRefIdeal.nD,
          r.2.mem ((c.tc : Thread Cert.LogitsRefIdeal.nD Cert.LogitsRefIdeal.τ).loc Cert.LogitsRefIdeal.main_v6_0) = v0 c
          ∧ r.2.mem ((c.tc : Thread Cert.LogitsRefIdeal.nD Cert.LogitsRefIdeal.τ).loc Cert.LogitsRefIdeal.main_v6_1) = v1 c
          ∧ r.2.mem ((c.tc : Thread Cert.LogitsRefIdeal.nD Cert.LogitsRefIdeal.τ).loc Cert.LogitsRefIdeal.main_arg0) = m' ((c.tc : Thread Cert.LogitsRefIdeal.nD Cert.LogitsRefIdeal.τ).loc Cert.LogitsRefIdeal.main_arg0)
          ∧ r.2.mem ((c.tc : Thread Cert.LogitsRefIdeal.nD Cert.LogitsRefIdeal.τ).loc Cert.LogitsRefIdeal.main_arg1) = m' ((c.tc : Thread Cert.LogitsRefIdeal.nD Cert.LogitsRefIdeal.τ).loc Cert.LogitsRefIdeal.main_arg1)
          ∧ r.2.mem ((c.tc : Thread Cert.LogitsRefIdeal.nD Cert.LogitsRefIdeal.τ).loc Cert.LogitsRefIdeal.main_arg2) = m' ((c.tc : Thread Cert.LogitsRefIdeal.nD Cert.LogitsRefIdeal.τ).loc Cert.LogitsRefIdeal.main_arg2)
          ∧ r.2.mem ((c.tc : Thread Cert.LogitsRefIdeal.nD Cert.LogitsRefIdeal.τ).loc Cert.LogitsRefIdeal.main_arg3) = m' ((c.tc : Thread Cert.LogitsRefIdeal.nD Cert.LogitsRefIdeal.τ).loc Cert.LogitsRefIdeal.main_arg3)
          ∧ r.2.mem ((c.tc : Thread Cert.LogitsRefIdeal.nD Cert.LogitsRefIdeal.τ).loc Cert.LogitsRefIdeal.main_arg4) = m' ((c.tc : Thread Cert.LogitsRefIdeal.nD Cert.LogitsRefIdeal.τ).loc Cert.LogitsRefIdeal.main_arg4)
          ∧ r.2.mem ((c.tc : Thread Cert.LogitsRefIdeal.nD Cert.LogitsRefIdeal.τ).loc Cert.LogitsRefIdeal.main_arg5) = m' ((c.tc : Thread Cert.LogitsRefIdeal.nD Cert.LogitsRefIdeal.τ).loc Cert.LogitsRefIdeal.main_arg5)
          ∧ r.2.mem ((c.tc : Thread Cert.LogitsRefIdeal.nD Cert.LogitsRefIdeal.τ).loc Cert.LogitsRefIdeal.main_arg6) = m' ((c.tc : Thread Cert.LogitsRefIdeal.nD Cert.LogitsRefIdeal.τ).loc Cert.LogitsRefIdeal.main_arg6)
          ∧ r.2.mem ((c.tc : Thread Cert.LogitsRefIdeal.nD Cert.LogitsRefIdeal.τ).loc Cert.LogitsRefIdeal.main_arg7) = m' ((c.tc : Thread Cert.LogitsRefIdeal.nD Cert.LogitsRefIdeal.τ).loc Cert.LogitsRefIdeal.main_arg7))

def preserves_Down0_Down0Ideal : Prop :=
  True

def algebraic_Down0Ideal_Down0RefIdeal [hDown0Ideal : Cert.Down0Ideal.Facts] [hDown0RefIdeal : Cert.Down0RefIdeal.Facts] : Prop :=
  ∀ (m : (ℓ : Loc Cert.Down0Ideal.nD Cert.Down0Ideal.τ Cert.Down0Ideal.sig) → Buf (Elt Ideal) ℓ) (g : Dev Cert.Down0Ideal.nD → PrngReg)
    (m' : (ℓ : Loc Cert.Down0RefIdeal.nD Cert.Down0RefIdeal.τ Cert.Down0RefIdeal.sig) → Buf (Elt Ideal) ℓ) (g' : Dev Cert.Down0RefIdeal.nD → PrngReg), Pre_Down0Ideal m →
    (∀ c : Dev Cert.Down0Ideal.nD,
      m' ((c.tc : Thread Cert.Down0RefIdeal.nD Cert.Down0RefIdeal.τ).loc Cert.Down0RefIdeal.main_arg0) = m ((c.tc : Thread Cert.Down0Ideal.nD Cert.Down0Ideal.τ).loc Cert.Down0Ideal.main_arg0)
      ∧ m' ((c.tc : Thread Cert.Down0RefIdeal.nD Cert.Down0RefIdeal.τ).loc Cert.Down0RefIdeal.main_arg1) = m ((c.tc : Thread Cert.Down0Ideal.nD Cert.Down0Ideal.τ).loc Cert.Down0Ideal.main_arg1)
      ∧ m' ((c.tc : Thread Cert.Down0RefIdeal.nD Cert.Down0RefIdeal.τ).loc Cert.Down0RefIdeal.main_arg2) = m ((c.tc : Thread Cert.Down0Ideal.nD Cert.Down0Ideal.τ).loc Cert.Down0Ideal.main_arg2)
      ∧ m' ((c.tc : Thread Cert.Down0RefIdeal.nD Cert.Down0RefIdeal.τ).loc Cert.Down0RefIdeal.main_arg3) = m ((c.tc : Thread Cert.Down0Ideal.nD Cert.Down0Ideal.τ).loc Cert.Down0Ideal.main_arg3)) →
    ∃ (v0 : (c : Dev Cert.Down0Ideal.nD) → Buf (Elt Ideal) ((c.tc : Thread Cert.Down0Ideal.nD Cert.Down0Ideal.τ).loc Cert.Down0Ideal.main_v0_0)) (v1 : (c : Dev Cert.Down0Ideal.nD) → Buf (Elt Ideal) ((c.tc : Thread Cert.Down0Ideal.nD Cert.Down0Ideal.τ).loc Cert.Down0Ideal.main_v0_1)),
      θ_run (Cert.Down0Ideal.defs (F := Ideal)) (onTc (τ := Cert.Down0Ideal.τ) (Cert.Down0Ideal.main (F := Ideal))) ⟨m, fun _ => 0, g⟩ (fun r => ∀ c : Dev Cert.Down0Ideal.nD,
          r.2.mem ((c.tc : Thread Cert.Down0Ideal.nD Cert.Down0Ideal.τ).loc Cert.Down0Ideal.main_v0_0) = v0 c
          ∧ r.2.mem ((c.tc : Thread Cert.Down0Ideal.nD Cert.Down0Ideal.τ).loc Cert.Down0Ideal.main_v0_1) = v1 c
          ∧ r.2.mem ((c.tc : Thread Cert.Down0Ideal.nD Cert.Down0Ideal.τ).loc Cert.Down0Ideal.main_arg0) = m ((c.tc : Thread Cert.Down0Ideal.nD Cert.Down0Ideal.τ).loc Cert.Down0Ideal.main_arg0)
          ∧ r.2.mem ((c.tc : Thread Cert.Down0Ideal.nD Cert.Down0Ideal.τ).loc Cert.Down0Ideal.main_arg1) = m ((c.tc : Thread Cert.Down0Ideal.nD Cert.Down0Ideal.τ).loc Cert.Down0Ideal.main_arg1)
          ∧ r.2.mem ((c.tc : Thread Cert.Down0Ideal.nD Cert.Down0Ideal.τ).loc Cert.Down0Ideal.main_arg2) = m ((c.tc : Thread Cert.Down0Ideal.nD Cert.Down0Ideal.τ).loc Cert.Down0Ideal.main_arg2)
          ∧ r.2.mem ((c.tc : Thread Cert.Down0Ideal.nD Cert.Down0Ideal.τ).loc Cert.Down0Ideal.main_arg3) = m ((c.tc : Thread Cert.Down0Ideal.nD Cert.Down0Ideal.τ).loc Cert.Down0Ideal.main_arg3))
      ∧ θ_run (Cert.Down0RefIdeal.defs (F := Ideal)) (onTc (τ := Cert.Down0RefIdeal.τ) (Cert.Down0RefIdeal.main (F := Ideal))) ⟨m', fun _ => 0, g'⟩ (fun r => ∀ c : Dev Cert.Down0RefIdeal.nD,
          r.2.mem ((c.tc : Thread Cert.Down0RefIdeal.nD Cert.Down0RefIdeal.τ).loc Cert.Down0RefIdeal.main_v0_0) = v0 c
          ∧ r.2.mem ((c.tc : Thread Cert.Down0RefIdeal.nD Cert.Down0RefIdeal.τ).loc Cert.Down0RefIdeal.main_v0_1) = v1 c
          ∧ r.2.mem ((c.tc : Thread Cert.Down0RefIdeal.nD Cert.Down0RefIdeal.τ).loc Cert.Down0RefIdeal.main_arg0) = m' ((c.tc : Thread Cert.Down0RefIdeal.nD Cert.Down0RefIdeal.τ).loc Cert.Down0RefIdeal.main_arg0)
          ∧ r.2.mem ((c.tc : Thread Cert.Down0RefIdeal.nD Cert.Down0RefIdeal.τ).loc Cert.Down0RefIdeal.main_arg1) = m' ((c.tc : Thread Cert.Down0RefIdeal.nD Cert.Down0RefIdeal.τ).loc Cert.Down0RefIdeal.main_arg1)
          ∧ r.2.mem ((c.tc : Thread Cert.Down0RefIdeal.nD Cert.Down0RefIdeal.τ).loc Cert.Down0RefIdeal.main_arg2) = m' ((c.tc : Thread Cert.Down0RefIdeal.nD Cert.Down0RefIdeal.τ).loc Cert.Down0RefIdeal.main_arg2)
          ∧ r.2.mem ((c.tc : Thread Cert.Down0RefIdeal.nD Cert.Down0RefIdeal.τ).loc Cert.Down0RefIdeal.main_arg3) = m' ((c.tc : Thread Cert.Down0RefIdeal.nD Cert.Down0RefIdeal.τ).loc Cert.Down0RefIdeal.main_arg3))

def preserves_Down1_Down1Ideal : Prop :=
  True

def algebraic_Down1Ideal_Down1RefIdeal [hDown1Ideal : Cert.Down1Ideal.Facts] [hDown1RefIdeal : Cert.Down1RefIdeal.Facts] : Prop :=
  ∀ (m : (ℓ : Loc Cert.Down1Ideal.nD Cert.Down1Ideal.τ Cert.Down1Ideal.sig) → Buf (Elt Ideal) ℓ) (g : Dev Cert.Down1Ideal.nD → PrngReg)
    (m' : (ℓ : Loc Cert.Down1RefIdeal.nD Cert.Down1RefIdeal.τ Cert.Down1RefIdeal.sig) → Buf (Elt Ideal) ℓ) (g' : Dev Cert.Down1RefIdeal.nD → PrngReg), Pre_Down1Ideal m →
    (∀ c : Dev Cert.Down1Ideal.nD,
      m' ((c.tc : Thread Cert.Down1RefIdeal.nD Cert.Down1RefIdeal.τ).loc Cert.Down1RefIdeal.main_arg0) = m ((c.tc : Thread Cert.Down1Ideal.nD Cert.Down1Ideal.τ).loc Cert.Down1Ideal.main_arg0)
      ∧ m' ((c.tc : Thread Cert.Down1RefIdeal.nD Cert.Down1RefIdeal.τ).loc Cert.Down1RefIdeal.main_arg1) = m ((c.tc : Thread Cert.Down1Ideal.nD Cert.Down1Ideal.τ).loc Cert.Down1Ideal.main_arg1)
      ∧ m' ((c.tc : Thread Cert.Down1RefIdeal.nD Cert.Down1RefIdeal.τ).loc Cert.Down1RefIdeal.main_arg2) = m ((c.tc : Thread Cert.Down1Ideal.nD Cert.Down1Ideal.τ).loc Cert.Down1Ideal.main_arg2)
      ∧ m' ((c.tc : Thread Cert.Down1RefIdeal.nD Cert.Down1RefIdeal.τ).loc Cert.Down1RefIdeal.main_arg3) = m ((c.tc : Thread Cert.Down1Ideal.nD Cert.Down1Ideal.τ).loc Cert.Down1Ideal.main_arg3)) →
    ∃ (v0 : (c : Dev Cert.Down1Ideal.nD) → Buf (Elt Ideal) ((c.tc : Thread Cert.Down1Ideal.nD Cert.Down1Ideal.τ).loc Cert.Down1Ideal.main_v0_0)) (v1 : (c : Dev Cert.Down1Ideal.nD) → Buf (Elt Ideal) ((c.tc : Thread Cert.Down1Ideal.nD Cert.Down1Ideal.τ).loc Cert.Down1Ideal.main_v0_1)),
      θ_run (Cert.Down1Ideal.defs (F := Ideal)) (onTc (τ := Cert.Down1Ideal.τ) (Cert.Down1Ideal.main (F := Ideal))) ⟨m, fun _ => 0, g⟩ (fun r => ∀ c : Dev Cert.Down1Ideal.nD,
          r.2.mem ((c.tc : Thread Cert.Down1Ideal.nD Cert.Down1Ideal.τ).loc Cert.Down1Ideal.main_v0_0) = v0 c
          ∧ r.2.mem ((c.tc : Thread Cert.Down1Ideal.nD Cert.Down1Ideal.τ).loc Cert.Down1Ideal.main_v0_1) = v1 c
          ∧ r.2.mem ((c.tc : Thread Cert.Down1Ideal.nD Cert.Down1Ideal.τ).loc Cert.Down1Ideal.main_arg0) = m ((c.tc : Thread Cert.Down1Ideal.nD Cert.Down1Ideal.τ).loc Cert.Down1Ideal.main_arg0)
          ∧ r.2.mem ((c.tc : Thread Cert.Down1Ideal.nD Cert.Down1Ideal.τ).loc Cert.Down1Ideal.main_arg1) = m ((c.tc : Thread Cert.Down1Ideal.nD Cert.Down1Ideal.τ).loc Cert.Down1Ideal.main_arg1)
          ∧ r.2.mem ((c.tc : Thread Cert.Down1Ideal.nD Cert.Down1Ideal.τ).loc Cert.Down1Ideal.main_arg2) = m ((c.tc : Thread Cert.Down1Ideal.nD Cert.Down1Ideal.τ).loc Cert.Down1Ideal.main_arg2)
          ∧ r.2.mem ((c.tc : Thread Cert.Down1Ideal.nD Cert.Down1Ideal.τ).loc Cert.Down1Ideal.main_arg3) = m ((c.tc : Thread Cert.Down1Ideal.nD Cert.Down1Ideal.τ).loc Cert.Down1Ideal.main_arg3))
      ∧ θ_run (Cert.Down1RefIdeal.defs (F := Ideal)) (onTc (τ := Cert.Down1RefIdeal.τ) (Cert.Down1RefIdeal.main (F := Ideal))) ⟨m', fun _ => 0, g'⟩ (fun r => ∀ c : Dev Cert.Down1RefIdeal.nD,
          r.2.mem ((c.tc : Thread Cert.Down1RefIdeal.nD Cert.Down1RefIdeal.τ).loc Cert.Down1RefIdeal.main_v0_0) = v0 c
          ∧ r.2.mem ((c.tc : Thread Cert.Down1RefIdeal.nD Cert.Down1RefIdeal.τ).loc Cert.Down1RefIdeal.main_v0_1) = v1 c
          ∧ r.2.mem ((c.tc : Thread Cert.Down1RefIdeal.nD Cert.Down1RefIdeal.τ).loc Cert.Down1RefIdeal.main_arg0) = m' ((c.tc : Thread Cert.Down1RefIdeal.nD Cert.Down1RefIdeal.τ).loc Cert.Down1RefIdeal.main_arg0)
          ∧ r.2.mem ((c.tc : Thread Cert.Down1RefIdeal.nD Cert.Down1RefIdeal.τ).loc Cert.Down1RefIdeal.main_arg1) = m' ((c.tc : Thread Cert.Down1RefIdeal.nD Cert.Down1RefIdeal.τ).loc Cert.Down1RefIdeal.main_arg1)
          ∧ r.2.mem ((c.tc : Thread Cert.Down1RefIdeal.nD Cert.Down1RefIdeal.τ).loc Cert.Down1RefIdeal.main_arg2) = m' ((c.tc : Thread Cert.Down1RefIdeal.nD Cert.Down1RefIdeal.τ).loc Cert.Down1RefIdeal.main_arg2)
          ∧ r.2.mem ((c.tc : Thread Cert.Down1RefIdeal.nD Cert.Down1RefIdeal.τ).loc Cert.Down1RefIdeal.main_arg3) = m' ((c.tc : Thread Cert.Down1RefIdeal.nD Cert.Down1RefIdeal.τ).loc Cert.Down1RefIdeal.main_arg3))

def preserves_Merge0_Merge0Ideal : Prop :=
  True

def algebraic_Merge0Ideal_Merge0RefIdeal [hMerge0Ideal : Cert.Merge0Ideal.Facts] [hMerge0RefIdeal : Cert.Merge0RefIdeal.Facts] : Prop :=
  ∀ (m : (ℓ : Loc Cert.Merge0Ideal.nD Cert.Merge0Ideal.τ Cert.Merge0Ideal.sig) → Buf (Elt Ideal) ℓ) (g : Dev Cert.Merge0Ideal.nD → PrngReg)
    (m' : (ℓ : Loc Cert.Merge0RefIdeal.nD Cert.Merge0RefIdeal.τ Cert.Merge0RefIdeal.sig) → Buf (Elt Ideal) ℓ) (g' : Dev Cert.Merge0RefIdeal.nD → PrngReg), Pre_Merge0Ideal m →
    (∀ c : Dev Cert.Merge0Ideal.nD,
      m' ((c.tc : Thread Cert.Merge0RefIdeal.nD Cert.Merge0RefIdeal.τ).loc Cert.Merge0RefIdeal.main_arg0) = m ((c.tc : Thread Cert.Merge0Ideal.nD Cert.Merge0Ideal.τ).loc Cert.Merge0Ideal.main_arg0)
      ∧ m' ((c.tc : Thread Cert.Merge0RefIdeal.nD Cert.Merge0RefIdeal.τ).loc Cert.Merge0RefIdeal.main_arg1) = m ((c.tc : Thread Cert.Merge0Ideal.nD Cert.Merge0Ideal.τ).loc Cert.Merge0Ideal.main_arg1)
      ∧ m' ((c.tc : Thread Cert.Merge0RefIdeal.nD Cert.Merge0RefIdeal.τ).loc Cert.Merge0RefIdeal.main_arg2) = m ((c.tc : Thread Cert.Merge0Ideal.nD Cert.Merge0Ideal.τ).loc Cert.Merge0Ideal.main_arg2)) →
    ∃ (v0 : (c : Dev Cert.Merge0Ideal.nD) → Buf (Elt Ideal) ((c.tc : Thread Cert.Merge0Ideal.nD Cert.Merge0Ideal.τ).loc Cert.Merge0Ideal.main_v0)),
      θ_run (Cert.Merge0Ideal.defs (F := Ideal)) (onTc (τ := Cert.Merge0Ideal.τ) (Cert.Merge0Ideal.main (F := Ideal))) ⟨m, fun _ => 0, g⟩ (fun r => ∀ c : Dev Cert.Merge0Ideal.nD,
          r.2.mem ((c.tc : Thread Cert.Merge0Ideal.nD Cert.Merge0Ideal.τ).loc Cert.Merge0Ideal.main_v0) = v0 c
          ∧ r.2.mem ((c.tc : Thread Cert.Merge0Ideal.nD Cert.Merge0Ideal.τ).loc Cert.Merge0Ideal.main_arg0) = m ((c.tc : Thread Cert.Merge0Ideal.nD Cert.Merge0Ideal.τ).loc Cert.Merge0Ideal.main_arg0)
          ∧ r.2.mem ((c.tc : Thread Cert.Merge0Ideal.nD Cert.Merge0Ideal.τ).loc Cert.Merge0Ideal.main_arg1) = m ((c.tc : Thread Cert.Merge0Ideal.nD Cert.Merge0Ideal.τ).loc Cert.Merge0Ideal.main_arg1)
          ∧ r.2.mem ((c.tc : Thread Cert.Merge0Ideal.nD Cert.Merge0Ideal.τ).loc Cert.Merge0Ideal.main_arg2) = m ((c.tc : Thread Cert.Merge0Ideal.nD Cert.Merge0Ideal.τ).loc Cert.Merge0Ideal.main_arg2))
      ∧ θ_run (Cert.Merge0RefIdeal.defs (F := Ideal)) (onTc (τ := Cert.Merge0RefIdeal.τ) (Cert.Merge0RefIdeal.main (F := Ideal))) ⟨m', fun _ => 0, g'⟩ (fun r => ∀ c : Dev Cert.Merge0RefIdeal.nD,
          r.2.mem ((c.tc : Thread Cert.Merge0RefIdeal.nD Cert.Merge0RefIdeal.τ).loc Cert.Merge0RefIdeal.main_v0) = v0 c
          ∧ r.2.mem ((c.tc : Thread Cert.Merge0RefIdeal.nD Cert.Merge0RefIdeal.τ).loc Cert.Merge0RefIdeal.main_arg0) = m' ((c.tc : Thread Cert.Merge0RefIdeal.nD Cert.Merge0RefIdeal.τ).loc Cert.Merge0RefIdeal.main_arg0)
          ∧ r.2.mem ((c.tc : Thread Cert.Merge0RefIdeal.nD Cert.Merge0RefIdeal.τ).loc Cert.Merge0RefIdeal.main_arg1) = m' ((c.tc : Thread Cert.Merge0RefIdeal.nD Cert.Merge0RefIdeal.τ).loc Cert.Merge0RefIdeal.main_arg1)
          ∧ r.2.mem ((c.tc : Thread Cert.Merge0RefIdeal.nD Cert.Merge0RefIdeal.τ).loc Cert.Merge0RefIdeal.main_arg2) = m' ((c.tc : Thread Cert.Merge0RefIdeal.nD Cert.Merge0RefIdeal.τ).loc Cert.Merge0RefIdeal.main_arg2))

def preserves_Merge1_Merge1Ideal : Prop :=
  True

def algebraic_Merge1Ideal_Merge1RefIdeal [hMerge1Ideal : Cert.Merge1Ideal.Facts] [hMerge1RefIdeal : Cert.Merge1RefIdeal.Facts] : Prop :=
  ∀ (m : (ℓ : Loc Cert.Merge1Ideal.nD Cert.Merge1Ideal.τ Cert.Merge1Ideal.sig) → Buf (Elt Ideal) ℓ) (g : Dev Cert.Merge1Ideal.nD → PrngReg)
    (m' : (ℓ : Loc Cert.Merge1RefIdeal.nD Cert.Merge1RefIdeal.τ Cert.Merge1RefIdeal.sig) → Buf (Elt Ideal) ℓ) (g' : Dev Cert.Merge1RefIdeal.nD → PrngReg), Pre_Merge1Ideal m →
    (∀ c : Dev Cert.Merge1Ideal.nD,
      m' ((c.tc : Thread Cert.Merge1RefIdeal.nD Cert.Merge1RefIdeal.τ).loc Cert.Merge1RefIdeal.main_arg0) = m ((c.tc : Thread Cert.Merge1Ideal.nD Cert.Merge1Ideal.τ).loc Cert.Merge1Ideal.main_arg0)
      ∧ m' ((c.tc : Thread Cert.Merge1RefIdeal.nD Cert.Merge1RefIdeal.τ).loc Cert.Merge1RefIdeal.main_arg1) = m ((c.tc : Thread Cert.Merge1Ideal.nD Cert.Merge1Ideal.τ).loc Cert.Merge1Ideal.main_arg1)
      ∧ m' ((c.tc : Thread Cert.Merge1RefIdeal.nD Cert.Merge1RefIdeal.τ).loc Cert.Merge1RefIdeal.main_arg2) = m ((c.tc : Thread Cert.Merge1Ideal.nD Cert.Merge1Ideal.τ).loc Cert.Merge1Ideal.main_arg2)) →
    ∃ (v0 : (c : Dev Cert.Merge1Ideal.nD) → Buf (Elt Ideal) ((c.tc : Thread Cert.Merge1Ideal.nD Cert.Merge1Ideal.τ).loc Cert.Merge1Ideal.main_v0)),
      θ_run (Cert.Merge1Ideal.defs (F := Ideal)) (onTc (τ := Cert.Merge1Ideal.τ) (Cert.Merge1Ideal.main (F := Ideal))) ⟨m, fun _ => 0, g⟩ (fun r => ∀ c : Dev Cert.Merge1Ideal.nD,
          r.2.mem ((c.tc : Thread Cert.Merge1Ideal.nD Cert.Merge1Ideal.τ).loc Cert.Merge1Ideal.main_v0) = v0 c
          ∧ r.2.mem ((c.tc : Thread Cert.Merge1Ideal.nD Cert.Merge1Ideal.τ).loc Cert.Merge1Ideal.main_arg0) = m ((c.tc : Thread Cert.Merge1Ideal.nD Cert.Merge1Ideal.τ).loc Cert.Merge1Ideal.main_arg0)
          ∧ r.2.mem ((c.tc : Thread Cert.Merge1Ideal.nD Cert.Merge1Ideal.τ).loc Cert.Merge1Ideal.main_arg1) = m ((c.tc : Thread Cert.Merge1Ideal.nD Cert.Merge1Ideal.τ).loc Cert.Merge1Ideal.main_arg1)
          ∧ r.2.mem ((c.tc : Thread Cert.Merge1Ideal.nD Cert.Merge1Ideal.τ).loc Cert.Merge1Ideal.main_arg2) = m ((c.tc : Thread Cert.Merge1Ideal.nD Cert.Merge1Ideal.τ).loc Cert.Merge1Ideal.main_arg2))
      ∧ θ_run (Cert.Merge1RefIdeal.defs (F := Ideal)) (onTc (τ := Cert.Merge1RefIdeal.τ) (Cert.Merge1RefIdeal.main (F := Ideal))) ⟨m', fun _ => 0, g'⟩ (fun r => ∀ c : Dev Cert.Merge1RefIdeal.nD,
          r.2.mem ((c.tc : Thread Cert.Merge1RefIdeal.nD Cert.Merge1RefIdeal.τ).loc Cert.Merge1RefIdeal.main_v0) = v0 c
          ∧ r.2.mem ((c.tc : Thread Cert.Merge1RefIdeal.nD Cert.Merge1RefIdeal.τ).loc Cert.Merge1RefIdeal.main_arg0) = m' ((c.tc : Thread Cert.Merge1RefIdeal.nD Cert.Merge1RefIdeal.τ).loc Cert.Merge1RefIdeal.main_arg0)
          ∧ r.2.mem ((c.tc : Thread Cert.Merge1RefIdeal.nD Cert.Merge1RefIdeal.τ).loc Cert.Merge1RefIdeal.main_arg1) = m' ((c.tc : Thread Cert.Merge1RefIdeal.nD Cert.Merge1RefIdeal.τ).loc Cert.Merge1RefIdeal.main_arg1)
          ∧ r.2.mem ((c.tc : Thread Cert.Merge1RefIdeal.nD Cert.Merge1RefIdeal.τ).loc Cert.Merge1RefIdeal.main_arg2) = m' ((c.tc : Thread Cert.Merge1RefIdeal.nD Cert.Merge1RefIdeal.τ).loc Cert.Merge1RefIdeal.main_arg2))

def preserves_Out0_Out0Ideal : Prop :=
  True

def algebraic_Out0Ideal_Out0RefIdeal [hOut0Ideal : Cert.Out0Ideal.Facts] [hOut0RefIdeal : Cert.Out0RefIdeal.Facts] : Prop :=
  ∀ (m : (ℓ : Loc Cert.Out0Ideal.nD Cert.Out0Ideal.τ Cert.Out0Ideal.sig) → Buf (Elt Ideal) ℓ) (g : Dev Cert.Out0Ideal.nD → PrngReg)
    (m' : (ℓ : Loc Cert.Out0RefIdeal.nD Cert.Out0RefIdeal.τ Cert.Out0RefIdeal.sig) → Buf (Elt Ideal) ℓ) (g' : Dev Cert.Out0RefIdeal.nD → PrngReg), Pre_Out0Ideal m →
    (∀ c : Dev Cert.Out0Ideal.nD,
      m' ((c.tc : Thread Cert.Out0RefIdeal.nD Cert.Out0RefIdeal.τ).loc Cert.Out0RefIdeal.main_arg0) = m ((c.tc : Thread Cert.Out0Ideal.nD Cert.Out0Ideal.τ).loc Cert.Out0Ideal.main_arg0)
      ∧ m' ((c.tc : Thread Cert.Out0RefIdeal.nD Cert.Out0RefIdeal.τ).loc Cert.Out0RefIdeal.main_arg1) = m ((c.tc : Thread Cert.Out0Ideal.nD Cert.Out0Ideal.τ).loc Cert.Out0Ideal.main_arg1)
      ∧ m' ((c.tc : Thread Cert.Out0RefIdeal.nD Cert.Out0RefIdeal.τ).loc Cert.Out0RefIdeal.main_arg2) = m ((c.tc : Thread Cert.Out0Ideal.nD Cert.Out0Ideal.τ).loc Cert.Out0Ideal.main_arg2)
      ∧ m' ((c.tc : Thread Cert.Out0RefIdeal.nD Cert.Out0RefIdeal.τ).loc Cert.Out0RefIdeal.main_arg3) = m ((c.tc : Thread Cert.Out0Ideal.nD Cert.Out0Ideal.τ).loc Cert.Out0Ideal.main_arg3)) →
    ∃ (v0 : (c : Dev Cert.Out0Ideal.nD) → Buf (Elt Ideal) ((c.tc : Thread Cert.Out0Ideal.nD Cert.Out0Ideal.τ).loc Cert.Out0Ideal.main_v0)),
      θ_run (Cert.Out0Ideal.defs (F := Ideal)) (onTc (τ := Cert.Out0Ideal.τ) (Cert.Out0Ideal.main (F := Ideal))) ⟨m, fun _ => 0, g⟩ (fun r => ∀ c : Dev Cert.Out0Ideal.nD,
          r.2.mem ((c.tc : Thread Cert.Out0Ideal.nD Cert.Out0Ideal.τ).loc Cert.Out0Ideal.main_v0) = v0 c
          ∧ r.2.mem ((c.tc : Thread Cert.Out0Ideal.nD Cert.Out0Ideal.τ).loc Cert.Out0Ideal.main_arg0) = m ((c.tc : Thread Cert.Out0Ideal.nD Cert.Out0Ideal.τ).loc Cert.Out0Ideal.main_arg0)
          ∧ r.2.mem ((c.tc : Thread Cert.Out0Ideal.nD Cert.Out0Ideal.τ).loc Cert.Out0Ideal.main_arg1) = m ((c.tc : Thread Cert.Out0Ideal.nD Cert.Out0Ideal.τ).loc Cert.Out0Ideal.main_arg1)
          ∧ r.2.mem ((c.tc : Thread Cert.Out0Ideal.nD Cert.Out0Ideal.τ).loc Cert.Out0Ideal.main_arg2) = m ((c.tc : Thread Cert.Out0Ideal.nD Cert.Out0Ideal.τ).loc Cert.Out0Ideal.main_arg2)
          ∧ r.2.mem ((c.tc : Thread Cert.Out0Ideal.nD Cert.Out0Ideal.τ).loc Cert.Out0Ideal.main_arg3) = m ((c.tc : Thread Cert.Out0Ideal.nD Cert.Out0Ideal.τ).loc Cert.Out0Ideal.main_arg3))
      ∧ θ_run (Cert.Out0RefIdeal.defs (F := Ideal)) (onTc (τ := Cert.Out0RefIdeal.τ) (Cert.Out0RefIdeal.main (F := Ideal))) ⟨m', fun _ => 0, g'⟩ (fun r => ∀ c : Dev Cert.Out0RefIdeal.nD,
          r.2.mem ((c.tc : Thread Cert.Out0RefIdeal.nD Cert.Out0RefIdeal.τ).loc Cert.Out0RefIdeal.main_v0) = v0 c
          ∧ r.2.mem ((c.tc : Thread Cert.Out0RefIdeal.nD Cert.Out0RefIdeal.τ).loc Cert.Out0RefIdeal.main_arg0) = m' ((c.tc : Thread Cert.Out0RefIdeal.nD Cert.Out0RefIdeal.τ).loc Cert.Out0RefIdeal.main_arg0)
          ∧ r.2.mem ((c.tc : Thread Cert.Out0RefIdeal.nD Cert.Out0RefIdeal.τ).loc Cert.Out0RefIdeal.main_arg1) = m' ((c.tc : Thread Cert.Out0RefIdeal.nD Cert.Out0RefIdeal.τ).loc Cert.Out0RefIdeal.main_arg1)
          ∧ r.2.mem ((c.tc : Thread Cert.Out0RefIdeal.nD Cert.Out0RefIdeal.τ).loc Cert.Out0RefIdeal.main_arg2) = m' ((c.tc : Thread Cert.Out0RefIdeal.nD Cert.Out0RefIdeal.τ).loc Cert.Out0RefIdeal.main_arg2)
          ∧ r.2.mem ((c.tc : Thread Cert.Out0RefIdeal.nD Cert.Out0RefIdeal.τ).loc Cert.Out0RefIdeal.main_arg3) = m' ((c.tc : Thread Cert.Out0RefIdeal.nD Cert.Out0RefIdeal.τ).loc Cert.Out0RefIdeal.main_arg3))

def preserves_Out1_Out1Ideal : Prop :=
  True

def algebraic_Out1Ideal_Out1RefIdeal [hOut1Ideal : Cert.Out1Ideal.Facts] [hOut1RefIdeal : Cert.Out1RefIdeal.Facts] : Prop :=
  ∀ (m : (ℓ : Loc Cert.Out1Ideal.nD Cert.Out1Ideal.τ Cert.Out1Ideal.sig) → Buf (Elt Ideal) ℓ) (g : Dev Cert.Out1Ideal.nD → PrngReg)
    (m' : (ℓ : Loc Cert.Out1RefIdeal.nD Cert.Out1RefIdeal.τ Cert.Out1RefIdeal.sig) → Buf (Elt Ideal) ℓ) (g' : Dev Cert.Out1RefIdeal.nD → PrngReg), Pre_Out1Ideal m →
    (∀ c : Dev Cert.Out1Ideal.nD,
      m' ((c.tc : Thread Cert.Out1RefIdeal.nD Cert.Out1RefIdeal.τ).loc Cert.Out1RefIdeal.main_arg0) = m ((c.tc : Thread Cert.Out1Ideal.nD Cert.Out1Ideal.τ).loc Cert.Out1Ideal.main_arg0)
      ∧ m' ((c.tc : Thread Cert.Out1RefIdeal.nD Cert.Out1RefIdeal.τ).loc Cert.Out1RefIdeal.main_arg1) = m ((c.tc : Thread Cert.Out1Ideal.nD Cert.Out1Ideal.τ).loc Cert.Out1Ideal.main_arg1)
      ∧ m' ((c.tc : Thread Cert.Out1RefIdeal.nD Cert.Out1RefIdeal.τ).loc Cert.Out1RefIdeal.main_arg2) = m ((c.tc : Thread Cert.Out1Ideal.nD Cert.Out1Ideal.τ).loc Cert.Out1Ideal.main_arg2)
      ∧ m' ((c.tc : Thread Cert.Out1RefIdeal.nD Cert.Out1RefIdeal.τ).loc Cert.Out1RefIdeal.main_arg3) = m ((c.tc : Thread Cert.Out1Ideal.nD Cert.Out1Ideal.τ).loc Cert.Out1Ideal.main_arg3)) →
    ∃ (v0 : (c : Dev Cert.Out1Ideal.nD) → Buf (Elt Ideal) ((c.tc : Thread Cert.Out1Ideal.nD Cert.Out1Ideal.τ).loc Cert.Out1Ideal.main_v0)),
      θ_run (Cert.Out1Ideal.defs (F := Ideal)) (onTc (τ := Cert.Out1Ideal.τ) (Cert.Out1Ideal.main (F := Ideal))) ⟨m, fun _ => 0, g⟩ (fun r => ∀ c : Dev Cert.Out1Ideal.nD,
          r.2.mem ((c.tc : Thread Cert.Out1Ideal.nD Cert.Out1Ideal.τ).loc Cert.Out1Ideal.main_v0) = v0 c
          ∧ r.2.mem ((c.tc : Thread Cert.Out1Ideal.nD Cert.Out1Ideal.τ).loc Cert.Out1Ideal.main_arg0) = m ((c.tc : Thread Cert.Out1Ideal.nD Cert.Out1Ideal.τ).loc Cert.Out1Ideal.main_arg0)
          ∧ r.2.mem ((c.tc : Thread Cert.Out1Ideal.nD Cert.Out1Ideal.τ).loc Cert.Out1Ideal.main_arg1) = m ((c.tc : Thread Cert.Out1Ideal.nD Cert.Out1Ideal.τ).loc Cert.Out1Ideal.main_arg1)
          ∧ r.2.mem ((c.tc : Thread Cert.Out1Ideal.nD Cert.Out1Ideal.τ).loc Cert.Out1Ideal.main_arg2) = m ((c.tc : Thread Cert.Out1Ideal.nD Cert.Out1Ideal.τ).loc Cert.Out1Ideal.main_arg2)
          ∧ r.2.mem ((c.tc : Thread Cert.Out1Ideal.nD Cert.Out1Ideal.τ).loc Cert.Out1Ideal.main_arg3) = m ((c.tc : Thread Cert.Out1Ideal.nD Cert.Out1Ideal.τ).loc Cert.Out1Ideal.main_arg3))
      ∧ θ_run (Cert.Out1RefIdeal.defs (F := Ideal)) (onTc (τ := Cert.Out1RefIdeal.τ) (Cert.Out1RefIdeal.main (F := Ideal))) ⟨m', fun _ => 0, g'⟩ (fun r => ∀ c : Dev Cert.Out1RefIdeal.nD,
          r.2.mem ((c.tc : Thread Cert.Out1RefIdeal.nD Cert.Out1RefIdeal.τ).loc Cert.Out1RefIdeal.main_v0) = v0 c
          ∧ r.2.mem ((c.tc : Thread Cert.Out1RefIdeal.nD Cert.Out1RefIdeal.τ).loc Cert.Out1RefIdeal.main_arg0) = m' ((c.tc : Thread Cert.Out1RefIdeal.nD Cert.Out1RefIdeal.τ).loc Cert.Out1RefIdeal.main_arg0)
          ∧ r.2.mem ((c.tc : Thread Cert.Out1RefIdeal.nD Cert.Out1RefIdeal.τ).loc Cert.Out1RefIdeal.main_arg1) = m' ((c.tc : Thread Cert.Out1RefIdeal.nD Cert.Out1RefIdeal.τ).loc Cert.Out1RefIdeal.main_arg1)
          ∧ r.2.mem ((c.tc : Thread Cert.Out1RefIdeal.nD Cert.Out1RefIdeal.τ).loc Cert.Out1RefIdeal.main_arg2) = m' ((c.tc : Thread Cert.Out1RefIdeal.nD Cert.Out1RefIdeal.τ).loc Cert.Out1RefIdeal.main_arg2)
          ∧ r.2.mem ((c.tc : Thread Cert.Out1RefIdeal.nD Cert.Out1RefIdeal.τ).loc Cert.Out1RefIdeal.main_arg3) = m' ((c.tc : Thread Cert.Out1RefIdeal.nD Cert.Out1RefIdeal.τ).loc Cert.Out1RefIdeal.main_arg3))

def preserves_Qkv0_Qkv0Ideal : Prop :=
  True

def algebraic_Qkv0Ideal_Qkv0RefIdeal [hQkv0Ideal : Cert.Qkv0Ideal.Facts] [hQkv0RefIdeal : Cert.Qkv0RefIdeal.Facts] : Prop :=
  ∀ (m : (ℓ : Loc Cert.Qkv0Ideal.nD Cert.Qkv0Ideal.τ Cert.Qkv0Ideal.sig) → Buf (Elt Ideal) ℓ) (g : Dev Cert.Qkv0Ideal.nD → PrngReg)
    (m' : (ℓ : Loc Cert.Qkv0RefIdeal.nD Cert.Qkv0RefIdeal.τ Cert.Qkv0RefIdeal.sig) → Buf (Elt Ideal) ℓ) (g' : Dev Cert.Qkv0RefIdeal.nD → PrngReg), Pre_Qkv0Ideal m →
    (∀ c : Dev Cert.Qkv0Ideal.nD,
      m' ((c.tc : Thread Cert.Qkv0RefIdeal.nD Cert.Qkv0RefIdeal.τ).loc Cert.Qkv0RefIdeal.main_arg0) = m ((c.tc : Thread Cert.Qkv0Ideal.nD Cert.Qkv0Ideal.τ).loc Cert.Qkv0Ideal.main_arg0)
      ∧ m' ((c.tc : Thread Cert.Qkv0RefIdeal.nD Cert.Qkv0RefIdeal.τ).loc Cert.Qkv0RefIdeal.main_arg1) = m ((c.tc : Thread Cert.Qkv0Ideal.nD Cert.Qkv0Ideal.τ).loc Cert.Qkv0Ideal.main_arg1)
      ∧ m' ((c.tc : Thread Cert.Qkv0RefIdeal.nD Cert.Qkv0RefIdeal.τ).loc Cert.Qkv0RefIdeal.main_arg2) = m ((c.tc : Thread Cert.Qkv0Ideal.nD Cert.Qkv0Ideal.τ).loc Cert.Qkv0Ideal.main_arg2)
      ∧ m' ((c.tc : Thread Cert.Qkv0RefIdeal.nD Cert.Qkv0RefIdeal.τ).loc Cert.Qkv0RefIdeal.main_arg3) = m ((c.tc : Thread Cert.Qkv0Ideal.nD Cert.Qkv0Ideal.τ).loc Cert.Qkv0Ideal.main_arg3)
      ∧ m' ((c.tc : Thread Cert.Qkv0RefIdeal.nD Cert.Qkv0RefIdeal.τ).loc Cert.Qkv0RefIdeal.main_arg4) = m ((c.tc : Thread Cert.Qkv0Ideal.nD Cert.Qkv0Ideal.τ).loc Cert.Qkv0Ideal.main_arg4)) →
    ∃ (v0 : (c : Dev Cert.Qkv0Ideal.nD) → Buf (Elt Ideal) ((c.tc : Thread Cert.Qkv0Ideal.nD Cert.Qkv0Ideal.τ).loc Cert.Qkv0Ideal.main_v5)),
      θ_run (Cert.Qkv0Ideal.defs (F := Ideal)) (onTc (τ := Cert.Qkv0Ideal.τ) (Cert.Qkv0Ideal.main (F := Ideal))) ⟨m, fun _ => 0, g⟩ (fun r => ∀ c : Dev Cert.Qkv0Ideal.nD,
          r.2.mem ((c.tc : Thread Cert.Qkv0Ideal.nD Cert.Qkv0Ideal.τ).loc Cert.Qkv0Ideal.main_v5) = v0 c
          ∧ r.2.mem ((c.tc : Thread Cert.Qkv0Ideal.nD Cert.Qkv0Ideal.τ).loc Cert.Qkv0Ideal.main_arg0) = m ((c.tc : Thread Cert.Qkv0Ideal.nD Cert.Qkv0Ideal.τ).loc Cert.Qkv0Ideal.main_arg0)
          ∧ r.2.mem ((c.tc : Thread Cert.Qkv0Ideal.nD Cert.Qkv0Ideal.τ).loc Cert.Qkv0Ideal.main_arg1) = m ((c.tc : Thread Cert.Qkv0Ideal.nD Cert.Qkv0Ideal.τ).loc Cert.Qkv0Ideal.main_arg1)
          ∧ r.2.mem ((c.tc : Thread Cert.Qkv0Ideal.nD Cert.Qkv0Ideal.τ).loc Cert.Qkv0Ideal.main_arg2) = m ((c.tc : Thread Cert.Qkv0Ideal.nD Cert.Qkv0Ideal.τ).loc Cert.Qkv0Ideal.main_arg2)
          ∧ r.2.mem ((c.tc : Thread Cert.Qkv0Ideal.nD Cert.Qkv0Ideal.τ).loc Cert.Qkv0Ideal.main_arg3) = m ((c.tc : Thread Cert.Qkv0Ideal.nD Cert.Qkv0Ideal.τ).loc Cert.Qkv0Ideal.main_arg3)
          ∧ r.2.mem ((c.tc : Thread Cert.Qkv0Ideal.nD Cert.Qkv0Ideal.τ).loc Cert.Qkv0Ideal.main_arg4) = m ((c.tc : Thread Cert.Qkv0Ideal.nD Cert.Qkv0Ideal.τ).loc Cert.Qkv0Ideal.main_arg4))
      ∧ θ_run (Cert.Qkv0RefIdeal.defs (F := Ideal)) (onTc (τ := Cert.Qkv0RefIdeal.τ) (Cert.Qkv0RefIdeal.main (F := Ideal))) ⟨m', fun _ => 0, g'⟩ (fun r => ∀ c : Dev Cert.Qkv0RefIdeal.nD,
          r.2.mem ((c.tc : Thread Cert.Qkv0RefIdeal.nD Cert.Qkv0RefIdeal.τ).loc Cert.Qkv0RefIdeal.main_v2) = v0 c
          ∧ r.2.mem ((c.tc : Thread Cert.Qkv0RefIdeal.nD Cert.Qkv0RefIdeal.τ).loc Cert.Qkv0RefIdeal.main_arg0) = m' ((c.tc : Thread Cert.Qkv0RefIdeal.nD Cert.Qkv0RefIdeal.τ).loc Cert.Qkv0RefIdeal.main_arg0)
          ∧ r.2.mem ((c.tc : Thread Cert.Qkv0RefIdeal.nD Cert.Qkv0RefIdeal.τ).loc Cert.Qkv0RefIdeal.main_arg1) = m' ((c.tc : Thread Cert.Qkv0RefIdeal.nD Cert.Qkv0RefIdeal.τ).loc Cert.Qkv0RefIdeal.main_arg1)
          ∧ r.2.mem ((c.tc : Thread Cert.Qkv0RefIdeal.nD Cert.Qkv0RefIdeal.τ).loc Cert.Qkv0RefIdeal.main_arg2) = m' ((c.tc : Thread Cert.Qkv0RefIdeal.nD Cert.Qkv0RefIdeal.τ).loc Cert.Qkv0RefIdeal.main_arg2)
          ∧ r.2.mem ((c.tc : Thread Cert.Qkv0RefIdeal.nD Cert.Qkv0RefIdeal.τ).loc Cert.Qkv0RefIdeal.main_arg3) = m' ((c.tc : Thread Cert.Qkv0RefIdeal.nD Cert.Qkv0RefIdeal.τ).loc Cert.Qkv0RefIdeal.main_arg3)
          ∧ r.2.mem ((c.tc : Thread Cert.Qkv0RefIdeal.nD Cert.Qkv0RefIdeal.τ).loc Cert.Qkv0RefIdeal.main_arg4) = m' ((c.tc : Thread Cert.Qkv0RefIdeal.nD Cert.Qkv0RefIdeal.τ).loc Cert.Qkv0RefIdeal.main_arg4))

def preserves_Qkv1_Qkv1Ideal : Prop :=
  True

def algebraic_Qkv1Ideal_Qkv1RefIdeal [hQkv1Ideal : Cert.Qkv1Ideal.Facts] [hQkv1RefIdeal : Cert.Qkv1RefIdeal.Facts] : Prop :=
  ∀ (m : (ℓ : Loc Cert.Qkv1Ideal.nD Cert.Qkv1Ideal.τ Cert.Qkv1Ideal.sig) → Buf (Elt Ideal) ℓ) (g : Dev Cert.Qkv1Ideal.nD → PrngReg)
    (m' : (ℓ : Loc Cert.Qkv1RefIdeal.nD Cert.Qkv1RefIdeal.τ Cert.Qkv1RefIdeal.sig) → Buf (Elt Ideal) ℓ) (g' : Dev Cert.Qkv1RefIdeal.nD → PrngReg), Pre_Qkv1Ideal m →
    (∀ c : Dev Cert.Qkv1Ideal.nD,
      m' ((c.tc : Thread Cert.Qkv1RefIdeal.nD Cert.Qkv1RefIdeal.τ).loc Cert.Qkv1RefIdeal.main_arg0) = m ((c.tc : Thread Cert.Qkv1Ideal.nD Cert.Qkv1Ideal.τ).loc Cert.Qkv1Ideal.main_arg0)
      ∧ m' ((c.tc : Thread Cert.Qkv1RefIdeal.nD Cert.Qkv1RefIdeal.τ).loc Cert.Qkv1RefIdeal.main_arg1) = m ((c.tc : Thread Cert.Qkv1Ideal.nD Cert.Qkv1Ideal.τ).loc Cert.Qkv1Ideal.main_arg1)
      ∧ m' ((c.tc : Thread Cert.Qkv1RefIdeal.nD Cert.Qkv1RefIdeal.τ).loc Cert.Qkv1RefIdeal.main_arg2) = m ((c.tc : Thread Cert.Qkv1Ideal.nD Cert.Qkv1Ideal.τ).loc Cert.Qkv1Ideal.main_arg2)
      ∧ m' ((c.tc : Thread Cert.Qkv1RefIdeal.nD Cert.Qkv1RefIdeal.τ).loc Cert.Qkv1RefIdeal.main_arg3) = m ((c.tc : Thread Cert.Qkv1Ideal.nD Cert.Qkv1Ideal.τ).loc Cert.Qkv1Ideal.main_arg3)
      ∧ m' ((c.tc : Thread Cert.Qkv1RefIdeal.nD Cert.Qkv1RefIdeal.τ).loc Cert.Qkv1RefIdeal.main_arg4) = m ((c.tc : Thread Cert.Qkv1Ideal.nD Cert.Qkv1Ideal.τ).loc Cert.Qkv1Ideal.main_arg4)) →
    ∃ (v0 : (c : Dev Cert.Qkv1Ideal.nD) → Buf (Elt Ideal) ((c.tc : Thread Cert.Qkv1Ideal.nD Cert.Qkv1Ideal.τ).loc Cert.Qkv1Ideal.main_v5)),
      θ_run (Cert.Qkv1Ideal.defs (F := Ideal)) (onTc (τ := Cert.Qkv1Ideal.τ) (Cert.Qkv1Ideal.main (F := Ideal))) ⟨m, fun _ => 0, g⟩ (fun r => ∀ c : Dev Cert.Qkv1Ideal.nD,
          r.2.mem ((c.tc : Thread Cert.Qkv1Ideal.nD Cert.Qkv1Ideal.τ).loc Cert.Qkv1Ideal.main_v5) = v0 c
          ∧ r.2.mem ((c.tc : Thread Cert.Qkv1Ideal.nD Cert.Qkv1Ideal.τ).loc Cert.Qkv1Ideal.main_arg0) = m ((c.tc : Thread Cert.Qkv1Ideal.nD Cert.Qkv1Ideal.τ).loc Cert.Qkv1Ideal.main_arg0)
          ∧ r.2.mem ((c.tc : Thread Cert.Qkv1Ideal.nD Cert.Qkv1Ideal.τ).loc Cert.Qkv1Ideal.main_arg1) = m ((c.tc : Thread Cert.Qkv1Ideal.nD Cert.Qkv1Ideal.τ).loc Cert.Qkv1Ideal.main_arg1)
          ∧ r.2.mem ((c.tc : Thread Cert.Qkv1Ideal.nD Cert.Qkv1Ideal.τ).loc Cert.Qkv1Ideal.main_arg2) = m ((c.tc : Thread Cert.Qkv1Ideal.nD Cert.Qkv1Ideal.τ).loc Cert.Qkv1Ideal.main_arg2)
          ∧ r.2.mem ((c.tc : Thread Cert.Qkv1Ideal.nD Cert.Qkv1Ideal.τ).loc Cert.Qkv1Ideal.main_arg3) = m ((c.tc : Thread Cert.Qkv1Ideal.nD Cert.Qkv1Ideal.τ).loc Cert.Qkv1Ideal.main_arg3)
          ∧ r.2.mem ((c.tc : Thread Cert.Qkv1Ideal.nD Cert.Qkv1Ideal.τ).loc Cert.Qkv1Ideal.main_arg4) = m ((c.tc : Thread Cert.Qkv1Ideal.nD Cert.Qkv1Ideal.τ).loc Cert.Qkv1Ideal.main_arg4))
      ∧ θ_run (Cert.Qkv1RefIdeal.defs (F := Ideal)) (onTc (τ := Cert.Qkv1RefIdeal.τ) (Cert.Qkv1RefIdeal.main (F := Ideal))) ⟨m', fun _ => 0, g'⟩ (fun r => ∀ c : Dev Cert.Qkv1RefIdeal.nD,
          r.2.mem ((c.tc : Thread Cert.Qkv1RefIdeal.nD Cert.Qkv1RefIdeal.τ).loc Cert.Qkv1RefIdeal.main_v2) = v0 c
          ∧ r.2.mem ((c.tc : Thread Cert.Qkv1RefIdeal.nD Cert.Qkv1RefIdeal.τ).loc Cert.Qkv1RefIdeal.main_arg0) = m' ((c.tc : Thread Cert.Qkv1RefIdeal.nD Cert.Qkv1RefIdeal.τ).loc Cert.Qkv1RefIdeal.main_arg0)
          ∧ r.2.mem ((c.tc : Thread Cert.Qkv1RefIdeal.nD Cert.Qkv1RefIdeal.τ).loc Cert.Qkv1RefIdeal.main_arg1) = m' ((c.tc : Thread Cert.Qkv1RefIdeal.nD Cert.Qkv1RefIdeal.τ).loc Cert.Qkv1RefIdeal.main_arg1)
          ∧ r.2.mem ((c.tc : Thread Cert.Qkv1RefIdeal.nD Cert.Qkv1RefIdeal.τ).loc Cert.Qkv1RefIdeal.main_arg2) = m' ((c.tc : Thread Cert.Qkv1RefIdeal.nD Cert.Qkv1RefIdeal.τ).loc Cert.Qkv1RefIdeal.main_arg2)
          ∧ r.2.mem ((c.tc : Thread Cert.Qkv1RefIdeal.nD Cert.Qkv1RefIdeal.τ).loc Cert.Qkv1RefIdeal.main_arg3) = m' ((c.tc : Thread Cert.Qkv1RefIdeal.nD Cert.Qkv1RefIdeal.τ).loc Cert.Qkv1RefIdeal.main_arg3)
          ∧ r.2.mem ((c.tc : Thread Cert.Qkv1RefIdeal.nD Cert.Qkv1RefIdeal.τ).loc Cert.Qkv1RefIdeal.main_arg4) = m' ((c.tc : Thread Cert.Qkv1RefIdeal.nD Cert.Qkv1RefIdeal.τ).loc Cert.Qkv1RefIdeal.main_arg4))

def Claim : Prop :=
  ∃ (hLogits : Cert.Logits.Facts) (hLogitsIdeal : Cert.LogitsIdeal.Facts) (hLogitsRefIdeal : Cert.LogitsRefIdeal.Facts) (hDown0 : Cert.Down0.Facts) (hDown0Ideal : Cert.Down0Ideal.Facts) (hDown0RefIdeal : Cert.Down0RefIdeal.Facts) (hDown1 : Cert.Down1.Facts) (hDown1Ideal : Cert.Down1Ideal.Facts) (hDown1RefIdeal : Cert.Down1RefIdeal.Facts) (hMerge0 : Cert.Merge0.Facts) (hMerge0Ideal : Cert.Merge0Ideal.Facts) (hMerge0RefIdeal : Cert.Merge0RefIdeal.Facts) (hMerge1 : Cert.Merge1.Facts) (hMerge1Ideal : Cert.Merge1Ideal.Facts) (hMerge1RefIdeal : Cert.Merge1RefIdeal.Facts) (hOut0 : Cert.Out0.Facts) (hOut0Ideal : Cert.Out0Ideal.Facts) (hOut0RefIdeal : Cert.Out0RefIdeal.Facts) (hOut1 : Cert.Out1.Facts) (hOut1Ideal : Cert.Out1Ideal.Facts) (hOut1RefIdeal : Cert.Out1RefIdeal.Facts) (hQkv0 : Cert.Qkv0.Facts) (hQkv0Ideal : Cert.Qkv0Ideal.Facts) (hQkv0RefIdeal : Cert.Qkv0RefIdeal.Facts) (hQkv1 : Cert.Qkv1.Facts) (hQkv1Ideal : Cert.Qkv1Ideal.Facts) (hQkv1RefIdeal : Cert.Qkv1RefIdeal.Facts),
    quiescent_Logits (hLogits := hLogits)
    ∧ quiescent_LogitsIdeal (hLogitsIdeal := hLogitsIdeal)
    ∧ quiescent_LogitsRefIdeal (hLogitsRefIdeal := hLogitsRefIdeal)
    ∧ quiescent_Down0 (hDown0 := hDown0)
    ∧ quiescent_Down0Ideal (hDown0Ideal := hDown0Ideal)
    ∧ quiescent_Down0RefIdeal (hDown0RefIdeal := hDown0RefIdeal)
    ∧ quiescent_Down1 (hDown1 := hDown1)
    ∧ quiescent_Down1Ideal (hDown1Ideal := hDown1Ideal)
    ∧ quiescent_Down1RefIdeal (hDown1RefIdeal := hDown1RefIdeal)
    ∧ quiescent_Merge0 (hMerge0 := hMerge0)
    ∧ quiescent_Merge0Ideal (hMerge0Ideal := hMerge0Ideal)
    ∧ quiescent_Merge0RefIdeal (hMerge0RefIdeal := hMerge0RefIdeal)
    ∧ quiescent_Merge1 (hMerge1 := hMerge1)
    ∧ quiescent_Merge1Ideal (hMerge1Ideal := hMerge1Ideal)
    ∧ quiescent_Merge1RefIdeal (hMerge1RefIdeal := hMerge1RefIdeal)
    ∧ quiescent_Out0 (hOut0 := hOut0)
    ∧ quiescent_Out0Ideal (hOut0Ideal := hOut0Ideal)
    ∧ quiescent_Out0RefIdeal (hOut0RefIdeal := hOut0RefIdeal)
    ∧ quiescent_Out1 (hOut1 := hOut1)
    ∧ quiescent_Out1Ideal (hOut1Ideal := hOut1Ideal)
    ∧ quiescent_Out1RefIdeal (hOut1RefIdeal := hOut1RefIdeal)
    ∧ quiescent_Qkv0 (hQkv0 := hQkv0)
    ∧ quiescent_Qkv0Ideal (hQkv0Ideal := hQkv0Ideal)
    ∧ quiescent_Qkv0RefIdeal (hQkv0RefIdeal := hQkv0RefIdeal)
    ∧ quiescent_Qkv1 (hQkv1 := hQkv1)
    ∧ quiescent_Qkv1Ideal (hQkv1Ideal := hQkv1Ideal)
    ∧ quiescent_Qkv1RefIdeal (hQkv1RefIdeal := hQkv1RefIdeal)
    ∧ preserves_Logits_LogitsIdeal
    ∧ algebraic_LogitsIdeal_LogitsRefIdeal (hLogitsIdeal := hLogitsIdeal) (hLogitsRefIdeal := hLogitsRefIdeal)
    ∧ preserves_Down0_Down0Ideal
    ∧ algebraic_Down0Ideal_Down0RefIdeal (hDown0Ideal := hDown0Ideal) (hDown0RefIdeal := hDown0RefIdeal)
    ∧ preserves_Down1_Down1Ideal
    ∧ algebraic_Down1Ideal_Down1RefIdeal (hDown1Ideal := hDown1Ideal) (hDown1RefIdeal := hDown1RefIdeal)
    ∧ preserves_Merge0_Merge0Ideal
    ∧ algebraic_Merge0Ideal_Merge0RefIdeal (hMerge0Ideal := hMerge0Ideal) (hMerge0RefIdeal := hMerge0RefIdeal)
    ∧ preserves_Merge1_Merge1Ideal
    ∧ algebraic_Merge1Ideal_Merge1RefIdeal (hMerge1Ideal := hMerge1Ideal) (hMerge1RefIdeal := hMerge1RefIdeal)
    ∧ preserves_Out0_Out0Ideal
    ∧ algebraic_Out0Ideal_Out0RefIdeal (hOut0Ideal := hOut0Ideal) (hOut0RefIdeal := hOut0RefIdeal)
    ∧ preserves_Out1_Out1Ideal
    ∧ algebraic_Out1Ideal_Out1RefIdeal (hOut1Ideal := hOut1Ideal) (hOut1RefIdeal := hOut1RefIdeal)
    ∧ preserves_Qkv0_Qkv0Ideal
    ∧ algebraic_Qkv0Ideal_Qkv0RefIdeal (hQkv0Ideal := hQkv0Ideal) (hQkv0RefIdeal := hQkv0RefIdeal)
    ∧ preserves_Qkv1_Qkv1Ideal
    ∧ algebraic_Qkv1Ideal_Qkv1RefIdeal (hQkv1Ideal := hQkv1Ideal) (hQkv1RefIdeal := hQkv1RefIdeal)
-- ==== Logits.lean ====
abbrev S3840x5120 : Shape := ⟨2, ![3840, 5120]⟩
abbrev S5120x32768 : Shape := ⟨2, ![5120, 32768]⟩
abbrev S40x256 : Shape := ⟨2, ![40, 256]⟩
abbrev S2x5x384 : Shape := ⟨3, ![2, 5, 384]⟩
abbrev S1 : Shape := ⟨1, ![1]⟩
abbrev S1x1x1 : Shape := ⟨3, ![1, 1, 1]⟩
abbrev S2x5x384x1 : Shape := ⟨4, ![2, 5, 384, 1]⟩
abbrev S2x5x384x4 : Shape := ⟨4, ![2, 5, 384, 4]⟩
abbrev S3840x4 : Shape := ⟨2, ![3840, 4]⟩
abbrev S3840x32768 : Shape := ⟨2, ![3840, 32768]⟩
abbrev S1280x5120 : Shape := ⟨2, ![1280, 5120]⟩
abbrev S5120x512 : Shape := ⟨2, ![5120, 512]⟩
abbrev S1280x4 : Shape := ⟨2, ![1280, 4]⟩
abbrev S1280x512 : Shape := ⟨2, ![1280, 512]⟩
abbrev S1280x128 : Shape := ⟨2, ![1280, 128]⟩
abbrev S1280x1 : Shape := ⟨2, ![1280, 1]⟩
abbrev S128x128 : Shape := ⟨2, ![128, 128]⟩
abbrev S1x1 : Shape := ⟨2, ![1, 1]⟩
abbrev S128x512 : Shape := ⟨2, ![128, 512]⟩
abbrev S320x5120 : Shape := ⟨2, ![320, 5120]⟩
abbrev S320x512 : Shape := ⟨2, ![320, 512]⟩
abbrev S320x128 : Shape := ⟨2, ![320, 128]⟩
abbrev S1280 : Shape := ⟨1, ![1280]⟩

abbrev nBuf : Space → Nat
  | .hbm => 21
  | .vmem => 14
  | .smem => 1
  | _ => 0

abbrev bufTy : (tb : Table) → Fin (tcTables nBuf tb) → BufTy
  | .hbm, ⟨0, _⟩ => ⟨S3840x5120, .bf16⟩
  | .hbm, ⟨1, _⟩ => ⟨S5120x32768, .fp8e4m3⟩
  | .hbm, ⟨2, _⟩ => ⟨S40x256, .f32⟩
  | .hbm, ⟨3, _⟩ => ⟨S2x5x384, .i32⟩
  | .hbm, ⟨4, _⟩ => ⟨S1, .i32⟩
  | .hbm, ⟨5, _⟩ => ⟨S2x5x384, .f32⟩
  | .hbm, ⟨6, _⟩ => ⟨S2x5x384, .f32⟩
  | .hbm, ⟨7, _⟩ => ⟨S2x5x384, .f32⟩
  | .hbm, ⟨8, _⟩ => ⟨S1x1x1, .i32⟩
  | .hbm, ⟨9, _⟩ => ⟨S2x5x384, .i32⟩
  | .hbm, ⟨10, _⟩ => ⟨S2x5x384, .i32⟩
  | .hbm, ⟨11, _⟩ => ⟨S2x5x384, .f32⟩
  | .hbm, ⟨12, _⟩ => ⟨S2x5x384, .f32⟩
  | .hbm, ⟨13, _⟩ => ⟨S2x5x384x1, .f32⟩
  | .hbm, ⟨14, _⟩ => ⟨S2x5x384x1, .f32⟩
  | .hbm, ⟨15, _⟩ => ⟨S2x5x384x1, .f32⟩
  | .hbm, ⟨16, _⟩ => ⟨S2x5x384x1, .f32⟩
  | .hbm, ⟨17, _⟩ => ⟨S2x5x384x4, .f32⟩
  | .hbm, ⟨18, _⟩ => ⟨S3840x4, .f32⟩
  | .hbm, ⟨19, _⟩ => ⟨S3840x32768, .f32⟩
  | .hbm, ⟨20, _⟩ => ⟨S3840x4, .f32⟩
  | .local _ .vmem, ⟨0, _⟩ => ⟨S1280x5120, .bf16⟩
  | .local _ .vmem, ⟨1, _⟩ => ⟨S1280x5120, .bf16⟩
  | .local _ .vmem, ⟨2, _⟩ => ⟨S5120x512, .fp8e4m3⟩
  | .local _ .vmem, ⟨3, _⟩ => ⟨S5120x512, .fp8e4m3⟩
  | .local _ .vmem, ⟨4, _⟩ => ⟨S1280x4, .f32⟩
  | .local _ .vmem, ⟨5, _⟩ => ⟨S1280x4, .f32⟩
  | .local _ .vmem, ⟨6, _⟩ => ⟨S1280x512, .f32⟩
  | .local _ .vmem, ⟨7, _⟩ => ⟨S1280x512, .f32⟩
  | .local _ .vmem, ⟨8, _⟩ => ⟨S1280x4, .f32⟩
  | .local _ .vmem, ⟨9, _⟩ => ⟨S1280x4, .f32⟩
  | .local _ .vmem, ⟨10, _⟩ => ⟨S1280x128, .f32⟩
  | .local _ .vmem, ⟨11, _⟩ => ⟨S1280x128, .f32⟩
  | .local _ .vmem, ⟨12, _⟩ => ⟨S1280x128, .f32⟩
  | .local _ .vmem, ⟨13, _⟩ => ⟨S1280x128, .i32⟩
  | .local _ .smem, ⟨0, _⟩ => ⟨S40x256, .f32⟩
  | _, _ => ⟨S3840x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![3, 64], ![false, false]⟩

def k0_off1 (i : grid0.Coords) (c0_i32_2 : BitVec 32) : Fin 2 → Nat :=
  let c0_3 : Index := 0#32
  let arg1 : BitVec 32 := BitVec.ofNat 32 (i 1).val
  let c4_i32 : BitVec 32 := 4#32
  let v3 : BitVec 32 := Scalar.muli arg1 c4_i32
  let v6 : BitVec 32 := Scalar.addi v3 c0_i32_2
  let v7 : Index := Scalar.indexCast v6
  ![0, v7.toNat]
def k0_off2 (i : grid0.Coords) (c0_i32_12 : BitVec 32) : Fin 2 → Nat :=
  let c1 : Index := 1#32
  let arg1 : BitVec 32 := BitVec.ofNat 32 (i 1).val
  let c4_i32 : BitVec 32 := 4#32
  let v3 : BitVec 32 := Scalar.muli arg1 c4_i32
  let v39 : BitVec 32 := Scalar.addi v3 c0_i32_12
  let v40 : Index := Scalar.indexCast v39
  ![1, v40.toNat]
def k0_off3 (i : grid0.Coords) (c0_i32_27 : BitVec 32) : Fin 2 → Nat :=
  let c2 : Index := 2#32
  let arg1 : BitVec 32 := BitVec.ofNat 32 (i 1).val
  let c4_i32 : BitVec 32 := 4#32
  let v3 : BitVec 32 := Scalar.muli arg1 c4_i32
  let v72 : BitVec 32 := Scalar.addi v3 c0_i32_27
  let v73 : Index := Scalar.indexCast v72
  ![2, v73.toNat]
def k0_off4 (i : grid0.Coords) (c0_i32_42 : BitVec 32) : Fin 2 → Nat :=
  let c3 : Index := 3#32
  let arg1 : BitVec 32 := BitVec.ofNat 32 (i 1).val
  let c4_i32 : BitVec 32 := 4#32
  let v3 : BitVec 32 := Scalar.muli arg1 c4_i32
  let v105 : BitVec 32 := Scalar.addi v3 c0_i32_42
  let v106 : Index := Scalar.indexCast v105
  ![3, v106.toNat]
def k0_off5 (i : grid0.Coords) (c0_i32_56 : BitVec 32) : Fin 2 → Nat :=
  let c4 : Index := 4#32
  let arg1 : BitVec 32 := BitVec.ofNat 32 (i 1).val
  let c4_i32 : BitVec 32 := 4#32
  let v3 : BitVec 32 := Scalar.muli arg1 c4_i32
  let v138 : BitVec 32 := Scalar.addi v3 c0_i32_56
  let v139 : Index := Scalar.indexCast v138
  ![4, v139.toNat]
def k0_off6 (i : grid0.Coords) (c0_i32_70 : BitVec 32) : Fin 2 → Nat :=
  let c5 : Index := 5#32
  let arg1 : BitVec 32 := BitVec.ofNat 32 (i 1).val
  let c4_i32 : BitVec 32 := 4#32
  let v3 : BitVec 32 := Scalar.muli arg1 c4_i32
  let v171 : BitVec 32 := Scalar.addi v3 c0_i32_70
  let v172 : Index := Scalar.indexCast v171
  ![5, v172.toNat]
def k0_off7 (i : grid0.Coords) (c0_i32_84 : BitVec 32) : Fin 2 → Nat :=
  let c6 : Index := 6#32
  let arg1 : BitVec 32 := BitVec.ofNat 32 (i 1).val
  let c4_i32 : BitVec 32 := 4#32
  let v3 : BitVec 32 := Scalar.muli arg1 c4_i32
  let v204 : BitVec 32 := Scalar.addi v3 c0_i32_84
  let v205 : Index := Scalar.indexCast v204
  ![6, v205.toNat]
def k0_off8 (i : grid0.Coords) (c0_i32_98 : BitVec 32) : Fin 2 → Nat :=
  let c7 : Index := 7#32
  let arg1 : BitVec 32 := BitVec.ofNat 32 (i 1).val
  let c4_i32 : BitVec 32 := 4#32
  let v3 : BitVec 32 := Scalar.muli arg1 c4_i32
  let v237 : BitVec 32 := Scalar.addi v3 c0_i32_98
  let v238 : Index := Scalar.indexCast v237
  ![7, v238.toNat]
def k0_off9 (i : grid0.Coords) (c0_i32_112 : BitVec 32) : Fin 2 → Nat :=
  let c8 : Index := 8#32
  let arg1 : BitVec 32 := BitVec.ofNat 32 (i 1).val
  let c4_i32 : BitVec 32 := 4#32
  let v3 : BitVec 32 := Scalar.muli arg1 c4_i32
  let v270 : BitVec 32 := Scalar.addi v3 c0_i32_112
  let v271 : Index := Scalar.indexCast v270
  ![8, v271.toNat]
def k0_off10 (i : grid0.Coords) (c0_i32_126 : BitVec 32) : Fin 2 → Nat :=
  let c9 : Index := 9#32
  let arg1 : BitVec 32 := BitVec.ofNat 32 (i 1).val
  let c4_i32 : BitVec 32 := 4#32
  let v3 : BitVec 32 := Scalar.muli arg1 c4_i32
  let v303 : BitVec 32 := Scalar.addi v3 c0_i32_126
  let v304 : Index := Scalar.indexCast v303
  ![9, v304.toNat]
def k0_off11 (i : grid0.Coords) (c0_i32_140 : BitVec 32) : Fin 2 → Nat :=
  let c10 : Index := 10#32
  let arg1 : BitVec 32 := BitVec.ofNat 32 (i 1).val
  let c4_i32 : BitVec 32 := 4#32
  let v3 : BitVec 32 := Scalar.muli arg1 c4_i32
  let v336 : BitVec 32 := Scalar.addi v3 c0_i32_140
  let v337 : Index := Scalar.indexCast v336
  ![10, v337.toNat]
def k0_off12 (i : grid0.Coords) (c0_i32_154 : BitVec 32) : Fin 2 → Nat :=
  let c11 : Index := 11#32
  let arg1 : BitVec 32 := BitVec.ofNat 32 (i 1).val
  let c4_i32 : BitVec 32 := 4#32
  let v3 : BitVec 32 := Scalar.muli arg1 c4_i32
  let v369 : BitVec 32 := Scalar.addi v3 c0_i32_154
  let v370 : Index := Scalar.indexCast v369
  ![11, v370.toNat]
def k0_off13 (i : grid0.Coords) (c0_i32_168 : BitVec 32) : Fin 2 → Nat :=
  let c12 : Index := 12#32
  let arg1 : BitVec 32 := BitVec.ofNat 32 (i 1).val
  let c4_i32 : BitVec 32 := 4#32
  let v3 : BitVec 32 := Scalar.muli arg1 c4_i32
  let v402 : BitVec 32 := Scalar.addi v3 c0_i32_168
  let v403 : Index := Scalar.indexCast v402
  ![12, v403.toNat]
def k0_off14 (i : grid0.Coords) (c0_i32_182 : BitVec 32) : Fin 2 → Nat :=
  let c13 : Index := 13#32
  let arg1 : BitVec 32 := BitVec.ofNat 32 (i 1).val
  let c4_i32 : BitVec 32 := 4#32
  let v3 : BitVec 32 := Scalar.muli arg1 c4_i32
  let v435 : BitVec 32 := Scalar.addi v3 c0_i32_182
  let v436 : Index := Scalar.indexCast v435
  ![13, v436.toNat]
def k0_off15 (i : grid0.Coords) (c0_i32_196 : BitVec 32) : Fin 2 → Nat :=
  let c14 : Index := 14#32
  let arg1 : BitVec 32 := BitVec.ofNat 32 (i 1).val
  let c4_i32 : BitVec 32 := 4#32
  let v3 : BitVec 32 := Scalar.muli arg1 c4_i32
  let v468 : BitVec 32 := Scalar.addi v3 c0_i32_196
  let v469 : Index := Scalar.indexCast v468
  ![14, v469.toNat]
def k0_off16 (i : grid0.Coords) (c0_i32_210 : BitVec 32) : Fin 2 → Nat :=
  let c15 : Index := 15#32
  let arg1 : BitVec 32 := BitVec.ofNat 32 (i 1).val
  let c4_i32 : BitVec 32 := 4#32
  let v3 : BitVec 32 := Scalar.muli arg1 c4_i32
  let v501 : BitVec 32 := Scalar.addi v3 c0_i32_210
  let v502 : Index := Scalar.indexCast v501
  ![15, v502.toNat]
def k0_off17 (i : grid0.Coords) (c0_i32_224 : BitVec 32) : Fin 2 → Nat :=
  let c16 : Index := 16#32
  let arg1 : BitVec 32 := BitVec.ofNat 32 (i 1).val
  let c4_i32 : BitVec 32 := 4#32
  let v3 : BitVec 32 := Scalar.muli arg1 c4_i32
  let v534 : BitVec 32 := Scalar.addi v3 c0_i32_224
  let v535 : Index := Scalar.indexCast v534
  ![16, v535.toNat]
def k0_off18 (i : grid0.Coords) (c0_i32_238 : BitVec 32) : Fin 2 → Nat :=
  let c17 : Index := 17#32
  let arg1 : BitVec 32 := BitVec.ofNat 32 (i 1).val
  let c4_i32 : BitVec 32 := 4#32
  let v3 : BitVec 32 := Scalar.muli arg1 c4_i32
  let v567 : BitVec 32 := Scalar.addi v3 c0_i32_238
  let v568 : Index := Scalar.indexCast v567
  ![17, v568.toNat]
def k0_off19 (i : grid0.Coords) (c0_i32_252 : BitVec 32) : Fin 2 → Nat :=
  let c18 : Index := 18#32
  let arg1 : BitVec 32 := BitVec.ofNat 32 (i 1).val
  let c4_i32 : BitVec 32 := 4#32
  let v3 : BitVec 32 := Scalar.muli arg1 c4_i32
  let v600 : BitVec 32 := Scalar.addi v3 c0_i32_252
  let v601 : Index := Scalar.indexCast v600
  ![18, v601.toNat]
def k0_off20 (i : grid0.Coords) (c0_i32_266 : BitVec 32) : Fin 2 → Nat :=
  let c19 : Index := 19#32
  let arg1 : BitVec 32 := BitVec.ofNat 32 (i 1).val
  let c4_i32 : BitVec 32 := 4#32
  let v3 : BitVec 32 := Scalar.muli arg1 c4_i32
  let v633 : BitVec 32 := Scalar.addi v3 c0_i32_266
  let v634 : Index := Scalar.indexCast v633
  ![19, v634.toNat]
def k0_off21 (i : grid0.Coords) (c0_i32_280 : BitVec 32) : Fin 2 → Nat :=
  let c20 : Index := 20#32
  let arg1 : BitVec 32 := BitVec.ofNat 32 (i 1).val
  let c4_i32 : BitVec 32 := 4#32
  let v3 : BitVec 32 := Scalar.muli arg1 c4_i32
  let v666 : BitVec 32 := Scalar.addi v3 c0_i32_280
  let v667 : Index := Scalar.indexCast v666
  ![20, v667.toNat]
def k0_off22 (i : grid0.Coords) (c0_i32_294 : BitVec 32) : Fin 2 → Nat :=
  let c21 : Index := 21#32
  let arg1 : BitVec 32 := BitVec.ofNat 32 (i 1).val
  let c4_i32 : BitVec 32 := 4#32
  let v3 : BitVec 32 := Scalar.muli arg1 c4_i32
  let v699 : BitVec 32 := Scalar.addi v3 c0_i32_294
  let v700 : Index := Scalar.indexCast v699
  ![21, v700.toNat]
def k0_off23 (i : grid0.Coords) (c0_i32_308 : BitVec 32) : Fin 2 → Nat :=
  let c22 : Index := 22#32
  let arg1 : BitVec 32 := BitVec.ofNat 32 (i 1).val
  let c4_i32 : BitVec 32 := 4#32
  let v3 : BitVec 32 := Scalar.muli arg1 c4_i32
  let v732 : BitVec 32 := Scalar.addi v3 c0_i32_308
  let v733 : Index := Scalar.indexCast v732
  ![22, v733.toNat]
def k0_off24 (i : grid0.Coords) (c0_i32_322 : BitVec 32) : Fin 2 → Nat :=
  let c23 : Index := 23#32
  let arg1 : BitVec 32 := BitVec.ofNat 32 (i 1).val
  let c4_i32 : BitVec 32 := 4#32
  let v3 : BitVec 32 := Scalar.muli arg1 c4_i32
  let v765 : BitVec 32 := Scalar.addi v3 c0_i32_322
  let v766 : Index := Scalar.indexCast v765
  ![23, v766.toNat]
def k0_off25 (i : grid0.Coords) (c0_i32_336 : BitVec 32) : Fin 2 → Nat :=
  let c24 : Index := 24#32
  let arg1 : BitVec 32 := BitVec.ofNat 32 (i 1).val
  let c4_i32 : BitVec 32 := 4#32
  let v3 : BitVec 32 := Scalar.muli arg1 c4_i32
  let v798 : BitVec 32 := Scalar.addi v3 c0_i32_336
  let v799 : Index := Scalar.indexCast v798
  ![24, v799.toNat]
def k0_off26 (i : grid0.Coords) (c0_i32_350 : BitVec 32) : Fin 2 → Nat :=
  let c25 : Index := 25#32
  let arg1 : BitVec 32 := BitVec.ofNat 32 (i 1).val
  let c4_i32 : BitVec 32 := 4#32
  let v3 : BitVec 32 := Scalar.muli arg1 c4_i32
  let v831 : BitVec 32 := Scalar.addi v3 c0_i32_350
  let v832 : Index := Scalar.indexCast v831
  ![25, v832.toNat]
def k0_off27 (i : grid0.Coords) (c0_i32_364 : BitVec 32) : Fin 2 → Nat :=
  let c26 : Index := 26#32
  let arg1 : BitVec 32 := BitVec.ofNat 32 (i 1).val
  let c4_i32 : BitVec 32 := 4#32
  let v3 : BitVec 32 := Scalar.muli arg1 c4_i32
  let v864 : BitVec 32 := Scalar.addi v3 c0_i32_364
  let v865 : Index := Scalar.indexCast v864
  ![26, v865.toNat]
def k0_off28 (i : grid0.Coords) (c0_i32_378 : BitVec 32) : Fin 2 → Nat :=
  let c27 : Index := 27#32
  let arg1 : BitVec 32 := BitVec.ofNat 32 (i 1).val
  let c4_i32 : BitVec 32 := 4#32
  let v3 : BitVec 32 := Scalar.muli arg1 c4_i32
  let v897 : BitVec 32 := Scalar.addi v3 c0_i32_378
  let v898 : Index := Scalar.indexCast v897
  ![27, v898.toNat]
def k0_off29 (i : grid0.Coords) (c0_i32_392 : BitVec 32) : Fin 2 → Nat :=
  let c28 : Index := 28#32
  let arg1 : BitVec 32 := BitVec.ofNat 32 (i 1).val
  let c4_i32 : BitVec 32 := 4#32
  let v3 : BitVec 32 := Scalar.muli arg1 c4_i32
  let v930 : BitVec 32 := Scalar.addi v3 c0_i32_392
  let v931 : Index := Scalar.indexCast v930
  ![28, v931.toNat]
def k0_off30 (i : grid0.Coords) (c0_i32_406 : BitVec 32) : Fin 2 → Nat :=
  let c29 : Index := 29#32
  let arg1 : BitVec 32 := BitVec.ofNat 32 (i 1).val
  let c4_i32 : BitVec 32 := 4#32
  let v3 : BitVec 32 := Scalar.muli arg1 c4_i32
  let v963 : BitVec 32 := Scalar.addi v3 c0_i32_406
  let v964 : Index := Scalar.indexCast v963
  ![29, v964.toNat]
def k0_off31 (i : grid0.Coords) (c0_i32_420 : BitVec 32) : Fin 2 → Nat :=
  let c30 : Index := 30#32
  let arg1 : BitVec 32 := BitVec.ofNat 32 (i 1).val
  let c4_i32 : BitVec 32 := 4#32
  let v3 : BitVec 32 := Scalar.muli arg1 c4_i32
  let v996 : BitVec 32 := Scalar.addi v3 c0_i32_420
  let v997 : Index := Scalar.indexCast v996
  ![30, v997.toNat]
def k0_off32 (i : grid0.Coords) (c0_i32_434 : BitVec 32) : Fin 2 → Nat :=
  let c31 : Index := 31#32
  let arg1 : BitVec 32 := BitVec.ofNat 32 (i 1).val
  let c4_i32 : BitVec 32 := 4#32
  let v3 : BitVec 32 := Scalar.muli arg1 c4_i32
  let v1029 : BitVec 32 := Scalar.addi v3 c0_i32_434
  let v1030 : Index := Scalar.indexCast v1029
  ![31, v1030.toNat]
def k0_off33 (i : grid0.Coords) (c0_i32_448 : BitVec 32) : Fin 2 → Nat :=
  let c32 : Index := 32#32
  let arg1 : BitVec 32 := BitVec.ofNat 32 (i 1).val
  let c4_i32 : BitVec 32 := 4#32
  let v3 : BitVec 32 := Scalar.muli arg1 c4_i32
  let v1062 : BitVec 32 := Scalar.addi v3 c0_i32_448
  let v1063 : Index := Scalar.indexCast v1062
  ![32, v1063.toNat]
def k0_off34 (i : grid0.Coords) (c0_i32_462 : BitVec 32) : Fin 2 → Nat :=
  let c33 : Index := 33#32
  let arg1 : BitVec 32 := BitVec.ofNat 32 (i 1).val
  let c4_i32 : BitVec 32 := 4#32
  let v3 : BitVec 32 := Scalar.muli arg1 c4_i32
  let v1095 : BitVec 32 := Scalar.addi v3 c0_i32_462
  let v1096 : Index := Scalar.indexCast v1095
  ![33, v1096.toNat]
def k0_off35 (i : grid0.Coords) (c0_i32_476 : BitVec 32) : Fin 2 → Nat :=
  let c34 : Index := 34#32
  let arg1 : BitVec 32 := BitVec.ofNat 32 (i 1).val
  let c4_i32 : BitVec 32 := 4#32
  let v3 : BitVec 32 := Scalar.muli arg1 c4_i32
  let v1128 : BitVec 32 := Scalar.addi v3 c0_i32_476
  let v1129 : Index := Scalar.indexCast v1128
  ![34, v1129.toNat]
def k0_off36 (i : grid0.Coords) (c0_i32_490 : BitVec 32) : Fin 2 → Nat :=
  let c35 : Index := 35#32
  let arg1 : BitVec 32 := BitVec.ofNat 32 (i 1).val
  let c4_i32 : BitVec 32 := 4#32
  let v3 : BitVec 32 := Scalar.muli arg1 c4_i32
  let v1161 : BitVec 32 := Scalar.addi v3 c0_i32_490
  let v1162 : Index := Scalar.indexCast v1161
  ![35, v1162.toNat]
def k0_off37 (i : grid0.Coords) (c0_i32_504 : BitVec 32) : Fin 2 → Nat :=
  let c36 : Index := 36#32
  let arg1 : BitVec 32 := BitVec.ofNat 32 (i 1).val
  let c4_i32 : BitVec 32 := 4#32
  let v3 : BitVec 32 := Scalar.muli arg1 c4_i32
  let v1194 : BitVec 32 := Scalar.addi v3 c0_i32_504
  let v1195 : Index := Scalar.indexCast v1194
  ![36, v1195.toNat]
def k0_off38 (i : grid0.Coords) (c0_i32_518 : BitVec 32) : Fin 2 → Nat :=
  let c37 : Index := 37#32
  let arg1 : BitVec 32 := BitVec.ofNat 32 (i 1).val
  let c4_i32 : BitVec 32 := 4#32
  let v3 : BitVec 32 := Scalar.muli arg1 c4_i32
  let v1227 : BitVec 32 := Scalar.addi v3 c0_i32_518
  let v1228 : Index := Scalar.indexCast v1227
  ![37, v1228.toNat]
def k0_off39 (i : grid0.Coords) (c0_i32_532 : BitVec 32) : Fin 2 → Nat :=
  let c38 : Index := 38#32
  let arg1 : BitVec 32 := BitVec.ofNat 32 (i 1).val
  let c4_i32 : BitVec 32 := 4#32
  let v3 : BitVec 32 := Scalar.muli arg1 c4_i32
  let v1260 : BitVec 32 := Scalar.addi v3 c0_i32_532
  let v1261 : Index := Scalar.indexCast v1260
  ![38, v1261.toNat]
def k0_off40 (i : grid0.Coords) (c0_i32_546 : BitVec 32) : Fin 2 → Nat :=
  let c39 : Index := 39#32
  let arg1 : BitVec 32 := BitVec.ofNat 32 (i 1).val
  let c4_i32 : BitVec 32 := 4#32
  let v3 : BitVec 32 := Scalar.muli arg1 c4_i32
  let v1293 : BitVec 32 := Scalar.addi v3 c0_i32_546
  let v1294 : Index := Scalar.indexCast v1293
  ![39, v1294.toNat]
def k0_cond2 (i : grid0.Coords) : BitVec 1 :=
  let arg1 : BitVec 32 := BitVec.ofNat 32 (i 1).val
  let c63_i32 : BitVec 32 := 63#32
  let v1561 : BitVec 1 := Scalar.cmpi .eq arg1 c63_i32
  let v1562 : BitVec 32 := Scalar.extui v1561
  let c0_i32_660 : BitVec 32 := 0#32
  let v1563 : BitVec 1 := Scalar.cmpi .ne v1562 c0_i32_660
  v1563

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .smem S40x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1280x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S5120x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1280x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1280x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1280x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== LogitsRefIdeal.lean ====
abbrev S3840x5120 : Shape := ⟨2, ![3840, 5120]⟩
abbrev S5120x32768 : Shape := ⟨2, ![5120, 32768]⟩
abbrev S40x256 : Shape := ⟨2, ![40, 256]⟩
abbrev S2x5x384 : Shape := ⟨3, ![2, 5, 384]⟩
abbrev S1 : Shape := ⟨1, ![1]⟩
abbrev S1x1x1 : Shape := ⟨3, ![1, 1, 1]⟩
abbrev S3840x1 : Shape := ⟨2, ![3840, 1]⟩
abbrev S3840x32768 : Shape := ⟨2, ![3840, 32768]⟩
abbrev S3840x4 : Shape := ⟨2, ![3840, 4]⟩
abbrev S40x128x256x128 : Shape := ⟨4, ![40, 128, 256, 128]⟩
abbrev S40x1x256x1 : Shape := ⟨4, ![40, 1, 256, 1]⟩
abbrev S3840 : Shape := ⟨1, ![3840]⟩

abbrev nBuf : Space → Nat
  | .hbm => 16
  | .vmem => 8
  | .smem => 0
  | _ => 0

abbrev bufTy : (tb : Table) → Fin (tcTables nBuf tb) → BufTy
  | .hbm, ⟨0, _⟩ => ⟨S3840x5120, .bf16⟩
  | .hbm, ⟨1, _⟩ => ⟨S5120x32768, .fp8e4m3⟩
  | .hbm, ⟨2, _⟩ => ⟨S40x256, .f32⟩
  | .hbm, ⟨3, _⟩ => ⟨S2x5x384, .i32⟩
  | .hbm, ⟨4, _⟩ => ⟨S1, .i32⟩
  | .hbm, ⟨5, _⟩ => ⟨S2x5x384, .f32⟩
  | .hbm, ⟨6, _⟩ => ⟨S2x5x384, .f32⟩
  | .hbm, ⟨7, _⟩ => ⟨S2x5x384, .f32⟩
  | .hbm, ⟨8, _⟩ => ⟨S1x1x1, .i32⟩
  | .hbm, ⟨9, _⟩ => ⟨S2x5x384, .i32⟩
  | .hbm, ⟨10, _⟩ => ⟨S2x5x384, .i32⟩
  | .hbm, ⟨11, _⟩ => ⟨S3840x1, .i32⟩
  | .hbm, ⟨12, _⟩ => ⟨S3840x1, .f32⟩
  | .hbm, ⟨13, _⟩ => ⟨S3840x1, .f32⟩
  | .hbm, ⟨14, _⟩ => ⟨S3840x32768, .f32⟩
  | .hbm, ⟨15, _⟩ => ⟨S3840x4, .f32⟩
  | .local _ .vmem, ⟨0, _⟩ => ⟨S3840x5120, .bf16⟩
  | .local _ .vmem, ⟨1, _⟩ => ⟨S5120x32768, .fp8e4m3⟩
  | .local _ .vmem, ⟨2, _⟩ => ⟨S40x256, .f32⟩
  | .local _ .vmem, ⟨3, _⟩ => ⟨S3840x1, .i32⟩
  | .local _ .vmem, ⟨4, _⟩ => ⟨S3840x1, .f32⟩
  | .local _ .vmem, ⟨5, _⟩ => ⟨S3840x1, .f32⟩
  | .local _ .vmem, ⟨6, _⟩ => ⟨S3840x32768, .f32⟩
  | .local _ .vmem, ⟨7, _⟩ => ⟨S3840x4, .f32⟩
  | _, _ => ⟨S3840x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S3840x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x32768 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S40x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3840x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3840x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3840x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3840x32768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3840x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Down0.lean ====
abbrev S1920x14336 : Shape := ⟨2, ![1920, 14336]⟩
abbrev S2x14336x5120 : Shape := ⟨3, ![2, 14336, 5120]⟩
abbrev S2x112x40 : Shape := ⟨3, ![2, 112, 40]⟩
abbrev S1920x5120 : Shape := ⟨2, ![1920, 5120]⟩
abbrev S1x112x40 : Shape := ⟨3, ![1, 112, 40]⟩
abbrev S1920x3584 : Shape := ⟨2, ![1920, 3584]⟩
abbrev S1x3584x512 : Shape := ⟨3, ![1, 3584, 512]⟩
abbrev S1920x512 : Shape := ⟨2, ![1920, 512]⟩
abbrev S1x128x128 : Shape := ⟨3, ![1, 128, 128]⟩
abbrev S128x128 : Shape := ⟨2, ![128, 128]⟩
abbrev S1x1x1 : Shape := ⟨3, ![1, 1, 1]⟩
abbrev S128x512 : Shape := ⟨2, ![128, 512]⟩
abbrev S3584x512 : Shape := ⟨2, ![3584, 512]⟩

abbrev nBuf : Space → Nat
  | .hbm => 6
  | .vmem => 10
  | .smem => 1
  | _ => 0

abbrev bufTy : (tb : Table) → Fin (tcTables nBuf tb) → BufTy
  | .hbm, ⟨0, _⟩ => ⟨S1920x14336, .bf16⟩
  | .hbm, ⟨1, _⟩ => ⟨S2x14336x5120, .fp8e4m3⟩
  | .hbm, ⟨2, _⟩ => ⟨S2x112x40, .f32⟩
  | .hbm, ⟨3, _⟩ => ⟨S1920x5120, .f32⟩
  | .hbm, ⟨4, _⟩ => ⟨S1920x5120, .f32⟩
  | .hbm, ⟨5, _⟩ => ⟨S1920x5120, .bf16⟩
  | .local _ .vmem, ⟨0, _⟩ => ⟨S1920x3584, .bf16⟩
  | .local _ .vmem, ⟨1, _⟩ => ⟨S1920x3584, .bf16⟩
  | .local _ .vmem, ⟨2, _⟩ => ⟨S1x3584x512, .fp8e4m3⟩
  | .local _ .vmem, ⟨3, _⟩ => ⟨S1x3584x512, .fp8e4m3⟩
  | .local _ .vmem, ⟨4, _⟩ => ⟨S1920x512, .f32⟩
  | .local _ .vmem, ⟨5, _⟩ => ⟨S1920x512, .f32⟩
  | .local _ .vmem, ⟨6, _⟩ => ⟨S1920x512, .f32⟩
  | .local _ .vmem, ⟨7, _⟩ => ⟨S1920x512, .f32⟩
  | .local _ .vmem, ⟨8, _⟩ => ⟨S1920x512, .bf16⟩
  | .local _ .vmem, ⟨9, _⟩ => ⟨S1920x512, .bf16⟩
  | .local _ .smem, ⟨0, _⟩ => ⟨S1x112x40, .f32⟩
  | _, _ => ⟨S1920x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![10, 4], ![false, false]⟩

def k0_off1 (i : grid0.Coords) (c0_i32_2 : BitVec 32) (c0_i32 : BitVec 32) : Fin 3 → Nat :=
  let c0_3 : Index := 0#32
  let arg1 : BitVec 32 := BitVec.ofNat 32 (i 1).val
  let c28_i32 : BitVec 32 := 28#32
  let v0 : BitVec 32 := Scalar.muli arg1 c28_i32
  let v6 : BitVec 32 := Scalar.addi v0 c0_i32_2
  let v7 : Index := Scalar.indexCast v6
  let arg0 : BitVec 32 := BitVec.ofNat 32 (i 0).val
  let c4_i32 : BitVec 32 := 4#32
  let v1 : BitVec 32 := Scalar.muli arg0 c4_i32
  let v5 : BitVec 32 := Scalar.addi v1 c0_i32
  let v8 : Index := Scalar.indexCast v5
  ![0, v7.toNat, v8.toNat]
def k0_cond2 (i : grid0.Coords) : BitVec 1 :=
  let arg1 : BitVec 32 := BitVec.ofNat 32 (i 1).val
  let c3_i32_625 : BitVec 32 := 3#32
  let v1272 : BitVec 1 := Scalar.cmpi .eq arg1 c3_i32_625
  let v1273 : BitVec 32 := Scalar.extui v1272
  let c0_i32_626 : BitVec 32 := 0#32
  let v1274 : BitVec 1 := Scalar.cmpi .ne v1273 c0_i32_626
  v1274

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .smem S1x112x40 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1920x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x3584x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1920x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1920x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1920x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Down0RefIdeal.lean ====
abbrev S1920x14336 : Shape := ⟨2, ![1920, 14336]⟩
abbrev S2x14336x5120 : Shape := ⟨3, ![2, 14336, 5120]⟩
abbrev S2x112x40 : Shape := ⟨3, ![2, 112, 40]⟩
abbrev S1920x5120 : Shape := ⟨2, ![1920, 5120]⟩
abbrev S1x14336x5120 : Shape := ⟨3, ![1, 14336, 5120]⟩
abbrev S14336x5120 : Shape := ⟨2, ![14336, 5120]⟩
abbrev S1x112x40 : Shape := ⟨3, ![1, 112, 40]⟩
abbrev S112x40 : Shape := ⟨2, ![112, 40]⟩
abbrev S112x128x40x128 : Shape := ⟨4, ![112, 128, 40, 128]⟩
abbrev S112x1x40x1 : Shape := ⟨4, ![112, 1, 40, 1]⟩

abbrev nBuf : Space → Nat
  | .hbm => 6
  | .vmem => 6
  | .smem => 0
  | _ => 0

abbrev bufTy : (tb : Table) → Fin (tcTables nBuf tb) → BufTy
  | .hbm, ⟨0, _⟩ => ⟨S1920x14336, .bf16⟩
  | .hbm, ⟨1, _⟩ => ⟨S2x14336x5120, .fp8e4m3⟩
  | .hbm, ⟨2, _⟩ => ⟨S2x112x40, .f32⟩
  | .hbm, ⟨3, _⟩ => ⟨S1920x5120, .f32⟩
  | .hbm, ⟨4, _⟩ => ⟨S1920x5120, .f32⟩
  | .hbm, ⟨5, _⟩ => ⟨S1920x5120, .bf16⟩
  | .local _ .vmem, ⟨0, _⟩ => ⟨S2x112x40, .f32⟩
  | .local _ .vmem, ⟨1, _⟩ => ⟨S1920x14336, .bf16⟩
  | .local _ .vmem, ⟨2, _⟩ => ⟨S2x14336x5120, .fp8e4m3⟩
  | .local _ .vmem, ⟨3, _⟩ => ⟨S1920x5120, .f32⟩
  | .local _ .vmem, ⟨4, _⟩ => ⟨S1920x5120, .f32⟩
  | .local _ .vmem, ⟨5, _⟩ => ⟨S1920x5120, .bf16⟩
  | _, _ => ⟨S1920x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x112x40 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1920x14336 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x14336x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1920x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1920x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1920x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Down1.lean ====
abbrev S1920x14336 : Shape := ⟨2, ![1920, 14336]⟩
abbrev S2x14336x5120 : Shape := ⟨3, ![2, 14336, 5120]⟩
abbrev S2x112x40 : Shape := ⟨3, ![2, 112, 40]⟩
abbrev S1920x5120 : Shape := ⟨2, ![1920, 5120]⟩
abbrev S1x112x40 : Shape := ⟨3, ![1, 112, 40]⟩
abbrev S1920x3584 : Shape := ⟨2, ![1920, 3584]⟩
abbrev S1x3584x512 : Shape := ⟨3, ![1, 3584, 512]⟩
abbrev S1920x512 : Shape := ⟨2, ![1920, 512]⟩
abbrev S1x128x128 : Shape := ⟨3, ![1, 128, 128]⟩
abbrev S128x128 : Shape := ⟨2, ![128, 128]⟩
abbrev S1x1x1 : Shape := ⟨3, ![1, 1, 1]⟩
abbrev S128x512 : Shape := ⟨2, ![128, 512]⟩
abbrev S3584x512 : Shape := ⟨2, ![3584, 512]⟩

abbrev nBuf : Space → Nat
  | .hbm => 6
  | .vmem => 10
  | .smem => 1
  | _ => 0

abbrev bufTy : (tb : Table) → Fin (tcTables nBuf tb) → BufTy
  | .hbm, ⟨0, _⟩ => ⟨S1920x14336, .bf16⟩
  | .hbm, ⟨1, _⟩ => ⟨S2x14336x5120, .fp8e4m3⟩
  | .hbm, ⟨2, _⟩ => ⟨S2x112x40, .f32⟩
  | .hbm, ⟨3, _⟩ => ⟨S1920x5120, .f32⟩
  | .hbm, ⟨4, _⟩ => ⟨S1920x5120, .f32⟩
  | .hbm, ⟨5, _⟩ => ⟨S1920x5120, .bf16⟩
  | .local _ .vmem, ⟨0, _⟩ => ⟨S1920x3584, .bf16⟩
  | .local _ .vmem, ⟨1, _⟩ => ⟨S1920x3584, .bf16⟩
  | .local _ .vmem, ⟨2, _⟩ => ⟨S1x3584x512, .fp8e4m3⟩
  | .local _ .vmem, ⟨3, _⟩ => ⟨S1x3584x512, .fp8e4m3⟩
  | .local _ .vmem, ⟨4, _⟩ => ⟨S1920x512, .f32⟩
  | .local _ .vmem, ⟨5, _⟩ => ⟨S1920x512, .f32⟩
  | .local _ .vmem, ⟨6, _⟩ => ⟨S1920x512, .f32⟩
  | .local _ .vmem, ⟨7, _⟩ => ⟨S1920x512, .f32⟩
  | .local _ .vmem, ⟨8, _⟩ => ⟨S1920x512, .bf16⟩
  | .local _ .vmem, ⟨9, _⟩ => ⟨S1920x512, .bf16⟩
  | .local _ .smem, ⟨0, _⟩ => ⟨S1x112x40, .f32⟩
  | _, _ => ⟨S1920x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![10, 4], ![false, false]⟩

def k0_off1 (i : grid0.Coords) (c0_i32_2 : BitVec 32) (c0_i32 : BitVec 32) : Fin 3 → Nat :=
  let c0_3 : Index := 0#32
  let arg1 : BitVec 32 := BitVec.ofNat 32 (i 1).val
  let c28_i32 : BitVec 32 := 28#32
  let v0 : BitVec 32 := Scalar.muli arg1 c28_i32
  let v6 : BitVec 32 := Scalar.addi v0 c0_i32_2
  let v7 : Index := Scalar.indexCast v6
  let arg0 : BitVec 32 := BitVec.ofNat 32 (i 0).val
  let c4_i32 : BitVec 32 := 4#32
  let v1 : BitVec 32 := Scalar.muli arg0 c4_i32
  let v5 : BitVec 32 := Scalar.addi v1 c0_i32
  let v8 : Index := Scalar.indexCast v5
  ![0, v7.toNat, v8.toNat]
def k0_cond2 (i : grid0.Coords) : BitVec 1 :=
  let arg1 : BitVec 32 := BitVec.ofNat 32 (i 1).val
  let c3_i32_625 : BitVec 32 := 3#32
  let v1272 : BitVec 1 := Scalar.cmpi .eq arg1 c3_i32_625
  let v1273 : BitVec 32 := Scalar.extui v1272
  let c0_i32_626 : BitVec 32 := 0#32
  let v1274 : BitVec 1 := Scalar.cmpi .ne v1273 c0_i32_626
  v1274

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .smem S1x112x40 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1920x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x3584x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1920x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1920x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1920x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Down1RefIdeal.lean ====
abbrev S1920x14336 : Shape := ⟨2, ![1920, 14336]⟩
abbrev S2x14336x5120 : Shape := ⟨3, ![2, 14336, 5120]⟩
abbrev S2x112x40 : Shape := ⟨3, ![2, 112, 40]⟩
abbrev S1920x5120 : Shape := ⟨2, ![1920, 5120]⟩
abbrev S1x14336x5120 : Shape := ⟨3, ![1, 14336, 5120]⟩
abbrev S14336x5120 : Shape := ⟨2, ![14336, 5120]⟩
abbrev S1x112x40 : Shape := ⟨3, ![1, 112, 40]⟩
abbrev S112x40 : Shape := ⟨2, ![112, 40]⟩
abbrev S112x128x40x128 : Shape := ⟨4, ![112, 128, 40, 128]⟩
abbrev S112x1x40x1 : Shape := ⟨4, ![112, 1, 40, 1]⟩

abbrev nBuf : Space → Nat
  | .hbm => 6
  | .vmem => 6
  | .smem => 0
  | _ => 0

abbrev bufTy : (tb : Table) → Fin (tcTables nBuf tb) → BufTy
  | .hbm, ⟨0, _⟩ => ⟨S1920x14336, .bf16⟩
  | .hbm, ⟨1, _⟩ => ⟨S2x14336x5120, .fp8e4m3⟩
  | .hbm, ⟨2, _⟩ => ⟨S2x112x40, .f32⟩
  | .hbm, ⟨3, _⟩ => ⟨S1920x5120, .f32⟩
  | .hbm, ⟨4, _⟩ => ⟨S1920x5120, .f32⟩
  | .hbm, ⟨5, _⟩ => ⟨S1920x5120, .bf16⟩
  | .local _ .vmem, ⟨0, _⟩ => ⟨S2x112x40, .f32⟩
  | .local _ .vmem, ⟨1, _⟩ => ⟨S1920x14336, .bf16⟩
  | .local _ .vmem, ⟨2, _⟩ => ⟨S2x14336x5120, .fp8e4m3⟩
  | .local _ .vmem, ⟨3, _⟩ => ⟨S1920x5120, .f32⟩
  | .local _ .vmem, ⟨4, _⟩ => ⟨S1920x5120, .f32⟩
  | .local _ .vmem, ⟨5, _⟩ => ⟨S1920x5120, .bf16⟩
  | _, _ => ⟨S1920x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x112x40 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1920x14336 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x14336x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1920x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1920x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1920x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Merge0.lean ====
abbrev S1920x10240 : Shape := ⟨2, ![1920, 10240]⟩
abbrev S2x10240x5120 : Shape := ⟨3, ![2, 10240, 5120]⟩
abbrev S2x80x40 : Shape := ⟨3, ![2, 80, 40]⟩
abbrev S1920x5120 : Shape := ⟨2, ![1920, 5120]⟩
abbrev S1x80x40 : Shape := ⟨3, ![1, 80, 40]⟩
abbrev S1920x2560 : Shape := ⟨2, ![1920, 2560]⟩
abbrev S1x2560x512 : Shape := ⟨3, ![1, 2560, 512]⟩
abbrev S1920x512 : Shape := ⟨2, ![1920, 512]⟩
abbrev S1x128x128 : Shape := ⟨3, ![1, 128, 128]⟩
abbrev S128x128 : Shape := ⟨2, ![128, 128]⟩
abbrev S1x1x1 : Shape := ⟨3, ![1, 1, 1]⟩
abbrev S128x512 : Shape := ⟨2, ![128, 512]⟩
abbrev S2560x512 : Shape := ⟨2, ![2560, 512]⟩

abbrev nBuf : Space → Nat
  | .hbm => 4
  | .vmem => 6
  | .smem => 1
  | _ => 0

abbrev bufTy : (tb : Table) → Fin (tcTables nBuf tb) → BufTy
  | .hbm, ⟨0, _⟩ => ⟨S1920x10240, .bf16⟩
  | .hbm, ⟨1, _⟩ => ⟨S2x10240x5120, .fp8e4m3⟩
  | .hbm, ⟨2, _⟩ => ⟨S2x80x40, .f32⟩
  | .hbm, ⟨3, _⟩ => ⟨S1920x5120, .f32⟩
  | .local _ .vmem, ⟨0, _⟩ => ⟨S1920x2560, .bf16⟩
  | .local _ .vmem, ⟨1, _⟩ => ⟨S1920x2560, .bf16⟩
  | .local _ .vmem, ⟨2, _⟩ => ⟨S1x2560x512, .fp8e4m3⟩
  | .local _ .vmem, ⟨3, _⟩ => ⟨S1x2560x512, .fp8e4m3⟩
  | .local _ .vmem, ⟨4, _⟩ => ⟨S1920x512, .f32⟩
  | .local _ .vmem, ⟨5, _⟩ => ⟨S1920x512, .f32⟩
  | .local _ .smem, ⟨0, _⟩ => ⟨S1x80x40, .f32⟩
  | _, _ => ⟨S1920x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![10, 4], ![false, false]⟩

def k0_off1 (i : grid0.Coords) (c0_i32_2 : BitVec 32) (c0_i32 : BitVec 32) : Fin 3 → Nat :=
  let c0_3 : Index := 0#32
  let arg1 : BitVec 32 := BitVec.ofNat 32 (i 1).val
  let c20_i32 : BitVec 32 := 20#32
  let v0 : BitVec 32 := Scalar.muli arg1 c20_i32
  let v6 : BitVec 32 := Scalar.addi v0 c0_i32_2
  let v7 : Index := Scalar.indexCast v6
  let arg0 : BitVec 32 := BitVec.ofNat 32 (i 0).val
  let c4_i32 : BitVec 32 := 4#32
  let v1 : BitVec 32 := Scalar.muli arg0 c4_i32
  let v5 : BitVec 32 := Scalar.addi v1 c0_i32
  let v8 : Index := Scalar.indexCast v5
  ![0, v7.toNat, v8.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .smem S1x80x40 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1920x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2560x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1920x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Merge0RefIdeal.lean ====
abbrev S1920x10240 : Shape := ⟨2, ![1920, 10240]⟩
abbrev S2x10240x5120 : Shape := ⟨3, ![2, 10240, 5120]⟩
abbrev S2x80x40 : Shape := ⟨3, ![2, 80, 40]⟩
abbrev S1920x5120 : Shape := ⟨2, ![1920, 5120]⟩
abbrev S1x10240x5120 : Shape := ⟨3, ![1, 10240, 5120]⟩
abbrev S10240x5120 : Shape := ⟨2, ![10240, 5120]⟩
abbrev S1x80x40 : Shape := ⟨3, ![1, 80, 40]⟩
abbrev S80x40 : Shape := ⟨2, ![80, 40]⟩
abbrev S80x128x40x128 : Shape := ⟨4, ![80, 128, 40, 128]⟩
abbrev S80x1x40x1 : Shape := ⟨4, ![80, 1, 40, 1]⟩

abbrev nBuf : Space → Nat
  | .hbm => 4
  | .vmem => 4
  | .smem => 0
  | _ => 0

abbrev bufTy : (tb : Table) → Fin (tcTables nBuf tb) → BufTy
  | .hbm, ⟨0, _⟩ => ⟨S1920x10240, .bf16⟩
  | .hbm, ⟨1, _⟩ => ⟨S2x10240x5120, .fp8e4m3⟩
  | .hbm, ⟨2, _⟩ => ⟨S2x80x40, .f32⟩
  | .hbm, ⟨3, _⟩ => ⟨S1920x5120, .f32⟩
  | .local _ .vmem, ⟨0, _⟩ => ⟨S2x80x40, .f32⟩
  | .local _ .vmem, ⟨1, _⟩ => ⟨S1920x10240, .bf16⟩
  | .local _ .vmem, ⟨2, _⟩ => ⟨S2x10240x5120, .fp8e4m3⟩
  | .local _ .vmem, ⟨3, _⟩ => ⟨S1920x5120, .f32⟩
  | _, _ => ⟨S1920x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2x80x40 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1920x10240 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x10240x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1920x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Merge1.lean ====
abbrev S1920x10240 : Shape := ⟨2, ![1920, 10240]⟩
abbrev S2x10240x5120 : Shape := ⟨3, ![2, 10240, 5120]⟩
abbrev S2x80x40 : Shape := ⟨3, ![2, 80, 40]⟩
abbrev S1920x5120 : Shape := ⟨2, ![1920, 5120]⟩
abbrev S1x80x40 : Shape := ⟨3, ![1, 80, 40]⟩
abbrev S1920x2560 : Shape := ⟨2, ![1920, 2560]⟩
abbrev S1x2560x512 : Shape := ⟨3, ![1, 2560, 512]⟩
abbrev S1920x512 : Shape := ⟨2, ![1920, 512]⟩
abbrev S1x128x128 : Shape := ⟨3, ![1, 128, 128]⟩
abbrev S128x128 : Shape := ⟨2, ![128, 128]⟩
abbrev S1x1x1 : Shape := ⟨3, ![1, 1, 1]⟩
abbrev S128x512 : Shape := ⟨2, ![128, 512]⟩
abbrev S2560x512 : Shape := ⟨2, ![2560, 512]⟩

abbrev nBuf : Space → Nat
  | .hbm => 4
  | .vmem => 6
  | .smem => 1
  | _ => 0

abbrev bufTy : (tb : Table) → Fin (tcTables nBuf tb) → BufTy
  | .hbm, ⟨0, _⟩ => ⟨S1920x10240, .bf16⟩
  | .hbm, ⟨1, _⟩ => ⟨S2x10240x5120, .fp8e4m3⟩
  | .hbm, ⟨2, _⟩ => ⟨S2x80x40, .f32⟩
  | .hbm, ⟨3, _⟩ => ⟨S1920x5120, .f32⟩
  | .local _ .vmem, ⟨0, _⟩ => ⟨S1920x2560, .bf16⟩
  | .local _ .vmem, ⟨1, _⟩ => ⟨S1920x2560, .bf16⟩
  | .local _ .vmem, ⟨2, _⟩ => ⟨S1x2560x512, .fp8e4m3⟩
  | .local _ .vmem, ⟨3, _⟩ => ⟨S1x2560x512, .fp8e4m3⟩
  | .local _ .vmem, ⟨4, _⟩ => ⟨S1920x512, .f32⟩
  | .local _ .vmem, ⟨5, _⟩ => ⟨S1920x512, .f32⟩
  | .local _ .smem, ⟨0, _⟩ => ⟨S1x80x40, .f32⟩
  | _, _ => ⟨S1920x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![10, 4], ![false, false]⟩

def k0_off1 (i : grid0.Coords) (c0_i32_2 : BitVec 32) (c0_i32 : BitVec 32) : Fin 3 → Nat :=
  let c0_3 : Index := 0#32
  let arg1 : BitVec 32 := BitVec.ofNat 32 (i 1).val
  let c20_i32 : BitVec 32 := 20#32
  let v0 : BitVec 32 := Scalar.muli arg1 c20_i32
  let v6 : BitVec 32 := Scalar.addi v0 c0_i32_2
  let v7 : Index := Scalar.indexCast v6
  let arg0 : BitVec 32 := BitVec.ofNat 32 (i 0).val
  let c4_i32 : BitVec 32 := 4#32
  let v1 : BitVec 32 := Scalar.muli arg0 c4_i32
  let v5 : BitVec 32 := Scalar.addi v1 c0_i32
  let v8 : Index := Scalar.indexCast v5
  ![0, v7.toNat, v8.toNat]
def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .smem S1x80x40 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1920x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2560x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1920x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Merge1RefIdeal.lean ====
abbrev S1920x10240 : Shape := ⟨2, ![1920, 10240]⟩
abbrev S2x10240x5120 : Shape := ⟨3, ![2, 10240, 5120]⟩
abbrev S2x80x40 : Shape := ⟨3, ![2, 80, 40]⟩
abbrev S1920x5120 : Shape := ⟨2, ![1920, 5120]⟩
abbrev S1x10240x5120 : Shape := ⟨3, ![1, 10240, 5120]⟩
abbrev S10240x5120 : Shape := ⟨2, ![10240, 5120]⟩
abbrev S1x80x40 : Shape := ⟨3, ![1, 80, 40]⟩
abbrev S80x40 : Shape := ⟨2, ![80, 40]⟩
abbrev S80x128x40x128 : Shape := ⟨4, ![80, 128, 40, 128]⟩
abbrev S80x1x40x1 : Shape := ⟨4, ![80, 1, 40, 1]⟩

abbrev nBuf : Space → Nat
  | .hbm => 4
  | .vmem => 4
  | .smem => 0
  | _ => 0

abbrev bufTy : (tb : Table) → Fin (tcTables nBuf tb) → BufTy
  | .hbm, ⟨0, _⟩ => ⟨S1920x10240, .bf16⟩
  | .hbm, ⟨1, _⟩ => ⟨S2x10240x5120, .fp8e4m3⟩
  | .hbm, ⟨2, _⟩ => ⟨S2x80x40, .f32⟩
  | .hbm, ⟨3, _⟩ => ⟨S1920x5120, .f32⟩
  | .local _ .vmem, ⟨0, _⟩ => ⟨S2x80x40, .f32⟩
  | .local _ .vmem, ⟨1, _⟩ => ⟨S1920x10240, .bf16⟩
  | .local _ .vmem, ⟨2, _⟩ => ⟨S2x10240x5120, .fp8e4m3⟩
  | .local _ .vmem, ⟨3, _⟩ => ⟨S1920x5120, .f32⟩
  | _, _ => ⟨S1920x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2x80x40 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1920x10240 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x10240x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1920x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Out0.lean ====
abbrev S1920x4096 : Shape := ⟨2, ![1920, 4096]⟩
abbrev S2x4096x5120 : Shape := ⟨3, ![2, 4096, 5120]⟩
abbrev S2x32x40 : Shape := ⟨3, ![2, 32, 40]⟩
abbrev S1920x5120 : Shape := ⟨2, ![1920, 5120]⟩
abbrev S1x32x40 : Shape := ⟨3, ![1, 32, 40]⟩
abbrev S1x4096x512 : Shape := ⟨3, ![1, 4096, 512]⟩
abbrev S1920x512 : Shape := ⟨2, ![1920, 512]⟩
abbrev S1x128x128 : Shape := ⟨3, ![1, 128, 128]⟩
abbrev S128x128 : Shape := ⟨2, ![128, 128]⟩
abbrev S1x1x1 : Shape := ⟨3, ![1, 1, 1]⟩
abbrev S128x512 : Shape := ⟨2, ![128, 512]⟩
abbrev S4096x512 : Shape := ⟨2, ![4096, 512]⟩

abbrev nBuf : Space → Nat
  | .hbm => 5
  | .vmem => 7
  | .smem => 1
  | _ => 0

abbrev bufTy : (tb : Table) → Fin (tcTables nBuf tb) → BufTy
  | .hbm, ⟨0, _⟩ => ⟨S1920x4096, .bf16⟩
  | .hbm, ⟨1, _⟩ => ⟨S2x4096x5120, .fp8e4m3⟩
  | .hbm, ⟨2, _⟩ => ⟨S2x32x40, .f32⟩
  | .hbm, ⟨3, _⟩ => ⟨S1920x5120, .f32⟩
  | .hbm, ⟨4, _⟩ => ⟨S1920x5120, .f32⟩
  | .local _ .vmem, ⟨0, _⟩ => ⟨S1920x4096, .bf16⟩
  | .local _ .vmem, ⟨1, _⟩ => ⟨S1x4096x512, .fp8e4m3⟩
  | .local _ .vmem, ⟨2, _⟩ => ⟨S1x4096x512, .fp8e4m3⟩
  | .local _ .vmem, ⟨3, _⟩ => ⟨S1920x512, .f32⟩
  | .local _ .vmem, ⟨4, _⟩ => ⟨S1920x512, .f32⟩
  | .local _ .vmem, ⟨5, _⟩ => ⟨S1920x512, .f32⟩
  | .local _ .vmem, ⟨6, _⟩ => ⟨S1920x512, .f32⟩
  | .local _ .smem, ⟨0, _⟩ => ⟨S1x32x40, .f32⟩
  | _, _ => ⟨S1920x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![10], ![false]⟩

def k0_off1 (i : grid0.Coords) (c0_i32 : BitVec 32) : Fin 3 → Nat :=
  let c0_2 : Index := 0#32
  let c0_3 : Index := 0#32
  let arg0 : BitVec 32 := BitVec.ofNat 32 (i 0).val
  let c4_i32 : BitVec 32 := 4#32
  let v0 : BitVec 32 := Scalar.muli arg0 c4_i32
  let v4 : BitVec 32 := Scalar.addi v0 c0_i32
  let v5 : Index := Scalar.indexCast v4
  ![0, 0, v5.toNat]
def k0_off2 (i : grid0.Coords) (c0_i32_19 : BitVec 32) : Fin 3 → Nat :=
  let c0_20 : Index := 0#32
  let c1 : Index := 1#32
  let arg0 : BitVec 32 := BitVec.ofNat 32 (i 0).val
  let c4_i32 : BitVec 32 := 4#32
  let v0 : BitVec 32 := Scalar.muli arg0 c4_i32
  let v41 : BitVec 32 := Scalar.addi v0 c0_i32_19
  let v42 : Index := Scalar.indexCast v41
  ![0, 1, v42.toNat]
def k0_off3 (i : grid0.Coords) (c0_i32_42 : BitVec 32) : Fin 3 → Nat :=
  let c0_43 : Index := 0#32
  let c2 : Index := 2#32
  let arg0 : BitVec 32 := BitVec.ofNat 32 (i 0).val
  let c4_i32 : BitVec 32 := 4#32
  let v0 : BitVec 32 := Scalar.muli arg0 c4_i32
  let v78 : BitVec 32 := Scalar.addi v0 c0_i32_42
  let v79 : Index := Scalar.indexCast v78
  ![0, 2, v79.toNat]
def k0_off4 (i : grid0.Coords) (c0_i32_65 : BitVec 32) : Fin 3 → Nat :=
  let c0_66 : Index := 0#32
  let c3 : Index := 3#32
  let arg0 : BitVec 32 := BitVec.ofNat 32 (i 0).val
  let c4_i32 : BitVec 32 := 4#32
  let v0 : BitVec 32 := Scalar.muli arg0 c4_i32
  let v115 : BitVec 32 := Scalar.addi v0 c0_i32_65
  let v116 : Index := Scalar.indexCast v115
  ![0, 3, v116.toNat]
def k0_off5 (i : grid0.Coords) (c0_i32_87 : BitVec 32) : Fin 3 → Nat :=
  let c0_88 : Index := 0#32
  let c4 : Index := 4#32
  let arg0 : BitVec 32 := BitVec.ofNat 32 (i 0).val
  let c4_i32 : BitVec 32 := 4#32
  let v0 : BitVec 32 := Scalar.muli arg0 c4_i32
  let v152 : BitVec 32 := Scalar.addi v0 c0_i32_87
  let v153 : Index := Scalar.indexCast v152
  ![0, 4, v153.toNat]
def k0_off6 (i : grid0.Coords) (c0_i32_109 : BitVec 32) : Fin 3 → Nat :=
  let c0_110 : Index := 0#32
  let c5 : Index := 5#32
  let arg0 : BitVec 32 := BitVec.ofNat 32 (i 0).val
  let c4_i32 : BitVec 32 := 4#32
  let v0 : BitVec 32 := Scalar.muli arg0 c4_i32
  let v189 : BitVec 32 := Scalar.addi v0 c0_i32_109
  let v190 : Index := Scalar.indexCast v189
  ![0, 5, v190.toNat]
def k0_off7 (i : grid0.Coords) (c0_i32_131 : BitVec 32) : Fin 3 → Nat :=
  let c0_132 : Index := 0#32
  let c6 : Index := 6#32
  let arg0 : BitVec 32 := BitVec.ofNat 32 (i 0).val
  let c4_i32 : BitVec 32 := 4#32
  let v0 : BitVec 32 := Scalar.muli arg0 c4_i32
  let v226 : BitVec 32 := Scalar.addi v0 c0_i32_131
  let v227 : Index := Scalar.indexCast v226
  ![0, 6, v227.toNat]
def k0_off8 (i : grid0.Coords) (c0_i32_153 : BitVec 32) : Fin 3 → Nat :=
  let c0_154 : Index := 0#32
  let c7 : Index := 7#32
  let arg0 : BitVec 32 := BitVec.ofNat 32 (i 0).val
  let c4_i32 : BitVec 32 := 4#32
  let v0 : BitVec 32 := Scalar.muli arg0 c4_i32
  let v263 : BitVec 32 := Scalar.addi v0 c0_i32_153
  let v264 : Index := Scalar.indexCast v263
  ![0, 7, v264.toNat]
def k0_off9 (i : grid0.Coords) (c0_i32_175 : BitVec 32) : Fin 3 → Nat :=
  let c0_176 : Index := 0#32
  let c8 : Index := 8#32
  let arg0 : BitVec 32 := BitVec.ofNat 32 (i 0).val
  let c4_i32 : BitVec 32 := 4#32
  let v0 : BitVec 32 := Scalar.muli arg0 c4_i32
  let v300 : BitVec 32 := Scalar.addi v0 c0_i32_175
  let v301 : Index := Scalar.indexCast v300
  ![0, 8, v301.toNat]
def k0_off10 (i : grid0.Coords) (c0_i32_197 : BitVec 32) : Fin 3 → Nat :=
  let c0_198 : Index := 0#32
  let c9 : Index := 9#32
  let arg0 : BitVec 32 := BitVec.ofNat 32 (i 0).val
  let c4_i32 : BitVec 32 := 4#32
  let v0 : BitVec 32 := Scalar.muli arg0 c4_i32
  let v337 : BitVec 32 := Scalar.addi v0 c0_i32_197
  let v338 : Index := Scalar.indexCast v337
  ![0, 9, v338.toNat]
def k0_off11 (i : grid0.Coords) (c0_i32_219 : BitVec 32) : Fin 3 → Nat :=
  let c0_220 : Index := 0#32
  let c10 : Index := 10#32
  let arg0 : BitVec 32 := BitVec.ofNat 32 (i 0).val
  let c4_i32 : BitVec 32 := 4#32
  let v0 : BitVec 32 := Scalar.muli arg0 c4_i32
  let v374 : BitVec 32 := Scalar.addi v0 c0_i32_219
  let v375 : Index := Scalar.indexCast v374
  ![0, 10, v375.toNat]
def k0_off12 (i : grid0.Coords) (c0_i32_241 : BitVec 32) : Fin 3 → Nat :=
  let c0_242 : Index := 0#32
  let c11 : Index := 11#32
  let arg0 : BitVec 32 := BitVec.ofNat 32 (i 0).val
  let c4_i32 : BitVec 32 := 4#32
  let v0 : BitVec 32 := Scalar.muli arg0 c4_i32
  let v411 : BitVec 32 := Scalar.addi v0 c0_i32_241
  let v412 : Index := Scalar.indexCast v411
  ![0, 11, v412.toNat]
def k0_off13 (i : grid0.Coords) (c0_i32_263 : BitVec 32) : Fin 3 → Nat :=
  let c0_264 : Index := 0#32
  let c12 : Index := 12#32
  let arg0 : BitVec 32 := BitVec.ofNat 32 (i 0).val
  let c4_i32 : BitVec 32 := 4#32
  let v0 : BitVec 32 := Scalar.muli arg0 c4_i32
  let v448 : BitVec 32 := Scalar.addi v0 c0_i32_263
  let v449 : Index := Scalar.indexCast v448
  ![0, 12, v449.toNat]
def k0_off14 (i : grid0.Coords) (c0_i32_285 : BitVec 32) : Fin 3 → Nat :=
  let c0_286 : Index := 0#32
  let c13 : Index := 13#32
  let arg0 : BitVec 32 := BitVec.ofNat 32 (i 0).val
  let c4_i32 : BitVec 32 := 4#32
  let v0 : BitVec 32 := Scalar.muli arg0 c4_i32
  let v485 : BitVec 32 := Scalar.addi v0 c0_i32_285
  let v486 : Index := Scalar.indexCast v485
  ![0, 13, v486.toNat]
def k0_off15 (i : grid0.Coords) (c0_i32_307 : BitVec 32) : Fin 3 → Nat :=
  let c0_308 : Index := 0#32
  let c14 : Index := 14#32
  let arg0 : BitVec 32 := BitVec.ofNat 32 (i 0).val
  let c4_i32 : BitVec 32 := 4#32
  let v0 : BitVec 32 := Scalar.muli arg0 c4_i32
  let v522 : BitVec 32 := Scalar.addi v0 c0_i32_307
  let v523 : Index := Scalar.indexCast v522
  ![0, 14, v523.toNat]
def k0_off16 (i : grid0.Coords) (c0_i32_329 : BitVec 32) : Fin 3 → Nat :=
  let c0_330 : Index := 0#32
  let c15 : Index := 15#32
  let arg0 : BitVec 32 := BitVec.ofNat 32 (i 0).val
  let c4_i32 : BitVec 32 := 4#32
  let v0 : BitVec 32 := Scalar.muli arg0 c4_i32
  let v559 : BitVec 32 := Scalar.addi v0 c0_i32_329
  let v560 : Index := Scalar.indexCast v559
  ![0, 15, v560.toNat]
def k0_off17 (i : grid0.Coords) (c0_i32_351 : BitVec 32) : Fin 3 → Nat :=
  let c0_352 : Index := 0#32
  let c16 : Index := 16#32
  let arg0 : BitVec 32 := BitVec.ofNat 32 (i 0).val
  let c4_i32 : BitVec 32 := 4#32
  let v0 : BitVec 32 := Scalar.muli arg0 c4_i32
  let v596 : BitVec 32 := Scalar.addi v0 c0_i32_351
  let v597 : Index := Scalar.indexCast v596
  ![0, 16, v597.toNat]
def k0_off18 (i : grid0.Coords) (c0_i32_373 : BitVec 32) : Fin 3 → Nat :=
  let c0_374 : Index := 0#32
  let c17 : Index := 17#32
  let arg0 : BitVec 32 := BitVec.ofNat 32 (i 0).val
  let c4_i32 : BitVec 32 := 4#32
  let v0 : BitVec 32 := Scalar.muli arg0 c4_i32
  let v633 : BitVec 32 := Scalar.addi v0 c0_i32_373
  let v634 : Index := Scalar.indexCast v633
  ![0, 17, v634.toNat]
def k0_off19 (i : grid0.Coords) (c0_i32_395 : BitVec 32) : Fin 3 → Nat :=
  let c0_396 : Index := 0#32
  let c18 : Index := 18#32
  let arg0 : BitVec 32 := BitVec.ofNat 32 (i 0).val
  let c4_i32 : BitVec 32 := 4#32
  let v0 : BitVec 32 := Scalar.muli arg0 c4_i32
  let v670 : BitVec 32 := Scalar.addi v0 c0_i32_395
  let v671 : Index := Scalar.indexCast v670
  ![0, 18, v671.toNat]
def k0_off20 (i : grid0.Coords) (c0_i32_417 : BitVec 32) : Fin 3 → Nat :=
  let c0_418 : Index := 0#32
  let c19 : Index := 19#32
  let arg0 : BitVec 32 := BitVec.ofNat 32 (i 0).val
  let c4_i32 : BitVec 32 := 4#32
  let v0 : BitVec 32 := Scalar.muli arg0 c4_i32
  let v707 : BitVec 32 := Scalar.addi v0 c0_i32_417
  let v708 : Index := Scalar.indexCast v707
  ![0, 19, v708.toNat]
def k0_off21 (i : grid0.Coords) (c0_i32_439 : BitVec 32) : Fin 3 → Nat :=
  let c0_440 : Index := 0#32
  let c20 : Index := 20#32
  let arg0 : BitVec 32 := BitVec.ofNat 32 (i 0).val
  let c4_i32 : BitVec 32 := 4#32
  let v0 : BitVec 32 := Scalar.muli arg0 c4_i32
  let v744 : BitVec 32 := Scalar.addi v0 c0_i32_439
  let v745 : Index := Scalar.indexCast v744
  ![0, 20, v745.toNat]
def k0_off22 (i : grid0.Coords) (c0_i32_461 : BitVec 32) : Fin 3 → Nat :=
  let c0_462 : Index := 0#32
  let c21 : Index := 21#32
  let arg0 : BitVec 32 := BitVec.ofNat 32 (i 0).val
  let c4_i32 : BitVec 32 := 4#32
  let v0 : BitVec 32 := Scalar.muli arg0 c4_i32
  let v781 : BitVec 32 := Scalar.addi v0 c0_i32_461
  let v782 : Index := Scalar.indexCast v781
  ![0, 21, v782.toNat]
def k0_off23 (i : grid0.Coords) (c0_i32_483 : BitVec 32) : Fin 3 → Nat :=
  let c0_484 : Index := 0#32
  let c22 : Index := 22#32
  let arg0 : BitVec 32 := BitVec.ofNat 32 (i 0).val
  let c4_i32 : BitVec 32 := 4#32
  let v0 : BitVec 32 := Scalar.muli arg0 c4_i32
  let v818 : BitVec 32 := Scalar.addi v0 c0_i32_483
  let v819 : Index := Scalar.indexCast v818
  ![0, 22, v819.toNat]
def k0_off24 (i : grid0.Coords) (c0_i32_505 : BitVec 32) : Fin 3 → Nat :=
  let c0_506 : Index := 0#32
  let c23 : Index := 23#32
  let arg0 : BitVec 32 := BitVec.ofNat 32 (i 0).val
  let c4_i32 : BitVec 32 := 4#32
  let v0 : BitVec 32 := Scalar.muli arg0 c4_i32
  let v855 : BitVec 32 := Scalar.addi v0 c0_i32_505
  let v856 : Index := Scalar.indexCast v855
  ![0, 23, v856.toNat]
def k0_off25 (i : grid0.Coords) (c0_i32_527 : BitVec 32) : Fin 3 → Nat :=
  let c0_528 : Index := 0#32
  let c24 : Index := 24#32
  let arg0 : BitVec 32 := BitVec.ofNat 32 (i 0).val
  let c4_i32 : BitVec 32 := 4#32
  let v0 : BitVec 32 := Scalar.muli arg0 c4_i32
  let v892 : BitVec 32 := Scalar.addi v0 c0_i32_527
  let v893 : Index := Scalar.indexCast v892
  ![0, 24, v893.toNat]
def k0_off26 (i : grid0.Coords) (c0_i32_549 : BitVec 32) : Fin 3 → Nat :=
  let c0_550 : Index := 0#32
  let c25 : Index := 25#32
  let arg0 : BitVec 32 := BitVec.ofNat 32 (i 0).val
  let c4_i32 : BitVec 32 := 4#32
  let v0 : BitVec 32 := Scalar.muli arg0 c4_i32
  let v929 : BitVec 32 := Scalar.addi v0 c0_i32_549
  let v930 : Index := Scalar.indexCast v929
  ![0, 25, v930.toNat]
def k0_off27 (i : grid0.Coords) (c0_i32_571 : BitVec 32) : Fin 3 → Nat :=
  let c0_572 : Index := 0#32
  let c26 : Index := 26#32
  let arg0 : BitVec 32 := BitVec.ofNat 32 (i 0).val
  let c4_i32 : BitVec 32 := 4#32
  let v0 : BitVec 32 := Scalar.muli arg0 c4_i32
  let v966 : BitVec 32 := Scalar.addi v0 c0_i32_571
  let v967 : Index := Scalar.indexCast v966
  ![0, 26, v967.toNat]
def k0_off28 (i : grid0.Coords) (c0_i32_593 : BitVec 32) : Fin 3 → Nat :=
  let c0_594 : Index := 0#32
  let c27 : Index := 27#32
  let arg0 : BitVec 32 := BitVec.ofNat 32 (i 0).val
  let c4_i32 : BitVec 32 := 4#32
  let v0 : BitVec 32 := Scalar.muli arg0 c4_i32
  let v1003 : BitVec 32 := Scalar.addi v0 c0_i32_593
  let v1004 : Index := Scalar.indexCast v1003
  ![0, 27, v1004.toNat]
def k0_off29 (i : grid0.Coords) (c0_i32_615 : BitVec 32) : Fin 3 → Nat :=
  let c0_616 : Index := 0#32
  let c28 : Index := 28#32
  let arg0 : BitVec 32 := BitVec.ofNat 32 (i 0).val
  let c4_i32 : BitVec 32 := 4#32
  let v0 : BitVec 32 := Scalar.muli arg0 c4_i32
  let v1040 : BitVec 32 := Scalar.addi v0 c0_i32_615
  let v1041 : Index := Scalar.indexCast v1040
  ![0, 28, v1041.toNat]
def k0_off30 (i : grid0.Coords) (c0_i32_637 : BitVec 32) : Fin 3 → Nat :=
  let c0_638 : Index := 0#32
  let c29 : Index := 29#32
  let arg0 : BitVec 32 := BitVec.ofNat 32 (i 0).val
  let c4_i32 : BitVec 32 := 4#32
  let v0 : BitVec 32 := Scalar.muli arg0 c4_i32
  let v1077 : BitVec 32 := Scalar.addi v0 c0_i32_637
  let v1078 : Index := Scalar.indexCast v1077
  ![0, 29, v1078.toNat]
def k0_off31 (i : grid0.Coords) (c0_i32_659 : BitVec 32) : Fin 3 → Nat :=
  let c0_660 : Index := 0#32
  let c30 : Index := 30#32
  let arg0 : BitVec 32 := BitVec.ofNat 32 (i 0).val
  let c4_i32 : BitVec 32 := 4#32
  let v0 : BitVec 32 := Scalar.muli arg0 c4_i32
  let v1114 : BitVec 32 := Scalar.addi v0 c0_i32_659
  let v1115 : Index := Scalar.indexCast v1114
  ![0, 30, v1115.toNat]
def k0_off32 (i : grid0.Coords) (c0_i32_681 : BitVec 32) : Fin 3 → Nat :=
  let c0_682 : Index := 0#32
  let c31 : Index := 31#32
  let arg0 : BitVec 32 := BitVec.ofNat 32 (i 0).val
  let c4_i32 : BitVec 32 := 4#32
  let v0 : BitVec 32 := Scalar.muli arg0 c4_i32
  let v1151 : BitVec 32 := Scalar.addi v0 c0_i32_681
  let v1152 : Index := Scalar.indexCast v1151
  ![0, 31, v1152.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1x32x40 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1920x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x4096x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1920x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1920x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Out0RefIdeal.lean ====
abbrev S1920x4096 : Shape := ⟨2, ![1920, 4096]⟩
abbrev S2x4096x5120 : Shape := ⟨3, ![2, 4096, 5120]⟩
abbrev S2x32x40 : Shape := ⟨3, ![2, 32, 40]⟩
abbrev S1920x5120 : Shape := ⟨2, ![1920, 5120]⟩
abbrev S1x4096x5120 : Shape := ⟨3, ![1, 4096, 5120]⟩
abbrev S4096x5120 : Shape := ⟨2, ![4096, 5120]⟩
abbrev S1x32x40 : Shape := ⟨3, ![1, 32, 40]⟩
abbrev S32x40 : Shape := ⟨2, ![32, 40]⟩
abbrev S32x128x40x128 : Shape := ⟨4, ![32, 128, 40, 128]⟩
abbrev S32x1x40x1 : Shape := ⟨4, ![32, 1, 40, 1]⟩

abbrev nBuf : Space → Nat
  | .hbm => 5
  | .vmem => 5
  | .smem => 0
  | _ => 0

abbrev bufTy : (tb : Table) → Fin (tcTables nBuf tb) → BufTy
  | .hbm, ⟨0, _⟩ => ⟨S1920x4096, .bf16⟩
  | .hbm, ⟨1, _⟩ => ⟨S2x4096x5120, .fp8e4m3⟩
  | .hbm, ⟨2, _⟩ => ⟨S2x32x40, .f32⟩
  | .hbm, ⟨3, _⟩ => ⟨S1920x5120, .f32⟩
  | .hbm, ⟨4, _⟩ => ⟨S1920x5120, .f32⟩
  | .local _ .vmem, ⟨0, _⟩ => ⟨S2x32x40, .f32⟩
  | .local _ .vmem, ⟨1, _⟩ => ⟨S1920x4096, .bf16⟩
  | .local _ .vmem, ⟨2, _⟩ => ⟨S2x4096x5120, .fp8e4m3⟩
  | .local _ .vmem, ⟨3, _⟩ => ⟨S1920x5120, .f32⟩
  | .local _ .vmem, ⟨4, _⟩ => ⟨S1920x5120, .f32⟩
  | _, _ => ⟨S1920x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S2x32x40 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1920x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x4096x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1920x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1920x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Out1.lean ====
abbrev S1920x4096 : Shape := ⟨2, ![1920, 4096]⟩
abbrev S2x4096x5120 : Shape := ⟨3, ![2, 4096, 5120]⟩
abbrev S2x32x40 : Shape := ⟨3, ![2, 32, 40]⟩
abbrev S1920x5120 : Shape := ⟨2, ![1920, 5120]⟩
abbrev S1x32x40 : Shape := ⟨3, ![1, 32, 40]⟩
abbrev S1x4096x512 : Shape := ⟨3, ![1, 4096, 512]⟩
abbrev S1920x512 : Shape := ⟨2, ![1920, 512]⟩
abbrev S1x128x128 : Shape := ⟨3, ![1, 128, 128]⟩
abbrev S128x128 : Shape := ⟨2, ![128, 128]⟩
abbrev S1x1x1 : Shape := ⟨3, ![1, 1, 1]⟩
abbrev S128x512 : Shape := ⟨2, ![128, 512]⟩
abbrev S4096x512 : Shape := ⟨2, ![4096, 512]⟩

abbrev nBuf : Space → Nat
  | .hbm => 5
  | .vmem => 7
  | .smem => 1
  | _ => 0

abbrev bufTy : (tb : Table) → Fin (tcTables nBuf tb) → BufTy
  | .hbm, ⟨0, _⟩ => ⟨S1920x4096, .bf16⟩
  | .hbm, ⟨1, _⟩ => ⟨S2x4096x5120, .fp8e4m3⟩
  | .hbm, ⟨2, _⟩ => ⟨S2x32x40, .f32⟩
  | .hbm, ⟨3, _⟩ => ⟨S1920x5120, .f32⟩
  | .hbm, ⟨4, _⟩ => ⟨S1920x5120, .f32⟩
  | .local _ .vmem, ⟨0, _⟩ => ⟨S1920x4096, .bf16⟩
  | .local _ .vmem, ⟨1, _⟩ => ⟨S1x4096x512, .fp8e4m3⟩
  | .local _ .vmem, ⟨2, _⟩ => ⟨S1x4096x512, .fp8e4m3⟩
  | .local _ .vmem, ⟨3, _⟩ => ⟨S1920x512, .f32⟩
  | .local _ .vmem, ⟨4, _⟩ => ⟨S1920x512, .f32⟩
  | .local _ .vmem, ⟨5, _⟩ => ⟨S1920x512, .f32⟩
  | .local _ .vmem, ⟨6, _⟩ => ⟨S1920x512, .f32⟩
  | .local _ .smem, ⟨0, _⟩ => ⟨S1x32x40, .f32⟩
  | _, _ => ⟨S1920x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![10], ![false]⟩

def k0_off1 (i : grid0.Coords) (c0_i32 : BitVec 32) : Fin 3 → Nat :=
  let c0_2 : Index := 0#32
  let c0_3 : Index := 0#32
  let arg0 : BitVec 32 := BitVec.ofNat 32 (i 0).val
  let c4_i32 : BitVec 32 := 4#32
  let v0 : BitVec 32 := Scalar.muli arg0 c4_i32
  let v4 : BitVec 32 := Scalar.addi v0 c0_i32
  let v5 : Index := Scalar.indexCast v4
  ![0, 0, v5.toNat]
def k0_off2 (i : grid0.Coords) (c0_i32_19 : BitVec 32) : Fin 3 → Nat :=
  let c0_20 : Index := 0#32
  let c1 : Index := 1#32
  let arg0 : BitVec 32 := BitVec.ofNat 32 (i 0).val
  let c4_i32 : BitVec 32 := 4#32
  let v0 : BitVec 32 := Scalar.muli arg0 c4_i32
  let v41 : BitVec 32 := Scalar.addi v0 c0_i32_19
  let v42 : Index := Scalar.indexCast v41
  ![0, 1, v42.toNat]
def k0_off3 (i : grid0.Coords) (c0_i32_42 : BitVec 32) : Fin 3 → Nat :=
  let c0_43 : Index := 0#32
  let c2 : Index := 2#32
  let arg0 : BitVec 32 := BitVec.ofNat 32 (i 0).val
  let c4_i32 : BitVec 32 := 4#32
  let v0 : BitVec 32 := Scalar.muli arg0 c4_i32
  let v78 : BitVec 32 := Scalar.addi v0 c0_i32_42
  let v79 : Index := Scalar.indexCast v78
  ![0, 2, v79.toNat]
def k0_off4 (i : grid0.Coords) (c0_i32_65 : BitVec 32) : Fin 3 → Nat :=
  let c0_66 : Index := 0#32
  let c3 : Index := 3#32
  let arg0 : BitVec 32 := BitVec.ofNat 32 (i 0).val
  let c4_i32 : BitVec 32 := 4#32
  let v0 : BitVec 32 := Scalar.muli arg0 c4_i32
  let v115 : BitVec 32 := Scalar.addi v0 c0_i32_65
  let v116 : Index := Scalar.indexCast v115
  ![0, 3, v116.toNat]
def k0_off5 (i : grid0.Coords) (c0_i32_87 : BitVec 32) : Fin 3 → Nat :=
  let c0_88 : Index := 0#32
  let c4 : Index := 4#32
  let arg0 : BitVec 32 := BitVec.ofNat 32 (i 0).val
  let c4_i32 : BitVec 32 := 4#32
  let v0 : BitVec 32 := Scalar.muli arg0 c4_i32
  let v152 : BitVec 32 := Scalar.addi v0 c0_i32_87
  let v153 : Index := Scalar.indexCast v152
  ![0, 4, v153.toNat]
def k0_off6 (i : grid0.Coords) (c0_i32_109 : BitVec 32) : Fin 3 → Nat :=
  let c0_110 : Index := 0#32
  let c5 : Index := 5#32
  let arg0 : BitVec 32 := BitVec.ofNat 32 (i 0).val
  let c4_i32 : BitVec 32 := 4#32
  let v0 : BitVec 32 := Scalar.muli arg0 c4_i32
  let v189 : BitVec 32 := Scalar.addi v0 c0_i32_109
  let v190 : Index := Scalar.indexCast v189
  ![0, 5, v190.toNat]
def k0_off7 (i : grid0.Coords) (c0_i32_131 : BitVec 32) : Fin 3 → Nat :=
  let c0_132 : Index := 0#32
  let c6 : Index := 6#32
  let arg0 : BitVec 32 := BitVec.ofNat 32 (i 0).val
  let c4_i32 : BitVec 32 := 4#32
  let v0 : BitVec 32 := Scalar.muli arg0 c4_i32
  let v226 : BitVec 32 := Scalar.addi v0 c0_i32_131
  let v227 : Index := Scalar.indexCast v226
  ![0, 6, v227.toNat]
def k0_off8 (i : grid0.Coords) (c0_i32_153 : BitVec 32) : Fin 3 → Nat :=
  let c0_154 : Index := 0#32
  let c7 : Index := 7#32
  let arg0 : BitVec 32 := BitVec.ofNat 32 (i 0).val
  let c4_i32 : BitVec 32 := 4#32
  let v0 : BitVec 32 := Scalar.muli arg0 c4_i32
  let v263 : BitVec 32 := Scalar.addi v0 c0_i32_153
  let v264 : Index := Scalar.indexCast v263
  ![0, 7, v264.toNat]
def k0_off9 (i : grid0.Coords) (c0_i32_175 : BitVec 32) : Fin 3 → Nat :=
  let c0_176 : Index := 0#32
  let c8 : Index := 8#32
  let arg0 : BitVec 32 := BitVec.ofNat 32 (i 0).val
  let c4_i32 : BitVec 32 := 4#32
  let v0 : BitVec 32 := Scalar.muli arg0 c4_i32
  let v300 : BitVec 32 := Scalar.addi v0 c0_i32_175
  let v301 : Index := Scalar.indexCast v300
  ![0, 8, v301.toNat]
def k0_off10 (i : grid0.Coords) (c0_i32_197 : BitVec 32) : Fin 3 → Nat :=
  let c0_198 : Index := 0#32
  let c9 : Index := 9#32
  let arg0 : BitVec 32 := BitVec.ofNat 32 (i 0).val
  let c4_i32 : BitVec 32 := 4#32
  let v0 : BitVec 32 := Scalar.muli arg0 c4_i32
  let v337 : BitVec 32 := Scalar.addi v0 c0_i32_197
  let v338 : Index := Scalar.indexCast v337
  ![0, 9, v338.toNat]
def k0_off11 (i : grid0.Coords) (c0_i32_219 : BitVec 32) : Fin 3 → Nat :=
  let c0_220 : Index := 0#32
  let c10 : Index := 10#32
  let arg0 : BitVec 32 := BitVec.ofNat 32 (i 0).val
  let c4_i32 : BitVec 32 := 4#32
  let v0 : BitVec 32 := Scalar.muli arg0 c4_i32
  let v374 : BitVec 32 := Scalar.addi v0 c0_i32_219
  let v375 : Index := Scalar.indexCast v374
  ![0, 10, v375.toNat]
def k0_off12 (i : grid0.Coords) (c0_i32_241 : BitVec 32) : Fin 3 → Nat :=
  let c0_242 : Index := 0#32
  let c11 : Index := 11#32
  let arg0 : BitVec 32 := BitVec.ofNat 32 (i 0).val
  let c4_i32 : BitVec 32 := 4#32
  let v0 : BitVec 32 := Scalar.muli arg0 c4_i32
  let v411 : BitVec 32 := Scalar.addi v0 c0_i32_241
  let v412 : Index := Scalar.indexCast v411
  ![0, 11, v412.toNat]
def k0_off13 (i : grid0.Coords) (c0_i32_263 : BitVec 32) : Fin 3 → Nat :=
  let c0_264 : Index := 0#32
  let c12 : Index := 12#32
  let arg0 : BitVec 32 := BitVec.ofNat 32 (i 0).val
  let c4_i32 : BitVec 32 := 4#32
  let v0 : BitVec 32 := Scalar.muli arg0 c4_i32
  let v448 : BitVec 32 := Scalar.addi v0 c0_i32_263
  let v449 : Index := Scalar.indexCast v448
  ![0, 12, v449.toNat]
def k0_off14 (i : grid0.Coords) (c0_i32_285 : BitVec 32) : Fin 3 → Nat :=
  let c0_286 : Index := 0#32
  let c13 : Index := 13#32
  let arg0 : BitVec 32 := BitVec.ofNat 32 (i 0).val
  let c4_i32 : BitVec 32 := 4#32
  let v0 : BitVec 32 := Scalar.muli arg0 c4_i32
  let v485 : BitVec 32 := Scalar.addi v0 c0_i32_285
  let v486 : Index := Scalar.indexCast v485
  ![0, 13, v486.toNat]
def k0_off15 (i : grid0.Coords) (c0_i32_307 : BitVec 32) : Fin 3 → Nat :=
  let c0_308 : Index := 0#32
  let c14 : Index := 14#32
  let arg0 : BitVec 32 := BitVec.ofNat 32 (i 0).val
  let c4_i32 : BitVec 32 := 4#32
  let v0 : BitVec 32 := Scalar.muli arg0 c4_i32
  let v522 : BitVec 32 := Scalar.addi v0 c0_i32_307
  let v523 : Index := Scalar.indexCast v522
  ![0, 14, v523.toNat]
def k0_off16 (i : grid0.Coords) (c0_i32_329 : BitVec 32) : Fin 3 → Nat :=
  let c0_330 : Index := 0#32
  let c15 : Index := 15#32
  let arg0 : BitVec 32 := BitVec.ofNat 32 (i 0).val
  let c4_i32 : BitVec 32 := 4#32
  let v0 : BitVec 32 := Scalar.muli arg0 c4_i32
  let v559 : BitVec 32 := Scalar.addi v0 c0_i32_329
  let v560 : Index := Scalar.indexCast v559
  ![0, 15, v560.toNat]
def k0_off17 (i : grid0.Coords) (c0_i32_351 : BitVec 32) : Fin 3 → Nat :=
  let c0_352 : Index := 0#32
  let c16 : Index := 16#32
  let arg0 : BitVec 32 := BitVec.ofNat 32 (i 0).val
  let c4_i32 : BitVec 32 := 4#32
  let v0 : BitVec 32 := Scalar.muli arg0 c4_i32
  let v596 : BitVec 32 := Scalar.addi v0 c0_i32_351
  let v597 : Index := Scalar.indexCast v596
  ![0, 16, v597.toNat]
def k0_off18 (i : grid0.Coords) (c0_i32_373 : BitVec 32) : Fin 3 → Nat :=
  let c0_374 : Index := 0#32
  let c17 : Index := 17#32
  let arg0 : BitVec 32 := BitVec.ofNat 32 (i 0).val
  let c4_i32 : BitVec 32 := 4#32
  let v0 : BitVec 32 := Scalar.muli arg0 c4_i32
  let v633 : BitVec 32 := Scalar.addi v0 c0_i32_373
  let v634 : Index := Scalar.indexCast v633
  ![0, 17, v634.toNat]
def k0_off19 (i : grid0.Coords) (c0_i32_395 : BitVec 32) : Fin 3 → Nat :=
  let c0_396 : Index := 0#32
  let c18 : Index := 18#32
  let arg0 : BitVec 32 := BitVec.ofNat 32 (i 0).val
  let c4_i32 : BitVec 32 := 4#32
  let v0 : BitVec 32 := Scalar.muli arg0 c4_i32
  let v670 : BitVec 32 := Scalar.addi v0 c0_i32_395
  let v671 : Index := Scalar.indexCast v670
  ![0, 18, v671.toNat]
def k0_off20 (i : grid0.Coords) (c0_i32_417 : BitVec 32) : Fin 3 → Nat :=
  let c0_418 : Index := 0#32
  let c19 : Index := 19#32
  let arg0 : BitVec 32 := BitVec.ofNat 32 (i 0).val
  let c4_i32 : BitVec 32 := 4#32
  let v0 : BitVec 32 := Scalar.muli arg0 c4_i32
  let v707 : BitVec 32 := Scalar.addi v0 c0_i32_417
  let v708 : Index := Scalar.indexCast v707
  ![0, 19, v708.toNat]
def k0_off21 (i : grid0.Coords) (c0_i32_439 : BitVec 32) : Fin 3 → Nat :=
  let c0_440 : Index := 0#32
  let c20 : Index := 20#32
  let arg0 : BitVec 32 := BitVec.ofNat 32 (i 0).val
  let c4_i32 : BitVec 32 := 4#32
  let v0 : BitVec 32 := Scalar.muli arg0 c4_i32
  let v744 : BitVec 32 := Scalar.addi v0 c0_i32_439
  let v745 : Index := Scalar.indexCast v744
  ![0, 20, v745.toNat]
def k0_off22 (i : grid0.Coords) (c0_i32_461 : BitVec 32) : Fin 3 → Nat :=
  let c0_462 : Index := 0#32
  let c21 : Index := 21#32
  let arg0 : BitVec 32 := BitVec.ofNat 32 (i 0).val
  let c4_i32 : BitVec 32 := 4#32
  let v0 : BitVec 32 := Scalar.muli arg0 c4_i32
  let v781 : BitVec 32 := Scalar.addi v0 c0_i32_461
  let v782 : Index := Scalar.indexCast v781
  ![0, 21, v782.toNat]
def k0_off23 (i : grid0.Coords) (c0_i32_483 : BitVec 32) : Fin 3 → Nat :=
  let c0_484 : Index := 0#32
  let c22 : Index := 22#32
  let arg0 : BitVec 32 := BitVec.ofNat 32 (i 0).val
  let c4_i32 : BitVec 32 := 4#32
  let v0 : BitVec 32 := Scalar.muli arg0 c4_i32
  let v818 : BitVec 32 := Scalar.addi v0 c0_i32_483
  let v819 : Index := Scalar.indexCast v818
  ![0, 22, v819.toNat]
def k0_off24 (i : grid0.Coords) (c0_i32_505 : BitVec 32) : Fin 3 → Nat :=
  let c0_506 : Index := 0#32
  let c23 : Index := 23#32
  let arg0 : BitVec 32 := BitVec.ofNat 32 (i 0).val
  let c4_i32 : BitVec 32 := 4#32
  let v0 : BitVec 32 := Scalar.muli arg0 c4_i32
  let v855 : BitVec 32 := Scalar.addi v0 c0_i32_505
  let v856 : Index := Scalar.indexCast v855
  ![0, 23, v856.toNat]
def k0_off25 (i : grid0.Coords) (c0_i32_527 : BitVec 32) : Fin 3 → Nat :=
  let c0_528 : Index := 0#32
  let c24 : Index := 24#32
  let arg0 : BitVec 32 := BitVec.ofNat 32 (i 0).val
  let c4_i32 : BitVec 32 := 4#32
  let v0 : BitVec 32 := Scalar.muli arg0 c4_i32
  let v892 : BitVec 32 := Scalar.addi v0 c0_i32_527
  let v893 : Index := Scalar.indexCast v892
  ![0, 24, v893.toNat]
def k0_off26 (i : grid0.Coords) (c0_i32_549 : BitVec 32) : Fin 3 → Nat :=
  let c0_550 : Index := 0#32
  let c25 : Index := 25#32
  let arg0 : BitVec 32 := BitVec.ofNat 32 (i 0).val
  let c4_i32 : BitVec 32 := 4#32
  let v0 : BitVec 32 := Scalar.muli arg0 c4_i32
  let v929 : BitVec 32 := Scalar.addi v0 c0_i32_549
  let v930 : Index := Scalar.indexCast v929
  ![0, 25, v930.toNat]
def k0_off27 (i : grid0.Coords) (c0_i32_571 : BitVec 32) : Fin 3 → Nat :=
  let c0_572 : Index := 0#32
  let c26 : Index := 26#32
  let arg0 : BitVec 32 := BitVec.ofNat 32 (i 0).val
  let c4_i32 : BitVec 32 := 4#32
  let v0 : BitVec 32 := Scalar.muli arg0 c4_i32
  let v966 : BitVec 32 := Scalar.addi v0 c0_i32_571
  let v967 : Index := Scalar.indexCast v966
  ![0, 26, v967.toNat]
def k0_off28 (i : grid0.Coords) (c0_i32_593 : BitVec 32) : Fin 3 → Nat :=
  let c0_594 : Index := 0#32
  let c27 : Index := 27#32
  let arg0 : BitVec 32 := BitVec.ofNat 32 (i 0).val
  let c4_i32 : BitVec 32 := 4#32
  let v0 : BitVec 32 := Scalar.muli arg0 c4_i32
  let v1003 : BitVec 32 := Scalar.addi v0 c0_i32_593
  let v1004 : Index := Scalar.indexCast v1003
  ![0, 27, v1004.toNat]
def k0_off29 (i : grid0.Coords) (c0_i32_615 : BitVec 32) : Fin 3 → Nat :=
  let c0_616 : Index := 0#32
  let c28 : Index := 28#32
  let arg0 : BitVec 32 := BitVec.ofNat 32 (i 0).val
  let c4_i32 : BitVec 32 := 4#32
  let v0 : BitVec 32 := Scalar.muli arg0 c4_i32
  let v1040 : BitVec 32 := Scalar.addi v0 c0_i32_615
  let v1041 : Index := Scalar.indexCast v1040
  ![0, 28, v1041.toNat]
def k0_off30 (i : grid0.Coords) (c0_i32_637 : BitVec 32) : Fin 3 → Nat :=
  let c0_638 : Index := 0#32
  let c29 : Index := 29#32
  let arg0 : BitVec 32 := BitVec.ofNat 32 (i 0).val
  let c4_i32 : BitVec 32 := 4#32
  let v0 : BitVec 32 := Scalar.muli arg0 c4_i32
  let v1077 : BitVec 32 := Scalar.addi v0 c0_i32_637
  let v1078 : Index := Scalar.indexCast v1077
  ![0, 29, v1078.toNat]
def k0_off31 (i : grid0.Coords) (c0_i32_659 : BitVec 32) : Fin 3 → Nat :=
  let c0_660 : Index := 0#32
  let c30 : Index := 30#32
  let arg0 : BitVec 32 := BitVec.ofNat 32 (i 0).val
  let c4_i32 : BitVec 32 := 4#32
  let v0 : BitVec 32 := Scalar.muli arg0 c4_i32
  let v1114 : BitVec 32 := Scalar.addi v0 c0_i32_659
  let v1115 : Index := Scalar.indexCast v1114
  ![0, 30, v1115.toNat]
def k0_off32 (i : grid0.Coords) (c0_i32_681 : BitVec 32) : Fin 3 → Nat :=
  let c0_682 : Index := 0#32
  let c31 : Index := 31#32
  let arg0 : BitVec 32 := BitVec.ofNat 32 (i 0).val
  let c4_i32 : BitVec 32 := 4#32
  let v0 : BitVec 32 := Scalar.muli arg0 c4_i32
  let v1151 : BitVec 32 := Scalar.addi v0 c0_i32_681
  let v1152 : Index := Scalar.indexCast v1151
  ![0, 31, v1152.toNat]
def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1x32x40 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1920x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x4096x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1920x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1920x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Out1RefIdeal.lean ====
abbrev S1920x4096 : Shape := ⟨2, ![1920, 4096]⟩
abbrev S2x4096x5120 : Shape := ⟨3, ![2, 4096, 5120]⟩
abbrev S2x32x40 : Shape := ⟨3, ![2, 32, 40]⟩
abbrev S1920x5120 : Shape := ⟨2, ![1920, 5120]⟩
abbrev S1x4096x5120 : Shape := ⟨3, ![1, 4096, 5120]⟩
abbrev S4096x5120 : Shape := ⟨2, ![4096, 5120]⟩
abbrev S1x32x40 : Shape := ⟨3, ![1, 32, 40]⟩
abbrev S32x40 : Shape := ⟨2, ![32, 40]⟩
abbrev S32x128x40x128 : Shape := ⟨4, ![32, 128, 40, 128]⟩
abbrev S32x1x40x1 : Shape := ⟨4, ![32, 1, 40, 1]⟩

abbrev nBuf : Space → Nat
  | .hbm => 5
  | .vmem => 5
  | .smem => 0
  | _ => 0

abbrev bufTy : (tb : Table) → Fin (tcTables nBuf tb) → BufTy
  | .hbm, ⟨0, _⟩ => ⟨S1920x4096, .bf16⟩
  | .hbm, ⟨1, _⟩ => ⟨S2x4096x5120, .fp8e4m3⟩
  | .hbm, ⟨2, _⟩ => ⟨S2x32x40, .f32⟩
  | .hbm, ⟨3, _⟩ => ⟨S1920x5120, .f32⟩
  | .hbm, ⟨4, _⟩ => ⟨S1920x5120, .f32⟩
  | .local _ .vmem, ⟨0, _⟩ => ⟨S2x32x40, .f32⟩
  | .local _ .vmem, ⟨1, _⟩ => ⟨S1920x4096, .bf16⟩
  | .local _ .vmem, ⟨2, _⟩ => ⟨S2x4096x5120, .fp8e4m3⟩
  | .local _ .vmem, ⟨3, _⟩ => ⟨S1920x5120, .f32⟩
  | .local _ .vmem, ⟨4, _⟩ => ⟨S1920x5120, .f32⟩
  | _, _ => ⟨S1920x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S2x32x40 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1920x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x4096x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1920x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1920x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Qkv0.lean ====
abbrev S1920x5120 : Shape := ⟨2, ![1920, 5120]⟩
abbrev S2x5120x6144 : Shape := ⟨3, ![2, 5120, 6144]⟩
abbrev S2x40x48 : Shape := ⟨3, ![2, 40, 48]⟩
abbrev S5x384x64 : Shape := ⟨3, ![5, 384, 64]⟩
abbrev S1920x64 : Shape := ⟨2, ![1920, 64]⟩
abbrev S1920x128 : Shape := ⟨2, ![1920, 128]⟩
abbrev S1920x6144 : Shape := ⟨2, ![1920, 6144]⟩
abbrev S1x40x48 : Shape := ⟨3, ![1, 40, 48]⟩
abbrev S1x5120x512 : Shape := ⟨3, ![1, 5120, 512]⟩
abbrev S1920x512 : Shape := ⟨2, ![1920, 512]⟩
abbrev S1x128x128 : Shape := ⟨3, ![1, 128, 128]⟩
abbrev S128x128 : Shape := ⟨2, ![128, 128]⟩
abbrev S1x1x1 : Shape := ⟨3, ![1, 1, 1]⟩
abbrev S128x512 : Shape := ⟨2, ![128, 512]⟩
abbrev S5120x512 : Shape := ⟨2, ![5120, 512]⟩
abbrev S480x5120 : Shape := ⟨2, ![480, 5120]⟩
abbrev S480x512 : Shape := ⟨2, ![480, 512]⟩
abbrev S480x128 : Shape := ⟨2, ![480, 128]⟩

abbrev nBuf : Space → Nat
  | .hbm => 11
  | .vmem => 7
  | .smem => 1
  | _ => 0

abbrev bufTy : (tb : Table) → Fin (tcTables nBuf tb) → BufTy
  | .hbm, ⟨0, _⟩ => ⟨S1920x5120, .bf16⟩
  | .hbm, ⟨1, _⟩ => ⟨S2x5120x6144, .fp8e4m3⟩
  | .hbm, ⟨2, _⟩ => ⟨S2x40x48, .f32⟩
  | .hbm, ⟨3, _⟩ => ⟨S5x384x64, .f32⟩
  | .hbm, ⟨4, _⟩ => ⟨S5x384x64, .f32⟩
  | .hbm, ⟨5, _⟩ => ⟨S1920x64, .f32⟩
  | .hbm, ⟨6, _⟩ => ⟨S1920x64, .f32⟩
  | .hbm, ⟨7, _⟩ => ⟨S1920x128, .f32⟩
  | .hbm, ⟨8, _⟩ => ⟨S1920x64, .f32⟩
  | .hbm, ⟨9, _⟩ => ⟨S1920x128, .f32⟩
  | .hbm, ⟨10, _⟩ => ⟨S1920x6144, .bf16⟩
  | .local _ .vmem, ⟨0, _⟩ => ⟨S1920x5120, .bf16⟩
  | .local _ .vmem, ⟨1, _⟩ => ⟨S1x5120x512, .fp8e4m3⟩
  | .local _ .vmem, ⟨2, _⟩ => ⟨S1x5120x512, .fp8e4m3⟩
  | .local _ .vmem, ⟨3, _⟩ => ⟨S1920x128, .f32⟩
  | .local _ .vmem, ⟨4, _⟩ => ⟨S1920x128, .f32⟩
  | .local _ .vmem, ⟨5, _⟩ => ⟨S1920x512, .bf16⟩
  | .local _ .vmem, ⟨6, _⟩ => ⟨S1920x512, .bf16⟩
  | .local _ .smem, ⟨0, _⟩ => ⟨S1x40x48, .f32⟩
  | _, _ => ⟨S1920x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![12], ![false]⟩

def k0_off1 (i : grid0.Coords) (c0_i32 : BitVec 32) : Fin 3 → Nat :=
  let c0_2 : Index := 0#32
  let c0_3 : Index := 0#32
  let arg0 : BitVec 32 := BitVec.ofNat 32 (i 0).val
  let c4_i32 : BitVec 32 := 4#32
  let v0 : BitVec 32 := Scalar.muli arg0 c4_i32
  let v4 : BitVec 32 := Scalar.addi v0 c0_i32
  let v5 : Index := Scalar.indexCast v4
  ![0, 0, v5.toNat]
def k0_off2 (i : grid0.Coords) (c0_i32_19 : BitVec 32) : Fin 3 → Nat :=
  let c0_20 : Index := 0#32
  let c1 : Index := 1#32
  let arg0 : BitVec 32 := BitVec.ofNat 32 (i 0).val
  let c4_i32 : BitVec 32 := 4#32
  let v0 : BitVec 32 := Scalar.muli arg0 c4_i32
  let v41 : BitVec 32 := Scalar.addi v0 c0_i32_19
  let v42 : Index := Scalar.indexCast v41
  ![0, 1, v42.toNat]
def k0_off3 (i : grid0.Coords) (c0_i32_42 : BitVec 32) : Fin 3 → Nat :=
  let c0_43 : Index := 0#32
  let c2 : Index := 2#32
  let arg0 : BitVec 32 := BitVec.ofNat 32 (i 0).val
  let c4_i32 : BitVec 32 := 4#32
  let v0 : BitVec 32 := Scalar.muli arg0 c4_i32
  let v78 : BitVec 32 := Scalar.addi v0 c0_i32_42
  let v79 : Index := Scalar.indexCast v78
  ![0, 2, v79.toNat]
def k0_off4 (i : grid0.Coords) (c0_i32_65 : BitVec 32) : Fin 3 → Nat :=
  let c0_66 : Index := 0#32
  let c3 : Index := 3#32
  let arg0 : BitVec 32 := BitVec.ofNat 32 (i 0).val
  let c4_i32 : BitVec 32 := 4#32
  let v0 : BitVec 32 := Scalar.muli arg0 c4_i32
  let v115 : BitVec 32 := Scalar.addi v0 c0_i32_65
  let v116 : Index := Scalar.indexCast v115
  ![0, 3, v116.toNat]
def k0_off5 (i : grid0.Coords) (c0_i32_87 : BitVec 32) : Fin 3 → Nat :=
  let c0_88 : Index := 0#32
  let c4 : Index := 4#32
  let arg0 : BitVec 32 := BitVec.ofNat 32 (i 0).val
  let c4_i32 : BitVec 32 := 4#32
  let v0 : BitVec 32 := Scalar.muli arg0 c4_i32
  let v152 : BitVec 32 := Scalar.addi v0 c0_i32_87
  let v153 : Index := Scalar.indexCast v152
  ![0, 4, v153.toNat]
def k0_off6 (i : grid0.Coords) (c0_i32_109 : BitVec 32) : Fin 3 → Nat :=
  let c0_110 : Index := 0#32
  let c5 : Index := 5#32
  let arg0 : BitVec 32 := BitVec.ofNat 32 (i 0).val
  let c4_i32 : BitVec 32 := 4#32
  let v0 : BitVec 32 := Scalar.muli arg0 c4_i32
  let v189 : BitVec 32 := Scalar.addi v0 c0_i32_109
  let v190 : Index := Scalar.indexCast v189
  ![0, 5, v190.toNat]
def k0_off7 (i : grid0.Coords) (c0_i32_131 : BitVec 32) : Fin 3 → Nat :=
  let c0_132 : Index := 0#32
  let c6 : Index := 6#32
  let arg0 : BitVec 32 := BitVec.ofNat 32 (i 0).val
  let c4_i32 : BitVec 32 := 4#32
  let v0 : BitVec 32 := Scalar.muli arg0 c4_i32
  let v226 : BitVec 32 := Scalar.addi v0 c0_i32_131
  let v227 : Index := Scalar.indexCast v226
  ![0, 6, v227.toNat]
def k0_off8 (i : grid0.Coords) (c0_i32_153 : BitVec 32) : Fin 3 → Nat :=
  let c0_154 : Index := 0#32
  let c7 : Index := 7#32
  let arg0 : BitVec 32 := BitVec.ofNat 32 (i 0).val
  let c4_i32 : BitVec 32 := 4#32
  let v0 : BitVec 32 := Scalar.muli arg0 c4_i32
  let v263 : BitVec 32 := Scalar.addi v0 c0_i32_153
  let v264 : Index := Scalar.indexCast v263
  ![0, 7, v264.toNat]
def k0_off9 (i : grid0.Coords) (c0_i32_175 : BitVec 32) : Fin 3 → Nat :=
  let c0_176 : Index := 0#32
  let c8 : Index := 8#32
  let arg0 : BitVec 32 := BitVec.ofNat 32 (i 0).val
  let c4_i32 : BitVec 32 := 4#32
  let v0 : BitVec 32 := Scalar.muli arg0 c4_i32
  let v300 : BitVec 32 := Scalar.addi v0 c0_i32_175
  let v301 : Index := Scalar.indexCast v300
  ![0, 8, v301.toNat]
def k0_off10 (i : grid0.Coords) (c0_i32_197 : BitVec 32) : Fin 3 → Nat :=
  let c0_198 : Index := 0#32
  let c9 : Index := 9#32
  let arg0 : BitVec 32 := BitVec.ofNat 32 (i 0).val
  let c4_i32 : BitVec 32 := 4#32
  let v0 : BitVec 32 := Scalar.muli arg0 c4_i32
  let v337 : BitVec 32 := Scalar.addi v0 c0_i32_197
  let v338 : Index := Scalar.indexCast v337
  ![0, 9, v338.toNat]
def k0_off11 (i : grid0.Coords) (c0_i32_219 : BitVec 32) : Fin 3 → Nat :=
  let c0_220 : Index := 0#32
  let c10 : Index := 10#32
  let arg0 : BitVec 32 := BitVec.ofNat 32 (i 0).val
  let c4_i32 : BitVec 32 := 4#32
  let v0 : BitVec 32 := Scalar.muli arg0 c4_i32
  let v374 : BitVec 32 := Scalar.addi v0 c0_i32_219
  let v375 : Index := Scalar.indexCast v374
  ![0, 10, v375.toNat]
def k0_off12 (i : grid0.Coords) (c0_i32_241 : BitVec 32) : Fin 3 → Nat :=
  let c0_242 : Index := 0#32
  let c11 : Index := 11#32
  let arg0 : BitVec 32 := BitVec.ofNat 32 (i 0).val
  let c4_i32 : BitVec 32 := 4#32
  let v0 : BitVec 32 := Scalar.muli arg0 c4_i32
  let v411 : BitVec 32 := Scalar.addi v0 c0_i32_241
  let v412 : Index := Scalar.indexCast v411
  ![0, 11, v412.toNat]
def k0_off13 (i : grid0.Coords) (c0_i32_263 : BitVec 32) : Fin 3 → Nat :=
  let c0_264 : Index := 0#32
  let c12 : Index := 12#32
  let arg0 : BitVec 32 := BitVec.ofNat 32 (i 0).val
  let c4_i32 : BitVec 32 := 4#32
  let v0 : BitVec 32 := Scalar.muli arg0 c4_i32
  let v448 : BitVec 32 := Scalar.addi v0 c0_i32_263
  let v449 : Index := Scalar.indexCast v448
  ![0, 12, v449.toNat]
def k0_off14 (i : grid0.Coords) (c0_i32_285 : BitVec 32) : Fin 3 → Nat :=
  let c0_286 : Index := 0#32
  let c13 : Index := 13#32
  let arg0 : BitVec 32 := BitVec.ofNat 32 (i 0).val
  let c4_i32 : BitVec 32 := 4#32
  let v0 : BitVec 32 := Scalar.muli arg0 c4_i32
  let v485 : BitVec 32 := Scalar.addi v0 c0_i32_285
  let v486 : Index := Scalar.indexCast v485
  ![0, 13, v486.toNat]
def k0_off15 (i : grid0.Coords) (c0_i32_307 : BitVec 32) : Fin 3 → Nat :=
  let c0_308 : Index := 0#32
  let c14 : Index := 14#32
  let arg0 : BitVec 32 := BitVec.ofNat 32 (i 0).val
  let c4_i32 : BitVec 32 := 4#32
  let v0 : BitVec 32 := Scalar.muli arg0 c4_i32
  let v522 : BitVec 32 := Scalar.addi v0 c0_i32_307
  let v523 : Index := Scalar.indexCast v522
  ![0, 14, v523.toNat]
def k0_off16 (i : grid0.Coords) (c0_i32_329 : BitVec 32) : Fin 3 → Nat :=
  let c0_330 : Index := 0#32
  let c15 : Index := 15#32
  let arg0 : BitVec 32 := BitVec.ofNat 32 (i 0).val
  let c4_i32 : BitVec 32 := 4#32
  let v0 : BitVec 32 := Scalar.muli arg0 c4_i32
  let v559 : BitVec 32 := Scalar.addi v0 c0_i32_329
  let v560 : Index := Scalar.indexCast v559
  ![0, 15, v560.toNat]
def k0_off17 (i : grid0.Coords) (c0_i32_351 : BitVec 32) : Fin 3 → Nat :=
  let c0_352 : Index := 0#32
  let c16 : Index := 16#32
  let arg0 : BitVec 32 := BitVec.ofNat 32 (i 0).val
  let c4_i32 : BitVec 32 := 4#32
  let v0 : BitVec 32 := Scalar.muli arg0 c4_i32
  let v596 : BitVec 32 := Scalar.addi v0 c0_i32_351
  let v597 : Index := Scalar.indexCast v596
  ![0, 16, v597.toNat]
def k0_off18 (i : grid0.Coords) (c0_i32_373 : BitVec 32) : Fin 3 → Nat :=
  let c0_374 : Index := 0#32
  let c17 : Index := 17#32
  let arg0 : BitVec 32 := BitVec.ofNat 32 (i 0).val
  let c4_i32 : BitVec 32 := 4#32
  let v0 : BitVec 32 := Scalar.muli arg0 c4_i32
  let v633 : BitVec 32 := Scalar.addi v0 c0_i32_373
  let v634 : Index := Scalar.indexCast v633
  ![0, 17, v634.toNat]
def k0_off19 (i : grid0.Coords) (c0_i32_395 : BitVec 32) : Fin 3 → Nat :=
  let c0_396 : Index := 0#32
  let c18 : Index := 18#32
  let arg0 : BitVec 32 := BitVec.ofNat 32 (i 0).val
  let c4_i32 : BitVec 32 := 4#32
  let v0 : BitVec 32 := Scalar.muli arg0 c4_i32
  let v670 : BitVec 32 := Scalar.addi v0 c0_i32_395
  let v671 : Index := Scalar.indexCast v670
  ![0, 18, v671.toNat]
def k0_off20 (i : grid0.Coords) (c0_i32_417 : BitVec 32) : Fin 3 → Nat :=
  let c0_418 : Index := 0#32
  let c19 : Index := 19#32
  let arg0 : BitVec 32 := BitVec.ofNat 32 (i 0).val
  let c4_i32 : BitVec 32 := 4#32
  let v0 : BitVec 32 := Scalar.muli arg0 c4_i32
  let v707 : BitVec 32 := Scalar.addi v0 c0_i32_417
  let v708 : Index := Scalar.indexCast v707
  ![0, 19, v708.toNat]
def k0_off21 (i : grid0.Coords) (c0_i32_439 : BitVec 32) : Fin 3 → Nat :=
  let c0_440 : Index := 0#32
  let c20 : Index := 20#32
  let arg0 : BitVec 32 := BitVec.ofNat 32 (i 0).val
  let c4_i32 : BitVec 32 := 4#32
  let v0 : BitVec 32 := Scalar.muli arg0 c4_i32
  let v744 : BitVec 32 := Scalar.addi v0 c0_i32_439
  let v745 : Index := Scalar.indexCast v744
  ![0, 20, v745.toNat]
def k0_off22 (i : grid0.Coords) (c0_i32_461 : BitVec 32) : Fin 3 → Nat :=
  let c0_462 : Index := 0#32
  let c21 : Index := 21#32
  let arg0 : BitVec 32 := BitVec.ofNat 32 (i 0).val
  let c4_i32 : BitVec 32 := 4#32
  let v0 : BitVec 32 := Scalar.muli arg0 c4_i32
  let v781 : BitVec 32 := Scalar.addi v0 c0_i32_461
  let v782 : Index := Scalar.indexCast v781
  ![0, 21, v782.toNat]
def k0_off23 (i : grid0.Coords) (c0_i32_483 : BitVec 32) : Fin 3 → Nat :=
  let c0_484 : Index := 0#32
  let c22 : Index := 22#32
  let arg0 : BitVec 32 := BitVec.ofNat 32 (i 0).val
  let c4_i32 : BitVec 32 := 4#32
  let v0 : BitVec 32 := Scalar.muli arg0 c4_i32
  let v818 : BitVec 32 := Scalar.addi v0 c0_i32_483
  let v819 : Index := Scalar.indexCast v818
  ![0, 22, v819.toNat]
def k0_off24 (i : grid0.Coords) (c0_i32_505 : BitVec 32) : Fin 3 → Nat :=
  let c0_506 : Index := 0#32
  let c23 : Index := 23#32
  let arg0 : BitVec 32 := BitVec.ofNat 32 (i 0).val
  let c4_i32 : BitVec 32 := 4#32
  let v0 : BitVec 32 := Scalar.muli arg0 c4_i32
  let v855 : BitVec 32 := Scalar.addi v0 c0_i32_505
  let v856 : Index := Scalar.indexCast v855
  ![0, 23, v856.toNat]
def k0_off25 (i : grid0.Coords) (c0_i32_527 : BitVec 32) : Fin 3 → Nat :=
  let c0_528 : Index := 0#32
  let c24 : Index := 24#32
  let arg0 : BitVec 32 := BitVec.ofNat 32 (i 0).val
  let c4_i32 : BitVec 32 := 4#32
  let v0 : BitVec 32 := Scalar.muli arg0 c4_i32
  let v892 : BitVec 32 := Scalar.addi v0 c0_i32_527
  let v893 : Index := Scalar.indexCast v892
  ![0, 24, v893.toNat]
def k0_off26 (i : grid0.Coords) (c0_i32_549 : BitVec 32) : Fin 3 → Nat :=
  let c0_550 : Index := 0#32
  let c25 : Index := 25#32
  let arg0 : BitVec 32 := BitVec.ofNat 32 (i 0).val
  let c4_i32 : BitVec 32 := 4#32
  let v0 : BitVec 32 := Scalar.muli arg0 c4_i32
  let v929 : BitVec 32 := Scalar.addi v0 c0_i32_549
  let v930 : Index := Scalar.indexCast v929
  ![0, 25, v930.toNat]
def k0_off27 (i : grid0.Coords) (c0_i32_571 : BitVec 32) : Fin 3 → Nat :=
  let c0_572 : Index := 0#32
  let c26 : Index := 26#32
  let arg0 : BitVec 32 := BitVec.ofNat 32 (i 0).val
  let c4_i32 : BitVec 32 := 4#32
  let v0 : BitVec 32 := Scalar.muli arg0 c4_i32
  let v966 : BitVec 32 := Scalar.addi v0 c0_i32_571
  let v967 : Index := Scalar.indexCast v966
  ![0, 26, v967.toNat]
def k0_off28 (i : grid0.Coords) (c0_i32_593 : BitVec 32) : Fin 3 → Nat :=
  let c0_594 : Index := 0#32
  let c27 : Index := 27#32
  let arg0 : BitVec 32 := BitVec.ofNat 32 (i 0).val
  let c4_i32 : BitVec 32 := 4#32
  let v0 : BitVec 32 := Scalar.muli arg0 c4_i32
  let v1003 : BitVec 32 := Scalar.addi v0 c0_i32_593
  let v1004 : Index := Scalar.indexCast v1003
  ![0, 27, v1004.toNat]
def k0_off29 (i : grid0.Coords) (c0_i32_615 : BitVec 32) : Fin 3 → Nat :=
  let c0_616 : Index := 0#32
  let c28 : Index := 28#32
  let arg0 : BitVec 32 := BitVec.ofNat 32 (i 0).val
  let c4_i32 : BitVec 32 := 4#32
  let v0 : BitVec 32 := Scalar.muli arg0 c4_i32
  let v1040 : BitVec 32 := Scalar.addi v0 c0_i32_615
  let v1041 : Index := Scalar.indexCast v1040
  ![0, 28, v1041.toNat]
def k0_off30 (i : grid0.Coords) (c0_i32_637 : BitVec 32) : Fin 3 → Nat :=
  let c0_638 : Index := 0#32
  let c29 : Index := 29#32
  let arg0 : BitVec 32 := BitVec.ofNat 32 (i 0).val
  let c4_i32 : BitVec 32 := 4#32
  let v0 : BitVec 32 := Scalar.muli arg0 c4_i32
  let v1077 : BitVec 32 := Scalar.addi v0 c0_i32_637
  let v1078 : Index := Scalar.indexCast v1077
  ![0, 29, v1078.toNat]
def k0_off31 (i : grid0.Coords) (c0_i32_659 : BitVec 32) : Fin 3 → Nat :=
  let c0_660 : Index := 0#32
  let c30 : Index := 30#32
  let arg0 : BitVec 32 := BitVec.ofNat 32 (i 0).val
  let c4_i32 : BitVec 32 := 4#32
  let v0 : BitVec 32 := Scalar.muli arg0 c4_i32
  let v1114 : BitVec 32 := Scalar.addi v0 c0_i32_659
  let v1115 : Index := Scalar.indexCast v1114
  ![0, 30, v1115.toNat]
def k0_off32 (i : grid0.Coords) (c0_i32_681 : BitVec 32) : Fin 3 → Nat :=
  let c0_682 : Index := 0#32
  let c31 : Index := 31#32
  let arg0 : BitVec 32 := BitVec.ofNat 32 (i 0).val
  let c4_i32 : BitVec 32 := 4#32
  let v0 : BitVec 32 := Scalar.muli arg0 c4_i32
  let v1151 : BitVec 32 := Scalar.addi v0 c0_i32_681
  let v1152 : Index := Scalar.indexCast v1151
  ![0, 31, v1152.toNat]
def k0_off33 (i : grid0.Coords) (c0_i32_703 : BitVec 32) : Fin 3 → Nat :=
  let c0_704 : Index := 0#32
  let c32 : Index := 32#32
  let arg0 : BitVec 32 := BitVec.ofNat 32 (i 0).val
  let c4_i32 : BitVec 32 := 4#32
  let v0 : BitVec 32 := Scalar.muli arg0 c4_i32
  let v1188 : BitVec 32 := Scalar.addi v0 c0_i32_703
  let v1189 : Index := Scalar.indexCast v1188
  ![0, 32, v1189.toNat]
def k0_off34 (i : grid0.Coords) (c0_i32_725 : BitVec 32) : Fin 3 → Nat :=
  let c0_726 : Index := 0#32
  let c33 : Index := 33#32
  let arg0 : BitVec 32 := BitVec.ofNat 32 (i 0).val
  let c4_i32 : BitVec 32 := 4#32
  let v0 : BitVec 32 := Scalar.muli arg0 c4_i32
  let v1225 : BitVec 32 := Scalar.addi v0 c0_i32_725
  let v1226 : Index := Scalar.indexCast v1225
  ![0, 33, v1226.toNat]
def k0_off35 (i : grid0.Coords) (c0_i32_747 : BitVec 32) : Fin 3 → Nat :=
  let c0_748 : Index := 0#32
  let c34 : Index := 34#32
  let arg0 : BitVec 32 := BitVec.ofNat 32 (i 0).val
  let c4_i32 : BitVec 32 := 4#32
  let v0 : BitVec 32 := Scalar.muli arg0 c4_i32
  let v1262 : BitVec 32 := Scalar.addi v0 c0_i32_747
  let v1263 : Index := Scalar.indexCast v1262
  ![0, 34, v1263.toNat]
def k0_off36 (i : grid0.Coords) (c0_i32_769 : BitVec 32) : Fin 3 → Nat :=
  let c0_770 : Index := 0#32
  let c35 : Index := 35#32
  let arg0 : BitVec 32 := BitVec.ofNat 32 (i 0).val
  let c4_i32 : BitVec 32 := 4#32
  let v0 : BitVec 32 := Scalar.muli arg0 c4_i32
  let v1299 : BitVec 32 := Scalar.addi v0 c0_i32_769
  let v1300 : Index := Scalar.indexCast v1299
  ![0, 35, v1300.toNat]
def k0_off37 (i : grid0.Coords) (c0_i32_791 : BitVec 32) : Fin 3 → Nat :=
  let c0_792 : Index := 0#32
  let c36 : Index := 36#32
  let arg0 : BitVec 32 := BitVec.ofNat 32 (i 0).val
  let c4_i32 : BitVec 32 := 4#32
  let v0 : BitVec 32 := Scalar.muli arg0 c4_i32
  let v1336 : BitVec 32 := Scalar.addi v0 c0_i32_791
  let v1337 : Index := Scalar.indexCast v1336
  ![0, 36, v1337.toNat]
def k0_off38 (i : grid0.Coords) (c0_i32_813 : BitVec 32) : Fin 3 → Nat :=
  let c0_814 : Index := 0#32
  let c37 : Index := 37#32
  let arg0 : BitVec 32 := BitVec.ofNat 32 (i 0).val
  let c4_i32 : BitVec 32 := 4#32
  let v0 : BitVec 32 := Scalar.muli arg0 c4_i32
  let v1373 : BitVec 32 := Scalar.addi v0 c0_i32_813
  let v1374 : Index := Scalar.indexCast v1373
  ![0, 37, v1374.toNat]
def k0_off39 (i : grid0.Coords) (c0_i32_835 : BitVec 32) : Fin 3 → Nat :=
  let c0_836 : Index := 0#32
  let c38 : Index := 38#32
  let arg0 : BitVec 32 := BitVec.ofNat 32 (i 0).val
  let c4_i32 : BitVec 32 := 4#32
  let v0 : BitVec 32 := Scalar.muli arg0 c4_i32
  let v1410 : BitVec 32 := Scalar.addi v0 c0_i32_835
  let v1411 : Index := Scalar.indexCast v1410
  ![0, 38, v1411.toNat]
def k0_off40 (i : grid0.Coords) (c0_i32_857 : BitVec 32) : Fin 3 → Nat :=
  let c0_858 : Index := 0#32
  let c39 : Index := 39#32
  let arg0 : BitVec 32 := BitVec.ofNat 32 (i 0).val
  let c4_i32 : BitVec 32 := 4#32
  let v0 : BitVec 32 := Scalar.muli arg0 c4_i32
  let v1447 : BitVec 32 := Scalar.addi v0 c0_i32_857
  let v1448 : Index := Scalar.indexCast v1447
  ![0, 39, v1448.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1x40x48 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1920x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x5120x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1920x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1920x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1920x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Qkv0RefIdeal.lean ====
abbrev S1920x5120 : Shape := ⟨2, ![1920, 5120]⟩
abbrev S2x5120x6144 : Shape := ⟨3, ![2, 5120, 6144]⟩
abbrev S2x40x48 : Shape := ⟨3, ![2, 40, 48]⟩
abbrev S5x384x64 : Shape := ⟨3, ![5, 384, 64]⟩
abbrev S1920x64 : Shape := ⟨2, ![1920, 64]⟩
abbrev S1920x6144 : Shape := ⟨2, ![1920, 6144]⟩
abbrev S1x5120x6144 : Shape := ⟨3, ![1, 5120, 6144]⟩
abbrev S5120x6144 : Shape := ⟨2, ![5120, 6144]⟩
abbrev S1x40x48 : Shape := ⟨3, ![1, 40, 48]⟩
abbrev S40x48 : Shape := ⟨2, ![40, 48]⟩
abbrev S40x128x48x128 : Shape := ⟨4, ![40, 128, 48, 128]⟩
abbrev S40x1x48x1 : Shape := ⟨4, ![40, 1, 48, 1]⟩
abbrev S1920x4096 : Shape := ⟨2, ![1920, 4096]⟩
abbrev S1920x1024 : Shape := ⟨2, ![1920, 1024]⟩
abbrev S1920x32x128 : Shape := ⟨3, ![1920, 32, 128]⟩
abbrev S1920x32x64 : Shape := ⟨3, ![1920, 32, 64]⟩
abbrev S1920x1x64 : Shape := ⟨3, ![1920, 1, 64]⟩
abbrev S1920x8x128 : Shape := ⟨3, ![1920, 8, 128]⟩
abbrev S1920x8x64 : Shape := ⟨3, ![1920, 8, 64]⟩

abbrev nBuf : Space → Nat
  | .hbm => 8
  | .vmem => 6
  | .smem => 0
  | _ => 0

abbrev bufTy : (tb : Table) → Fin (tcTables nBuf tb) → BufTy
  | .hbm, ⟨0, _⟩ => ⟨S1920x5120, .bf16⟩
  | .hbm, ⟨1, _⟩ => ⟨S2x5120x6144, .fp8e4m3⟩
  | .hbm, ⟨2, _⟩ => ⟨S2x40x48, .f32⟩
  | .hbm, ⟨3, _⟩ => ⟨S5x384x64, .f32⟩
  | .hbm, ⟨4, _⟩ => ⟨S5x384x64, .f32⟩
  | .hbm, ⟨5, _⟩ => ⟨S1920x64, .f32⟩
  | .hbm, ⟨6, _⟩ => ⟨S1920x64, .f32⟩
  | .hbm, ⟨7, _⟩ => ⟨S1920x6144, .bf16⟩
  | .local _ .vmem, ⟨0, _⟩ => ⟨S2x40x48, .f32⟩
  | .local _ .vmem, ⟨1, _⟩ => ⟨S1920x5120, .bf16⟩
  | .local _ .vmem, ⟨2, _⟩ => ⟨S2x5120x6144, .fp8e4m3⟩
  | .local _ .vmem, ⟨3, _⟩ => ⟨S1920x64, .f32⟩
  | .local _ .vmem, ⟨4, _⟩ => ⟨S1920x64, .f32⟩
  | .local _ .vmem, ⟨5, _⟩ => ⟨S1920x6144, .bf16⟩
  | _, _ => ⟨S1920x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x40x48 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1920x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x5120x6144 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1920x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1920x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1920x6144 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Qkv1.lean ====
abbrev S1920x5120 : Shape := ⟨2, ![1920, 5120]⟩
abbrev S2x5120x6144 : Shape := ⟨3, ![2, 5120, 6144]⟩
abbrev S2x40x48 : Shape := ⟨3, ![2, 40, 48]⟩
abbrev S5x384x64 : Shape := ⟨3, ![5, 384, 64]⟩
abbrev S1920x64 : Shape := ⟨2, ![1920, 64]⟩
abbrev S1920x128 : Shape := ⟨2, ![1920, 128]⟩
abbrev S1920x6144 : Shape := ⟨2, ![1920, 6144]⟩
abbrev S1x40x48 : Shape := ⟨3, ![1, 40, 48]⟩
abbrev S1x5120x512 : Shape := ⟨3, ![1, 5120, 512]⟩
abbrev S1920x512 : Shape := ⟨2, ![1920, 512]⟩
abbrev S1x128x128 : Shape := ⟨3, ![1, 128, 128]⟩
abbrev S128x128 : Shape := ⟨2, ![128, 128]⟩
abbrev S1x1x1 : Shape := ⟨3, ![1, 1, 1]⟩
abbrev S128x512 : Shape := ⟨2, ![128, 512]⟩
abbrev S5120x512 : Shape := ⟨2, ![5120, 512]⟩
abbrev S480x5120 : Shape := ⟨2, ![480, 5120]⟩
abbrev S480x512 : Shape := ⟨2, ![480, 512]⟩
abbrev S480x128 : Shape := ⟨2, ![480, 128]⟩

abbrev nBuf : Space → Nat
  | .hbm => 11
  | .vmem => 7
  | .smem => 1
  | _ => 0

abbrev bufTy : (tb : Table) → Fin (tcTables nBuf tb) → BufTy
  | .hbm, ⟨0, _⟩ => ⟨S1920x5120, .bf16⟩
  | .hbm, ⟨1, _⟩ => ⟨S2x5120x6144, .fp8e4m3⟩
  | .hbm, ⟨2, _⟩ => ⟨S2x40x48, .f32⟩
  | .hbm, ⟨3, _⟩ => ⟨S5x384x64, .f32⟩
  | .hbm, ⟨4, _⟩ => ⟨S5x384x64, .f32⟩
  | .hbm, ⟨5, _⟩ => ⟨S1920x64, .f32⟩
  | .hbm, ⟨6, _⟩ => ⟨S1920x64, .f32⟩
  | .hbm, ⟨7, _⟩ => ⟨S1920x128, .f32⟩
  | .hbm, ⟨8, _⟩ => ⟨S1920x64, .f32⟩
  | .hbm, ⟨9, _⟩ => ⟨S1920x128, .f32⟩
  | .hbm, ⟨10, _⟩ => ⟨S1920x6144, .bf16⟩
  | .local _ .vmem, ⟨0, _⟩ => ⟨S1920x5120, .bf16⟩
  | .local _ .vmem, ⟨1, _⟩ => ⟨S1x5120x512, .fp8e4m3⟩
  | .local _ .vmem, ⟨2, _⟩ => ⟨S1x5120x512, .fp8e4m3⟩
  | .local _ .vmem, ⟨3, _⟩ => ⟨S1920x128, .f32⟩
  | .local _ .vmem, ⟨4, _⟩ => ⟨S1920x128, .f32⟩
  | .local _ .vmem, ⟨5, _⟩ => ⟨S1920x512, .bf16⟩
  | .local _ .vmem, ⟨6, _⟩ => ⟨S1920x512, .bf16⟩
  | .local _ .smem, ⟨0, _⟩ => ⟨S1x40x48, .f32⟩
  | _, _ => ⟨S1920x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![12], ![false]⟩

def k0_off1 (i : grid0.Coords) (c0_i32 : BitVec 32) : Fin 3 → Nat :=
  let c0_2 : Index := 0#32
  let c0_3 : Index := 0#32
  let arg0 : BitVec 32 := BitVec.ofNat 32 (i 0).val
  let c4_i32 : BitVec 32 := 4#32
  let v0 : BitVec 32 := Scalar.muli arg0 c4_i32
  let v4 : BitVec 32 := Scalar.addi v0 c0_i32
  let v5 : Index := Scalar.indexCast v4
  ![0, 0, v5.toNat]
def k0_off2 (i : grid0.Coords) (c0_i32_19 : BitVec 32) : Fin 3 → Nat :=
  let c0_20 : Index := 0#32
  let c1 : Index := 1#32
  let arg0 : BitVec 32 := BitVec.ofNat 32 (i 0).val
  let c4_i32 : BitVec 32 := 4#32
  let v0 : BitVec 32 := Scalar.muli arg0 c4_i32
  let v41 : BitVec 32 := Scalar.addi v0 c0_i32_19
  let v42 : Index := Scalar.indexCast v41
  ![0, 1, v42.toNat]
def k0_off3 (i : grid0.Coords) (c0_i32_42 : BitVec 32) : Fin 3 → Nat :=
  let c0_43 : Index := 0#32
  let c2 : Index := 2#32
  let arg0 : BitVec 32 := BitVec.ofNat 32 (i 0).val
  let c4_i32 : BitVec 32 := 4#32
  let v0 : BitVec 32 := Scalar.muli arg0 c4_i32
  let v78 : BitVec 32 := Scalar.addi v0 c0_i32_42
  let v79 : Index := Scalar.indexCast v78
  ![0, 2, v79.toNat]
def k0_off4 (i : grid0.Coords) (c0_i32_65 : BitVec 32) : Fin 3 → Nat :=
  let c0_66 : Index := 0#32
  let c3 : Index := 3#32
  let arg0 : BitVec 32 := BitVec.ofNat 32 (i 0).val
  let c4_i32 : BitVec 32 := 4#32
  let v0 : BitVec 32 := Scalar.muli arg0 c4_i32
  let v115 : BitVec 32 := Scalar.addi v0 c0_i32_65
  let v116 : Index := Scalar.indexCast v115
  ![0, 3, v116.toNat]
def k0_off5 (i : grid0.Coords) (c0_i32_87 : BitVec 32) : Fin 3 → Nat :=
  let c0_88 : Index := 0#32
  let c4 : Index := 4#32
  let arg0 : BitVec 32 := BitVec.ofNat 32 (i 0).val
  let c4_i32 : BitVec 32 := 4#32
  let v0 : BitVec 32 := Scalar.muli arg0 c4_i32
  let v152 : BitVec 32 := Scalar.addi v0 c0_i32_87
  let v153 : Index := Scalar.indexCast v152
  ![0, 4, v153.toNat]
def k0_off6 (i : grid0.Coords) (c0_i32_109 : BitVec 32) : Fin 3 → Nat :=
  let c0_110 : Index := 0#32
  let c5 : Index := 5#32
  let arg0 : BitVec 32 := BitVec.ofNat 32 (i 0).val
  let c4_i32 : BitVec 32 := 4#32
  let v0 : BitVec 32 := Scalar.muli arg0 c4_i32
  let v189 : BitVec 32 := Scalar.addi v0 c0_i32_109
  let v190 : Index := Scalar.indexCast v189
  ![0, 5, v190.toNat]
def k0_off7 (i : grid0.Coords) (c0_i32_131 : BitVec 32) : Fin 3 → Nat :=
  let c0_132 : Index := 0#32
  let c6 : Index := 6#32
  let arg0 : BitVec 32 := BitVec.ofNat 32 (i 0).val
  let c4_i32 : BitVec 32 := 4#32
  let v0 : BitVec 32 := Scalar.muli arg0 c4_i32
  let v226 : BitVec 32 := Scalar.addi v0 c0_i32_131
  let v227 : Index := Scalar.indexCast v226
  ![0, 6, v227.toNat]
def k0_off8 (i : grid0.Coords) (c0_i32_153 : BitVec 32) : Fin 3 → Nat :=
  let c0_154 : Index := 0#32
  let c7 : Index := 7#32
  let arg0 : BitVec 32 := BitVec.ofNat 32 (i 0).val
  let c4_i32 : BitVec 32 := 4#32
  let v0 : BitVec 32 := Scalar.muli arg0 c4_i32
  let v263 : BitVec 32 := Scalar.addi v0 c0_i32_153
  let v264 : Index := Scalar.indexCast v263
  ![0, 7, v264.toNat]
def k0_off9 (i : grid0.Coords) (c0_i32_175 : BitVec 32) : Fin 3 → Nat :=
  let c0_176 : Index := 0#32
  let c8 : Index := 8#32
  let arg0 : BitVec 32 := BitVec.ofNat 32 (i 0).val
  let c4_i32 : BitVec 32 := 4#32
  let v0 : BitVec 32 := Scalar.muli arg0 c4_i32
  let v300 : BitVec 32 := Scalar.addi v0 c0_i32_175
  let v301 : Index := Scalar.indexCast v300
  ![0, 8, v301.toNat]
def k0_off10 (i : grid0.Coords) (c0_i32_197 : BitVec 32) : Fin 3 → Nat :=
  let c0_198 : Index := 0#32
  let c9 : Index := 9#32
  let arg0 : BitVec 32 := BitVec.ofNat 32 (i 0).val
  let c4_i32 : BitVec 32 := 4#32
  let v0 : BitVec 32 := Scalar.muli arg0 c4_i32
  let v337 : BitVec 32 := Scalar.addi v0 c0_i32_197
  let v338 : Index := Scalar.indexCast v337
  ![0, 9, v338.toNat]
def k0_off11 (i : grid0.Coords) (c0_i32_219 : BitVec 32) : Fin 3 → Nat :=
  let c0_220 : Index := 0#32
  let c10 : Index := 10#32
  let arg0 : BitVec 32 := BitVec.ofNat 32 (i 0).val
  let c4_i32 : BitVec 32 := 4#32
  let v0 : BitVec 32 := Scalar.muli arg0 c4_i32
  let v374 : BitVec 32 := Scalar.addi v0 c0_i32_219
  let v375 : Index := Scalar.indexCast v374
  ![0, 10, v375.toNat]
def k0_off12 (i : grid0.Coords) (c0_i32_241 : BitVec 32) : Fin 3 → Nat :=
  let c0_242 : Index := 0#32
  let c11 : Index := 11#32
  let arg0 : BitVec 32 := BitVec.ofNat 32 (i 0).val
  let c4_i32 : BitVec 32 := 4#32
  let v0 : BitVec 32 := Scalar.muli arg0 c4_i32
  let v411 : BitVec 32 := Scalar.addi v0 c0_i32_241
  let v412 : Index := Scalar.indexCast v411
  ![0, 11, v412.toNat]
def k0_off13 (i : grid0.Coords) (c0_i32_263 : BitVec 32) : Fin 3 → Nat :=
  let c0_264 : Index := 0#32
  let c12 : Index := 12#32
  let arg0 : BitVec 32 := BitVec.ofNat 32 (i 0).val
  let c4_i32 : BitVec 32 := 4#32
  let v0 : BitVec 32 := Scalar.muli arg0 c4_i32
  let v448 : BitVec 32 := Scalar.addi v0 c0_i32_263
  let v449 : Index := Scalar.indexCast v448
  ![0, 12, v449.toNat]
def k0_off14 (i : grid0.Coords) (c0_i32_285 : BitVec 32) : Fin 3 → Nat :=
  let c0_286 : Index := 0#32
  let c13 : Index := 13#32
  let arg0 : BitVec 32 := BitVec.ofNat 32 (i 0).val
  let c4_i32 : BitVec 32 := 4#32
  let v0 : BitVec 32 := Scalar.muli arg0 c4_i32
  let v485 : BitVec 32 := Scalar.addi v0 c0_i32_285
  let v486 : Index := Scalar.indexCast v485
  ![0, 13, v486.toNat]
def k0_off15 (i : grid0.Coords) (c0_i32_307 : BitVec 32) : Fin 3 → Nat :=
  let c0_308 : Index := 0#32
  let c14 : Index := 14#32
  let arg0 : BitVec 32 := BitVec.ofNat 32 (i 0).val
  let c4_i32 : BitVec 32 := 4#32
  let v0 : BitVec 32 := Scalar.muli arg0 c4_i32
  let v522 : BitVec 32 := Scalar.addi v0 c0_i32_307
  let v523 : Index := Scalar.indexCast v522
  ![0, 14, v523.toNat]
def k0_off16 (i : grid0.Coords) (c0_i32_329 : BitVec 32) : Fin 3 → Nat :=
  let c0_330 : Index := 0#32
  let c15 : Index := 15#32
  let arg0 : BitVec 32 := BitVec.ofNat 32 (i 0).val
  let c4_i32 : BitVec 32 := 4#32
  let v0 : BitVec 32 := Scalar.muli arg0 c4_i32
  let v559 : BitVec 32 := Scalar.addi v0 c0_i32_329
  let v560 : Index := Scalar.indexCast v559
  ![0, 15, v560.toNat]
def k0_off17 (i : grid0.Coords) (c0_i32_351 : BitVec 32) : Fin 3 → Nat :=
  let c0_352 : Index := 0#32
  let c16 : Index := 16#32
  let arg0 : BitVec 32 := BitVec.ofNat 32 (i 0).val
  let c4_i32 : BitVec 32 := 4#32
  let v0 : BitVec 32 := Scalar.muli arg0 c4_i32
  let v596 : BitVec 32 := Scalar.addi v0 c0_i32_351
  let v597 : Index := Scalar.indexCast v596
  ![0, 16, v597.toNat]
def k0_off18 (i : grid0.Coords) (c0_i32_373 : BitVec 32) : Fin 3 → Nat :=
  let c0_374 : Index := 0#32
  let c17 : Index := 17#32
  let arg0 : BitVec 32 := BitVec.ofNat 32 (i 0).val
  let c4_i32 : BitVec 32 := 4#32
  let v0 : BitVec 32 := Scalar.muli arg0 c4_i32
  let v633 : BitVec 32 := Scalar.addi v0 c0_i32_373
  let v634 : Index := Scalar.indexCast v633
  ![0, 17, v634.toNat]
def k0_off19 (i : grid0.Coords) (c0_i32_395 : BitVec 32) : Fin 3 → Nat :=
  let c0_396 : Index := 0#32
  let c18 : Index := 18#32
  let arg0 : BitVec 32 := BitVec.ofNat 32 (i 0).val
  let c4_i32 : BitVec 32 := 4#32
  let v0 : BitVec 32 := Scalar.muli arg0 c4_i32
  let v670 : BitVec 32 := Scalar.addi v0 c0_i32_395
  let v671 : Index := Scalar.indexCast v670
  ![0, 18, v671.toNat]
def k0_off20 (i : grid0.Coords) (c0_i32_417 : BitVec 32) : Fin 3 → Nat :=
  let c0_418 : Index := 0#32
  let c19 : Index := 19#32
  let arg0 : BitVec 32 := BitVec.ofNat 32 (i 0).val
  let c4_i32 : BitVec 32 := 4#32
  let v0 : BitVec 32 := Scalar.muli arg0 c4_i32
  let v707 : BitVec 32 := Scalar.addi v0 c0_i32_417
  let v708 : Index := Scalar.indexCast v707
  ![0, 19, v708.toNat]
def k0_off21 (i : grid0.Coords) (c0_i32_439 : BitVec 32) : Fin 3 → Nat :=
  let c0_440 : Index := 0#32
  let c20 : Index := 20#32
  let arg0 : BitVec 32 := BitVec.ofNat 32 (i 0).val
  let c4_i32 : BitVec 32 := 4#32
  let v0 : BitVec 32 := Scalar.muli arg0 c4_i32
  let v744 : BitVec 32 := Scalar.addi v0 c0_i32_439
  let v745 : Index := Scalar.indexCast v744
  ![0, 20, v745.toNat]
def k0_off22 (i : grid0.Coords) (c0_i32_461 : BitVec 32) : Fin 3 → Nat :=
  let c0_462 : Index := 0#32
  let c21 : Index := 21#32
  let arg0 : BitVec 32 := BitVec.ofNat 32 (i 0).val
  let c4_i32 : BitVec 32 := 4#32
  let v0 : BitVec 32 := Scalar.muli arg0 c4_i32
  let v781 : BitVec 32 := Scalar.addi v0 c0_i32_461
  let v782 : Index := Scalar.indexCast v781
  ![0, 21, v782.toNat]
def k0_off23 (i : grid0.Coords) (c0_i32_483 : BitVec 32) : Fin 3 → Nat :=
  let c0_484 : Index := 0#32
  let c22 : Index := 22#32
  let arg0 : BitVec 32 := BitVec.ofNat 32 (i 0).val
  let c4_i32 : BitVec 32 := 4#32
  let v0 : BitVec 32 := Scalar.muli arg0 c4_i32
  let v818 : BitVec 32 := Scalar.addi v0 c0_i32_483
  let v819 : Index := Scalar.indexCast v818
  ![0, 22, v819.toNat]
def k0_off24 (i : grid0.Coords) (c0_i32_505 : BitVec 32) : Fin 3 → Nat :=
  let c0_506 : Index := 0#32
  let c23 : Index := 23#32
  let arg0 : BitVec 32 := BitVec.ofNat 32 (i 0).val
  let c4_i32 : BitVec 32 := 4#32
  let v0 : BitVec 32 := Scalar.muli arg0 c4_i32
  let v855 : BitVec 32 := Scalar.addi v0 c0_i32_505
  let v856 : Index := Scalar.indexCast v855
  ![0, 23, v856.toNat]
def k0_off25 (i : grid0.Coords) (c0_i32_527 : BitVec 32) : Fin 3 → Nat :=
  let c0_528 : Index := 0#32
  let c24 : Index := 24#32
  let arg0 : BitVec 32 := BitVec.ofNat 32 (i 0).val
  let c4_i32 : BitVec 32 := 4#32
  let v0 : BitVec 32 := Scalar.muli arg0 c4_i32
  let v892 : BitVec 32 := Scalar.addi v0 c0_i32_527
  let v893 : Index := Scalar.indexCast v892
  ![0, 24, v893.toNat]
def k0_off26 (i : grid0.Coords) (c0_i32_549 : BitVec 32) : Fin 3 → Nat :=
  let c0_550 : Index := 0#32
  let c25 : Index := 25#32
  let arg0 : BitVec 32 := BitVec.ofNat 32 (i 0).val
  let c4_i32 : BitVec 32 := 4#32
  let v0 : BitVec 32 := Scalar.muli arg0 c4_i32
  let v929 : BitVec 32 := Scalar.addi v0 c0_i32_549
  let v930 : Index := Scalar.indexCast v929
  ![0, 25, v930.toNat]
def k0_off27 (i : grid0.Coords) (c0_i32_571 : BitVec 32) : Fin 3 → Nat :=
  let c0_572 : Index := 0#32
  let c26 : Index := 26#32
  let arg0 : BitVec 32 := BitVec.ofNat 32 (i 0).val
  let c4_i32 : BitVec 32 := 4#32
  let v0 : BitVec 32 := Scalar.muli arg0 c4_i32
  let v966 : BitVec 32 := Scalar.addi v0 c0_i32_571
  let v967 : Index := Scalar.indexCast v966
  ![0, 26, v967.toNat]
def k0_off28 (i : grid0.Coords) (c0_i32_593 : BitVec 32) : Fin 3 → Nat :=
  let c0_594 : Index := 0#32
  let c27 : Index := 27#32
  let arg0 : BitVec 32 := BitVec.ofNat 32 (i 0).val
  let c4_i32 : BitVec 32 := 4#32
  let v0 : BitVec 32 := Scalar.muli arg0 c4_i32
  let v1003 : BitVec 32 := Scalar.addi v0 c0_i32_593
  let v1004 : Index := Scalar.indexCast v1003
  ![0, 27, v1004.toNat]
def k0_off29 (i : grid0.Coords) (c0_i32_615 : BitVec 32) : Fin 3 → Nat :=
  let c0_616 : Index := 0#32
  let c28 : Index := 28#32
  let arg0 : BitVec 32 := BitVec.ofNat 32 (i 0).val
  let c4_i32 : BitVec 32 := 4#32
  let v0 : BitVec 32 := Scalar.muli arg0 c4_i32
  let v1040 : BitVec 32 := Scalar.addi v0 c0_i32_615
  let v1041 : Index := Scalar.indexCast v1040
  ![0, 28, v1041.toNat]
def k0_off30 (i : grid0.Coords) (c0_i32_637 : BitVec 32) : Fin 3 → Nat :=
  let c0_638 : Index := 0#32
  let c29 : Index := 29#32
  let arg0 : BitVec 32 := BitVec.ofNat 32 (i 0).val
  let c4_i32 : BitVec 32 := 4#32
  let v0 : BitVec 32 := Scalar.muli arg0 c4_i32
  let v1077 : BitVec 32 := Scalar.addi v0 c0_i32_637
  let v1078 : Index := Scalar.indexCast v1077
  ![0, 29, v1078.toNat]
def k0_off31 (i : grid0.Coords) (c0_i32_659 : BitVec 32) : Fin 3 → Nat :=
  let c0_660 : Index := 0#32
  let c30 : Index := 30#32
  let arg0 : BitVec 32 := BitVec.ofNat 32 (i 0).val
  let c4_i32 : BitVec 32 := 4#32
  let v0 : BitVec 32 := Scalar.muli arg0 c4_i32
  let v1114 : BitVec 32 := Scalar.addi v0 c0_i32_659
  let v1115 : Index := Scalar.indexCast v1114
  ![0, 30, v1115.toNat]
def k0_off32 (i : grid0.Coords) (c0_i32_681 : BitVec 32) : Fin 3 → Nat :=
  let c0_682 : Index := 0#32
  let c31 : Index := 31#32
  let arg0 : BitVec 32 := BitVec.ofNat 32 (i 0).val
  let c4_i32 : BitVec 32 := 4#32
  let v0 : BitVec 32 := Scalar.muli arg0 c4_i32
  let v1151 : BitVec 32 := Scalar.addi v0 c0_i32_681
  let v1152 : Index := Scalar.indexCast v1151
  ![0, 31, v1152.toNat]
def k0_off33 (i : grid0.Coords) (c0_i32_703 : BitVec 32) : Fin 3 → Nat :=
  let c0_704 : Index := 0#32
  let c32 : Index := 32#32
  let arg0 : BitVec 32 := BitVec.ofNat 32 (i 0).val
  let c4_i32 : BitVec 32 := 4#32
  let v0 : BitVec 32 := Scalar.muli arg0 c4_i32
  let v1188 : BitVec 32 := Scalar.addi v0 c0_i32_703
  let v1189 : Index := Scalar.indexCast v1188
  ![0, 32, v1189.toNat]
def k0_off34 (i : grid0.Coords) (c0_i32_725 : BitVec 32) : Fin 3 → Nat :=
  let c0_726 : Index := 0#32
  let c33 : Index := 33#32
  let arg0 : BitVec 32 := BitVec.ofNat 32 (i 0).val
  let c4_i32 : BitVec 32 := 4#32
  let v0 : BitVec 32 := Scalar.muli arg0 c4_i32
  let v1225 : BitVec 32 := Scalar.addi v0 c0_i32_725
  let v1226 : Index := Scalar.indexCast v1225
  ![0, 33, v1226.toNat]
def k0_off35 (i : grid0.Coords) (c0_i32_747 : BitVec 32) : Fin 3 → Nat :=
  let c0_748 : Index := 0#32
  let c34 : Index := 34#32
  let arg0 : BitVec 32 := BitVec.ofNat 32 (i 0).val
  let c4_i32 : BitVec 32 := 4#32
  let v0 : BitVec 32 := Scalar.muli arg0 c4_i32
  let v1262 : BitVec 32 := Scalar.addi v0 c0_i32_747
  let v1263 : Index := Scalar.indexCast v1262
  ![0, 34, v1263.toNat]
def k0_off36 (i : grid0.Coords) (c0_i32_769 : BitVec 32) : Fin 3 → Nat :=
  let c0_770 : Index := 0#32
  let c35 : Index := 35#32
  let arg0 : BitVec 32 := BitVec.ofNat 32 (i 0).val
  let c4_i32 : BitVec 32 := 4#32
  let v0 : BitVec 32 := Scalar.muli arg0 c4_i32
  let v1299 : BitVec 32 := Scalar.addi v0 c0_i32_769
  let v1300 : Index := Scalar.indexCast v1299
  ![0, 35, v1300.toNat]
def k0_off37 (i : grid0.Coords) (c0_i32_791 : BitVec 32) : Fin 3 → Nat :=
  let c0_792 : Index := 0#32
  let c36 : Index := 36#32
  let arg0 : BitVec 32 := BitVec.ofNat 32 (i 0).val
  let c4_i32 : BitVec 32 := 4#32
  let v0 : BitVec 32 := Scalar.muli arg0 c4_i32
  let v1336 : BitVec 32 := Scalar.addi v0 c0_i32_791
  let v1337 : Index := Scalar.indexCast v1336
  ![0, 36, v1337.toNat]
def k0_off38 (i : grid0.Coords) (c0_i32_813 : BitVec 32) : Fin 3 → Nat :=
  let c0_814 : Index := 0#32
  let c37 : Index := 37#32
  let arg0 : BitVec 32 := BitVec.ofNat 32 (i 0).val
  let c4_i32 : BitVec 32 := 4#32
  let v0 : BitVec 32 := Scalar.muli arg0 c4_i32
  let v1373 : BitVec 32 := Scalar.addi v0 c0_i32_813
  let v1374 : Index := Scalar.indexCast v1373
  ![0, 37, v1374.toNat]
def k0_off39 (i : grid0.Coords) (c0_i32_835 : BitVec 32) : Fin 3 → Nat :=
  let c0_836 : Index := 0#32
  let c38 : Index := 38#32
  let arg0 : BitVec 32 := BitVec.ofNat 32 (i 0).val
  let c4_i32 : BitVec 32 := 4#32
  let v0 : BitVec 32 := Scalar.muli arg0 c4_i32
  let v1410 : BitVec 32 := Scalar.addi v0 c0_i32_835
  let v1411 : Index := Scalar.indexCast v1410
  ![0, 38, v1411.toNat]
def k0_off40 (i : grid0.Coords) (c0_i32_857 : BitVec 32) : Fin 3 → Nat :=
  let c0_858 : Index := 0#32
  let c39 : Index := 39#32
  let arg0 : BitVec 32 := BitVec.ofNat 32 (i 0).val
  let c4_i32 : BitVec 32 := 4#32
  let v0 : BitVec 32 := Scalar.muli arg0 c4_i32
  let v1447 : BitVec 32 := Scalar.addi v0 c0_i32_857
  let v1448 : Index := Scalar.indexCast v1447
  ![0, 39, v1448.toNat]
def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1x40x48 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1920x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x5120x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1920x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1920x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1920x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Qkv1RefIdeal.lean ====
abbrev S1920x5120 : Shape := ⟨2, ![1920, 5120]⟩
abbrev S2x5120x6144 : Shape := ⟨3, ![2, 5120, 6144]⟩
abbrev S2x40x48 : Shape := ⟨3, ![2, 40, 48]⟩
abbrev S5x384x64 : Shape := ⟨3, ![5, 384, 64]⟩
abbrev S1920x64 : Shape := ⟨2, ![1920, 64]⟩
abbrev S1920x6144 : Shape := ⟨2, ![1920, 6144]⟩
abbrev S1x5120x6144 : Shape := ⟨3, ![1, 5120, 6144]⟩
abbrev S5120x6144 : Shape := ⟨2, ![5120, 6144]⟩
abbrev S1x40x48 : Shape := ⟨3, ![1, 40, 48]⟩
abbrev S40x48 : Shape := ⟨2, ![40, 48]⟩
abbrev S40x128x48x128 : Shape := ⟨4, ![40, 128, 48, 128]⟩
abbrev S40x1x48x1 : Shape := ⟨4, ![40, 1, 48, 1]⟩
abbrev S1920x4096 : Shape := ⟨2, ![1920, 4096]⟩
abbrev S1920x1024 : Shape := ⟨2, ![1920, 1024]⟩
abbrev S1920x32x128 : Shape := ⟨3, ![1920, 32, 128]⟩
abbrev S1920x32x64 : Shape := ⟨3, ![1920, 32, 64]⟩
abbrev S1920x1x64 : Shape := ⟨3, ![1920, 1, 64]⟩
abbrev S1920x8x128 : Shape := ⟨3, ![1920, 8, 128]⟩
abbrev S1920x8x64 : Shape := ⟨3, ![1920, 8, 64]⟩

abbrev nBuf : Space → Nat
  | .hbm => 8
  | .vmem => 6
  | .smem => 0
  | _ => 0

abbrev bufTy : (tb : Table) → Fin (tcTables nBuf tb) → BufTy
  | .hbm, ⟨0, _⟩ => ⟨S1920x5120, .bf16⟩
  | .hbm, ⟨1, _⟩ => ⟨S2x5120x6144, .fp8e4m3⟩
  | .hbm, ⟨2, _⟩ => ⟨S2x40x48, .f32⟩
  | .hbm, ⟨3, _⟩ => ⟨S5x384x64, .f32⟩
  | .hbm, ⟨4, _⟩ => ⟨S5x384x64, .f32⟩
  | .hbm, ⟨5, _⟩ => ⟨S1920x64, .f32⟩
  | .hbm, ⟨6, _⟩ => ⟨S1920x64, .f32⟩
  | .hbm, ⟨7, _⟩ => ⟨S1920x6144, .bf16⟩
  | .local _ .vmem, ⟨0, _⟩ => ⟨S2x40x48, .f32⟩
  | .local _ .vmem, ⟨1, _⟩ => ⟨S1920x5120, .bf16⟩
  | .local _ .vmem, ⟨2, _⟩ => ⟨S2x5120x6144, .fp8e4m3⟩
  | .local _ .vmem, ⟨3, _⟩ => ⟨S1920x64, .f32⟩
  | .local _ .vmem, ⟨4, _⟩ => ⟨S1920x64, .f32⟩
  | .local _ .vmem, ⟨5, _⟩ => ⟨S1920x6144, .bf16⟩
  | _, _ => ⟨S1920x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x40x48 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1920x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x5120x6144 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1920x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1920x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1920x6144 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Widen.lean ====
/-
  Weights that a kernel widens block by block: every 128 x 128 block of codes times its own scale, the blocks of one
  row laid side by side, then the rows laid one under the other. Read at an index, that is the block's element.
-/
module
public import Idealize.ShloMosaic.Lib.Pipeline.Value
public import Idealize.ShloMosaic.Lib.Pointwise

@[expose] public section

noncomputable section

namespace Cert.Widen

open Idealize.ShloMosaic

/-- Blocks of 128 x 128 side by side make a row of the width of all of them. -/
theorem row_fits {α : Type} {C K : Nat} (hC : 2 ≤ C) (hK : C * 128 = K) (f : Fin C → ((⟨2, ![128, 128]⟩ : Shape).Idx → α)) :
    Shape.Concatenates ((List.ofFn fun c : Fin C => (⟨⟨2, ![128, 128]⟩, f c⟩ : (s : Shape) × (s.Idx → α))).map (·.1)) ⟨2, ![128, K]⟩ 1 := by
  rw [List.map_ofFn]
  refine ⟨by simpa using hC, fun s hs => ?_, ?_⟩
  · obtain ⟨c, rfl⟩ := List.mem_ofFn.1 hs
    exact ⟨rfl, fun b hb => by fin_cases b; rfl; exact absurd rfl hb⟩
  · rw [List.map_ofFn]
    simp [Function.comp_def, List.sum_ofFn, hK]

/-- Rows of height 128 one under the other make a matrix of the height of all of them. -/
theorem rows_fit {α : Type} {R N K : Nat} (hR : 2 ≤ R) (hN : R * 128 = N) (f : Fin R → ((⟨2, ![128, K]⟩ : Shape).Idx → α)) :
    Shape.Concatenates ((List.ofFn fun r : Fin R => (⟨⟨2, ![128, K]⟩, f r⟩ : (s : Shape) × (s.Idx → α))).map (·.1)) ⟨2, ![N, K]⟩ 0 := by
  rw [List.map_ofFn]
  refine ⟨by simpa using hR, fun s hs => ?_, ?_⟩
  · obtain ⟨c, rfl⟩ := List.mem_ofFn.1 hs
    exact ⟨rfl, fun b hb => by fin_cases b; exact absurd rfl hb; rfl⟩
  · rw [List.map_ofFn]
    simp [Function.comp_def, List.sum_ofFn, hN]

/-- Blocks of 128 x 128, `C` of them side by side in each of `R` rows, the rows one under the other. -/
def tiles {α : Type} {R C N K : Nat} (hR : 2 ≤ R) (hC : 2 ≤ C) (hN : R * 128 = N) (hK : C * 128 = K)
    (f : Fin R → Fin C → ((⟨2, ![128, 128]⟩ : Shape).Idx → α)) : (⟨2, ![N, K]⟩ : Shape).Idx → α :=
  concatenate ⟨2, ![N, K]⟩ 0 (List.ofFn fun r : Fin R => (⟨⟨2, ![128, K]⟩, concatenate ⟨2, ![128, K]⟩ 1
    (List.ofFn fun c : Fin C => (⟨⟨2, ![128, 128]⟩, f r c⟩ : (s : Shape) × (s.Idx → α))) (row_fits hC hK (f r))⟩ : (s : Shape) × (s.Idx → α)))
    (rows_fit hR hN _)

/-- They are read at `(k, n)` by reading the block `(k / 128, n / 128)` at `(k % 128, n % 128)`. -/
theorem tiles_apply {α : Type} {R C N K : Nat} (hR : 2 ≤ R) (hC : 2 ≤ C) (hN : R * 128 = N) (hK : C * 128 = K)
    (f : Fin R → Fin C → ((⟨2, ![128, 128]⟩ : Shape).Idx → α)) (k : Fin N) (n : Fin K) (r : Fin R) (c : Fin C)
    (hr : k.val / 128 = r.val) (hc : n.val / 128 = c.val) :
    tiles hR hC hN hK f (ix2 k n)
      = f r c (ix2 ⟨k.val % 128, Nat.mod_lt _ (by decide)⟩ ⟨n.val % 128, Nat.mod_lt _ (by decide)⟩) := by
  unfold tiles
  rw [concatenate_ofFn_apply (s₁ := ⟨2, ![128, K]⟩) (t := ⟨2, ![N, K]⟩) 0 _ (rows_fit hR hN _) rfl 128 rfl (ix2 k n) r hr
    (ix2 ⟨k.val % 128, Nat.mod_lt _ (by decide)⟩ n) rfl (fun b hb => by fin_cases b; exact absurd rfl hb; rfl)]
  rw [concatenate_ofFn_apply (s₁ := ⟨2, ![128, 128]⟩) (t := ⟨2, ![128, K]⟩) 1 _ (row_fits hC hK (f r)) rfl 128 rfl _ c hc
    (ix2 ⟨k.val % 128, Nat.mod_lt _ (by decide)⟩ ⟨n.val % 128, Nat.mod_lt _ (by decide)⟩) rfl (fun b hb => by fin_cases b; rfl; exact absurd rfl hb)]

/-- A block of 128 x 128 loaded from a `[1, K, N]` array and read at `(p, q)`. -/
theorem codes_apply {α : Type} {K N : Nat} (x : (⟨3, ![1, K, N]⟩ : Shape).Idx → α) (off : Fin 3 → Nat)
    (inb : ∀ a, off a + (![1, 128, 128] : Fin 3 → Nat) a ≤ (⟨3, ![1, K, N]⟩ : Shape).size a)
    (h : (⟨3, ![1, 128, 128]⟩ : Shape).ShapeCasts ⟨2, ![128, 128]⟩) (p q : Fin 128) (k : Fin K) (n : Fin N)
    (h0 : off 0 = 0) (hk : k.val = off 1 + p.val) (hn : n.val = off 2 + q.val) :
    shapeCast ⟨2, ![128, 128]⟩ (fun y => x ((Rect.unit (s := ⟨3, ![1, K, N]⟩) off ![1, 128, 128] inb).idx y)) h (ix2 p q) = x (ix3 0 k n) := by
  rw [shapeCast_dropUnit_apply]
  refine congrArg x (funext fun a => Fin.ext ?_)
  fin_cases a
  · show off 0 + 1 * 0 = 0; omega
  · show off 1 + 1 * p.val = k.val; omega
  · show off 2 + 1 * q.val = n.val; omega

/-- One element loaded from a `[1, A, B]` array. -/
theorem scale_apply {α : Type} {A B : Nat} (x : (⟨3, ![1, A, B]⟩ : Shape).Idx → α) (off : Fin 3 → Nat)
    (inb : ∀ a, off a + (![1, 1, 1] : Fin 3 → Nat) a ≤ (⟨3, ![1, A, B]⟩ : Shape).size a)
    (j : (⟨3, ![1, 1, 1]⟩ : Shape).Idx) (a : Fin A) (b : Fin B) (h0 : off 0 = 0) (ha : a.val = off 1) (hb : b.val = off 2) :
    x ((Rect.unit (s := ⟨3, ![1, A, B]⟩) off ![1, 1, 1] inb).idx j) = x (ix3 0 a b) := by
  refine congrArg x (funext fun d => Fin.ext ?_)
  have h : ∀ d, (j d).val = 0 := fun d => by
    have := (j d).isLt
    fin_cases d <;> exact Nat.lt_one_iff.1 this
  fin_cases d
  · show off 0 + 1 * (j 0).val = 0; rw [h 0, h0]
  · show off 1 + 1 * (j 1).val = a.val; rw [h 1, ha]; omega
  · show off 2 + 1 * (j 2).val = b.val; rw [h 2, hb]; omega

/-- A sum over `S` stretches of `K` terms each, stretch by stretch. -/
theorem sum_stretches {M : Type} [AddCommMonoid M] (S K : Nat) (f : Fin (S * K) → M) :
    ∑ k, f k = ∑ s : Fin S, ∑ k : Fin K, f ⟨s.val * K + k.val, by
      have := s.isLt; have := k.isLt
      calc s.val * K + k.val < s.val * K + K := by omega
        _ = (s.val + 1) * K := by ring
        _ ≤ S * K := Nat.mul_le_mul_right _ s.isLt⟩ := by
  rw [← Equiv.sum_comp finProdFinEquiv f, Fintype.sum_prod_type]
  refine Finset.sum_congr rfl fun s _ => Finset.sum_congr rfl fun k _ => congrArg f (Fin.ext ?_)
  simp [finProdFinEquiv, Nat.mul_comm, Nat.add_comm]

end Cert.Widen

end
-- ==== Proof.Logits.Point.lean ====
/-
  What one grid point of the head's logits leaves in its blocks and in the rows it carries: the widened weight tile as a
  matrix of blocks, and four stretches of 320 rows, each with its product and its step of the running maximum, sum and
  picked logit.
-/
module

public import proofs.«01_k».proof.Proof.Widen
public import proofs.«01_k».proof.Proof.Gen.LogitsIdeal.Value
public import Idealize.ShloMosaic.Lib.Tactic

@[expose] public section

noncomputable section

namespace Cert.LogitsIdeal.Value

open Cert.LogitsIdeal Cert.LogitsIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- Block `(r, c)` of the tile's codes lies inside the tile. -/
theorem codes_inb (r : Fin 40) (c : Fin 4) : ∀ a, (![128 * r.val, 128 * c.val] : Fin 2 → Nat) a + S128x128.size a ≤ S5120x512.size a := by
  have := r.isLt; have := c.isLt
  intro a; fin_cases a <;> simp <;> omega

/-- Where the scale of block `(r, c)` lies in the array of scales. -/
def scaleAt (i : grid0.Coords) (r : Fin 40) (c : Fin 4) : Fin 2 → Nat :=
  ![r.val, k0_off1 i (BitVec.ofNat 32 c.val) 1]

/-- As a number: the row of blocks, and four columns of blocks a tile. -/
theorem scaleAt_eq (i : grid0.Coords) (r : Fin 40) (c : Fin 4) : scaleAt i r c = ![r.val, 4 * (i 1).val + c.val] := by
  unfold scaleAt
  rw [k0_off1_eq i c]; rfl

/-- It lies inside that array. -/
theorem scaleAt_inb (i : grid0.Coords) (r : Fin 40) (c : Fin 4) : ∀ a, scaleAt i r c a + S1x1.size a ≤ S40x256.size a := by
  have := r.isLt; have := c.isLt
  have h : (i 1).val < 64 := (i 1).isLt
  rw [scaleAt_eq]
  intro a; fin_cases a <;> simp <;> omega

/-- Block `(r, c)` of the tile's weight: its codes times its scale. -/
def piece (i : grid0.Coords) (x0 : Vec F S40x256 .f32) (x2 : Vec F S5120x512 .fp8e4m3) (r : Fin 40) (c : Fin 4) : FVec F S128x128 .bf16 :=
  mulf (extf .bf16 (View.ld x2 (Rect.unit (s := S5120x512) ![128 * r.val, 128 * c.val] S128x128.size (codes_inb r c)) : FVec F S128x128 .fp8e4m3) bitsLt_fp8e4m3_bf16)
    (truncf .bf16 (broadcast S128x128 (View.ld x0 (Rect.unit (s := S40x256) (scaleAt i r c) S1x1.size (scaleAt_inb i r c)) (Shape.Idx.first (show 0 < S1x1.numel by decide))) : FVec F S128x128 .f32) bitsLt_bf16_f32)

/-- The tile's widened weight: 40 rows of 4 blocks. -/
def wide (i : grid0.Coords) (x0 : Vec F S40x256 .f32) (x2 : Vec F S5120x512 .fp8e4m3) : FVec F S5120x512 .bf16 :=
  Widen.tiles (R := 40) (C := 4) (by decide) (by decide) rfl rfl (piece i x0 x2)

/-- Rows `320 r` up to `320 r + 319` of `n` columns. -/
abbrev rows (n : Nat) (r : Fin 4) : Rect ⟨2, ![1280, n]⟩ :=
  Rect.unit (s := ⟨2, ![1280, n]⟩) ![320 * r.val, 0] ![320, n] (by
    have := r.isLt
    intro a; fin_cases a <;> simp; omega)

/-- Four stores, one for each stretch of 320 rows, the last one first. -/
abbrev stores {n : Nat} {e : EltTy} (f : Fin 4 → (⟨2, ![320, n]⟩ : Shape).Idx → Elt F e) : List (View.Piece (Elt F) ⟨2, ![1280, n]⟩ e) :=
  [⟨rows n 3, f 3⟩, ⟨rows n 2, f 2⟩, ⟨rows n 1, f 1⟩, ⟨rows n 0, f 0⟩]

/-- A stretch's product with the tile. -/
def prod (w : FVec F S5120x512 .bf16) (x1 : Vec F S1280x5120 .bf16) (r : Fin 4) : FVec F S320x512 .f32 :=
  k0_pay135 w (View.ld x1 (rows 5120 r))

/-- A stretch's step of the running maximum, lane by lane. -/
def maxStep (y : FVec F S320x512 .f32) (m : Vec F S320x128 .f32) : FVec F S320x128 .f32 := k0_pay132 (k0_pay129 y m)

/-- Its step of the running sum of exponentials. -/
def sumStep (y : FVec F S320x512 .f32) (m l : Vec F S320x128 .f32) : FVec F S320x128 .f32 := k0_pay133 (k0_pay131 y m l)

/-- Its step of the picked logit. -/
def pickStep (i : grid0.Coords) (y : FVec F S320x512 .f32) (p : Vec F S320x128 .f32) (rel : Vec F S320x128 .i32) : FVec F S320x128 .f32 :=
  k0_pay134 (k0_pay128 y) rel (k0_pay130 (BitVec.ofNat 32 (i 1).val) y p rel) (Scalar.addi (Scalar.muli (BitVec.ofNat 32 (i 1).val) 512#32) 384#32)

/-- The tile's products: four stretches of rows. -/
def block (w : FVec F S5120x512 .bf16) (x1 : Vec F S1280x5120 .bf16) : Vec F S1280x512 .f32 := View.canon (stores (prod w x1))

/-- The running maxima after a point. -/
def maxima (w : FVec F S5120x512 .bf16) (x1 : Vec F S1280x5120 .bf16) (m : Vec F S1280x128 .f32) : Vec F S1280x128 .f32 :=
  View.canon (stores fun r => maxStep (prod w x1 r) (View.ld m (rows 128 r)))

/-- The running sums after a point. -/
def sums (w : FVec F S5120x512 .bf16) (x1 : Vec F S1280x5120 .bf16) (m l : Vec F S1280x128 .f32) : Vec F S1280x128 .f32 :=
  View.canon (stores fun r => sumStep (prod w x1 r) (View.ld m (rows 128 r)) (View.ld l (rows 128 r)))

/-- The picked logits after a point. -/
def picks (i : grid0.Coords) (w : FVec F S5120x512 .bf16) (x1 : Vec F S1280x5120 .bf16) (p : Vec F S1280x128 .f32) (rel : Vec F S1280x128 .i32) : Vec F S1280x128 .f32 :=
  View.canon (stores fun r => pickStep i (prod w x1 r) (View.ld p (rows 128 r)) (View.ld rel (rows 128 r)))

/-- Column `k` of the rows' four numbers. -/
abbrev column (k : Fin 4) : Rect S1280x4 :=
  Rect.unit (s := S1280x4) ![0, k.val] S1280x1.size (by
    have := k.isLt
    intro a; fin_cases a <;> simp <;> omega)

/-- The statistics of the rows, from the three arrays carried over the columns and the rows' numbers. -/
def stats (m l p : Vec F S1280x128 .f32) (x3 : Vec F S1280x4 .f32) : FVec F S1280x4 .f32 :=
  k0_pay4 m l (View.ld x3 (column 2)) (View.ld x3 (column 1)) p

/-- Where a row's label lies, counted from each lane. -/
def relative (x3 : Vec F S1280x4 .f32) : IVec S1280x128 32 := k0_pay8 (View.ld x3 (column 0))

/-- An index of a buffer of 1280 rows that four stretches of 320 rows fill is the place `p % 320` of stretch `p / 320`. -/
theorem stores_apply {n : Nat} {e : EltTy} (f : Fin 4 → (⟨2, ![320, n]⟩ : Shape).Idx → Elt F e) (L : List (View.Piece (Elt F) ⟨2, ![1280, n]⟩ e))
    (p : Fin 1280) (l : Fin n) (r : Fin 4) (q : Fin 320) (h : p.val = 320 * r.val + q.val) :
    View.canon (stores f ++ L) (ix2 p l) = f r (ix2 q l) := by
  have hq := q.isLt
  have hit : ix2 p l = (rows n r).emb (ix2 q l) := by
    funext a
    refine Fin.ext ?_
    fin_cases a
    · show p.val = 320 * r.val + 1 * q.val; omega
    · show l.val = 0 + 1 * l.val; omega
  have miss : ∀ s : Fin 4, s ≠ r → ix2 p l ∉ (rows n s).set := by
    intro s hs hm
    have hm := (Rect.mem_set_unit.1 hm) 0
    have h1 : 320 * s.val ≤ p.val := hm.1
    have h2 : p.val < 320 * s.val + 320 := hm.2
    exact hs (Fin.ext (by omega))
  have key : ∀ s : Fin 4, ∀ M : List (View.Piece (Elt F) ⟨2, ![1280, n]⟩ e), (s ≠ r → View.canon M (ix2 p l) = f r (ix2 q l)) →
      View.canon (⟨rows n s, f s⟩ :: M) (ix2 p l) = f r (ix2 q l) := by
    intro s M hM
    by_cases hs : s = r
    · subst hs; rw [hit]; exact View.canon_cons_emb _ _ _ _
    · exact (View.canon_cons_of_not_mem (⟨rows n s, f s⟩ : View.Piece (Elt F) ⟨2, ![1280, n]⟩ e) M (miss s hs)).trans (hM hs)
  refine key 3 _ fun h3 => key 2 _ fun h2 => key 1 _ fun h1 => key 0 _ fun h0 => ?_
  exfalso
  have := r.isLt
  have h3 : r.val ≠ 3 := fun e => h3 (Fin.ext e.symm)
  have h2 : r.val ≠ 2 := fun e => h2 (Fin.ext e.symm)
  have h1 : r.val ≠ 1 := fun e => h1 (Fin.ext e.symm)
  have h0 : r.val ≠ 0 := fun e => h0 (Fin.ext e.symm)
  omega

/-- What the buffer held before does not matter. -/
theorem canon_stores_append {n : Nat} {e : EltTy} (f : Fin 4 → (⟨2, ![320, n]⟩ : Shape).Idx → Elt F e) (L : List (View.Piece (Elt F) ⟨2, ![1280, n]⟩ e)) :
    View.canon (stores f ++ L) = View.canon (stores f) := by
  funext j
  obtain ⟨p, l, rfl⟩ : ∃ (p : Fin 1280) (l : Fin n), j = ix2 p l := ⟨j 0, j 1, funext fun a => by fin_cases a <;> rfl⟩
  have hp := p.isLt
  have h : p.val = 320 * (p.val / 320) + p.val % 320 := (Nat.div_add_mod _ _).symm
  rw [stores_apply f L p l ⟨p.val / 320, by omega⟩ ⟨p.val % 320, Nat.mod_lt _ (by decide)⟩ h]
  exact (stores_apply f [] p l ⟨p.val / 320, by omega⟩ ⟨p.val % 320, Nat.mod_lt _ (by decide)⟩ h).symm

/-- A load of what earlier stores left, as a load of the array they make. -/
theorem readCov_ld {sp : Space} {S : Shape} {e : EltTy} (v : View sig .tc sp S e) (L : List (View.Piece (Elt F) S e)) (r : Rect S) :
    v.readCov L r.toLoadRect = View.ld (View.canon L) r := View.readCov_eq_canon' v L r.toLoadRect

/-- A load of a later stretch of rows does not see what was stored in an earlier one. -/
theorem ld_later {n : Nat} {e : EltTy} (a b : Nat) (ha : ∀ d, (![a, 0] : Fin 2 → Nat) d + (![320, n] : Fin 2 → Nat) d ≤ (⟨2, ![1280, n]⟩ : Shape).size d)
    (hb : ∀ d, (![b, 0] : Fin 2 → Nat) d + (![320, n] : Fin 2 → Nat) d ≤ (⟨2, ![1280, n]⟩ : Shape).size d)
    (w : (⟨2, ![320, n]⟩ : Shape).Idx → Elt F e) (L : List (View.Piece (Elt F) ⟨2, ![1280, n]⟩ e)) (h : a + 320 ≤ b) :
    View.ld (View.canon (⟨Rect.unit (s := ⟨2, ![1280, n]⟩) ![a, 0] ![320, n] ha, w⟩ :: L)) (Rect.unit (s := ⟨2, ![1280, n]⟩) ![b, 0] ![320, n] hb)
      = View.ld (View.canon L) (Rect.unit (s := ⟨2, ![1280, n]⟩) ![b, 0] ![320, n] hb) := by
  funext j
  refine View.canon_cons_of_not_mem _ _ fun hm => ?_
  have hm : b + 1 * (j 0).val < a + 320 := ((Rect.mem_set_unit (inb := ha)).1 hm 0).2
  omega

section
variable (c : Dev nD) (i : grid0.Coords) (arg2 : Memref sig .tc .smem S40x256 .f32) (harg2 : arg2.IsWhole) (arg3 : Memref sig .tc .vmem S1280x5120 .bf16) (harg3 : arg3.IsWhole) (arg4 : Memref sig .tc .vmem S5120x512 .fp8e4m3) (harg4 : arg4.IsWhole) (arg5 : Memref sig .tc .vmem S1280x4 .f32) (harg5 : arg5.IsWhole) (arg6 : Memref sig .tc .vmem S1280x512 .f32) (harg6 : arg6.IsWhole) (arg7 : Memref sig .tc .vmem S1280x4 .f32) (harg7 : arg7.IsWhole)
  (arg8 : Memref sig .tc .vmem S1280x128 .f32) (harg8 : arg8.IsWhole) (arg9 : Memref sig .tc .vmem S1280x128 .f32) (harg9 : arg9.IsWhole) (arg10 : Memref sig .tc .vmem S1280x128 .f32) (harg10 : arg10.IsWhole) (arg11 : Memref sig .tc .vmem S1280x128 .i32) (harg11 : arg11.IsWhole)
  (x0 : Vec F S40x256 .f32) (x1 : Vec F S1280x5120 .bf16) (x2 : Vec F S5120x512 .fp8e4m3) (x3 : Vec F S1280x4 .f32) (xs0 : Vec F S1280x128 .f32) (xs1 : Vec F S1280x128 .f32) (xs2 : Vec F S1280x128 .f32) (xs3 : Vec F S1280x128 .i32)

set_option maxRecDepth 65536 in
/-- A middle point stores its four products. -/
theorem out_B_4 (hc0 : ¬cond0_0 i) (hc1 : ¬cond0_1 i) :
    out0_B_4 c i arg2 harg2 arg3 harg3 arg4 harg4 arg5 harg5 arg6 harg6 arg7 harg7 arg8 harg8 arg9 harg9 arg10 harg10 arg11 harg11 hc0 hc1 x0 x1 x2 x3 xs0 xs1 xs2 xs3
      = block (wide i x0 x2) x1 := by
  unfold out0_B_4
  rw [View.read_writes_junk_eq_canon]
  unfold kernelRun0_B
  dsimp only
  sl_unfold_words
  simp only [View.readAt_eq_ld, harg2.read_unread, harg3.read_unread, harg4.read_unread, harg5.read_unread, harg6.read_unread, harg8.read_unread, harg9.read_unread, harg10.read_unread, harg11.read_unread]
  sl_kernel_rfl

set_option maxRecDepth 65536 in
/-- A middle point's running maxima. -/
theorem sout_B_0 (hc0 : ¬cond0_0 i) (hc1 : ¬cond0_1 i) :
    sout0_B_0 c i arg2 harg2 arg3 harg3 arg4 harg4 arg5 harg5 arg6 harg6 arg7 harg7 arg8 harg8 arg9 harg9 arg10 harg10 arg11 harg11 hc0 hc1 x0 x1 x2 x3 xs0 xs1 xs2 xs3
      = maxima (wide i x0 x2) x1 xs0 := by
  unfold sout0_B_0
  rw [View.read_writes_junk_eq_canon]
  unfold kernelRun0_B
  dsimp only
  sl_unfold_words
  simp only [View.readAt_eq_ld, harg2.read_unread, harg3.read_unread, harg4.read_unread, harg5.read_unread, harg6.read_unread, harg8.read_unread, harg9.read_unread, harg10.read_unread, harg11.read_unread]
  sl_kernel_rfl

set_option maxRecDepth 65536 in
/-- A middle point's running sums. -/
theorem sout_B_1 (hc0 : ¬cond0_0 i) (hc1 : ¬cond0_1 i) :
    sout0_B_1 c i arg2 harg2 arg3 harg3 arg4 harg4 arg5 harg5 arg6 harg6 arg7 harg7 arg8 harg8 arg9 harg9 arg10 harg10 arg11 harg11 hc0 hc1 x0 x1 x2 x3 xs0 xs1 xs2 xs3
      = sums (wide i x0 x2) x1 xs0 xs1 := by
  unfold sout0_B_1
  rw [View.read_writes_junk_eq_canon]
  unfold kernelRun0_B
  dsimp only
  sl_unfold_words
  simp only [View.readAt_eq_ld, harg2.read_unread, harg3.read_unread, harg4.read_unread, harg5.read_unread, harg6.read_unread, harg8.read_unread, harg9.read_unread, harg10.read_unread, harg11.read_unread]
  sl_kernel_rfl

set_option maxRecDepth 65536 in
/-- A middle point's picked logits. -/
theorem sout_B_2 (hc0 : ¬cond0_0 i) (hc1 : ¬cond0_1 i) :
    sout0_B_2 c i arg2 harg2 arg3 harg3 arg4 harg4 arg5 harg5 arg6 harg6 arg7 harg7 arg8 harg8 arg9 harg9 arg10 harg10 arg11 harg11 hc0 hc1 x0 x1 x2 x3 xs0 xs1 xs2 xs3
      = picks i (wide i x0 x2) x1 xs2 xs3 := by
  unfold sout0_B_2
  rw [View.read_writes_junk_eq_canon]
  unfold kernelRun0_B
  dsimp only
  sl_unfold_words
  simp only [View.readAt_eq_ld, harg2.read_unread, harg3.read_unread, harg4.read_unread, harg5.read_unread, harg6.read_unread, harg8.read_unread, harg9.read_unread, harg10.read_unread, harg11.read_unread]
  sl_kernel_rfl

set_option maxRecDepth 65536 in
/-- The last point of a row block stores its four products. -/
theorem out_C_4 (hc0 : ¬cond0_0 i) (hc1 : cond0_1 i) :
    out0_C_4 c i arg2 harg2 arg3 harg3 arg4 harg4 arg5 harg5 arg6 harg6 arg7 harg7 arg8 harg8 arg9 harg9 arg10 harg10 arg11 harg11 hc0 hc1 x0 x1 x2 x3 xs0 xs1 xs2 xs3
      = block (wide i x0 x2) x1 := by
  unfold out0_C_4
  rw [View.read_writes_junk_eq_canon]
  unfold kernelRun0_C
  dsimp only
  sl_unfold_words
  simp only [View.readAt_eq_ld, harg2.read_unread, harg3.read_unread, harg4.read_unread, harg5.read_unread, harg6.read_unread, harg8.read_unread, harg9.read_unread, harg10.read_unread, harg11.read_unread]
  sl_kernel_rfl

set_option maxRecDepth 65536 in
/-- The last point of a row block also leaves the statistics of its rows. -/
theorem out_C_5 (hc0 : ¬cond0_0 i) (hc1 : cond0_1 i) :
    out0_C_5 c i arg2 harg2 arg3 harg3 arg4 harg4 arg5 harg5 arg6 harg6 arg7 harg7 arg8 harg8 arg9 harg9 arg10 harg10 arg11 harg11 hc0 hc1 x0 x1 x2 x3 xs0 xs1 xs2 xs3
      = stats (maxima (wide i x0 x2) x1 xs0) (sums (wide i x0 x2) x1 xs0 xs1) (picks i (wide i x0 x2) x1 xs2 xs3) x3 := by
  unfold out0_C_5
  rw [View.read_writes_junk_eq_canon]
  unfold kernelRun0_C
  dsimp only
  sl_unfold_words
  rw [View.canon_unit_zero hz]
  simp only [readCov_ld, View.ld_unit_zero (S := S1280x128) hz, View.readAt_eq_ld, harg2.read_unread, harg3.read_unread, harg4.read_unread, harg5.read_unread, harg6.read_unread, harg8.read_unread, harg9.read_unread, harg10.read_unread, harg11.read_unread]
  sl_kernel_rfl

set_option maxRecDepth 65536 in
/-- The first point of a row block stores its four products. -/
theorem out_A_4 (hc0 : cond0_0 i) (hc1 : ¬cond0_1 i) :
    out0_A_4 c i arg2 harg2 arg3 harg3 arg4 harg4 arg5 harg5 arg6 harg6 arg7 harg7 arg8 harg8 arg9 harg9 arg10 harg10 arg11 harg11 hc0 hc1 x0 x1 x2 x3
      = block (wide i x0 x2) x1 := by
  unfold out0_A_4
  rw [View.read_writes_junk_eq_canon]
  unfold kernelRun0_A
  dsimp only
  sl_unfold_words
  simp only [View.readAt_eq_ld, harg2.read_unread, harg3.read_unread, harg4.read_unread, harg5.read_unread, harg6.read_unread, harg8.read_unread, harg9.read_unread, harg10.read_unread, harg11.read_unread]
  sl_kernel_rfl

set_option maxRecDepth 65536 in
/-- The first point of a row block starts the running maxima at minus infinity … -/
theorem sout_A_0 (hc0 : cond0_0 i) (hc1 : ¬cond0_1 i) :
    sout0_A_0 c i arg2 harg2 arg3 harg3 arg4 harg4 arg5 harg5 arg6 harg6 arg7 harg7 arg8 harg8 arg9 harg9 arg10 harg10 arg11 harg11 hc0 hc1 x0 x1 x2 x3
      = maxima (wide i x0 x2) x1 k0_pay5 := by
  unfold maxima
  rw [← canon_stores_append _ [⟨Rect.unit (s := S1280x128) ![0, 0] S1280x128.size (by intro a; fin_cases a <;> simp), k0_pay5⟩]]
  unfold sout0_A_0
  rw [View.read_writes_junk_eq_canon]
  unfold kernelRun0_A
  dsimp only
  sl_unfold_words
  simp only [readCov_ld, ld_later, Nat.reduceAdd, Nat.reduceLeDiff, View.canon_unit_zero (S := S1280x128) hz, View.readAt_eq_ld, harg2.read_unread, harg3.read_unread, harg4.read_unread, harg5.read_unread, harg6.read_unread, harg8.read_unread, harg9.read_unread, harg10.read_unread, harg11.read_unread]
  sl_kernel_rfl

set_option maxRecDepth 65536 in
/-- … the running sums at zero … -/
theorem sout_A_1 (hc0 : cond0_0 i) (hc1 : ¬cond0_1 i) :
    sout0_A_1 c i arg2 harg2 arg3 harg3 arg4 harg4 arg5 harg5 arg6 harg6 arg7 harg7 arg8 harg8 arg9 harg9 arg10 harg10 arg11 harg11 hc0 hc1 x0 x1 x2 x3
      = sums (wide i x0 x2) x1 k0_pay5 k0_pay6 := by
  unfold sums
  rw [← canon_stores_append _ [⟨Rect.unit (s := S1280x128) ![0, 0] S1280x128.size (by intro a; fin_cases a <;> simp), k0_pay6⟩]]
  unfold sout0_A_1
  rw [View.read_writes_junk_eq_canon]
  unfold kernelRun0_A
  dsimp only
  sl_unfold_words
  simp only [readCov_ld, ld_later, Nat.reduceAdd, Nat.reduceLeDiff, View.canon_unit_zero (S := S1280x128) hz, View.readAt_eq_ld, harg2.read_unread, harg3.read_unread, harg4.read_unread, harg5.read_unread, harg6.read_unread, harg8.read_unread, harg9.read_unread, harg10.read_unread, harg11.read_unread]
  sl_kernel_rfl

set_option maxRecDepth 65536 in
/-- … the picked logits at zero … -/
theorem sout_A_2 (hc0 : cond0_0 i) (hc1 : ¬cond0_1 i) :
    sout0_A_2 c i arg2 harg2 arg3 harg3 arg4 harg4 arg5 harg5 arg6 harg6 arg7 harg7 arg8 harg8 arg9 harg9 arg10 harg10 arg11 harg11 hc0 hc1 x0 x1 x2 x3
      = picks i (wide i x0 x2) x1 k0_pay7 (relative x3) := by
  unfold picks
  rw [← canon_stores_append _ [⟨Rect.unit (s := S1280x128) ![0, 0] S1280x128.size (by intro a; fin_cases a <;> simp), k0_pay7⟩]]
  unfold sout0_A_2
  rw [View.read_writes_junk_eq_canon]
  unfold kernelRun0_A
  dsimp only
  sl_unfold_words
  simp only [readCov_ld, ld_later, Nat.reduceAdd, Nat.reduceLeDiff, View.canon_unit_zero (S := S1280x128) hz, View.readAt_eq_ld, harg2.read_unread, harg3.read_unread, harg4.read_unread, harg5.read_unread, harg6.read_unread, harg8.read_unread, harg9.read_unread, harg10.read_unread, harg11.read_unread]
  sl_kernel_rfl

set_option maxRecDepth 65536 in
/-- … and where the labels lie. -/
theorem sout_A_3 (hc0 : cond0_0 i) (hc1 : ¬cond0_1 i) :
    sout0_A_3 c i arg2 harg2 arg3 harg3 arg4 harg4 arg5 harg5 arg6 harg6 arg7 harg7 arg8 harg8 arg9 harg9 arg10 harg10 arg11 harg11 hc0 hc1 x0 x1 x2 x3
      = relative x3 := by
  unfold sout0_A_3
  rw [View.read_writes_junk_eq_canon]
  unfold kernelRun0_A
  dsimp only
  sl_unfold_words
  rw [View.canon_unit_zero hz]
  simp only [readCov_ld, ld_later, Nat.reduceAdd, Nat.reduceLeDiff, View.canon_unit_zero (S := S1280x128) hz, View.readAt_eq_ld, harg2.read_unread, harg3.read_unread, harg4.read_unread, harg5.read_unread, harg6.read_unread, harg8.read_unread, harg9.read_unread, harg10.read_unread, harg11.read_unread]
  sl_kernel_rfl
end

end Cert.LogitsIdeal.Value

end
-- ==== Proof.Logits.Block.lean ====
/-
  The same over the extended reals, read at an index: the products of a row with the tile's columns, and a point's step
  of the running maximum, sum and picked logit in a row and a lane.
-/
module

public import proofs.«01_k».proof.Proof.Logits.Point
public import Idealize.ShloMosaic.PureOps.Ideal
public import Idealize.ShloMosaic.Lib.Pointwise

@[expose] public section

noncomputable section

namespace Cert.LogitsIdeal.Value

open Cert.LogitsIdeal Cert.LogitsIdeal.Gen Idealize.ShloMosaic Idealize.ShloMosaic.TcCoe Idealize.SL.Sem

/-- Lane `l` of group `c` of a tile's columns. -/
def col (c : Fin 4) (l : Fin 128) : Fin 512 := ⟨128 * c.val + l.val, by have := c.isLt; have := l.isLt; omega⟩

/-- A row's product with a column of the tile. -/
def dot (w : FVec Ideal S5120x512 .bf16) (x1 : Vec Ideal S1280x5120 .bf16) (p : Fin 1280) (n : Fin 512) : EReal :=
  ∑ k : Fin 5120, (x1 (ix2 p k) : EReal) * (w (ix2 k n) : EReal)

/-- A block of the tile's widened weight at `(p, q)`: the code there times the block's scale. -/
theorem piece_apply (i : grid0.Coords) (x0 : Vec Ideal S40x256 .f32) (x2 : Vec Ideal S5120x512 .fp8e4m3) (r : Fin 40) (c : Fin 4) (p q : Fin 128)
    (k : Fin 5120) (n : Fin 512) (a : Fin 40) (b : Fin 256) (hk : k.val = 128 * r.val + p.val) (hn : n.val = 128 * c.val + q.val)
    (ha : a.val = r.val) (hb : b.val = 4 * (i 1).val + c.val) :
    piece (F := Ideal) i x0 x2 r c (ix2 p q) = (x2 (ix2 k n) : EReal) * (x0 (ix2 a b) : EReal) := by
  have ho := scaleAt_eq i r c
  unfold piece
  rw [mulf_apply, extf_apply, truncf_apply]
  refine congrArg₂ (fun u v : EReal => u * v) ?_ ?_
  · refine congrArg x2 (funext fun d => Fin.ext ?_)
    match d with
    | ⟨0, _⟩ => show 128 * r.val + 1 * p.val = k.val; omega
    | ⟨1, _⟩ => show 128 * c.val + 1 * q.val = n.val; omega
  · refine congrArg x0 (funext fun d => Fin.ext ?_)
    match d with
    | ⟨0, _⟩ => show scaleAt i r c 0 + 1 * 0 = a.val; rw [congrFun ho 0, ha]; rfl
    | ⟨1, _⟩ => show scaleAt i r c 1 + 1 * 0 = b.val; rw [congrFun ho 1, hb]; rfl

/-- The tile's widened weight at `(k, n)`: the code there times the scale of its 128 x 128 block. -/
theorem wide_apply (i : grid0.Coords) (x0 : Vec Ideal S40x256 .f32) (x2 : Vec Ideal S5120x512 .fp8e4m3) (k : Fin 5120) (n : Fin 512)
    (a : Fin 40) (b : Fin 256) (ha : a.val = k.val / 128) (hb : b.val = 4 * (i 1).val + n.val / 128) :
    wide (F := Ideal) i x0 x2 (ix2 k n) = (x2 (ix2 k n) : EReal) * (x0 (ix2 a b) : EReal) := by
  have hk := k.isLt; have hn := n.isLt
  have hr : k.val / 128 < 40 := by omega
  have hc : n.val / 128 < 4 := by omega
  unfold wide
  rw [Widen.tiles_apply (R := 40) (C := 4) (by decide) (by decide) rfl rfl _ k n ⟨k.val / 128, hr⟩ ⟨n.val / 128, hc⟩ rfl rfl]
  exact piece_apply i x0 x2 _ _ _ _ k n a b (Nat.div_add_mod _ _).symm (Nat.div_add_mod _ _).symm ha hb

theorem prod_step (w : FVec Ideal S5120x512 .bf16) (a : Vec Ideal S320x5120 .bf16) (q : Fin 320) (n : Fin 512) :
    k0_pay135 (F := Ideal) w a (ix2 q n) = ∑ k : Fin 5120, (a (ix2 q k) : EReal) * (w (ix2 k n) : EReal) := by
  pointwise [k0_pay135]

/-- A stretch of rows read at a row and a column. -/
theorem ld_rows {α : Type} {n : Nat} (x : (⟨2, ![1280, n]⟩ : Shape).Idx → α) (r : Fin 4) (q : Fin 320) (l : Fin n) (p : Fin 1280) (h : p.val = 320 * r.val + q.val) :
    x ((rows n r).idx (ix2 q l)) = x (ix2 p l) := by
  refine congrArg x (funext fun d => Fin.ext ?_)
  match d with
  | ⟨0, _⟩ => show 320 * r.val + 1 * q.val = p.val; omega
  | ⟨1, _⟩ => show 0 + 1 * l.val = l.val; omega

theorem prod_apply (w : FVec Ideal S5120x512 .bf16) (x1 : Vec Ideal S1280x5120 .bf16) (r : Fin 4) (q : Fin 320) (n : Fin 512) (p : Fin 1280)
    (h : p.val = 320 * r.val + q.val) : prod (F := Ideal) w x1 r (ix2 q n) = dot w x1 p n := by
  unfold prod dot
  rw [prod_step]
  exact Finset.sum_congr rfl fun k _ => congrArg (fun u : EReal => u * (w (ix2 k n) : EReal)) (ld_rows (α := EReal) x1 r q k p h)

theorem maxStep_apply (y : FVec Ideal S320x512 .f32) (m : Vec Ideal S320x128 .f32) (q : Fin 320) (l : Fin 128) :
    maxStep (F := Ideal) y m (ix2 q l)
      = max (max (max (max (m (ix2 q l) : EReal) (y (ix2 q (col 0 l)))) (y (ix2 q (col 1 l)))) (y (ix2 q (col 2 l)))) (y (ix2 q (col 3 l))) := by
  have h0 : col 0 l = ⟨l.val, by have := l.isLt; omega⟩ := Fin.ext (show 128 * 0 + l.val = l.val by omega)
  rw [h0]
  pointwise [maxStep, k0_pay132, k0_pay129, k0_pay125, k0_pay126, k0_pay127, k0_pay128]
  rfl

theorem sumStep_apply (y : FVec Ideal S320x512 .f32) (m l : Vec Ideal S320x128 .f32) (q : Fin 320) (d : Fin 128) :
    sumStep (F := Ideal) y m l (ix2 q d)
      = (l (ix2 q d) : EReal) * Ideal.exp (m (ix2 q d) - maxStep (F := Ideal) y m (ix2 q d))
        + Ideal.exp (y (ix2 q (col 0 d)) - maxStep (F := Ideal) y m (ix2 q d)) + Ideal.exp (y (ix2 q (col 1 d)) - maxStep (F := Ideal) y m (ix2 q d))
        + Ideal.exp (y (ix2 q (col 2 d)) - maxStep (F := Ideal) y m (ix2 q d)) + Ideal.exp (y (ix2 q (col 3 d)) - maxStep (F := Ideal) y m (ix2 q d)) := by
  have h0 : col 0 d = ⟨d.val, by have := d.isLt; omega⟩ := Fin.ext (show 128 * 0 + d.val = d.val by omega)
  rw [maxStep_apply, h0]
  pointwise [sumStep, k0_pay133, k0_pay131, k0_pay132, k0_pay129, k0_pay125, k0_pay126, k0_pay127, k0_pay128]
  rfl

theorem select_eq {α : Type} (a b : BitVec 32) (x y : α) : Scalar.select (IntOp.cmpi .eq a b) x y = if a = b then x else y := by
  unfold Scalar.select IntOp.cmpi
  by_cases h : a = b
  · simp [h]
  · rw [show (a == b) = false from beq_eq_false_iff_ne.2 h, if_neg h]
    rfl

/-- The word that group `c` of tile `j` is compared with. -/
abbrev groupWord (i : grid0.Coords) (c : Nat) : BitVec 32 := BitVec.ofNat 32 (i 1).val * 512#32 + BitVec.ofNat 32 c * 128#32

theorem pickStep_apply (i : grid0.Coords) (y : FVec Ideal S320x512 .f32) (p : Vec Ideal S320x128 .f32) (rel : Vec Ideal S320x128 .i32) (q : Fin 320) (d : Fin 128) :
    pickStep (F := Ideal) i y p rel (ix2 q d)
      = (if (rel (ix2 q d) : BitVec 32) = groupWord i 3 then (y (ix2 q (col 3 d)) : EReal) else if (rel (ix2 q d) : BitVec 32) = groupWord i 2 then y (ix2 q (col 2 d))
        else if (rel (ix2 q d) : BitVec 32) = groupWord i 1 then y (ix2 q (col 1 d)) else if (rel (ix2 q d) : BitVec 32) = groupWord i 0 then y (ix2 q (col 0 d)) else p (ix2 q d)) := by
  have h0 : col 0 d = ⟨d.val, by have := d.isLt; omega⟩ := Fin.ext (show 128 * 0 + d.val = d.val by omega)
  rw [h0]
  pointwise [pickStep, k0_pay134, k0_pay130, k0_pay125, k0_pay126, k0_pay127, k0_pay128]
  rw [select_eq, select_eq, select_eq, select_eq]
  rfl

/-- The tile's products. -/
theorem block_apply (w : FVec Ideal S5120x512 .bf16) (x1 : Vec Ideal S1280x5120 .bf16) (p : Fin 1280) (n : Fin 512) :
    block (F := Ideal) w x1 (ix2 p n) = dot w x1 p n := by
  have hp := p.isLt
  have h : p.val = 320 * (p.val / 320) + p.val % 320 := (Nat.div_add_mod _ _).symm
  unfold block
  refine (stores_apply (F := Ideal) (e := .f32) _ [] p n ⟨p.val / 320, by omega⟩ ⟨p.val % 320, Nat.mod_lt _ (by decide)⟩ h).trans ?_
  exact prod_apply w x1 _ _ n p h

theorem maxima_apply (w : FVec Ideal S5120x512 .bf16) (x1 : Vec Ideal S1280x5120 .bf16) (m : Vec Ideal S1280x128 .f32) (p : Fin 1280) (l : Fin 128) :
    maxima (F := Ideal) w x1 m (ix2 p l)
      = max (max (max (max (m (ix2 p l) : EReal) (dot w x1 p (col 0 l))) (dot w x1 p (col 1 l))) (dot w x1 p (col 2 l))) (dot w x1 p (col 3 l)) := by
  have hp := p.isLt
  have h : p.val = 320 * (p.val / 320) + p.val % 320 := (Nat.div_add_mod _ _).symm
  unfold maxima
  refine (stores_apply (F := Ideal) (e := .f32) (fun r => maxStep (prod w x1 r) (View.ld m (rows 128 r))) [] p l ⟨p.val / 320, by omega⟩ ⟨p.val % 320, Nat.mod_lt _ (by decide)⟩ h).trans ?_
  rw [maxStep_apply, prod_apply w x1 _ _ _ p h, prod_apply w x1 _ _ _ p h, prod_apply w x1 _ _ _ p h, prod_apply w x1 _ _ _ p h]
  rw [show View.ld m (rows 128 ⟨p.val / 320, by omega⟩) (ix2 ⟨p.val % 320, Nat.mod_lt _ (by decide)⟩ l) = m (ix2 p l) from ld_rows (α := EReal) m _ _ l p h]

theorem sums_apply (w : FVec Ideal S5120x512 .bf16) (x1 : Vec Ideal S1280x5120 .bf16) (m s : Vec Ideal S1280x128 .f32) (p : Fin 1280) (l : Fin 128) :
    sums (F := Ideal) w x1 m s (ix2 p l)
      = (s (ix2 p l) : EReal) * Ideal.exp (m (ix2 p l) - maxima (F := Ideal) w x1 m (ix2 p l))
        + Ideal.exp (dot w x1 p (col 0 l) - maxima (F := Ideal) w x1 m (ix2 p l)) + Ideal.exp (dot w x1 p (col 1 l) - maxima (F := Ideal) w x1 m (ix2 p l))
        + Ideal.exp (dot w x1 p (col 2 l) - maxima (F := Ideal) w x1 m (ix2 p l)) + Ideal.exp (dot w x1 p (col 3 l) - maxima (F := Ideal) w x1 m (ix2 p l)) := by
  have hp := p.isLt
  have h : p.val = 320 * (p.val / 320) + p.val % 320 := (Nat.div_add_mod _ _).symm
  unfold sums
  refine (stores_apply (F := Ideal) (e := .f32) (fun r => sumStep (prod w x1 r) (View.ld m (rows 128 r)) (View.ld s (rows 128 r))) [] p l ⟨p.val / 320, by omega⟩ ⟨p.val % 320, Nat.mod_lt _ (by decide)⟩ h).trans ?_
  rw [sumStep_apply, maxStep_apply, maxima_apply, prod_apply w x1 _ _ _ p h, prod_apply w x1 _ _ _ p h, prod_apply w x1 _ _ _ p h, prod_apply w x1 _ _ _ p h]
  rw [show View.ld m (rows 128 ⟨p.val / 320, by omega⟩) (ix2 ⟨p.val % 320, Nat.mod_lt _ (by decide)⟩ l) = m (ix2 p l) from ld_rows (α := EReal) m _ _ l p h,
    show View.ld s (rows 128 ⟨p.val / 320, by omega⟩) (ix2 ⟨p.val % 320, Nat.mod_lt _ (by decide)⟩ l) = s (ix2 p l) from ld_rows (α := EReal) s _ _ l p h]

theorem picks_apply (i : grid0.Coords) (w : FVec Ideal S5120x512 .bf16) (x1 : Vec Ideal S1280x5120 .bf16) (s : Vec Ideal S1280x128 .f32) (rel : Vec Ideal S1280x128 .i32)
    (p : Fin 1280) (l : Fin 128) :
    picks (F := Ideal) i w x1 s rel (ix2 p l)
      = (if (rel (ix2 p l) : BitVec 32) = groupWord i 3 then dot w x1 p (col 3 l) else if (rel (ix2 p l) : BitVec 32) = groupWord i 2 then dot w x1 p (col 2 l)
        else if (rel (ix2 p l) : BitVec 32) = groupWord i 1 then dot w x1 p (col 1 l) else if (rel (ix2 p l) : BitVec 32) = groupWord i 0 then dot w x1 p (col 0 l)
        else (s (ix2 p l) : EReal)) := by
  have hp := p.isLt
  have h : p.val = 320 * (p.val / 320) + p.val % 320 := (Nat.div_add_mod _ _).symm
  unfold picks
  refine (stores_apply (F := Ideal) (e := .f32) (fun r => pickStep i (prod w x1 r) (View.ld s (rows 128 r)) (View.ld rel (rows 128 r))) [] p l ⟨p.val / 320, by omega⟩ ⟨p.val % 320, Nat.mod_lt _ (by decide)⟩ h).trans ?_
  rw [pickStep_apply, prod_apply w x1 _ _ _ p h, prod_apply w x1 _ _ _ p h, prod_apply w x1 _ _ _ p h, prod_apply w x1 _ _ _ p h]
  rw [show View.ld s (rows 128 ⟨p.val / 320, by omega⟩) (ix2 ⟨p.val % 320, Nat.mod_lt _ (by decide)⟩ l) = s (ix2 p l) from ld_rows (α := EReal) s _ _ l p h,
    show View.ld rel (rows 128 ⟨p.val / 320, by omega⟩) (ix2 ⟨p.val % 320, Nat.mod_lt _ (by decide)⟩ l) = rel (ix2 p l) from ld_rows (α := BitVec 32) rel _ _ l p h]

/-- The logarithm of a row's sum of exponentials, from the lanes. -/
def lseOf (m l : Vec Ideal S1280x128 .f32) (q : Fin 1280) : EReal :=
  Finset.univ.sup (fun d : Fin 128 => (m (ix2 q d) : EReal))
    + Ideal.log (∑ d : Fin 128, (l (ix2 q d) : EReal) * Ideal.exp (m (ix2 q d) - Finset.univ.sup (fun d : Fin 128 => (m (ix2 q d) : EReal))))

/-- The same with another logarithm added. -/
def laeOf (x y : EReal) : EReal := max x y + Ideal.log (1 + Ideal.exp (min x y - max x y))

theorem negInf : Ideal.ofBits .f32 4286578688#32 = (⊥ : EReal) := by simp [Ideal.ofBits, Ideal.ieee]

theorem stats_0 (m l p : Vec Ideal S1280x128 .f32) (x3 : Vec Ideal S1280x4 .f32) (q : Fin 1280) :
    stats (F := Ideal) m l p x3 (ix2 q 0) = lseOf m l q - Ideal.ofBits .f32 1093032694#32 := by
  pointwise [stats, k0_pay4]
  rw [negInf]
  rfl

theorem stats_1 (m l p : Vec Ideal S1280x128 .f32) (x3 : Vec Ideal S1280x4 .f32) (q : Fin 1280) :
    stats (F := Ideal) m l p x3 (ix2 q 1) = laeOf (lseOf m l q) (x3 (ix2 q 2)) - Ideal.ofBits .f32 1093032694#32 := by
  pointwise [stats, k0_pay4]
  rw [negInf]
  rfl

theorem stats_2 (m l p : Vec Ideal S1280x128 .f32) (x3 : Vec Ideal S1280x4 .f32) (q : Fin 1280) :
    stats (F := Ideal) m l p x3 (ix2 q 2) = (x3 (ix2 q 1) : EReal) * ∑ d : Fin 128, (p (ix2 q d) : EReal) := by
  pointwise [stats, k0_pay4]

theorem stats_3 (m l p : Vec Ideal S1280x128 .f32) (x3 : Vec Ideal S1280x4 .f32) (q : Fin 1280) :
    stats (F := Ideal) m l p x3 (ix2 q 3) = laeOf (lseOf m l q) (x3 (ix2 q 2)) := by
  pointwise [stats, k0_pay4]
  rw [negInf]
  rfl

/-- Where the label lies from lane `d`. -/
theorem relative_apply (x3 : Vec Ideal S1280x4 .f32) (q : Fin 1280) (d : Fin 128) :
    (relative (F := Ideal) x3 (ix2 q d) : BitVec 32) = Ideal.fptosi 32 (x3 (ix2 q 0)) - BitVec.ofNat 32 d.val := by
  pointwise [relative, k0_pay8]
  rfl

end Cert.LogitsIdeal.Value

end
-- ==== Proof.Logits.Online.lean ====
/-
  A maximum, a sum of exponentials and a picked value that are carried along a sequence of extended reals: one step adds
  four terms, and the sum is rescaled whenever the maximum grows. The carried numbers are those of the whole sequence.
-/
module

public import proofs.«01_k».proof.Proof.Widen
public import Idealize.ShloMosaic.PureOps.Ideal

@[expose] public section

noncomputable section

namespace Cert.Online

open Idealize.ShloMosaic

theorem exp_nonneg (x : EReal) : 0 ≤ Ideal.exp x := by
  induction x using EReal.rec with
  | bot => exact le_refl 0
  | top => exact le_top
  | coe r => exact EReal.coe_nonneg.2 (Real.exp_pos r).le

/-- Rescaling: what lies `t - m` below `m` lies `t - n` below a greater `n`, infinities included. -/
theorem exp_mul (t m n : EReal) (h : t ≤ m) (h' : m ≤ n) : Ideal.exp (t - m) * Ideal.exp (m - n) = Ideal.exp (t - n) := by
  induction n using EReal.rec with
  | top =>
    have key : ∀ x : EReal, x - ⊤ = ⊥ := fun x => by rw [sub_eq_add_neg, EReal.neg_top, EReal.add_bot]
    rw [key, key]; exact mul_zero _
  | bot =>
    obtain rfl := le_bot_iff.1 h'
    obtain rfl := le_bot_iff.1 h
    have key : (⊥ : EReal) - ⊥ = ⊥ := by rw [sub_eq_add_neg, EReal.bot_add]
    rw [key]; exact mul_zero _
  | coe n =>
    induction m using EReal.rec with
    | top => exact absurd h' (not_le.2 (EReal.coe_lt_top n))
    | bot =>
      obtain rfl := le_bot_iff.1 h
      have key : ∀ x : EReal, ⊥ - x = ⊥ := fun x => by rw [sub_eq_add_neg, EReal.bot_add]
      rw [key, key]; exact mul_zero _
    | coe m =>
      induction t using EReal.rec with
      | top => exact absurd h (not_le.2 (EReal.coe_lt_top m))
      | bot =>
        have key : ∀ x : EReal, ⊥ - x = ⊥ := fun x => by rw [sub_eq_add_neg, EReal.bot_add]
        rw [key, key]; exact zero_mul _
      | coe t =>
        rw [← EReal.coe_sub, ← EReal.coe_sub, ← EReal.coe_sub]
        show ((Real.exp (t - m) : ℝ) : EReal) * ((Real.exp (m - n) : ℝ) : EReal) = ((Real.exp (t - n) : ℝ) : EReal)
        rw [← EReal.coe_mul, ← Real.exp_add, sub_add_sub_cancel]

/-- The sum of the exponentials of `t` below `m`, over the terms of `s`. -/
def mass {ι : Type} (s : Finset ι) (t : ι → EReal) (m : EReal) : EReal := ∑ u ∈ s, Ideal.exp (t u - m)

theorem mass_nonneg {ι : Type} (s : Finset ι) (t : ι → EReal) (m : EReal) : 0 ≤ mass s t m :=
  Finset.sum_nonneg fun _ _ => exp_nonneg _

/-- The whole sum rescales like one term. -/
theorem mass_mul {ι : Type} (s : Finset ι) (t : ι → EReal) (m n : EReal) (h : ∀ u ∈ s, t u ≤ m) (h' : m ≤ n) :
    mass s t m * Ideal.exp (m - n) = mass s t n := by
  classical
  induction s using Finset.induction_on with
  | empty => exact zero_mul _
  | insert a s ha ih =>
    have e : ∀ x, mass (insert a s) t x = Ideal.exp (t a - x) + mass s t x := fun x => Finset.sum_insert ha
    rw [e, e, EReal.right_distrib_of_nonneg (exp_nonneg _) (mass_nonneg _ _ _),
      exp_mul _ _ _ (h a (Finset.mem_insert_self a s)) h', ih fun u hu => h u (Finset.mem_insert_of_mem hu)]

/-- The greatest of the first `N` terms. -/
def top (t : ℕ → EReal) (N : ℕ) : EReal := (Finset.range N).sup t

theorem top_succ (t : ℕ → EReal) (N : ℕ) : top t (N + 1) = max (top t N) (t N) := by
  unfold top
  rw [Finset.range_add_one, Finset.sup_insert, max_comm]

/-- Four more terms. -/
theorem top_step (t : ℕ → EReal) (N : ℕ) :
    max (max (max (max (top t N) (t N)) (t (N + 1))) (t (N + 2))) (t (N + 3)) = top t (N + 4) := by
  rw [← top_succ, ← top_succ, ← top_succ, ← top_succ]

theorem le_top {t : ℕ → EReal} {N u : ℕ} (h : u < N) : t u ≤ top t N := Finset.le_sup (f := t) (Finset.mem_range.2 h)

theorem top_mono (t : ℕ → EReal) {M N : ℕ} (h : M ≤ N) : top t M ≤ top t N := Finset.sup_mono (Finset.range_mono h)

/-- Four more terms of the sum, the old ones rescaled. -/
theorem mass_step (t : ℕ → EReal) (N : ℕ) :
    mass (Finset.range N) t (top t N) * Ideal.exp (top t N - top t (N + 4)) + Ideal.exp (t N - top t (N + 4))
      + Ideal.exp (t (N + 1) - top t (N + 4)) + Ideal.exp (t (N + 2) - top t (N + 4)) + Ideal.exp (t (N + 3) - top t (N + 4))
      = mass (Finset.range (N + 4)) t (top t (N + 4)) := by
  rw [mass_mul _ _ _ _ (fun u hu => le_top (Finset.mem_range.1 hu)) (top_mono t (by omega))]
  unfold mass
  rw [Finset.sum_range_succ, Finset.sum_range_succ, Finset.sum_range_succ, Finset.sum_range_succ]

/-- The terms that are hit, among the first `N`. -/
def hits (hit : ℕ → Bool) (t : ℕ → EReal) (N : ℕ) : EReal := ∑ u ∈ Finset.range N, if hit u then t u else 0

/-- Where at most one term is hit, taking the term that is hit adds it. -/
theorem hits_succ (hit : ℕ → Bool) (t : ℕ → EReal) (N : ℕ) (h : ∀ u < N, hit u = true → hit N = true → False) :
    (if hit N then t N else hits hit t N) = hits hit t (N + 1) := by
  unfold hits
  rw [Finset.sum_range_succ]
  by_cases hN : hit N = true
  · rw [if_pos hN, if_pos hN, Finset.sum_eq_zero, zero_add]
    intro u hu
    exact if_neg fun hu' => h u (Finset.mem_range.1 hu) hu' hN
  · rw [if_neg hN, if_neg hN, add_zero]

theorem hits_step (hit : ℕ → Bool) (t : ℕ → EReal) (N : ℕ) (h : ∀ u v, u < v → v < N + 4 → hit u = true → hit v = true → False) :
    (if hit (N + 3) then t (N + 3) else if hit (N + 2) then t (N + 2) else if hit (N + 1) then t (N + 1) else if hit N then t N else hits hit t N)
      = hits hit t (N + 4) := by
  rw [hits_succ hit t N fun u hu => h u N hu (by omega), hits_succ hit t (N + 1) fun u hu => h u _ hu (by omega),
    hits_succ hit t (N + 2) fun u hu => h u _ hu (by omega), hits_succ hit t (N + 3) fun u hu => h u _ hu (by omega)]

/-- The logarithm of one and an exponential is a number or positive infinity. -/
theorem log_ne_bot (z : EReal) : Ideal.log (1 + Ideal.exp z) ≠ ⊥ := by
  have key : ∀ r : ℝ, 0 ≤ r → Ideal.log (1 + (r : EReal)) ≠ ⊥ := by
    intro r hr
    rw [← EReal.coe_one, ← EReal.coe_add]
    show (if 1 + r ≤ 0 then ⊥ else (Real.log (1 + r) : EReal)) ≠ ⊥
    rw [if_neg (by linarith)]
    exact EReal.coe_ne_bot _
  induction z using EReal.rec with
  | bot => exact key 0 le_rfl
  | top =>
    show Ideal.log (1 + ⊤) ≠ ⊥
    rw [EReal.add_top_of_ne_bot (by decide)]
    exact _root_.top_ne_bot
  | coe r => exact key _ (Real.exp_pos r).le

/-- The logarithm of a sum of two exponentials: above the greater of the two, written by the distance between them or by
    the way from the greater down to the lower. Infinities change nothing. -/
theorem logaddexp (x y : EReal) :
    max x y + Ideal.log (1 + Ideal.exp (min x y - max x y)) = max x y + Ideal.log (1 + Ideal.exp (0 - max (x - y) (-(x - y)))) := by
  have htop : ∀ z : EReal, (⊤ : EReal) + Ideal.log (1 + Ideal.exp z) = ⊤ := fun z => EReal.top_add_of_ne_bot (log_ne_bot z)
  have hbot : ∀ z : EReal, ⊥ - z = ⊥ := fun z => by rw [sub_eq_add_neg, EReal.bot_add]
  have htop' : (0 : EReal) - ⊤ = ⊥ := by rw [sub_eq_add_neg, EReal.neg_top, EReal.add_bot]
  induction x using EReal.rec with
  | top => rw [max_eq_left (show y ≤ ⊤ from _root_.le_top)]; simp only [htop]
  | bot =>
    rw [max_eq_right (show ⊥ ≤ y from bot_le), min_eq_left (show ⊥ ≤ y from bot_le), hbot, EReal.neg_bot,
      max_eq_right (show (⊥ : EReal) ≤ ⊤ from bot_le), htop']
  | coe x =>
    induction y using EReal.rec with
    | top => rw [max_eq_right (show (x : EReal) ≤ ⊤ from _root_.le_top)]; simp only [htop]
    | bot =>
      rw [max_eq_left (show ⊥ ≤ (x : EReal) from bot_le), min_eq_right (show ⊥ ≤ (x : EReal) from bot_le), hbot,
        sub_eq_add_neg (x : EReal) ⊥, EReal.neg_bot, EReal.coe_add_top, max_eq_left (show -⊤ ≤ (⊤ : EReal) from _root_.le_top), htop']
    | coe y =>
      have e : min (x : EReal) y - max (x : EReal) y = 0 - max ((x : EReal) - y) (-((x : EReal) - y)) := by
        rcases le_total x y with h | h
        · rw [min_eq_left (EReal.coe_le_coe_iff.2 h), max_eq_right (EReal.coe_le_coe_iff.2 h), ← EReal.coe_sub, ← EReal.coe_neg,
            max_eq_right (EReal.coe_le_coe_iff.2 (by linarith)), ← EReal.coe_zero, ← EReal.coe_sub]
          congr 1; ring
        · rw [min_eq_right (EReal.coe_le_coe_iff.2 h), max_eq_left (EReal.coe_le_coe_iff.2 h), ← EReal.coe_sub, ← EReal.coe_sub, ← EReal.coe_neg,
            max_eq_left (EReal.coe_le_coe_iff.2 (by linarith)), ← EReal.coe_zero, ← EReal.coe_sub]
          congr 1; ring
      rw [e]

/-- The term `128 u + l` of a sequence of 32768: lane `l` of its group `u`. -/
def lane (y : Fin 32768 → EReal) (l : Fin 128) (u : ℕ) : EReal := if h : 128 * u + l.val < 32768 then y ⟨128 * u + l.val, h⟩ else ⊥

theorem lane_eq (y : Fin 32768 → EReal) (l : Fin 128) (u : ℕ) (n : Fin 32768) (h : n.val = 128 * u + l.val) : lane y l u = y n := by
  unfold lane
  rw [dif_pos (by have := n.isLt; omega)]
  exact congrArg y (Fin.ext h.symm)

/-- A sum over the sequence, lane by lane. -/
theorem sum_lanes (f : Fin 32768 → EReal) : ∑ l : Fin 128, ∑ u ∈ Finset.range 256, lane f l u = ∑ n, f n := by
  have e : ∀ f : Fin (256 * 128) → EReal, ∑ n, f n = ∑ l : Fin 128, ∑ u : Fin 256, f ⟨u.val * 128 + l.val, by omega⟩ :=
    fun f => (Widen.sum_stretches 256 128 f).trans Finset.sum_comm
  refine Eq.trans ?_ (e f).symm
  refine Finset.sum_congr rfl fun l _ => ?_
  rw [Finset.sum_range]
  exact Finset.sum_congr rfl fun u _ => lane_eq f l u _ (by simp only; omega)

/-- The greatest term, lane by lane. -/
theorem sup_lanes (y : Fin 32768 → EReal) : Finset.univ.sup (fun l : Fin 128 => top (lane y l) 256) = Finset.univ.sup y := by
  refine le_antisymm (Finset.sup_le fun l _ => Finset.sup_le fun u hu => ?_) (Finset.sup_le fun n _ => ?_)
  · have := Finset.mem_range.1 hu
    rw [lane_eq y l u ⟨128 * u + l.val, by omega⟩ rfl]
    exact Finset.le_sup (f := y) (Finset.mem_univ _)
  · rw [← lane_eq y ⟨n.val % 128, Nat.mod_lt _ (by decide)⟩ (n.val / 128) n (by simp only; omega)]
    exact (le_top (t := lane y ⟨n.val % 128, Nat.mod_lt _ (by decide)⟩) (N := 256) (u := n.val / 128) (by omega)).trans
      (Finset.le_sup (f := fun l : Fin 128 => top (lane y l) 256) (Finset.mem_univ _))

/-- The lanes' sums, each rescaled to the greatest term of all, add up to the sum of the whole sequence. -/
theorem mass_lanes (y : Fin 32768 → EReal) :
    ∑ l : Fin 128, mass (Finset.range 256) (lane y l) (top (lane y l) 256) * Ideal.exp (top (lane y l) 256 - Finset.univ.sup y)
      = ∑ n, Ideal.exp (y n - Finset.univ.sup y) := by
  rw [← sum_lanes]
  refine Finset.sum_congr rfl fun l _ => ?_
  rw [mass_mul _ _ _ _ (fun u hu => le_top (Finset.mem_range.1 hu))
    (by rw [← sup_lanes]; exact Finset.le_sup (f := fun l : Fin 128 => top (lane y l) 256) (Finset.mem_univ l))]
  refine Finset.sum_congr rfl fun u hu => ?_
  have := Finset.mem_range.1 hu
  dsimp only
  rw [lane_eq y l u ⟨128 * u + l.val, by omega⟩ rfl, lane_eq _ l u ⟨128 * u + l.val, by omega⟩ rfl]

/-- Word `b` names term `128 u + l`. -/
def named (b : BitVec 32) (l : Fin 128) (u : ℕ) : Bool := b == BitVec.ofNat 32 (128 * u + l.val)

theorem named_once (b : BitVec 32) (l : Fin 128) (u v : ℕ) (h : u < v) (hv : v < 256) (hu : named b l u = true) (hv' : named b l v = true) : False := by
  have e := (eq_of_beq hu).symm.trans (eq_of_beq hv')
  have e := congrArg BitVec.toNat e
  rw [BitVec.toNat_ofNat, BitVec.toNat_ofNat, Nat.mod_eq_of_lt (by omega), Nat.mod_eq_of_lt (by omega)] at e
  omega

/-- What the lanes pick adds up to the term that the word names, or to nothing. -/
theorem hits_lanes (b : BitVec 32) (y : Fin 32768 → EReal) :
    ∑ l : Fin 128, hits (named b l) (lane y l) 256 = ∑ n : Fin 32768, if BitVec.ofNat 32 n.val = b then y n else 0 := by
  rw [← sum_lanes]
  refine Finset.sum_congr rfl fun l _ => Finset.sum_congr rfl fun u hu => ?_
  have := Finset.mem_range.1 hu
  rw [lane_eq y l u ⟨128 * u + l.val, by omega⟩ rfl, lane_eq _ l u ⟨128 * u + l.val, by omega⟩ rfl]
  unfold named
  by_cases h : b = BitVec.ofNat 32 (128 * u + l.val)
  · rw [if_pos (beq_iff_eq.2 h), if_pos h.symm]
  · rw [if_neg fun h' => h (beq_iff_eq.1 h'), if_neg fun h' => h h'.symm]

end Cert.Online

end
-- ==== Proof.Logits.Reference.lean ====
/-
  The head's logits and their statistics as mathematics, and the reference's arrays as that.
-/
module

public import proofs.«01_k».proof.Proof.Gen.LogitsRefIdeal.Value
public import Idealize.ShloMosaic.PureOps.Ideal
public import Idealize.ShloMosaic.Lib.Pointwise

@[expose] public section

noncomputable section

namespace Cert.Logits

open Cert.LogitsRefIdeal Cert.LogitsRefIdeal.Gen Idealize.ShloMosaic Idealize.ShloMosaic.TcCoe Idealize.SL.Sem

/-- The vocabulary shard's weight at `(k, n)`: its code times the scale of its 128 x 128 block. -/
def weight (scales : Vec Ideal S40x256 .f32) (codes : Vec Ideal S5120x32768 .fp8e4m3) (k : Fin 5120) (n : Fin 32768) : EReal :=
  (codes (ix2 k n) : EReal) * (scales (ix2 ⟨k.val / 128, by omega⟩ ⟨n.val / 128, by omega⟩) : EReal)

/-- The logit of row `p` for word `n` of the shard. -/
def logit (scales : Vec Ideal S40x256 .f32) (act : Vec Ideal S3840x5120 .bf16) (codes : Vec Ideal S5120x32768 .fp8e4m3)
    (p : Fin 3840) (n : Fin 32768) : EReal :=
  ∑ k : Fin 5120, (act (ix2 p k) : EReal) * weight scales codes k n

theorem logit_reference (scales : Vec Ideal S40x256 .f32) (act : Vec Ideal S3840x5120 .bf16) (codes : Vec Ideal S5120x32768 .fp8e4m3)
    (p : Fin 3840) (n : Fin 32768) :
    k0_pay2 (F := Ideal) act codes scales (ix2 p n) = logit scales act codes p n := by
  pointwise [k0_pay2]
  rfl

/-- A row's greatest logit, as the reference writes it. -/
def rowMax (y : FVec Ideal S3840x32768 .f32) : FVec Ideal S3840x1 .f32 :=
  shapeCast S3840x1 (multiReduction .maximumf [1] S3840 y 0xFF800000#32 reduces_S3840x32768_S3840 (.inl rfl) rfl) shapeCasts_S3840_S3840x1

/-- A row's sum of exponentials above `v`. -/
def rowSum (y : FVec Ideal S3840x32768 .f32) (v : FVec Ideal S3840x1 .f32) : FVec Ideal S3840x1 .f32 :=
  shapeCast S3840x1 (multiReduction .add [1] S3840 (exp (subf y (broadcastTo S3840x32768 v broadcasts_S3840x1_S3840x32768))) 0x00000000#32 reduces_S3840x32768_S3840 (.inl rfl) rfl) shapeCasts_S3840_S3840x1

theorem lse_eq (act : Vec Ideal S3840x5120 .bf16) (codes : Vec Ideal S5120x32768 .fp8e4m3) (scales : Vec Ideal S40x256 .f32) :
    k0_pay3 act codes scales = addf (rowMax (k0_pay2 act codes scales)) (log (rowSum (k0_pay2 act codes scales) (rowMax (k0_pay2 act codes scales)))) := rfl

theorem rowMax_apply (y : FVec Ideal S3840x32768 .f32) (p : Fin 3840) :
    rowMax y (ix2 p 0) = Finset.univ.sup fun n : Fin 32768 => (y (ix2 p n) : EReal) := by
  have h : Ideal.ofBits .f32 0xFF800000#32 = (⊥ : EReal) := by simp [Ideal.ofBits, Ideal.ieee]
  pointwise [rowMax]
  rw [h]
  rfl

theorem rowSum_apply (y : FVec Ideal S3840x32768 .f32) (v : FVec Ideal S3840x1 .f32) (p : Fin 3840) :
    rowSum y v (ix2 p 0) = ∑ n : Fin 32768, Ideal.exp ((y (ix2 p n) : EReal) - v (ix2 p 0)) := by
  pointwise [rowSum]

/-- The logarithm of a sum of two exponentials, as the reference writes it. -/
def lae (v20 v21 : FVec Ideal S3840x1 .f32) : FVec Ideal S3840x1 .f32 :=
  have v22 : FVec Ideal S3840x1 .f32 := shapeCast S3840x1 v21 shapeCasts_S3840x1_S3840x1
  have d : FVec Ideal S3840x1 .f32 := subf v20 v22
  select (cmpf .one d d) (addf v20 v22) (addf (maximumf v20 v22) (log1p (exp (subf (broadcast S3840x1 (Scalar.ofBits .f32 0x00000000#32)) (absf d)))))

theorem lae_eq (act : Vec Ideal S3840x5120 .bf16) (codes : Vec Ideal S5120x32768 .fp8e4m3) (scales : Vec Ideal S40x256 .f32) (o : Vec Ideal S3840x1 .f32) :
    k0_pay4 act codes scales o = lae (k0_pay3 act codes scales) o := rfl

theorem lae_apply (y o : FVec Ideal S3840x1 .f32) (p : Fin 3840) :
    lae y o (ix2 p 0) = max (y (ix2 p 0) : EReal) (o (ix2 p 0))
      + Ideal.log (1 + Ideal.exp (0 - max ((y (ix2 p 0) : EReal) - o (ix2 p 0)) (-((y (ix2 p 0) : EReal) - o (ix2 p 0))))) := by
  pointwise [lae]
  rw [if_neg (fun h => h rfl)]
  rfl

/-- The logarithm of a row's sum of exponentials. -/
def lseLocal (y : Fin 32768 → EReal) : EReal := Finset.univ.sup y + Ideal.log (∑ n, Ideal.exp (y n - Finset.univ.sup y))

/-- The same with the other shards' logarithm `o` added. -/
def lseGlobal (y : Fin 32768 → EReal) (o : EReal) : EReal :=
  max (lseLocal y) o + Ideal.log (1 + Ideal.exp (0 - max (lseLocal y - o) (-(lseLocal y - o))))

/-- The logit of the row's label `b`, nothing where the label lies in another shard. -/
def picked (y : Fin 32768 → EReal) (b : BitVec 32) : EReal := ∑ n : Fin 32768, if BitVec.ofNat 32 n.val = b then y n else 0

/-- A row's four statistics. -/
def stat (y : Fin 32768 → EReal) (b : BitVec 32) (ok o : EReal) (k : Fin 4) : EReal :=
  match k with
  | 0 => lseLocal y - Ideal.ofBits .f32 1093032694#32
  | 1 => lseGlobal y o - Ideal.ofBits .f32 1093032694#32
  | 2 => ok * picked y b
  | 3 => lseGlobal y o

theorem select_eq {α : Type} (a b : BitVec 32) (x y : α) : Scalar.select (IntOp.cmpi .eq a b) x y = if a = b then x else y := by
  unfold Scalar.select IntOp.cmpi
  by_cases h : a = b
  · simp [h]
  · rw [show (a == b) = false from beq_eq_false_iff_ne.2 h, if_neg h]
    rfl

theorem concat_0 (y : FVec Ideal S3840x32768 .f32) (a b : FVec Ideal S3840x1 .f32) (h : IVec S3840x32768 1) (ok : FVec Ideal S3840x1 .f32) (p : Fin 3840) :
    k0_pay1 (F := Ideal) y a b h ok (ix2 p 0) = (a (ix2 p 0) : EReal) - Ideal.ofBits .f32 1093032694#32 := by
  pointwise [k0_pay1]
theorem concat_1 (y : FVec Ideal S3840x32768 .f32) (a b : FVec Ideal S3840x1 .f32) (h : IVec S3840x32768 1) (ok : FVec Ideal S3840x1 .f32) (p : Fin 3840) :
    k0_pay1 (F := Ideal) y a b h ok (ix2 p 1) = (b (ix2 p 0) : EReal) - Ideal.ofBits .f32 1093032694#32 := by
  pointwise [k0_pay1]
theorem concat_2 (y : FVec Ideal S3840x32768 .f32) (a b : FVec Ideal S3840x1 .f32) (lab : Vec Ideal S3840x1 .i32) (ok : FVec Ideal S3840x1 .f32) (p : Fin 3840) :
    k0_pay1 (F := Ideal) y a b (k0_pay5 (F := Ideal) lab) ok (ix2 p 2) = (ok (ix2 p 0) : EReal) * picked (fun n => y (ix2 p n)) (lab (ix2 p 0)) := by
  pointwise [k0_pay1, k0_pay5]
  unfold picked
  simp only [select_eq]
theorem concat_3 (y : FVec Ideal S3840x32768 .f32) (a b : FVec Ideal S3840x1 .f32) (h : IVec S3840x32768 1) (ok : FVec Ideal S3840x1 .f32) (p : Fin 3840) :
    k0_pay1 (F := Ideal) y a b h ok (ix2 p 3) = (b (ix2 p 0) : EReal) := by
  pointwise [k0_pay1]

theorem ok_apply (v : Vec Ideal S3840x1 .f32) (p : Fin 3840) : k0_pay6 (F := Ideal) v (ix2 p 0) = v (ix2 p 0) := by
  pointwise [k0_pay6]

theorem addLog_apply (a b : FVec Ideal S3840x1 .f32) (p : Fin 3840) : addf a (log b) (ix2 p 0) = (a (ix2 p 0) : EReal) + Ideal.log (b (ix2 p 0)) := by
  pointwise []

theorem lse_reference (scales : Vec Ideal S40x256 .f32) (act : Vec Ideal S3840x5120 .bf16) (codes : Vec Ideal S5120x32768 .fp8e4m3) (p : Fin 3840) :
    k0_pay3 (F := Ideal) act codes scales (ix2 p 0) = lseLocal (logit scales act codes p) := by
  rw [lse_eq]
  have e := funext fun n => logit_reference scales act codes p n
  generalize k0_pay2 (F := Ideal) act codes scales = y at e ⊢
  rw [← e, addLog_apply, rowSum_apply, rowMax_apply]
  unfold lseLocal
  with_reducible rfl

/-- The reference's statistics are the row's. -/
theorem stats_reference (scales : Vec Ideal S40x256 .f32) (act : Vec Ideal S3840x5120 .bf16) (codes : Vec Ideal S5120x32768 .fp8e4m3)
    (lab : Vec Ideal S3840x1 .i32) (ok o : Vec Ideal S3840x1 .f32) (p : Fin 3840) (k : Fin 4) :
    k0_pay1 (F := Ideal) (k0_pay2 act codes scales) (k0_pay3 act codes scales) (k0_pay4 act codes scales o) (k0_pay5 (F := Ideal) lab) (k0_pay6 ok) (ix2 p k)
      = stat (logit scales act codes p) (lab (ix2 p 0)) (ok (ix2 p 0)) (o (ix2 p 0)) k := by
  have e := funext fun n => logit_reference scales act codes p n
  have g : k0_pay4 (F := Ideal) act codes scales o (ix2 p 0) = lseGlobal (logit scales act codes p) (o (ix2 p 0)) := by
    rw [lae_eq, lae_apply, lse_reference]
    rfl
  have l := lse_reference scales act codes p
  match k with
  | 0 => rw [concat_0, l]; rfl
  | 1 => rw [concat_1, g]; rfl
  | 2 => rw [concat_2, ok_apply, e]; rfl
  | 3 => rw [concat_3, g]; rfl

/-- Row `p` of the 3840 in the arrays of one number a row. -/
def place (p : Fin 3840) : S2x5x384.Idx := ix3 ⟨p.val / 1920, by omega⟩ ⟨p.val / 384 % 5, by omega⟩ ⟨p.val % 384, by omega⟩

/-- The array of logits as one function of the arguments. -/
def logitsArr (act : Vec Ideal S3840x5120 .bf16) (codes : Vec Ideal S5120x32768 .fp8e4m3) (scales : Vec Ideal S40x256 .f32) : S3840x32768.Idx → EReal :=
  fun y => logit scales act codes (y 0) (y 1)

/-- A row's label, counted from the shard's first word. -/
def word (labels : Vec Ideal S2x5x384 .i32) (start : Vec Ideal S1 .i32) (p : Fin 3840) : BitVec 32 :=
  (labels (place p) : BitVec 32) - (start (ix1 0) : BitVec 32)

/-- The array of statistics as one function of the arguments. -/
def statsArr (act : Vec Ideal S3840x5120 .bf16) (codes : Vec Ideal S5120x32768 .fp8e4m3) (scales : Vec Ideal S40x256 .f32)
    (labels : Vec Ideal S2x5x384 .i32) (start : Vec Ideal S1 .i32) (ok other : Vec Ideal S2x5x384 .f32) : S3840x4.Idx → EReal :=
  fun y => stat (logit scales act codes (y 0)) (word labels start (y 0)) (ok (place (y 0))) (other (place (y 0))) (y 1)

end Cert.Logits

end
-- ==== Proof.Logits.Array.lean ====
/-
  The arrays that the head's kernel ends with: the 64 points of a stretch of 1280 rows visit the whole shard, and the
  running maximum, sum and picked logit become the row's.
-/
module

public import proofs.«01_k».proof.Proof.Logits.Block
public import proofs.«01_k».proof.Proof.Logits.Online
public import proofs.«01_k».proof.Proof.Logits.Reference
public import Idealize.ShloMosaic.Lib.StableHlo.ReadAt

@[expose] public section

noncomputable section

namespace Cert.LogitsIdeal.Value

open Cert.LogitsIdeal Cert.LogitsIdeal.Gen Idealize.ShloMosaic Idealize.ShloMosaic.TcCoe Idealize.SL.Sem

variable (m : (ℓ : Loc nD τ sig) → Buf (Elt Ideal) ℓ)

/-- Grid point `t` is tile `t % 64` of the vocabulary for stretch `t / 64` of rows. -/
theorem coords_eq : ∀ t : Fin cfg0.N, (grid0.coords t 0).val = t.val / 64 ∧ (grid0.coords t 1).val = t.val % 64 :=
  (by decide +kernel : ∀ t : Fin grid0.N, _)

theorem index0 : ∀ t : Fin cfg0.N, win0_0.index t (0 : Fin 2) = 0 ∧ win0_0.index t (1 : Fin 2) = 0 :=
  (by decide +kernel : ∀ t : Fin grid0.N, _)
theorem index1 : ∀ t : Fin cfg0.N, win0_1.index t (0 : Fin 2) = t.val / 64 ∧ win0_1.index t (1 : Fin 2) = 0 :=
  (by decide +kernel : ∀ t : Fin grid0.N, _)
theorem index2 : ∀ t : Fin cfg0.N, win0_2.index t (0 : Fin 2) = 0 ∧ win0_2.index t (1 : Fin 2) = t.val % 64 :=
  (by decide +kernel : ∀ t : Fin grid0.N, _)
theorem index3 : ∀ t : Fin cfg0.N, win0_3.index t (0 : Fin 2) = t.val / 64 ∧ win0_3.index t (1 : Fin 2) = 0 :=
  (by decide +kernel : ∀ t : Fin grid0.N, _)
theorem index4 : ∀ t : Fin cfg0.N, win0_4.index t (0 : Fin 2) = t.val / 64 ∧ win0_4.index t (1 : Fin 2) = t.val % 64 :=
  (by decide +kernel : ∀ t : Fin grid0.N, _)
theorem index5 : ∀ t : Fin cfg0.N, win0_5.index t (0 : Fin 2) = t.val / 64 ∧ win0_5.index t (1 : Fin 2) = 0 :=
  (by decide +kernel : ∀ t : Fin grid0.N, _)

/-- The scales are staged whole. -/
theorem scales_apply (c : Dev nD) (t : Fin cfg0.N) (a : Fin 40) (b : Fin 256) :
    (iblk m c 0 t : Vec Ideal S40x256 .f32) (ix2 a b) = (m ((c : Thread nD τ).loc main_arg2) : Vec Ideal S40x256 .f32) (ix2 a b) := by
  obtain ⟨e0, e1⟩ := index0 t
  rw [← V_main_arg2 m c]
  show V m c main_arg2 (((cfg0.win 0).blk t).view.emb (ix2 a b)) = V m c main_arg2 (ix2 a b)
  refine congrArg _ (funext fun d => Fin.ext ?_)
  match d with
  | ⟨0, _⟩ => show win0_0.index t (0 : Fin 2) * 40 + 1 * a.val = a.val; omega
  | ⟨1, _⟩ => show win0_0.index t (1 : Fin 2) * 256 + 1 * b.val = b.val; omega

/-- The activations are staged in stretches of 1280 rows. -/
theorem act_apply (c : Dev nD) (t : Fin cfg0.N) (p : Fin 1280) (k : Fin 5120) (P : Fin 3840) (hP : P.val = t.val / 64 * 1280 + p.val) :
    (iblk m c 1 t : Vec Ideal S1280x5120 .bf16) (ix2 p k) = (m ((c : Thread nD τ).loc main_arg0) : Vec Ideal S3840x5120 .bf16) (ix2 P k) := by
  obtain ⟨e0, e1⟩ := index1 t
  rw [← V_main_arg0 m c]
  show V m c main_arg0 (((cfg0.win 1).blk t).view.emb (ix2 p k)) = V m c main_arg0 (ix2 P k)
  refine congrArg _ (funext fun d => Fin.ext ?_)
  match d with
  | ⟨0, _⟩ => show win0_1.index t (0 : Fin 2) * 1280 + 1 * p.val = P.val; omega
  | ⟨1, _⟩ => show win0_1.index t (1 : Fin 2) * 5120 + 1 * k.val = k.val; omega

/-- The codes are staged in tiles of 512 columns. -/
theorem codes_apply (c : Dev nD) (t : Fin cfg0.N) (k : Fin 5120) (n : Fin 512) (n' : Fin 32768) (hn : n'.val = t.val % 64 * 512 + n.val) :
    (iblk m c 2 t : Vec Ideal S5120x512 .fp8e4m3) (ix2 k n) = (m ((c : Thread nD τ).loc main_arg1) : Vec Ideal S5120x32768 .fp8e4m3) (ix2 k n') := by
  obtain ⟨e0, e1⟩ := index2 t
  rw [← V_main_arg1 m c]
  show V m c main_arg1 (((cfg0.win 2).blk t).view.emb (ix2 k n)) = V m c main_arg1 (ix2 k n')
  refine congrArg _ (funext fun d => Fin.ext ?_)
  match d with
  | ⟨0, _⟩ => show win0_2.index t (0 : Fin 2) * 5120 + 1 * k.val = k.val; omega
  | ⟨1, _⟩ => show win0_2.index t (1 : Fin 2) * 512 + 1 * n.val = n'.val; omega

/-- The rows' labels and logarithms are staged in stretches of 1280 rows. -/
theorem info_apply (c : Dev nD) (t : Fin cfg0.N) (p : Fin 1280) (k : Fin 4) (P : Fin 3840) (hP : P.val = t.val / 64 * 1280 + p.val) :
    (iblk m c 3 t : Vec Ideal S1280x4 .f32) (ix2 p k) = (V m c main_v10 : Vec Ideal S3840x4 .f32) (ix2 P k) := by
  obtain ⟨e0, e1⟩ := index3 t
  show V m c main_v10 (((cfg0.win 3).blk t).view.emb (ix2 p k)) = V m c main_v10 (ix2 P k)
  refine congrArg _ (funext fun d => Fin.ext ?_)
  match d with
  | ⟨0, _⟩ => show win0_3.index t (0 : Fin 2) * 1280 + 1 * p.val = P.val; omega
  | ⟨1, _⟩ => show win0_3.index t (1 : Fin 2) * 4 + 1 * k.val = k.val; omega

/-- Column 0 holds the label, as a number. -/
theorem info_label (c : Dev nD) (p : Fin 3840) : ((V m c main_v10 : Vec Ideal S3840x4 .f32) (ix2 p 0) : EReal)
    = FloatOps.sitofp (F := Ideal) .f32 (Logits.word (m ((c : Thread nD τ).loc main_arg3)) (m ((c : Thread nD τ).loc main_arg4)) p) := by
  unfold V
  after_reads_at
  after_reads_at
  rfl

/-- Column 1 holds whether the label lies in this shard. -/
theorem info_ok (c : Dev nD) (p : Fin 3840) : ((V m c main_v10 : Vec Ideal S3840x4 .f32) (ix2 p 1) : EReal)
    = (m ((c : Thread nD τ).loc main_arg5) : Vec Ideal S2x5x384 .f32) (Logits.place p) := by
  unfold V
  after_reads_at
  after_reads_at
  rfl

/-- Column 2 holds the other shards' logarithm. -/
theorem info_other (c : Dev nD) (p : Fin 3840) : ((V m c main_v10 : Vec Ideal S3840x4 .f32) (ix2 p 2) : EReal)
    = (m ((c : Thread nD τ).loc main_arg6) : Vec Ideal S2x5x384 .f32) (Logits.place p) := by
  unfold V
  after_reads_at
  after_reads_at
  rfl

/-- A word taken to a number and back is the word. -/
theorem fptosi_sitofp (w : BitVec 32) : Ideal.fptosi 32 (FloatOps.sitofp (F := Ideal) .f32 w : EReal) = w := by
  show BitVec.ofInt 32 (Ideal.toIntClamped _ _ ((w.toInt : ℝ) : EReal)) = w
  have h0 := w.toInt_lt
  have h1 := w.le_toInt
  have e : Ideal.toIntClamped (-(2 ^ 31)) (2 ^ 31 - 1) ((w.toInt : ℝ) : EReal) = w.toInt := by
    show max _ (min _ (if (0 : ℝ) ≤ (w.toInt : ℝ) then ⌊(w.toInt : ℝ)⌋ else ⌈(w.toInt : ℝ)⌉)) = w.toInt
    rw [Int.floor_intCast, Int.ceil_intCast, ite_self]
    omega
  exact (congrArg (BitVec.ofInt 32) e).trans (BitVec.ofInt_toInt)

/-- What a lane's distance from the label is compared with. -/
theorem sub_eq_groupWord (b : BitVec 32) (i : grid0.Coords) (j c l : Nat) (hi : (i 1).val = j) :
    b - BitVec.ofNat 32 l = groupWord i c ↔ (b == BitVec.ofNat 32 (128 * (4 * j + c) + l)) = true := by
  subst hi
  rw [beq_iff_eq, show 128 * (4 * (i 1).val + c) + l = (i 1).val * 512 + c * 128 + l by ring, BitVec.ofNat_add, BitVec.ofNat_add, BitVec.ofNat_mul, BitVec.ofNat_mul]
  constructor
  · intro h
    exact (BitVec.sub_add_cancel b _).symm.trans (congrArg (· + BitVec.ofNat 32 l) h)
  · intro h
    rw [h]
    exact BitVec.add_sub_cancel _ _

/-- The logits of row `P`. -/
abbrev Y (c : Dev nD) (P : Fin 3840) : Fin 32768 → EReal :=
  Logits.logit (m ((c : Thread nD τ).loc main_arg2)) (m ((c : Thread nD τ).loc main_arg0)) (m ((c : Thread nD τ).loc main_arg1)) P

/-- The label of row `P`. -/
abbrev B (c : Dev nD) (P : Fin 3840) : BitVec 32 := Logits.word (m ((c : Thread nD τ).loc main_arg3)) (m ((c : Thread nD τ).loc main_arg4)) P

/-- The tile's widened weight at point `t`. -/
abbrev W (c : Dev nD) (t : Fin cfg0.N) : FVec Ideal S5120x512 .bf16 := wide (grid0.coords t) (iblk m c 0 t) (iblk m c 2 t)

/-- A tile's product is the logit. -/
theorem dot_eq (c : Dev nD) (t : Fin cfg0.N) (p : Fin 1280) (n : Fin 512) (P : Fin 3840) (n' : Fin 32768)
    (hP : P.val = t.val / 64 * 1280 + p.val) (hn : n'.val = t.val % 64 * 512 + n.val) : dot (W m c t) (iblk m c 1 t) p n = Y m c P n' := by
  obtain ⟨e0, e1⟩ := coords_eq t
  unfold dot Y Logits.logit W
  refine Finset.sum_congr rfl fun k _ => ?_
  rw [act_apply m c t p k P hP,
    wide_apply (grid0.coords t) (iblk m c 0 t) (iblk m c 2 t) k n ⟨k.val / 128, by omega⟩ ⟨n'.val / 128, by omega⟩ rfl (by simp only; omega),
    codes_apply m c t k n n' hn, scales_apply]
  rfl

/-- Lane by lane, the tile's logits are the next four of the lane's. -/
theorem dot_lane (c : Dev nD) (t : Fin cfg0.N) (p : Fin 1280) (d : Fin 4) (l : Fin 128) (P : Fin 3840) (hP : P.val = t.val / 64 * 1280 + p.val)
    (u : ℕ) (hu : u = 4 * (t.val % 64) + d.val) : dot (W m c t) (iblk m c 1 t) p (col d l) = Online.lane (Y m c P) l u := by
  have := d.isLt; have := l.isLt
  have h : 128 * u + l.val < 32768 := by omega
  rw [Online.lane_eq (Y m c P) l u ⟨128 * u + l.val, h⟩ rfl]
  exact dot_eq m c t p _ P _ hP (show 128 * u + l.val = t.val % 64 * 512 + (128 * d.val + l.val) by omega)

/-- One point: four more of every lane's logits in the running maximum … -/
theorem maxima_point (c : Dev nD) (t : Fin cfg0.N) (x : Vec Ideal S1280x128 .f32) (p : Fin 1280) (l : Fin 128) (P : Fin 3840) (hP : P.val = t.val / 64 * 1280 + p.val)
    (hx : (x (ix2 p l) : EReal) = Online.top (Online.lane (Y m c P) l) (4 * (t.val % 64))) :
    (maxima (W m c t) (iblk m c 1 t) x (ix2 p l) : EReal) = Online.top (Online.lane (Y m c P) l) (4 * (t.val % 64) + 4) := by
  rw [maxima_apply, hx, dot_lane m c t p 0 l P hP (4 * (t.val % 64)) rfl, dot_lane m c t p 1 l P hP (4 * (t.val % 64) + 1) rfl,
    dot_lane m c t p 2 l P hP (4 * (t.val % 64) + 2) rfl, dot_lane m c t p 3 l P hP (4 * (t.val % 64) + 3) rfl, Online.top_step]

/-- … in the running sum … -/
theorem sums_point (c : Dev nD) (t : Fin cfg0.N) (x s : Vec Ideal S1280x128 .f32) (p : Fin 1280) (l : Fin 128) (P : Fin 3840) (hP : P.val = t.val / 64 * 1280 + p.val)
    (hx : (x (ix2 p l) : EReal) = Online.top (Online.lane (Y m c P) l) (4 * (t.val % 64)))
    (hs : (s (ix2 p l) : EReal) = Online.mass (Finset.range (4 * (t.val % 64))) (Online.lane (Y m c P) l) (Online.top (Online.lane (Y m c P) l) (4 * (t.val % 64)))) :
    (sums (W m c t) (iblk m c 1 t) x s (ix2 p l) : EReal)
      = Online.mass (Finset.range (4 * (t.val % 64) + 4)) (Online.lane (Y m c P) l) (Online.top (Online.lane (Y m c P) l) (4 * (t.val % 64) + 4)) := by
  rw [sums_apply, maxima_point m c t x p l P hP hx, hx, hs, dot_lane m c t p 0 l P hP (4 * (t.val % 64)) rfl, dot_lane m c t p 1 l P hP (4 * (t.val % 64) + 1) rfl,
    dot_lane m c t p 2 l P hP (4 * (t.val % 64) + 2) rfl, dot_lane m c t p 3 l P hP (4 * (t.val % 64) + 3) rfl, Online.mass_step]

/-- … and among those that the label may name. -/
theorem picks_point (c : Dev nD) (t : Fin cfg0.N) (s : Vec Ideal S1280x128 .f32) (rel : Vec Ideal S1280x128 .i32) (p : Fin 1280) (l : Fin 128) (P : Fin 3840)
    (hP : P.val = t.val / 64 * 1280 + p.val) (hr : (rel (ix2 p l) : BitVec 32) = B m c P - BitVec.ofNat 32 l.val)
    (hs : (s (ix2 p l) : EReal) = Online.hits (Online.named (B m c P) l) (Online.lane (Y m c P) l) (4 * (t.val % 64))) :
    (picks (grid0.coords t) (W m c t) (iblk m c 1 t) s rel (ix2 p l) : EReal)
      = Online.hits (Online.named (B m c P) l) (Online.lane (Y m c P) l) (4 * (t.val % 64) + 4) := by
  have e := (coords_eq t).2
  rw [picks_apply, hr, hs, dot_lane m c t p 0 l P hP (4 * (t.val % 64)) rfl, dot_lane m c t p 1 l P hP (4 * (t.val % 64) + 1) rfl,
    dot_lane m c t p 2 l P hP (4 * (t.val % 64) + 2) rfl, dot_lane m c t p 3 l P hP (4 * (t.val % 64) + 3) rfl]
  rw [← Online.hits_step _ _ _ fun u v h h' hu hv => Online.named_once (B m c P) l u v h (by omega) hu hv]
  simp only [sub_eq_groupWord _ _ _ _ _ e]
  rfl

/-- A row of the distances from the label. -/
theorem relative_row (c : Dev nD) (t : Fin cfg0.N) (p : Fin 1280) (l : Fin 128) (P : Fin 3840) (hP : P.val = t.val / 64 * 1280 + p.val) :
    (relative (F := Ideal) (iblk m c 3 t) (ix2 p l) : BitVec 32) = B m c P - BitVec.ofNat 32 l.val := by
  rw [relative_apply, info_apply m c t p 0 P hP, info_label, fptosi_sitofp]

/-- What the carried rows hold after a point: everything of the lanes that the points so far have visited. -/
structure Holds (c : Dev nD) (P : Fin 3840) (N : ℕ) (p : Fin 1280) (l : Fin 128) (x s k : Vec Ideal S1280x128 .f32) (rel : Vec Ideal S1280x128 .i32) : Prop where
  top : (x (ix2 p l) : EReal) = Online.top (Online.lane (Y m c P) l) N
  mass : (s (ix2 p l) : EReal) = Online.mass (Finset.range N) (Online.lane (Y m c P) l) (Online.top (Online.lane (Y m c P) l) N)
  hits : (k (ix2 p l) : EReal) = Online.hits (Online.named (B m c P) l) (Online.lane (Y m c P) l) N
  rel : (rel (ix2 p l) : BitVec 32) = B m c P - BitVec.ofNat 32 l.val

/-- A point's step. -/
theorem holds_point (c : Dev nD) (t : Fin cfg0.N) (p : Fin 1280) (l : Fin 128) (P : Fin 3840) (hP : P.val = t.val / 64 * 1280 + p.val)
    (x s k : Vec Ideal S1280x128 .f32) (rel : Vec Ideal S1280x128 .i32) (h : Holds m c P (4 * (t.val % 64)) p l x s k rel) :
    Holds m c P (4 * (t.val % 64) + 4) p l (maxima (W m c t) (iblk m c 1 t) x) (sums (W m c t) (iblk m c 1 t) x s)
      (picks (grid0.coords t) (W m c t) (iblk m c 1 t) k rel) rel :=
  ⟨maxima_point m c t x p l P hP h.top, sums_point m c t x s p l P hP h.top h.mass, picks_point m c t k rel p l P hP h.rel h.hits, h.rel⟩

theorem start_top (p : Fin 1280) (l : Fin 128) : (k0_pay5 (F := Ideal) (ix2 p l) : EReal) = ⊥ := by
  have h : Ideal.ofBits .f32 0xFF800000#32 = (⊥ : EReal) := by simp [Ideal.ofBits, Ideal.ieee]
  pointwise [k0_pay5]
  exact h
theorem start_mass (p : Fin 1280) (l : Fin 128) : (k0_pay6 (F := Ideal) (ix2 p l) : EReal) = 0 := by
  pointwise [k0_pay6]
theorem start_hits (p : Fin 1280) (l : Fin 128) : (k0_pay7 (F := Ideal) (ix2 p l) : EReal) = 0 := by
  pointwise [k0_pay7]

/-- Before a stretch's first point nothing has been visited. -/
theorem holds_start (c : Dev nD) (t : Fin cfg0.N) (p : Fin 1280) (l : Fin 128) (P : Fin 3840) (hP : P.val = t.val / 64 * 1280 + p.val) :
    Holds m c P 0 p l (k0_pay5 (F := Ideal)) (k0_pay6 (F := Ideal)) (k0_pay7 (F := Ideal)) (relative (F := Ideal) (iblk m c 3 t)) :=
  ⟨start_top p l, start_mass p l, start_hits p l, relative_row m c t p l P hP⟩

/-- The carried rows after every point but a stretch's last. -/
theorem holds_after (c : Dev nD) (j : ℕ) : ∀ (t : Fin cfg0.N) (_ : t.val % 64 = j) (_ : j < 63) (p : Fin 1280) (l : Fin 128) (P : Fin 3840) (_ : P.val = t.val / 64 * 1280 + p.val),
    Holds m c P (4 * j + 4) p l (outsAt0 m c t.val t.isLt).2.2.1 (outsAt0 m c t.val t.isLt).2.2.2.1 (outsAt0 m c t.val t.isLt).2.2.2.2.1 (outsAt0 m c t.val t.isLt).2.2.2.2.2 := by
  induction j with
  | zero =>
    intro t h0 _ p l P hP
    rw [outsAt0_A m c t h0 (by omega)]
    dsimp only
    rw [sout_A_0, sout_A_1, sout_A_2, sout_A_3]
    have := holds_point m c t p l P hP _ _ _ _ (by rw [h0]; exact holds_start m c t p l P hP)
    rwa [h0] at this
  | succ j ih =>
    intro t h0 hj p l P hP
    have lt : t.val - 1 < cfg0.N := Nat.lt_of_le_of_lt (Nat.sub_le _ _) t.isLt
    have key := ih ⟨t.val - 1, lt⟩ (show (t.val - 1) % 64 = j by omega) (by omega) p l P (by rw [hP]; show t.val / 64 * 1280 + p.val = (t.val - 1) / 64 * 1280 + p.val; omega)
    rw [outsAt0_B m c t (by omega) (by omega)]
    dsimp only
    rw [sout_B_0, sout_B_1, sout_B_2]
    have := holds_point m c t p l P hP _ _ _ _ (by rw [h0]; exact key)
    rwa [h0] at this

/-- Every point's block of the logits. -/
theorem logits_point (c : Dev nD) (t : Fin cfg0.N) : (outsAt0 m c t.val t.isLt).1 = block (W m c t) (iblk m c 1 t) := by
  by_cases h0 : t.val % 64 = 0
  · rw [outsAt0_A m c t h0 (by omega)]
    dsimp only
    rw [out_A_4]
  · by_cases h1 : t.val % 64 = 63
    · rw [outsAt0_C m c t h0 h1]
      dsimp only
      rw [out_C_4]
    · rw [outsAt0_B m c t h0 h1]
      dsimp only
      rw [out_B_4]

/-- From rows that hold whole lanes, the row's logarithm of the sum of exponentials. -/
theorem lse_lanes (c : Dev nD) (P : Fin 3840) (p : Fin 1280) (x s k : Vec Ideal S1280x128 .f32) (rel : Vec Ideal S1280x128 .i32)
    (h : ∀ l, Holds m c P 256 p l x s k rel) : lseOf x s p = Logits.lseLocal (Y m c P) := by
  unfold lseOf Logits.lseLocal
  simp only [fun l => (h l).top, fun l => (h l).mass]
  rw [Online.sup_lanes, Online.mass_lanes]

/-- From rows that hold whole lanes, the row's four statistics. -/
theorem stats_lanes (c : Dev nD) (t : Fin cfg0.N) (p : Fin 1280) (P : Fin 3840) (hP : P.val = t.val / 64 * 1280 + p.val)
    (x s k : Vec Ideal S1280x128 .f32) (rel : Vec Ideal S1280x128 .i32) (h : ∀ l, Holds m c P 256 p l x s k rel) (d : Fin 4) :
    (stats (F := Ideal) x s k (iblk m c 3 t) (ix2 p d) : EReal)
      = Logits.stat (Y m c P) (B m c P) ((m ((c : Thread nD τ).loc main_arg5) : Vec Ideal S2x5x384 .f32) (Logits.place P)) ((m ((c : Thread nD τ).loc main_arg6) : Vec Ideal S2x5x384 .f32) (Logits.place P)) d := by
  have hl := lse_lanes m c P p x s k rel h
  have hg : laeOf (lseOf x s p) ((iblk m c 3 t : Vec Ideal S1280x4 .f32) (ix2 p 2))
      = Logits.lseGlobal (Y m c P) ((m ((c : Thread nD τ).loc main_arg6) : Vec Ideal S2x5x384 .f32) (Logits.place P)) := by
    rw [hl, info_apply m c t p 2 P hP, info_other]
    exact Online.logaddexp _ _
  match d with
  | ⟨0, _⟩ => exact (stats_0 ..).trans (by rw [hl]; rfl)
  | ⟨1, _⟩ => exact (stats_1 ..).trans (by rw [hg]; rfl)
  | ⟨2, _⟩ =>
    refine (stats_2 ..).trans ?_
    simp only [fun l => (h l).hits]
    rw [Online.hits_lanes, info_apply m c t p 1 P hP, info_ok]
    rfl
  | ⟨3, _⟩ => exact (stats_3 ..).trans hg

/-- A stretch's last point leaves the statistics of its rows. -/
theorem stats_point (c : Dev nD) (t : Fin cfg0.N) (h1 : t.val % 64 = 63) (p : Fin 1280) (P : Fin 3840) (hP : P.val = t.val / 64 * 1280 + p.val) (d : Fin 4) :
    ((outsAt0 m c t.val t.isLt).2.1 (ix2 p d) : EReal)
      = Logits.stat (Y m c P) (B m c P) ((m ((c : Thread nD τ).loc main_arg5) : Vec Ideal S2x5x384 .f32) (Logits.place P)) ((m ((c : Thread nD τ).loc main_arg6) : Vec Ideal S2x5x384 .f32) (Logits.place P)) d := by
  have lt : t.val - 1 < cfg0.N := Nat.lt_of_le_of_lt (Nat.sub_le _ _) t.isLt
  have key := fun l => holds_after m c 62 ⟨t.val - 1, lt⟩ (show (t.val - 1) % 64 = 62 by omega) (by omega) p l P (by rw [hP]; show t.val / 64 * 1280 + p.val = (t.val - 1) / 64 * 1280 + p.val; omega)
  rw [outsAt0_C m c t (by omega) h1]
  dsimp only
  rw [out_C_5]
  refine stats_lanes m c t p P hP _ _ _ (outsAt0 m c (t.val - 1) lt).2.2.2.2.2 (fun l => ?_) d
  have := holds_point m c t p l P hP _ _ _ _ (by rw [h1]; exact key l)
  rwa [h1] at this

theorem emb4 (t : Fin cfg0.N) (p : Fin 1280) (n : Fin 512) (P : Fin 3840) (n' : Fin 32768) (hP : P.val = t.val / 64 * 1280 + p.val) (hn : n'.val = t.val % 64 * 512 + n.val) :
    ((cfg0.win 4).blk t).view.emb (ix2 p n) = (ix2 P n' : S3840x32768.Idx) := by
  obtain ⟨e0, e1⟩ := index4 t
  refine funext fun d => Fin.ext ?_
  match d with
  | ⟨0, _⟩ => show win0_4.index t (0 : Fin 2) * 1280 + 1 * p.val = P.val; omega
  | ⟨1, _⟩ => show win0_4.index t (1 : Fin 2) * 512 + 1 * n.val = n'.val; omega

theorem emb5 (t : Fin cfg0.N) (p : Fin 1280) (d : Fin 4) (P : Fin 3840) (hP : P.val = t.val / 64 * 1280 + p.val) :
    ((cfg0.win 5).blk t).view.emb (ix2 p d) = (ix2 P d : S3840x4.Idx) := by
  obtain ⟨e0, e1⟩ := index5 t
  refine funext fun a => Fin.ext ?_
  match a with
  | ⟨0, _⟩ => show win0_5.index t (0 : Fin 2) * 1280 + 1 * p.val = P.val; omega
  | ⟨1, _⟩ => show win0_5.index t (1 : Fin 2) * 4 + 1 * d.val = d.val; omega

/-- The point of rows `P` and column `n`. -/
theorem point_lt (P : Fin 3840) (n : Fin 32768) : 64 * (P.val / 1280) + n.val / 512 < cfg0.N := by rw [show cfg0.N = 192 from N_0]; omega
theorem last_lt (P : Fin 3840) : 64 * (P.val / 1280) + 63 < cfg0.N := by rw [show cfg0.N = 192 from N_0]; omega

/-- The array of logits after the run. -/
theorem array4 (c : Dev nD) : (dats m 0 c).arrAt 4 cfg0.N
    = Logits.logitsArr (m ((c : Thread nD τ).loc main_arg0)) (m ((c : Thread nD τ).loc main_arg1)) (m ((c : Thread nD τ).loc main_arg2)) := by
  refine (dats m 0 c).arrAt_eq_of_cover 4 _ (fun t hf => ?_) fun i => ?_
  · have ht : t.val < 192 := lt_of_lt_of_eq t.isLt N_0
    rw [flushed4, logits_point]
    have e : ∀ P n, Logits.logitsArr (m ((c : Thread nD τ).loc main_arg0)) (m ((c : Thread nD τ).loc main_arg1)) (m ((c : Thread nD τ).loc main_arg2)) (ix2 P n) = Y m c P n := fun _ _ => rfl
    generalize Logits.logitsArr _ _ _ = arr at e ⊢
    funext (j : S1280x512.Idx)
    idx_vars j
    revert j0 j1; intro p n
    show block (F := Ideal) (W m c t) (iblk m c 1 t) (ix2 p n) = arr (((cfg0.win 4).blk t).view.emb (ix2 p n))
    rw [emb4 t p n ⟨t.val / 64 * 1280 + p.val, by omega⟩ ⟨t.val % 64 * 512 + n.val, by omega⟩ rfl rfl, e, block_apply]
    exact dot_eq m c t p n _ _ rfl rfl
  · change S3840x32768.Idx at i
    idx_vars i
    revert i0 i1; intro P n
    refine ⟨⟨64 * (P.val / 1280) + n.val / 512, point_lt P n⟩, flush0_4 _, ?_⟩
    rw [← emb4 ⟨64 * (P.val / 1280) + n.val / 512, point_lt P n⟩ ⟨P.val % 1280, by omega⟩ ⟨n.val % 512, by omega⟩ P n (by simp only; omega) (by simp only; omega)]
    exact View.emb_mem_set _ _

/-- The array of statistics after the run. -/
theorem array5 (c : Dev nD) : (dats m 0 c).arrAt 5 cfg0.N
    = Logits.statsArr (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) := by
  refine (dats m 0 c).arrAt_eq_of_cover 5 _ (fun t hf => ?_) fun i => ?_
  · have h1 := (flush0_5 t).1 hf
    have ht : t.val < 192 := lt_of_lt_of_eq t.isLt N_0
    rw [flushed5]
    have e : ∀ P d, Logits.statsArr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) (ix2 P d)
        = Logits.stat (Y m c P) (B m c P) ((m ((c : Thread nD τ).loc main_arg5) : Vec Ideal S2x5x384 .f32) (Logits.place P)) ((m ((c : Thread nD τ).loc main_arg6) : Vec Ideal S2x5x384 .f32) (Logits.place P)) d := fun _ _ => rfl
    generalize Logits.statsArr _ _ _ _ _ _ _ = arr at e ⊢
    funext (j : S1280x4.Idx)
    idx_vars j
    revert j0 j1; intro p d
    show (outsAt0 m c t.val t.isLt).2.1 (ix2 p d) = arr (((cfg0.win 5).blk t).view.emb (ix2 p d))
    rw [emb5 t p d ⟨t.val / 64 * 1280 + p.val, by omega⟩ rfl, e]
    exact stats_point m c t h1 p _ rfl d
  · change S3840x4.Idx at i
    idx_vars i
    revert i0 i1; intro P d
    refine ⟨⟨64 * (P.val / 1280) + 63, last_lt P⟩, (flush0_5 _).2 (by simp only; omega), ?_⟩
    rw [← emb5 ⟨64 * (P.val / 1280) + 63, last_lt P⟩ ⟨P.val % 1280, by omega⟩ d P (by simp only; omega)]
    exact View.emb_mem_set _ _

end Cert.LogitsIdeal.Value

end
-- ==== Proof.Logits.RefArray.lean ====
/-
  The arrays that the head's reference ends with.
-/
module

public import proofs.«01_k».proof.Proof.Logits.Reference
public import Idealize.ShloMosaic.Lib.StableHlo.ReadAt

@[expose] public section

noncomputable section

namespace Cert.LogitsRefIdeal.Value

open Cert.LogitsRefIdeal Cert.LogitsRefIdeal.Gen Idealize.ShloMosaic Idealize.ShloMosaic.TcCoe Idealize.SL.Sem

variable (m : (ℓ : Loc nD τ sig) → Buf (Elt Ideal) ℓ)

theorem hz : (![0, 0] : Fin 2 → Nat) = fun _ => 0 := funext fun a => by fin_cases a <;> rfl

/-- Every window stages its whole array. -/
theorem index_zero : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, _)

theorem act_eq (c : Dev nD) (t : Fin cfg0.N) : (iblk m c 0 t : Vec Ideal S3840x5120 .bf16) = m ((c : Thread nD τ).loc main_arg0) := by
  have e := (index_zero t).1
  rw [← V_main_arg0 m c]
  funext (j : S3840x5120.Idx)
  show V m c main_arg0 (((cfg0.win 0).blk t).view.emb j) = V m c main_arg0 j
  refine congrArg _ (funext fun d => Fin.ext ?_)
  match d with
  | ⟨0, _⟩ => show win0_0.index t (0 : Fin 2) * 3840 + 1 * (j 0).val = (j 0).val; rw [e]; simp
  | ⟨1, _⟩ => show win0_0.index t (1 : Fin 2) * 5120 + 1 * (j 1).val = (j 1).val; rw [e]; simp

theorem codes_eq (c : Dev nD) (t : Fin cfg0.N) : (iblk m c 1 t : Vec Ideal S5120x32768 .fp8e4m3) = m ((c : Thread nD τ).loc main_arg1) := by
  have e := (index_zero t).2.1
  rw [← V_main_arg1 m c]
  funext (j : S5120x32768.Idx)
  show V m c main_arg1 (((cfg0.win 1).blk t).view.emb j) = V m c main_arg1 j
  refine congrArg _ (funext fun d => Fin.ext ?_)
  match d with
  | ⟨0, _⟩ => show win0_1.index t (0 : Fin 2) * 5120 + 1 * (j 0).val = (j 0).val; rw [e]; simp
  | ⟨1, _⟩ => show win0_1.index t (1 : Fin 2) * 32768 + 1 * (j 1).val = (j 1).val; rw [e]; simp

theorem scales_eq (c : Dev nD) (t : Fin cfg0.N) : (iblk m c 2 t : Vec Ideal S40x256 .f32) = m ((c : Thread nD τ).loc main_arg2) := by
  have e := (index_zero t).2.2.1
  rw [← V_main_arg2 m c]
  funext (j : S40x256.Idx)
  show V m c main_arg2 (((cfg0.win 2).blk t).view.emb j) = V m c main_arg2 j
  refine congrArg _ (funext fun d => Fin.ext ?_)
  match d with
  | ⟨0, _⟩ => show win0_2.index t (0 : Fin 2) * 40 + 1 * (j 0).val = (j 0).val; rw [e]; simp
  | ⟨1, _⟩ => show win0_2.index t (1 : Fin 2) * 256 + 1 * (j 1).val = (j 1).val; rw [e]; simp

/-- A row's label, counted from the shard's first word. -/
theorem label_apply (c : Dev nD) (t : Fin cfg0.N) (p : Fin 3840) :
    ((iblk m c 3 t : Vec Ideal S3840x1 .i32) (ix2 p 0) : BitVec 32)
      = Logits.word (m ((c : Thread nD τ).loc main_arg3)) (m ((c : Thread nD τ).loc main_arg4)) p := by
  have e := (index_zero t).2.2.2.1
  have h : ((cfg0.win 3).blk t).view.emb (ix2 p 0) = (ix2 p 0 : S3840x1.Idx) := by
    refine funext fun d => Fin.ext ?_
    match d with
    | ⟨0, _⟩ => show win0_3.index t (0 : Fin 2) * 3840 + 1 * p.val = p.val; rw [e]; simp
    | ⟨1, _⟩ => show win0_3.index t (1 : Fin 2) * 1 + 1 * 0 = 0; rw [e]; simp
  show (V m c main_v3 (((cfg0.win 3).blk t).view.emb (ix2 p 0)) : BitVec 32) = _
  rw [h]
  unfold V
  after_reads_at
  rfl

theorem ok_apply (c : Dev nD) (t : Fin cfg0.N) (p : Fin 3840) :
    ((iblk m c 4 t : Vec Ideal S3840x1 .f32) (ix2 p 0) : EReal) = (m ((c : Thread nD τ).loc main_arg5) : Vec Ideal S2x5x384 .f32) (Logits.place p) := by
  have e := (index_zero t).2.2.2.2.1
  have h : ((cfg0.win 4).blk t).view.emb (ix2 p 0) = (ix2 p 0 : S3840x1.Idx) := by
    refine funext fun d => Fin.ext ?_
    match d with
    | ⟨0, _⟩ => show win0_4.index t (0 : Fin 2) * 3840 + 1 * p.val = p.val; rw [e]; simp
    | ⟨1, _⟩ => show win0_4.index t (1 : Fin 2) * 1 + 1 * 0 = 0; rw [e]; simp
  show (V m c main_v4 (((cfg0.win 4).blk t).view.emb (ix2 p 0)) : EReal) = _
  rw [h]
  unfold V
  after_reads_at
  rfl

theorem other_apply (c : Dev nD) (t : Fin cfg0.N) (p : Fin 3840) :
    ((iblk m c 5 t : Vec Ideal S3840x1 .f32) (ix2 p 0) : EReal) = (m ((c : Thread nD τ).loc main_arg6) : Vec Ideal S2x5x384 .f32) (Logits.place p) := by
  have e := (index_zero t).2.2.2.2.2.1
  have h : ((cfg0.win 5).blk t).view.emb (ix2 p 0) = (ix2 p 0 : S3840x1.Idx) := by
    refine funext fun d => Fin.ext ?_
    match d with
    | ⟨0, _⟩ => show win0_5.index t (0 : Fin 2) * 3840 + 1 * p.val = p.val; rw [e]; simp
    | ⟨1, _⟩ => show win0_5.index t (1 : Fin 2) * 1 + 1 * 0 = 0; rw [e]; simp
  show (V m c main_v5 (((cfg0.win 5).blk t).view.emb (ix2 p 0)) : EReal) = _
  rw [h]
  unfold V
  after_reads_at
  rfl

theorem out_6 (x0 : Vec Ideal S3840x5120 .bf16) (x1 : Vec Ideal S5120x32768 .fp8e4m3) (x2 : Vec Ideal S40x256 .f32) (x3 : Vec Ideal S3840x1 .i32) (x4 x5 : Vec Ideal S3840x1 .f32) :
    out0_6 x0 x1 x2 x3 x4 x5 = k0_pay2 x0 x1 x2 := by
  unfold out0_6
  rw [View.canon_unit_zero (S := S3840x32768) hz, View.ld_unit_zero (S := S3840x5120) hz, View.ld_unit_zero (S := S5120x32768) hz, View.ld_unit_zero (S := S40x256) hz]

theorem out_7 (x0 : Vec Ideal S3840x5120 .bf16) (x1 : Vec Ideal S5120x32768 .fp8e4m3) (x2 : Vec Ideal S40x256 .f32) (x3 : Vec Ideal S3840x1 .i32) (x4 x5 : Vec Ideal S3840x1 .f32) :
    out0_7 x0 x1 x2 x3 x4 x5 = k0_pay1 (k0_pay2 x0 x1 x2) (k0_pay3 x0 x1 x2) (k0_pay4 x0 x1 x2 x5) (k0_pay5 (F := Ideal) x3) (k0_pay6 x4) := by
  unfold out0_7
  rw [View.canon_unit_zero (S := S3840x4) hz, View.ld_unit_zero (S := S3840x5120) hz, View.ld_unit_zero (S := S5120x32768) hz, View.ld_unit_zero (S := S40x256) hz,
    View.ld_unit_zero (S := S3840x1) hz, View.ld_unit_zero (S := S3840x1) hz, View.ld_unit_zero (S := S3840x1) hz]

/-- The only point. -/
theorem point_lt : 0 < cfg0.N := by decide +kernel

/-- The reference's product as an array. -/
theorem logits_arr (act : Vec Ideal S3840x5120 .bf16) (codes : Vec Ideal S5120x32768 .fp8e4m3) (scales : Vec Ideal S40x256 .f32) :
    k0_pay2 (F := Ideal) act codes scales = Logits.logitsArr act codes scales := by
  funext j
  idx_vars j
  exact Logits.logit_reference ..

/-- The reference's logits after the run. -/
theorem final6 (c : Dev nD) : (dats m 0 c).arrAt 6 cfg0.N
    = Logits.logitsArr (m ((c : Thread nD τ).loc main_arg0)) (m ((c : Thread nD τ).loc main_arg1)) (m ((c : Thread nD τ).loc main_arg2)) := by
  have emb : ∀ t : Fin cfg0.N, ∀ j : S3840x32768.Idx, ((cfg0.win 6).blk t).view.emb j = j := by
    intro t j
    have e := (index_zero t).2.2.2.2.2.2.1
    refine funext fun d => Fin.ext ?_
    match d with
    | ⟨0, _⟩ => show win0_6.index t (0 : Fin 2) * 3840 + 1 * (j 0).val = (j 0).val; rw [e]; simp
    | ⟨1, _⟩ => show win0_6.index t (1 : Fin 2) * 32768 + 1 * (j 1).val = (j 1).val; rw [e]; simp
  refine (dats m 0 c).arrAt_eq_of_cover 6 _ (fun t hf => ?_) fun i => ?_
  · rw [flushed6, out_6, act_eq, codes_eq, scales_eq, logits_arr]
    generalize Logits.logitsArr _ _ _ = arr
    funext (j : S3840x32768.Idx)
    show arr j = arr (((cfg0.win 6).blk t).view.emb j)
    rw [emb]
  · refine ⟨⟨0, point_lt⟩, flush0_6 _, ?_⟩
    have := View.emb_mem_set ((cfg0.win 6).blk ⟨0, point_lt⟩).view i
    rwa [emb] at this

/-- The reference's statistics after the run. -/
theorem final7 (c : Dev nD) : (dats m 0 c).arrAt 7 cfg0.N
    = Logits.statsArr (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) := by
  have emb : ∀ t : Fin cfg0.N, ∀ j : S3840x4.Idx, ((cfg0.win 7).blk t).view.emb j = j := by
    intro t j
    have e := (index_zero t).2.2.2.2.2.2.2
    refine funext fun d => Fin.ext ?_
    match d with
    | ⟨0, _⟩ => show win0_7.index t (0 : Fin 2) * 3840 + 1 * (j 0).val = (j 0).val; rw [e]; simp
    | ⟨1, _⟩ => show win0_7.index t (1 : Fin 2) * 4 + 1 * (j 1).val = (j 1).val; rw [e]; simp
  refine (dats m 0 c).arrAt_eq_of_cover 7 _ (fun t hf => ?_) fun i => ?_
  · rw [flushed7, out_7, act_eq, codes_eq, scales_eq]
    funext (j : S3840x4.Idx)
    show k0_pay1 (F := Ideal) _ _ _ _ _ j = Logits.statsArr _ _ _ _ _ _ _ (((cfg0.win 7).blk t).view.emb j)
    rw [emb]
    idx_vars j
    revert j0 j1; intro p k
    refine (Logits.stats_reference _ _ _ _ _ _ p k).trans ?_
    rw [label_apply, ok_apply, other_apply]
    rfl
  · refine ⟨⟨0, point_lt⟩, flush0_7 _, ?_⟩
    have := View.emb_mem_set ((cfg0.win 7).blk ⟨0, point_lt⟩).view i
    rwa [emb] at this

end Cert.LogitsRefIdeal.Value

end
-- ==== Proof.Logits.Equation.lean ====
/-
  The equation of the head's logits: from equal arguments the kernel and the reference end with the same two arrays.
-/
module

public import proofs.«01_k».proof.Defs
public import proofs.«01_k».proof.Proof.Logits.Array
public import proofs.«01_k».proof.Proof.Logits.RefArray

@[expose] public section

noncomputable section

namespace Cert.Logits

open Idealize.ShloMosaic Idealize.ShloMosaic.TcCoe Idealize.SL.Sem

/-- From equal arguments the kernel and the reference both end with the logits and the four statistics of every row. -/
theorem algebraic : Cert.algebraic_LogitsIdeal_LogitsRefIdeal (hLogitsIdeal := Cert.LogitsIdeal.Gen.facts) (hLogitsRefIdeal := Cert.LogitsRefIdeal.Gen.facts) := by
  intro m g m' g' _ hargs
  refine ⟨fun c => logitsArr (m ((c : Thread Cert.LogitsIdeal.nD Cert.LogitsIdeal.τ).loc Cert.LogitsIdeal.main_arg0)) (m ((c : Thread Cert.LogitsIdeal.nD Cert.LogitsIdeal.τ).loc Cert.LogitsIdeal.main_arg1)) (m ((c : Thread Cert.LogitsIdeal.nD Cert.LogitsIdeal.τ).loc Cert.LogitsIdeal.main_arg2)),
    fun c => statsArr (m ((c : Thread Cert.LogitsIdeal.nD Cert.LogitsIdeal.τ).loc Cert.LogitsIdeal.main_arg0)) (m ((c : Thread Cert.LogitsIdeal.nD Cert.LogitsIdeal.τ).loc Cert.LogitsIdeal.main_arg1)) (m ((c : Thread Cert.LogitsIdeal.nD Cert.LogitsIdeal.τ).loc Cert.LogitsIdeal.main_arg2))
      (m ((c : Thread Cert.LogitsIdeal.nD Cert.LogitsIdeal.τ).loc Cert.LogitsIdeal.main_arg3)) (m ((c : Thread Cert.LogitsIdeal.nD Cert.LogitsIdeal.τ).loc Cert.LogitsIdeal.main_arg4)) (m ((c : Thread Cert.LogitsIdeal.nD Cert.LogitsIdeal.τ).loc Cert.LogitsIdeal.main_arg5)) (m ((c : Thread Cert.LogitsIdeal.nD Cert.LogitsIdeal.τ).loc Cert.LogitsIdeal.main_arg6)), ?_, ?_⟩
  · refine (θ_run (Cert.LogitsIdeal.defs (F := Ideal)) _ _).mono (fun r h c => ?_) (Cert.LogitsIdeal.Value.run_blocks (F := Ideal) m g)
    obtain ⟨hv, hw, hs⟩ := h c
    exact ⟨hv.trans (Cert.LogitsIdeal.Value.array4 m c), hw.trans (Cert.LogitsIdeal.Value.array5 m c), hs⟩
  · refine (θ_run (Cert.LogitsRefIdeal.defs (F := Ideal)) _ _).mono (fun r h c => ?_) (Cert.LogitsRefIdeal.Value.run_blocks (F := Ideal) m' g')
    obtain ⟨hv, hw, hs⟩ := h c
    obtain ⟨e0, e1, e2, e3, e4, e5, e6, _⟩ := hargs c
    refine ⟨hv.trans ?_, hw.trans ?_, hs⟩
    · rw [Cert.LogitsRefIdeal.Value.final6, e0, e1, e2]
    · rw [Cert.LogitsRefIdeal.Value.final7, e0, e1, e2, e3, e4, e5, e6]

end Cert.Logits

end
-- ==== Proof.Down.Point.lean ====
/-
  What one grid point of the down projection leaves in its two result blocks: the widened weight tile as a matrix of
  blocks, and the block of `h` (with its bf16 copy after the last point of a column) as the running sum plus one product.
  The two depths share it, since their kernels differ only in which slice of the weights they stage.
-/
module

public import proofs.«01_k».proof.Proof.Widen
public import proofs.«01_k».proof.Proof.Gen.Down0Ideal.Value
public import proofs.«01_k».proof.Proof.Gen.Down1Ideal.Value
public import Idealize.ShloMosaic.Lib.Tactic

@[expose] public section

noncomputable section

namespace Cert.Down

open Cert.Down0Ideal Cert.Down0Ideal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- Block `(r, c)` of the tile's codes lies inside the tile. -/
theorem codes_inb (r : Fin 28) (c : Fin 4) : ∀ a, (![0, 128 * r.val, 128 * c.val] : Fin 3 → Nat) a + S1x128x128.size a ≤ S1x3584x512.size a := by
  have := r.isLt; have := c.isLt
  intro a; fin_cases a <;> simp <;> omega

/-- Block `(r, c)` of the tile's weight: its codes times its scale. -/
def piece (i : grid0.Coords) (x0 : Vec F S1x112x40 .f32) (x2 : Vec F S1x3584x512 .fp8e4m3) (r : Fin 28) (c : Fin 4) : FVec F S128x128 .bf16 :=
  mulf (extf .bf16 (shapeCast S128x128 (View.ld x2 (Rect.unit (s := S1x3584x512) ![0, 128 * r.val, 128 * c.val] S1x128x128.size (codes_inb r c))) shapeCasts_S1x128x128_S128x128 : FVec F S128x128 .fp8e4m3) bitsLt_fp8e4m3_bf16)
    (truncf .bf16 (broadcast S128x128 (View.ld x0 (Rect.unit (s := S1x112x40) (k0_off1 i (BitVec.ofNat 32 r.val) (BitVec.ofNat 32 c.val)) S1x1x1.size (k0_off1_inb i r c)) (Shape.Idx.first (show 0 < S1x1x1.numel by decide))) : FVec F S128x128 .f32) bitsLt_bf16_f32)

/-- The tile's widened weight: 28 rows of 4 blocks. -/
def wide (i : grid0.Coords) (x0 : Vec F S1x112x40 .f32) (x2 : Vec F S1x3584x512 .fp8e4m3) : FVec F S3584x512 .bf16 :=
  Widen.tiles (R := 28) (C := 4) (by decide) (by decide) rfl rfl (piece i x0 x2)

/-- A point's block of `h`: what it starts from plus the product of the staged rows with the widened tile. -/
def block (i : grid0.Coords) (x0 : Vec F S1x112x40 .f32) (x1 : Vec F S1920x3584 .bf16) (x2 : Vec F S1x3584x512 .fp8e4m3) (x : Vec F S1920x512 .f32) : FVec F S1920x512 .f32 :=
  k0_pay1 (wide i x0 x2) x x1

/-- A block rounded to bf16. -/
def copy (x : Vec F S1920x512 .f32) : FVec F S1920x512 .bf16 := k0_pay2 x

end Cert.Down

namespace Cert.Down0Ideal.Value

open Cert.Down0Ideal Cert.Down0Ideal.Gen Cert.Down Idealize.ShloMosaic Idealize.ShloMosaic.TcCoe Idealize.SL.Sem

variable {F : FTy → Type} [FloatOps F]

set_option maxRecDepth 65536 in
/-- The first point of a column starts from the residual block. -/
theorem out_A_4 (c : Dev nD) (i : grid0.Coords) (arg2 : Memref sig .tc .smem S1x112x40 .f32) (harg2 : arg2.IsWhole) (arg3 : Memref sig .tc .vmem S1920x3584 .bf16) (harg3 : arg3.IsWhole) (arg4 : Memref sig .tc .vmem S1x3584x512 .fp8e4m3) (harg4 : arg4.IsWhole) (arg5 : Memref sig .tc .vmem S1920x512 .f32) (harg5 : arg5.IsWhole) (arg6 : Memref sig .tc .vmem S1920x512 .f32) (harg6 : arg6.IsWhole) (arg7 : Memref sig .tc .vmem S1920x512 .bf16) (harg7 : arg7.IsWhole) (hc0 : cond0_0 i) (hc1 : ¬cond0_1 i)
    (x0 : Vec F S1x112x40 .f32) (x1 : Vec F S1920x3584 .bf16) (x2 : Vec F S1x3584x512 .fp8e4m3) (x3 : Vec F S1920x512 .f32) :
    out0_A_4 c i arg2 harg2 arg3 harg3 arg4 harg4 arg5 harg5 arg6 harg6 arg7 harg7 hc0 hc1 x0 x1 x2 x3 = block i x0 x1 x2 x3 := by
  unfold out0_A_4
  rw [View.read_writes_eq_canon _ _ _ (fun y => cover0_A_4 c i arg2 harg2 arg3 harg3 arg4 harg4 arg5 harg5 arg6 harg6 arg7 harg7 hc0 hc1 x0 x1 x2 x3 y)]
  unfold kernelRun0_A
  dsimp only
  sl_unfold_words
  rw [View.canon_cons_unit_zero (S := S1920x512) hz, View.readCov_unit_zero (S := S1920x512) _ hz]
  simp only [View.readAt_eq_ld, harg2.read_unread, harg3.read_unread, harg4.read_unread, harg5.read_unread, harg6.read_unread, View.ld_unit_zero (S := S1920x512) hz, View.ld_unit_zero (S := S1920x3584) hz]
  sl_kernel_rfl

set_option maxRecDepth 65536 in
/-- A middle point of a column adds its product to what the point before left. -/
theorem out_B_4 (c : Dev nD) (i : grid0.Coords) (arg2 : Memref sig .tc .smem S1x112x40 .f32) (harg2 : arg2.IsWhole) (arg3 : Memref sig .tc .vmem S1920x3584 .bf16) (harg3 : arg3.IsWhole) (arg4 : Memref sig .tc .vmem S1x3584x512 .fp8e4m3) (harg4 : arg4.IsWhole) (arg5 : Memref sig .tc .vmem S1920x512 .f32) (harg5 : arg5.IsWhole) (arg6 : Memref sig .tc .vmem S1920x512 .f32) (harg6 : arg6.IsWhole) (arg7 : Memref sig .tc .vmem S1920x512 .bf16) (harg7 : arg7.IsWhole) (hc0 : ¬cond0_0 i) (hc1 : ¬cond0_1 i)
    (x0 : Vec F S1x112x40 .f32) (x1 : Vec F S1920x3584 .bf16) (x2 : Vec F S1x3584x512 .fp8e4m3) (x3 : Vec F S1920x512 .f32) (xo4 : Vec F S1920x512 .f32) :
    out0_B_4 c i arg2 harg2 arg3 harg3 arg4 harg4 arg5 harg5 arg6 harg6 arg7 harg7 hc0 hc1 x0 x1 x2 x3 xo4 = block i x0 x1 x2 xo4 := by
  unfold out0_B_4
  rw [View.read_writes_eq_canon _ _ _ (fun y => cover0_B_4 c i arg2 harg2 arg3 harg3 arg4 harg4 arg5 harg5 arg6 harg6 arg7 harg7 hc0 hc1 x0 x1 x2 x3 xo4 y)]
  unfold kernelRun0_B
  dsimp only
  sl_unfold_words
  rw [View.canon_unit_zero hz]
  simp only [View.readAt_eq_ld, harg2.read_unread, harg3.read_unread, harg4.read_unread, harg5.read_unread, harg6.read_unread, View.ld_unit_zero (S := S1920x512) hz, View.ld_unit_zero (S := S1920x3584) hz]
  sl_kernel_rfl

set_option maxRecDepth 65536 in
/-- So does the last point of a column … -/
theorem out_C_4 (c : Dev nD) (i : grid0.Coords) (arg2 : Memref sig .tc .smem S1x112x40 .f32) (harg2 : arg2.IsWhole) (arg3 : Memref sig .tc .vmem S1920x3584 .bf16) (harg3 : arg3.IsWhole) (arg4 : Memref sig .tc .vmem S1x3584x512 .fp8e4m3) (harg4 : arg4.IsWhole) (arg5 : Memref sig .tc .vmem S1920x512 .f32) (harg5 : arg5.IsWhole) (arg6 : Memref sig .tc .vmem S1920x512 .f32) (harg6 : arg6.IsWhole) (arg7 : Memref sig .tc .vmem S1920x512 .bf16) (harg7 : arg7.IsWhole) (hc0 : ¬cond0_0 i) (hc1 : cond0_1 i)
    (x0 : Vec F S1x112x40 .f32) (x1 : Vec F S1920x3584 .bf16) (x2 : Vec F S1x3584x512 .fp8e4m3) (x3 : Vec F S1920x512 .f32) (xo4 : Vec F S1920x512 .f32) :
    out0_C_4 c i arg2 harg2 arg3 harg3 arg4 harg4 arg5 harg5 arg6 harg6 arg7 harg7 hc0 hc1 x0 x1 x2 x3 xo4 = block i x0 x1 x2 xo4 := by
  unfold out0_C_4
  rw [View.read_writes_eq_canon _ _ _ (fun y => cover0_C_4 c i arg2 harg2 arg3 harg3 arg4 harg4 arg5 harg5 arg6 harg6 arg7 harg7 hc0 hc1 x0 x1 x2 x3 xo4 y)]
  unfold kernelRun0_C
  dsimp only
  sl_unfold_words
  rw [View.canon_unit_zero hz]
  simp only [View.readAt_eq_ld, harg2.read_unread, harg3.read_unread, harg4.read_unread, harg5.read_unread, harg6.read_unread, View.ld_unit_zero (S := S1920x512) hz, View.ld_unit_zero (S := S1920x3584) hz]
  sl_kernel_rfl

set_option maxRecDepth 65536 in
/-- … which also leaves the sum rounded to bf16. -/
theorem out_C_5 (c : Dev nD) (i : grid0.Coords) (arg2 : Memref sig .tc .smem S1x112x40 .f32) (harg2 : arg2.IsWhole) (arg3 : Memref sig .tc .vmem S1920x3584 .bf16) (harg3 : arg3.IsWhole) (arg4 : Memref sig .tc .vmem S1x3584x512 .fp8e4m3) (harg4 : arg4.IsWhole) (arg5 : Memref sig .tc .vmem S1920x512 .f32) (harg5 : arg5.IsWhole) (arg6 : Memref sig .tc .vmem S1920x512 .f32) (harg6 : arg6.IsWhole) (arg7 : Memref sig .tc .vmem S1920x512 .bf16) (harg7 : arg7.IsWhole) (hc0 : ¬cond0_0 i) (hc1 : cond0_1 i)
    (x0 : Vec F S1x112x40 .f32) (x1 : Vec F S1920x3584 .bf16) (x2 : Vec F S1x3584x512 .fp8e4m3) (x3 : Vec F S1920x512 .f32) (xo4 : Vec F S1920x512 .f32) :
    out0_C_5 c i arg2 harg2 arg3 harg3 arg4 harg4 arg5 harg5 arg6 harg6 arg7 harg7 hc0 hc1 x0 x1 x2 x3 xo4 = copy (block i x0 x1 x2 xo4) := by
  unfold out0_C_5
  rw [View.read_writes_eq_canon _ _ _ (fun y => cover0_C_5 c i arg2 harg2 arg3 harg3 arg4 harg4 arg5 harg5 arg6 harg6 arg7 harg7 hc0 hc1 x0 x1 x2 x3 xo4 y)]
  unfold kernelRun0_C
  dsimp only
  sl_unfold_words
  rw [View.canon_unit_zero hz, View.readCov_unit_zero (S := S1920x512) _ hz]
  simp only [View.readAt_eq_ld, harg2.read_unread, harg3.read_unread, harg4.read_unread, harg5.read_unread, harg6.read_unread, View.ld_unit_zero (S := S1920x512) hz, View.ld_unit_zero (S := S1920x3584) hz]
  sl_kernel_rfl

end Cert.Down0Ideal.Value

namespace Cert.Down1Ideal.Value

open Cert.Down1Ideal Cert.Down1Ideal.Gen Cert.Down Idealize.ShloMosaic Idealize.ShloMosaic.TcCoe Idealize.SL.Sem

variable {F : FTy → Type} [FloatOps F]

set_option maxRecDepth 65536 in
/-- The first point of a column starts from the residual block. -/
theorem out_A_4 (c : Dev nD) (i : grid0.Coords) (arg2 : Memref sig .tc .smem S1x112x40 .f32) (harg2 : arg2.IsWhole) (arg3 : Memref sig .tc .vmem S1920x3584 .bf16) (harg3 : arg3.IsWhole) (arg4 : Memref sig .tc .vmem S1x3584x512 .fp8e4m3) (harg4 : arg4.IsWhole) (arg5 : Memref sig .tc .vmem S1920x512 .f32) (harg5 : arg5.IsWhole) (arg6 : Memref sig .tc .vmem S1920x512 .f32) (harg6 : arg6.IsWhole) (arg7 : Memref sig .tc .vmem S1920x512 .bf16) (harg7 : arg7.IsWhole) (hc0 : cond0_0 i) (hc1 : ¬cond0_1 i)
    (x0 : Vec F S1x112x40 .f32) (x1 : Vec F S1920x3584 .bf16) (x2 : Vec F S1x3584x512 .fp8e4m3) (x3 : Vec F S1920x512 .f32) :
    out0_A_4 c i arg2 harg2 arg3 harg3 arg4 harg4 arg5 harg5 arg6 harg6 arg7 harg7 hc0 hc1 x0 x1 x2 x3 = block i x0 x1 x2 x3 :=
  Cert.Down0Ideal.Value.out_A_4 c i arg2 harg2 arg3 harg3 arg4 harg4 arg5 harg5 arg6 harg6 arg7 harg7 hc0 hc1 x0 x1 x2 x3

set_option maxRecDepth 65536 in
/-- A middle point of a column adds its product to what the point before left. -/
theorem out_B_4 (c : Dev nD) (i : grid0.Coords) (arg2 : Memref sig .tc .smem S1x112x40 .f32) (harg2 : arg2.IsWhole) (arg3 : Memref sig .tc .vmem S1920x3584 .bf16) (harg3 : arg3.IsWhole) (arg4 : Memref sig .tc .vmem S1x3584x512 .fp8e4m3) (harg4 : arg4.IsWhole) (arg5 : Memref sig .tc .vmem S1920x512 .f32) (harg5 : arg5.IsWhole) (arg6 : Memref sig .tc .vmem S1920x512 .f32) (harg6 : arg6.IsWhole) (arg7 : Memref sig .tc .vmem S1920x512 .bf16) (harg7 : arg7.IsWhole) (hc0 : ¬cond0_0 i) (hc1 : ¬cond0_1 i)
    (x0 : Vec F S1x112x40 .f32) (x1 : Vec F S1920x3584 .bf16) (x2 : Vec F S1x3584x512 .fp8e4m3) (x3 : Vec F S1920x512 .f32) (xo4 : Vec F S1920x512 .f32) :
    out0_B_4 c i arg2 harg2 arg3 harg3 arg4 harg4 arg5 harg5 arg6 harg6 arg7 harg7 hc0 hc1 x0 x1 x2 x3 xo4 = block i x0 x1 x2 xo4 :=
  Cert.Down0Ideal.Value.out_B_4 c i arg2 harg2 arg3 harg3 arg4 harg4 arg5 harg5 arg6 harg6 arg7 harg7 hc0 hc1 x0 x1 x2 x3 xo4

set_option maxRecDepth 65536 in
/-- So does the last point of a column … -/
theorem out_C_4 (c : Dev nD) (i : grid0.Coords) (arg2 : Memref sig .tc .smem S1x112x40 .f32) (harg2 : arg2.IsWhole) (arg3 : Memref sig .tc .vmem S1920x3584 .bf16) (harg3 : arg3.IsWhole) (arg4 : Memref sig .tc .vmem S1x3584x512 .fp8e4m3) (harg4 : arg4.IsWhole) (arg5 : Memref sig .tc .vmem S1920x512 .f32) (harg5 : arg5.IsWhole) (arg6 : Memref sig .tc .vmem S1920x512 .f32) (harg6 : arg6.IsWhole) (arg7 : Memref sig .tc .vmem S1920x512 .bf16) (harg7 : arg7.IsWhole) (hc0 : ¬cond0_0 i) (hc1 : cond0_1 i)
    (x0 : Vec F S1x112x40 .f32) (x1 : Vec F S1920x3584 .bf16) (x2 : Vec F S1x3584x512 .fp8e4m3) (x3 : Vec F S1920x512 .f32) (xo4 : Vec F S1920x512 .f32) :
    out0_C_4 c i arg2 harg2 arg3 harg3 arg4 harg4 arg5 harg5 arg6 harg6 arg7 harg7 hc0 hc1 x0 x1 x2 x3 xo4 = block i x0 x1 x2 xo4 :=
  Cert.Down0Ideal.Value.out_C_4 c i arg2 harg2 arg3 harg3 arg4 harg4 arg5 harg5 arg6 harg6 arg7 harg7 hc0 hc1 x0 x1 x2 x3 xo4

set_option maxRecDepth 65536 in
/-- … which also leaves the sum rounded to bf16. -/
theorem out_C_5 (c : Dev nD) (i : grid0.Coords) (arg2 : Memref sig .tc .smem S1x112x40 .f32) (harg2 : arg2.IsWhole) (arg3 : Memref sig .tc .vmem S1920x3584 .bf16) (harg3 : arg3.IsWhole) (arg4 : Memref sig .tc .vmem S1x3584x512 .fp8e4m3) (harg4 : arg4.IsWhole) (arg5 : Memref sig .tc .vmem S1920x512 .f32) (harg5 : arg5.IsWhole) (arg6 : Memref sig .tc .vmem S1920x512 .f32) (harg6 : arg6.IsWhole) (arg7 : Memref sig .tc .vmem S1920x512 .bf16) (harg7 : arg7.IsWhole) (hc0 : ¬cond0_0 i) (hc1 : cond0_1 i)
    (x0 : Vec F S1x112x40 .f32) (x1 : Vec F S1920x3584 .bf16) (x2 : Vec F S1x3584x512 .fp8e4m3) (x3 : Vec F S1920x512 .f32) (xo4 : Vec F S1920x512 .f32) :
    out0_C_5 c i arg2 harg2 arg3 harg3 arg4 harg4 arg5 harg5 arg6 harg6 arg7 harg7 hc0 hc1 x0 x1 x2 x3 xo4 = copy (block i x0 x1 x2 xo4) := by
  unfold out0_C_5
  rw [View.read_writes_eq_canon _ _ _ (fun y => cover0_C_5 c i arg2 harg2 arg3 harg3 arg4 harg4 arg5 harg5 arg6 harg6 arg7 harg7 hc0 hc1 x0 x1 x2 x3 xo4 y)]
  unfold kernelRun0_C
  dsimp only
  sl_unfold_words
  rw [View.canon_unit_zero hz, View.readCov_unit_zero (S := S1920x512) _ hz]
  simp only [View.readAt_eq_ld, harg2.read_unread, harg3.read_unread, harg4.read_unread, harg5.read_unread, harg6.read_unread, View.ld_unit_zero (S := S1920x512) hz, View.ld_unit_zero (S := S1920x3584) hz]
  sl_kernel_rfl

end Cert.Down1Ideal.Value

end
-- ==== Proof.Down.Reference.lean ====
/-
  The down projection as mathematics, `h = residual + act · weight`, and the references' arrays as that.
-/
module

public import proofs.«01_k».proof.Proof.Gen.Down0RefIdeal.Value
public import proofs.«01_k».proof.Proof.Gen.Down1RefIdeal.Value
public import proofs.«01_k».proof.Proof.Widen
public import Idealize.ShloMosaic.PureOps.Ideal
public import Idealize.ShloMosaic.Lib.Pointwise

@[expose] public section

noncomputable section

namespace Cert.Down

open Cert.Down0RefIdeal Idealize.ShloMosaic Idealize.ShloMosaic.TcCoe Idealize.SL.Sem

/-- The weight of depth `d` at `(k, n)`: its code times the scale of its 128 x 128 block. -/
def weight (scales : Vec Ideal S2x112x40 .f32) (codes : Vec Ideal S2x14336x5120 .fp8e4m3) (d : Fin 2) (k : Fin 14336) (n : Fin 5120) : EReal :=
  (codes (ix3 d k n) : EReal) * (scales (ix3 d ⟨k.val / 128, by omega⟩ ⟨n.val / 128, by omega⟩) : EReal)

/-- The down projection: `h` at `(p, n)` is the residual there plus the row's product with the weight's column. -/
def h (scales : Vec Ideal S2x112x40 .f32) (act : Vec Ideal S1920x14336 .bf16) (codes : Vec Ideal S2x14336x5120 .fp8e4m3)
    (res : Vec Ideal S1920x5120 .f32) (d : Fin 2) (p : Fin 1920) (n : Fin 5120) : EReal :=
  (res (ix2 p n) : EReal) + ∑ k : Fin 14336, (act (ix2 p k) : EReal) * weight scales codes d k n

/-- It as an array. -/
def arr (scales : Vec Ideal S2x112x40 .f32) (act : Vec Ideal S1920x14336 .bf16) (codes : Vec Ideal S2x14336x5120 .fp8e4m3)
    (res : Vec Ideal S1920x5120 .f32) (d : Fin 2) : S1920x5120.Idx → EReal := fun y => h scales act codes res d (y 0) (y 1)

/-- The `h` of depth 0's reference is the down projection. -/
theorem reference0 (scales : Vec Ideal S2x112x40 .f32) (act : Vec Ideal S1920x14336 .bf16) (codes : Vec Ideal S2x14336x5120 .fp8e4m3)
    (res : Vec Ideal S1920x5120 .f32) :
    Cert.Down0RefIdeal.Value.G4 (F := Ideal) scales act codes res = arr scales act codes res 0 := by
  funext y
  idx_vars y
  unfold Cert.Down0RefIdeal.Value.G4
  pointwise [Cert.Down0RefIdeal.Gen.k0_pay1]
  rfl

/-- Its bf16 copy holds the same numbers. -/
theorem reference_copy0 (scales : Vec Ideal S2x112x40 .f32) (act : Vec Ideal S1920x14336 .bf16) (codes : Vec Ideal S2x14336x5120 .fp8e4m3)
    (res : Vec Ideal S1920x5120 .f32) :
    Cert.Down0RefIdeal.Value.G5 (F := Ideal) scales act codes res = arr scales act codes res 0 := by
  rw [← reference0]
  funext y
  unfold Cert.Down0RefIdeal.Value.G5 Cert.Down0RefIdeal.Value.G4 Cert.Down0RefIdeal.Gen.k0_pay2
  rw [truncf_apply]
  rfl

/-- The `h` of depth 1's reference is the down projection. -/
theorem reference1 (scales : Vec Ideal S2x112x40 .f32) (act : Vec Ideal S1920x14336 .bf16) (codes : Vec Ideal S2x14336x5120 .fp8e4m3)
    (res : Vec Ideal S1920x5120 .f32) :
    Cert.Down1RefIdeal.Value.G4 (F := Ideal) scales act codes res = arr scales act codes res 1 := by
  funext y
  idx_vars y
  unfold Cert.Down1RefIdeal.Value.G4
  pointwise [Cert.Down1RefIdeal.Gen.k0_pay1]
  rfl

/-- Its bf16 copy holds the same numbers. -/
theorem reference_copy1 (scales : Vec Ideal S2x112x40 .f32) (act : Vec Ideal S1920x14336 .bf16) (codes : Vec Ideal S2x14336x5120 .fp8e4m3)
    (res : Vec Ideal S1920x5120 .f32) :
    Cert.Down1RefIdeal.Value.G5 (F := Ideal) scales act codes res = arr scales act codes res 1 := by
  rw [← reference1]
  funext y
  unfold Cert.Down1RefIdeal.Value.G5 Cert.Down1RefIdeal.Value.G4 Cert.Down1RefIdeal.Gen.k0_pay2
  rw [truncf_apply]
  rfl

/-- The products of stretch `s` of 3584 of the 14336 inner positions. -/
def part (scales : Vec Ideal S2x112x40 .f32) (act : Vec Ideal S1920x14336 .bf16) (codes : Vec Ideal S2x14336x5120 .fp8e4m3)
    (d : Fin 2) (s : Fin 4) (p : Fin 1920) (n : Fin 5120) : EReal :=
  ∑ k : Fin 3584, (act (ix2 p ⟨s.val * 3584 + k.val, by omega⟩) : EReal) * weight scales codes d ⟨s.val * 3584 + k.val, by omega⟩ n

/-- The down projection adds the four stretches in turn. -/
theorem h_eq (scales : Vec Ideal S2x112x40 .f32) (act : Vec Ideal S1920x14336 .bf16) (codes : Vec Ideal S2x14336x5120 .fp8e4m3)
    (res : Vec Ideal S1920x5120 .f32) (d : Fin 2) (p : Fin 1920) (n : Fin 5120) :
    h scales act codes res d p n = (res (ix2 p n) : EReal) + part scales act codes d 0 p n + part scales act codes d 1 p n
      + part scales act codes d 2 p n + part scales act codes d 3 p n := by
  unfold h
  rw [Widen.sum_stretches 4 3584, Fin.sum_univ_four]
  simp only [add_assoc]
  rfl

end Cert.Down

end
-- ==== Proof.Down.Block.lean ====
/-
  A column of the down projection's kernel over the extended reals: whatever blocks its four points stage, provided they
  are the blocks of the arrays, the column they leave is the down projection's.
-/
module

public import proofs.«01_k».proof.Proof.Down.Point
public import proofs.«01_k».proof.Proof.Down.Reference
public import Idealize.ShloMosaic.PureOps.Ideal
public import Idealize.ShloMosaic.Lib.Pointwise

@[expose] public section

noncomputable section

namespace Cert.Down

open Cert.Down0Ideal Cert.Down0Ideal.Gen Idealize.ShloMosaic Idealize.ShloMosaic.TcCoe Idealize.SL.Sem

/-- A block of the tile's widened weight at `(p, q)`: the code there times the block's scale. -/
theorem piece_apply (i : grid0.Coords) (x0 : Vec Ideal S1x112x40 .f32) (x2 : Vec Ideal S1x3584x512 .fp8e4m3) (r : Fin 28) (c : Fin 4) (p q : Fin 128)
    (k : Fin 3584) (n : Fin 512) (a : Fin 112) (b : Fin 40) (hk : k.val = 128 * r.val + p.val) (hn : n.val = 128 * c.val + q.val)
    (ha : a.val = 28 * (i 1).val + r.val) (hb : b.val = 4 * (i 0).val + c.val) :
    piece (F := Ideal) i x0 x2 r c (ix2 p q) = (x2 (ix3 0 k n) : EReal) * (x0 (ix3 0 a b) : EReal) := by
  have ho := k0_off1_eq i r c
  unfold piece
  rw [mulf_apply, extf_apply, truncf_apply]
  refine congrArg₂ (fun u v : EReal => u * v) ?_ ?_
  · exact Widen.codes_apply (α := EReal) x2 _ _ _ p q k n rfl hk hn
  · exact Widen.scale_apply (α := EReal) x0 _ _ _ a b (congrFun ho 0) (ha.trans (congrFun ho 1).symm) (hb.trans (congrFun ho 2).symm)

/-- The tile's widened weight at `(k, n)`: the code there times the scale of its 128 x 128 block. -/
theorem wide_apply (i : grid0.Coords) (x0 : Vec Ideal S1x112x40 .f32) (x2 : Vec Ideal S1x3584x512 .fp8e4m3) (k : Fin 3584) (n : Fin 512)
    (a : Fin 112) (b : Fin 40) (ha : a.val = 28 * (i 1).val + k.val / 128) (hb : b.val = 4 * (i 0).val + n.val / 128) :
    wide (F := Ideal) i x0 x2 (ix2 k n) = (x2 (ix3 0 k n) : EReal) * (x0 (ix3 0 a b) : EReal) := by
  have hk := k.isLt; have hn := n.isLt
  have hr : k.val / 128 < 28 := by omega
  have hc : n.val / 128 < 4 := by omega
  unfold wide
  rw [Widen.tiles_apply (R := 28) (C := 4) (by decide) (by decide) rfl rfl _ k n ⟨k.val / 128, hr⟩ ⟨n.val / 128, hc⟩ rfl rfl]
  exact piece_apply i x0 x2 _ _ _ _ k n a b (Nat.div_add_mod _ _).symm (Nat.div_add_mod _ _).symm ha hb

/-- A point's block of `h` at `(p, n)`: what it starts from plus the row's product with the tile's column. -/
theorem block_apply (i : grid0.Coords) (x0 : Vec Ideal S1x112x40 .f32) (x1 : Vec Ideal S1920x3584 .bf16) (x2 : Vec Ideal S1x3584x512 .fp8e4m3)
    (x : Vec Ideal S1920x512 .f32) (p : Fin 1920) (n : Fin 512) :
    block (F := Ideal) i x0 x1 x2 x (ix2 p n) = (x (ix2 p n) : EReal) + ∑ k : Fin 3584, (x1 (ix2 p k) : EReal) * wide (F := Ideal) i x0 x2 (ix2 k n) := by
  unfold block
  generalize wide i x0 x2 = w
  pointwise [k0_pay1]

/-- Rounding to bf16 changes no number. -/
theorem copy_apply (x : Vec Ideal S1920x512 .f32) (p : Fin 1920) (n : Fin 512) : copy (F := Ideal) x (ix2 p n) = x (ix2 p n) := by
  unfold copy
  pointwise [k0_pay2]

/-- The blocks that the grid's points stage, as blocks of depth `d` of the arrays. -/
structure Staged (scales : Vec Ideal S2x112x40 .f32) (act : Vec Ideal S1920x14336 .bf16) (codes : Vec Ideal S2x14336x5120 .fp8e4m3) (res : Vec Ideal S1920x5120 .f32) (d : Fin 2)
    (b0 : Fin cfg0.N → Vec Ideal S1x112x40 .f32) (b1 : Fin cfg0.N → Vec Ideal S1920x3584 .bf16) (b2 : Fin cfg0.N → Vec Ideal S1x3584x512 .fp8e4m3) (b3 : Fin cfg0.N → Vec Ideal S1920x512 .f32) : Prop where
  /-- The scales are staged whole. -/
  scales : ∀ t a b, b0 t (ix3 0 a b) = scales (ix3 d a b)
  /-- The activations are staged in four stretches of columns. -/
  act : ∀ (t : Fin cfg0.N) (p : Fin 1920) (k : Fin 3584) (k' : Fin 14336), k'.val = t.val % 4 * 3584 + k.val → b1 t (ix2 p k) = act (ix2 p k')
  /-- The codes are staged in tiles of 3584 x 512. -/
  codes : ∀ (t : Fin cfg0.N) (k : Fin 3584) (n : Fin 512) (k' : Fin 14336) (n' : Fin 5120), k'.val = t.val % 4 * 3584 + k.val →
    n'.val = t.val / 4 * 512 + n.val → b2 t (ix3 0 k n) = codes (ix3 d k' n')
  /-- The residual is staged in columns of 512. -/
  res : ∀ (t : Fin cfg0.N) (p : Fin 1920) (n : Fin 512) (n' : Fin 5120), n'.val = t.val / 4 * 512 + n.val → b3 t (ix2 p n) = res (ix2 p n')

/-- Grid point `t` is step `t % 4` of column `t / 4`. -/
theorem coords_eq : ∀ t : Fin cfg0.N, (grid0.coords t 0).val = t.val / 4 ∧ (grid0.coords t 1).val = t.val % 4 :=
  (by decide +kernel : ∀ t : Fin grid0.N, _)

section
variable {scales : Vec Ideal S2x112x40 .f32} {act : Vec Ideal S1920x14336 .bf16} {codes : Vec Ideal S2x14336x5120 .fp8e4m3} {res : Vec Ideal S1920x5120 .f32} {d : Fin 2}
  {b0 : Fin cfg0.N → Vec Ideal S1x112x40 .f32} {b1 : Fin cfg0.N → Vec Ideal S1920x3584 .bf16} {b2 : Fin cfg0.N → Vec Ideal S1x3584x512 .fp8e4m3} {b3 : Fin cfg0.N → Vec Ideal S1920x512 .f32}

/-- A point adds the products of its stretch. -/
theorem Staged.point (h : Staged scales act codes res d b0 b1 b2 b3) (t : Fin cfg0.N) (x : Vec Ideal S1920x512 .f32) (p : Fin 1920) (n : Fin 512) (n' : Fin 5120)
    (hn : n'.val = t.val / 4 * 512 + n.val) (s : Fin 4) (hs : s.val = t.val % 4) :
    block (F := Ideal) (grid0.coords t) (b0 t) (b1 t) (b2 t) x (ix2 p n) = (x (ix2 p n) : EReal) + part scales act codes d s p n' := by
  obtain ⟨e0, e1⟩ := coords_eq t
  have ht : t.val < 40 := lt_of_lt_of_eq t.isLt N_0
  rw [block_apply]
  refine congrArg (fun u : EReal => (x (ix2 p n) : EReal) + u) (Finset.sum_congr rfl fun k _ => ?_)
  rw [h.act t p k ⟨s.val * 3584 + k.val, by omega⟩ (by simp only [hs]),
    wide_apply (grid0.coords t) (b0 t) (b2 t) k n ⟨(s.val * 3584 + k.val) / 128, by omega⟩ ⟨n'.val / 128, by omega⟩ (by simp only; omega) (by simp only; omega),
    h.codes t k n ⟨s.val * 3584 + k.val, by omega⟩ n' (by simp only [hs]) hn, h.scales]
  rfl

/-- After the last point of a column its block of `h` is the down projection's. -/
theorem Staged.column (st : Staged scales act codes res d b0 b1 b2 b3) (outs : (n : ℕ) → n < cfg0.N → Vec Ideal S1920x512 .f32)
    (first : ∀ t : Fin cfg0.N, t.val % 4 = 0 → outs t.val t.isLt = block (grid0.coords t) (b0 t) (b1 t) (b2 t) (b3 t))
    (next : ∀ (t : Fin cfg0.N) (u : ℕ) (lu : u < cfg0.N), ¬t.val % 4 = 0 → u + 1 = t.val → outs t.val t.isLt = block (grid0.coords t) (b0 t) (b1 t) (b2 t) (outs u lu))
    (t : Fin cfg0.N) (h1 : t.val % 4 = 3) (p : Fin 1920) (n : Fin 512) (n' : Fin 5120) (hn : n'.val = t.val / 4 * 512 + n.val) :
    outs t.val t.isLt (ix2 p n) = h scales act codes res d p n' := by
  obtain ⟨q, hq⟩ : ∃ q, t.val = q + 3 := ⟨t.val - 3, by omega⟩
  have l2 : q + 2 < cfg0.N := by have := t.isLt; omega
  have l1 : q + 1 < cfg0.N := by omega
  have l0 : q < cfg0.N := by omega
  rw [next t (q + 2) l2 (by omega) (by omega), st.point t _ p n n' hn 3 h1.symm,
    next ⟨q + 2, l2⟩ (q + 1) l1 (by simp only; omega) rfl, st.point ⟨q + 2, l2⟩ _ p n n' (by simp only; omega) 2 (show 2 = (q + 2) % 4 by omega),
    next ⟨q + 1, l1⟩ q l0 (by simp only; omega) rfl, st.point ⟨q + 1, l1⟩ _ p n n' (by simp only; omega) 1 (show 1 = (q + 1) % 4 by omega),
    first ⟨q, l0⟩ (by simp only; omega), st.point ⟨q, l0⟩ _ p n n' (by simp only; omega) 0 (show 0 = q % 4 by omega),
    st.res ⟨q, l0⟩ p n n' (by simp only; omega), h_eq]
end

end Cert.Down

end
-- ==== Proof.Down.Array0.lean ====
/-
  The arrays that the down projection's kernel of depth 0 ends with.
-/
module

public import proofs.«01_k».proof.Proof.Down.Block

@[expose] public section

noncomputable section

namespace Cert.Down0Ideal.Value

open Cert.Down0Ideal Cert.Down0Ideal.Gen Idealize.ShloMosaic Idealize.ShloMosaic.TcCoe Idealize.SL.Sem

variable (m : (ℓ : Loc nD τ sig) → Buf (Elt Ideal) ℓ)

/-- Where each window lies at point `t`. -/
theorem index_eq : ∀ t : Fin cfg0.N, win0_0.index t = ![0, 0, 0] ∧ win0_1.index t = ![0, t.val % 4] ∧ win0_2.index t = ![0, t.val % 4, t.val / 4]
    ∧ win0_3.index t = ![0, t.val / 4] ∧ win0_4.index t = ![0, t.val / 4] ∧ win0_5.index t = ![0, t.val / 4] :=
  (by decide +kernel : ∀ t : Fin grid0.N, _)

/-- The staged blocks are blocks of depth 0. -/
theorem staged (c : Dev nD) : Down.Staged (m ((c : Thread nD τ).loc main_arg2)) (m ((c : Thread nD τ).loc main_arg0)) (m ((c : Thread nD τ).loc main_arg1)) (m ((c : Thread nD τ).loc main_arg3)) 0
    (fun t => iblk m c 0 t) (fun t => iblk m c 1 t) (fun t => iblk m c 2 t) (fun t => iblk m c 3 t) := by
  refine ⟨fun t a b => ?_, fun t p k k' hk => ?_, fun t k n k' n' hk hn => ?_, fun t p n n' hn => ?_⟩
  · rw [← V_main_arg2 m c]
    refine congrArg (V m c main_arg2) (funext fun d => Fin.ext ?_)
    match d with
    | ⟨0, _⟩ => show win0_0.index t (0 : Fin 3) * 1 + 1 * 0 = 0; rw [(index_eq t).1]; rfl
    | ⟨1, _⟩ => show win0_0.index t (1 : Fin 3) * 112 + 1 * a.val = a.val; rw [(index_eq t).1]; simp
    | ⟨2, _⟩ => show win0_0.index t (2 : Fin 3) * 40 + 1 * b.val = b.val; rw [(index_eq t).1]; simp
  · rw [← V_main_arg0 m c]
    refine congrArg (V m c main_arg0) (funext fun d => Fin.ext ?_)
    match d with
    | ⟨0, _⟩ => show win0_1.index t (0 : Fin 2) * 1920 + 1 * p.val = p.val; rw [(index_eq t).2.1]; simp
    | ⟨1, _⟩ => show win0_1.index t (1 : Fin 2) * 3584 + 1 * k.val = k'.val; rw [(index_eq t).2.1, hk]; simp
  · rw [← V_main_arg1 m c]
    refine congrArg (V m c main_arg1) (funext fun d => Fin.ext ?_)
    match d with
    | ⟨0, _⟩ => show win0_2.index t (0 : Fin 3) * 1 + 1 * 0 = 0; rw [(index_eq t).2.2.1]; rfl
    | ⟨1, _⟩ => show win0_2.index t (1 : Fin 3) * 3584 + 1 * k.val = k'.val; rw [(index_eq t).2.2.1, hk]; simp
    | ⟨2, _⟩ => show win0_2.index t (2 : Fin 3) * 512 + 1 * n.val = n'.val; rw [(index_eq t).2.2.1, hn]; simp
  · rw [← V_main_arg3 m c]
    refine congrArg (V m c main_arg3) (funext fun d => Fin.ext ?_)
    match d with
    | ⟨0, _⟩ => show win0_3.index t (0 : Fin 2) * 1920 + 1 * p.val = p.val; rw [(index_eq t).2.2.2.1]; simp
    | ⟨1, _⟩ => show win0_3.index t (1 : Fin 2) * 512 + 1 * n.val = n'.val; rw [(index_eq t).2.2.2.1, hn]; simp

/-- After the last point of a column its block of `h` is the down projection's. -/
theorem column_apply (c : Dev nD) (t : Fin cfg0.N) (h1 : t.val % 4 = 3) (p : Fin 1920) (n : Fin 512) (n' : Fin 5120) (hn : n'.val = t.val / 4 * 512 + n.val) :
    (outsAt0 m c t.val t.isLt).1 (ix2 p n)
      = Down.arr (m ((c : Thread nD τ).loc main_arg2)) (m ((c : Thread nD τ).loc main_arg0)) (m ((c : Thread nD τ).loc main_arg1)) (m ((c : Thread nD τ).loc main_arg3)) 0 (ix2 p n') := by
  refine (staged m c).column (fun n hn => (outsAt0 m c n hn).1) (fun t h0 => ?_) (fun t u lu h0 hu => ?_) t h1 p n n' hn
  · rw [outsAt0_A m c t h0 (by omega)]
    dsimp only
    rw [out_A_4]
  · obtain rfl : u = t.val - 1 := by omega
    by_cases h1 : t.val % 4 = 3
    · rw [outsAt0_C m c t h0 h1]
      dsimp only
      rw [out_C_4]
    · rw [outsAt0_B m c t h0 h1]
      dsimp only
      rw [out_B_4]

/-- … and so is its bf16 copy. -/
theorem copy_apply (c : Dev nD) (t : Fin cfg0.N) (h1 : t.val % 4 = 3) (p : Fin 1920) (n : Fin 512) :
    (outsAt0 m c t.val t.isLt).2 (ix2 p n) = (outsAt0 m c t.val t.isLt).1 (ix2 p n) := by
  have h0 : ¬t.val % 4 = 0 := by omega
  rw [outsAt0_C m c t h0 h1]
  dsimp only
  rw [out_C_4, out_C_5]
  exact Down.copy_apply _ _ _

/-- Where a block's element lies in either result. -/
theorem emb_eq (t : Fin cfg0.N) (p : Fin 1920) (n : Fin 512) (n' : Fin 5120) (hn : n'.val = t.val / 4 * 512 + n.val) :
    ((cfg0.win 4).blk t).view.emb (ix2 p n) = (ix2 p n' : S1920x5120.Idx) ∧ ((cfg0.win 5).blk t).view.emb (ix2 p n) = (ix2 p n' : S1920x5120.Idx) := by
  obtain ⟨-, -, -, -, e4, e5⟩ := index_eq t
  refine ⟨funext fun d => Fin.ext ?_, funext fun d => Fin.ext ?_⟩
  · match d with
    | ⟨0, _⟩ => show win0_4.index t (0 : Fin 2) * 1920 + 1 * p.val = p.val; rw [e4]; simp
    | ⟨1, _⟩ => show win0_4.index t (1 : Fin 2) * 512 + 1 * n.val = n'.val; rw [e4, hn]; simp
  · match d with
    | ⟨0, _⟩ => show win0_5.index t (0 : Fin 2) * 1920 + 1 * p.val = p.val; rw [e5]; simp
    | ⟨1, _⟩ => show win0_5.index t (1 : Fin 2) * 512 + 1 * n.val = n'.val; rw [e5, hn]; simp

/-- Each column's last point is in the grid. -/
theorem last_lt (n : Fin 5120) : 4 * (n.val / 512) + 3 < cfg0.N := by rw [show cfg0.N = 40 from N_0]; omega

/-- The array `h` after the run. -/
theorem final4 (c : Dev nD) : (dats m 0 c).arrAt 4 cfg0.N
    = Down.arr (m ((c : Thread nD τ).loc main_arg2)) (m ((c : Thread nD τ).loc main_arg0)) (m ((c : Thread nD τ).loc main_arg1)) (m ((c : Thread nD τ).loc main_arg3)) 0 := by
  refine (dats m 0 c).arrAt_eq_of_cover 4 _ (fun t hf => ?_) fun i => ?_
  · have h1 := (flush0_4 t).1 hf
    have ht : t.val < 40 := lt_of_lt_of_eq t.isLt N_0
    rw [flushed4]
    funext (j : S1920x512.Idx)
    idx_vars j
    revert j0 j1; intro p n
    have e := column_apply m c t h1 p n ⟨t.val / 4 * 512 + n.val, by omega⟩ rfl
    rw [← (emb_eq t p n ⟨t.val / 4 * 512 + n.val, by omega⟩ rfl).1] at e
    generalize Down.arr _ _ _ _ 0 = a at e ⊢
    exact e
  · change S1920x5120.Idx at i
    idx_vars i
    revert i0 i1; intro p n
    refine ⟨⟨4 * (n.val / 512) + 3, last_lt n⟩, (flush0_4 _).2 (by simp only; omega), ?_⟩
    rw [← (emb_eq ⟨4 * (n.val / 512) + 3, last_lt n⟩ p ⟨n.val % 512, by omega⟩ n (by simp only; omega)).1]
    exact View.emb_mem_set _ _

/-- The bf16 copy of `h` after the run. -/
theorem final5 (c : Dev nD) : (dats m 0 c).arrAt 5 cfg0.N
    = Down.arr (m ((c : Thread nD τ).loc main_arg2)) (m ((c : Thread nD τ).loc main_arg0)) (m ((c : Thread nD τ).loc main_arg1)) (m ((c : Thread nD τ).loc main_arg3)) 0 := by
  refine (dats m 0 c).arrAt_eq_of_cover 5 _ (fun t hf => ?_) fun i => ?_
  · have h1 := (flush0_5 t).1 hf
    have ht : t.val < 40 := lt_of_lt_of_eq t.isLt N_0
    rw [flushed5]
    funext (j : S1920x512.Idx)
    idx_vars j
    revert j0 j1; intro p n
    have e := (copy_apply m c t h1 p n).trans (column_apply m c t h1 p n ⟨t.val / 4 * 512 + n.val, by omega⟩ rfl)
    rw [← (emb_eq t p n ⟨t.val / 4 * 512 + n.val, by omega⟩ rfl).2] at e
    generalize Down.arr _ _ _ _ 0 = a at e ⊢
    exact e
  · change S1920x5120.Idx at i
    idx_vars i
    revert i0 i1; intro p n
    refine ⟨⟨4 * (n.val / 512) + 3, last_lt n⟩, (flush0_5 _).2 (by simp only; omega), ?_⟩
    rw [← (emb_eq ⟨4 * (n.val / 512) + 3, last_lt n⟩ p ⟨n.val % 512, by omega⟩ n (by simp only; omega)).2]
    exact View.emb_mem_set _ _

end Cert.Down0Ideal.Value

end
-- ==== Proof.Down.Array1.lean ====
/-
  The arrays that the down projection's kernel of depth 1 ends with.
-/
module

public import proofs.«01_k».proof.Proof.Down.Block

@[expose] public section

noncomputable section

namespace Cert.Down1Ideal.Value

open Cert.Down1Ideal Cert.Down1Ideal.Gen Idealize.ShloMosaic Idealize.ShloMosaic.TcCoe Idealize.SL.Sem

variable (m : (ℓ : Loc nD τ sig) → Buf (Elt Ideal) ℓ)

/-- Where each window lies at point `t`. -/
theorem index_eq : ∀ t : Fin cfg0.N, win0_0.index t = ![1, 0, 0] ∧ win0_1.index t = ![0, t.val % 4] ∧ win0_2.index t = ![1, t.val % 4, t.val / 4]
    ∧ win0_3.index t = ![0, t.val / 4] ∧ win0_4.index t = ![0, t.val / 4] ∧ win0_5.index t = ![0, t.val / 4] :=
  (by decide +kernel : ∀ t : Fin grid0.N, _)

/-- The staged blocks are blocks of depth 1. -/
theorem staged (c : Dev nD) : Down.Staged (m ((c : Thread nD τ).loc main_arg2)) (m ((c : Thread nD τ).loc main_arg0)) (m ((c : Thread nD τ).loc main_arg1)) (m ((c : Thread nD τ).loc main_arg3)) 1
    (fun t => iblk m c 0 t) (fun t => iblk m c 1 t) (fun t => iblk m c 2 t) (fun t => iblk m c 3 t) := by
  refine ⟨fun t a b => ?_, fun t p k k' hk => ?_, fun t k n k' n' hk hn => ?_, fun t p n n' hn => ?_⟩
  · rw [← V_main_arg2 m c]
    refine congrArg (V m c main_arg2) (funext fun d => Fin.ext ?_)
    match d with
    | ⟨0, _⟩ => show win0_0.index t (0 : Fin 3) * 1 + 1 * 0 = 1; rw [(index_eq t).1]; rfl
    | ⟨1, _⟩ => show win0_0.index t (1 : Fin 3) * 112 + 1 * a.val = a.val; rw [(index_eq t).1]; simp
    | ⟨2, _⟩ => show win0_0.index t (2 : Fin 3) * 40 + 1 * b.val = b.val; rw [(index_eq t).1]; simp
  · rw [← V_main_arg0 m c]
    refine congrArg (V m c main_arg0) (funext fun d => Fin.ext ?_)
    match d with
    | ⟨0, _⟩ => show win0_1.index t (0 : Fin 2) * 1920 + 1 * p.val = p.val; rw [(index_eq t).2.1]; simp
    | ⟨1, _⟩ => show win0_1.index t (1 : Fin 2) * 3584 + 1 * k.val = k'.val; rw [(index_eq t).2.1, hk]; simp
  · rw [← V_main_arg1 m c]
    refine congrArg (V m c main_arg1) (funext fun d => Fin.ext ?_)
    match d with
    | ⟨0, _⟩ => show win0_2.index t (0 : Fin 3) * 1 + 1 * 0 = 1; rw [(index_eq t).2.2.1]; rfl
    | ⟨1, _⟩ => show win0_2.index t (1 : Fin 3) * 3584 + 1 * k.val = k'.val; rw [(index_eq t).2.2.1, hk]; simp
    | ⟨2, _⟩ => show win0_2.index t (2 : Fin 3) * 512 + 1 * n.val = n'.val; rw [(index_eq t).2.2.1, hn]; simp
  · rw [← V_main_arg3 m c]
    refine congrArg (V m c main_arg3) (funext fun d => Fin.ext ?_)
    match d with
    | ⟨0, _⟩ => show win0_3.index t (0 : Fin 2) * 1920 + 1 * p.val = p.val; rw [(index_eq t).2.2.2.1]; simp
    | ⟨1, _⟩ => show win0_3.index t (1 : Fin 2) * 512 + 1 * n.val = n'.val; rw [(index_eq t).2.2.2.1, hn]; simp

/-- After the last point of a column its block of `h` is the down projection's. -/
theorem column_apply (c : Dev nD) (t : Fin cfg0.N) (h1 : t.val % 4 = 3) (p : Fin 1920) (n : Fin 512) (n' : Fin 5120) (hn : n'.val = t.val / 4 * 512 + n.val) :
    (outsAt0 m c t.val t.isLt).1 (ix2 p n)
      = Down.arr (m ((c : Thread nD τ).loc main_arg2)) (m ((c : Thread nD τ).loc main_arg0)) (m ((c : Thread nD τ).loc main_arg1)) (m ((c : Thread nD τ).loc main_arg3)) 1 (ix2 p n') := by
  refine (staged m c).column (fun n hn => (outsAt0 m c n hn).1) (fun t h0 => ?_) (fun t u lu h0 hu => ?_) t h1 p n n' hn
  · rw [outsAt0_A m c t h0 (by omega)]
    dsimp only
    rw [out_A_4]
  · obtain rfl : u = t.val - 1 := by omega
    by_cases h1 : t.val % 4 = 3
    · rw [outsAt0_C m c t h0 h1]
      dsimp only
      rw [out_C_4]
    · rw [outsAt0_B m c t h0 h1]
      dsimp only
      rw [out_B_4]

/-- … and so is its bf16 copy. -/
theorem copy_apply (c : Dev nD) (t : Fin cfg0.N) (h1 : t.val % 4 = 3) (p : Fin 1920) (n : Fin 512) :
    (outsAt0 m c t.val t.isLt).2 (ix2 p n) = (outsAt0 m c t.val t.isLt).1 (ix2 p n) := by
  have h0 : ¬t.val % 4 = 0 := by omega
  rw [outsAt0_C m c t h0 h1]
  dsimp only
  rw [out_C_4, out_C_5]
  exact Down.copy_apply _ _ _

/-- Where a block's element lies in either result. -/
theorem emb_eq (t : Fin cfg0.N) (p : Fin 1920) (n : Fin 512) (n' : Fin 5120) (hn : n'.val = t.val / 4 * 512 + n.val) :
    ((cfg0.win 4).blk t).view.emb (ix2 p n) = (ix2 p n' : S1920x5120.Idx) ∧ ((cfg0.win 5).blk t).view.emb (ix2 p n) = (ix2 p n' : S1920x5120.Idx) := by
  obtain ⟨-, -, -, -, e4, e5⟩ := index_eq t
  refine ⟨funext fun d => Fin.ext ?_, funext fun d => Fin.ext ?_⟩
  · match d with
    | ⟨0, _⟩ => show win0_4.index t (0 : Fin 2) * 1920 + 1 * p.val = p.val; rw [e4]; simp
    | ⟨1, _⟩ => show win0_4.index t (1 : Fin 2) * 512 + 1 * n.val = n'.val; rw [e4, hn]; simp
  · match d with
    | ⟨0, _⟩ => show win0_5.index t (0 : Fin 2) * 1920 + 1 * p.val = p.val; rw [e5]; simp
    | ⟨1, _⟩ => show win0_5.index t (1 : Fin 2) * 512 + 1 * n.val = n'.val; rw [e5, hn]; simp

/-- Each column's last point is in the grid. -/
theorem last_lt (n : Fin 5120) : 4 * (n.val / 512) + 3 < cfg0.N := by rw [show cfg0.N = 40 from N_0]; omega

/-- The array `h` after the run. -/
theorem final4 (c : Dev nD) : (dats m 0 c).arrAt 4 cfg0.N
    = Down.arr (m ((c : Thread nD τ).loc main_arg2)) (m ((c : Thread nD τ).loc main_arg0)) (m ((c : Thread nD τ).loc main_arg1)) (m ((c : Thread nD τ).loc main_arg3)) 1 := by
  refine (dats m 0 c).arrAt_eq_of_cover 4 _ (fun t hf => ?_) fun i => ?_
  · have h1 := (flush0_4 t).1 hf
    have ht : t.val < 40 := lt_of_lt_of_eq t.isLt N_0
    rw [flushed4]
    funext (j : S1920x512.Idx)
    idx_vars j
    revert j0 j1; intro p n
    have e := column_apply m c t h1 p n ⟨t.val / 4 * 512 + n.val, by omega⟩ rfl
    rw [← (emb_eq t p n ⟨t.val / 4 * 512 + n.val, by omega⟩ rfl).1] at e
    generalize Down.arr _ _ _ _ 1 = a at e ⊢
    exact e
  · change S1920x5120.Idx at i
    idx_vars i
    revert i0 i1; intro p n
    refine ⟨⟨4 * (n.val / 512) + 3, last_lt n⟩, (flush0_4 _).2 (by simp only; omega), ?_⟩
    rw [← (emb_eq ⟨4 * (n.val / 512) + 3, last_lt n⟩ p ⟨n.val % 512, by omega⟩ n (by simp only; omega)).1]
    exact View.emb_mem_set _ _

/-- The bf16 copy of `h` after the run. -/
theorem final5 (c : Dev nD) : (dats m 0 c).arrAt 5 cfg0.N
    = Down.arr (m ((c : Thread nD τ).loc main_arg2)) (m ((c : Thread nD τ).loc main_arg0)) (m ((c : Thread nD τ).loc main_arg1)) (m ((c : Thread nD τ).loc main_arg3)) 1 := by
  refine (dats m 0 c).arrAt_eq_of_cover 5 _ (fun t hf => ?_) fun i => ?_
  · have h1 := (flush0_5 t).1 hf
    have ht : t.val < 40 := lt_of_lt_of_eq t.isLt N_0
    rw [flushed5]
    funext (j : S1920x512.Idx)
    idx_vars j
    revert j0 j1; intro p n
    have e := (copy_apply m c t h1 p n).trans (column_apply m c t h1 p n ⟨t.val / 4 * 512 + n.val, by omega⟩ rfl)
    rw [← (emb_eq t p n ⟨t.val / 4 * 512 + n.val, by omega⟩ rfl).2] at e
    generalize Down.arr _ _ _ _ 1 = a at e ⊢
    exact e
  · change S1920x5120.Idx at i
    idx_vars i
    revert i0 i1; intro p n
    refine ⟨⟨4 * (n.val / 512) + 3, last_lt n⟩, (flush0_5 _).2 (by simp only; omega), ?_⟩
    rw [← (emb_eq ⟨4 * (n.val / 512) + 3, last_lt n⟩ p ⟨n.val % 512, by omega⟩ n (by simp only; omega)).2]
    exact View.emb_mem_set _ _

end Cert.Down1Ideal.Value

end
-- ==== Proof.Down.Equation.lean ====
/-
  The down projection's kernels and their references end with equal arrays.
-/
module

public import proofs.«01_k».proof.Defs
public import proofs.«01_k».proof.Proof.Down.Array0
public import proofs.«01_k».proof.Proof.Down.Array1

@[expose] public section

noncomputable section

namespace Cert.Down

open Idealize.ShloMosaic Idealize.ShloMosaic.TcCoe Idealize.SL.Sem

/-- From equal arguments the kernel of depth 0 and its reference both end with the down projection and its bf16 copy. -/
theorem algebraic0 : Cert.algebraic_Down0Ideal_Down0RefIdeal (hDown0Ideal := Cert.Down0Ideal.Gen.facts) (hDown0RefIdeal := Cert.Down0RefIdeal.Gen.facts) := by
  intro m g m' g' _ hargs
  refine ⟨fun c => arr (m ((c : Thread Cert.Down0Ideal.nD Cert.Down0Ideal.τ).loc Cert.Down0Ideal.main_arg2)) (m ((c : Thread Cert.Down0Ideal.nD Cert.Down0Ideal.τ).loc Cert.Down0Ideal.main_arg0)) (m ((c : Thread Cert.Down0Ideal.nD Cert.Down0Ideal.τ).loc Cert.Down0Ideal.main_arg1)) (m ((c : Thread Cert.Down0Ideal.nD Cert.Down0Ideal.τ).loc Cert.Down0Ideal.main_arg3)) 0,
    fun c => arr (m ((c : Thread Cert.Down0Ideal.nD Cert.Down0Ideal.τ).loc Cert.Down0Ideal.main_arg2)) (m ((c : Thread Cert.Down0Ideal.nD Cert.Down0Ideal.τ).loc Cert.Down0Ideal.main_arg0)) (m ((c : Thread Cert.Down0Ideal.nD Cert.Down0Ideal.τ).loc Cert.Down0Ideal.main_arg1)) (m ((c : Thread Cert.Down0Ideal.nD Cert.Down0Ideal.τ).loc Cert.Down0Ideal.main_arg3)) 0, ?_, ?_⟩
  · refine (θ_run (Cert.Down0Ideal.defs (F := Ideal)) _ _).mono (fun r h c => ?_) (Cert.Down0Ideal.Value.run_blocks (F := Ideal) m g)
    obtain ⟨hv, hw, hs⟩ := h c
    exact ⟨hv.trans (Cert.Down0Ideal.Value.final4 m c), hw.trans (Cert.Down0Ideal.Value.final5 m c), hs⟩
  · refine (θ_run (Cert.Down0RefIdeal.defs (F := Ideal)) _ _).mono (fun r h c => ?_) (Cert.Down0RefIdeal.Value.run (F := Ideal) m' g')
    obtain ⟨hv, hw, hs⟩ := h c
    refine ⟨hv.trans ?_, hw.trans ?_, hs⟩
    · rw [(hargs c).1, (hargs c).2.1, (hargs c).2.2.1, (hargs c).2.2.2]
      exact reference0 ..
    · rw [(hargs c).1, (hargs c).2.1, (hargs c).2.2.1, (hargs c).2.2.2]
      exact reference_copy0 ..

/-- From equal arguments the kernel of depth 1 and its reference both end with the down projection and its bf16 copy. -/
theorem algebraic1 : Cert.algebraic_Down1Ideal_Down1RefIdeal (hDown1Ideal := Cert.Down1Ideal.Gen.facts) (hDown1RefIdeal := Cert.Down1RefIdeal.Gen.facts) := by
  intro m g m' g' _ hargs
  refine ⟨fun c => arr (m ((c : Thread Cert.Down1Ideal.nD Cert.Down1Ideal.τ).loc Cert.Down1Ideal.main_arg2)) (m ((c : Thread Cert.Down1Ideal.nD Cert.Down1Ideal.τ).loc Cert.Down1Ideal.main_arg0)) (m ((c : Thread Cert.Down1Ideal.nD Cert.Down1Ideal.τ).loc Cert.Down1Ideal.main_arg1)) (m ((c : Thread Cert.Down1Ideal.nD Cert.Down1Ideal.τ).loc Cert.Down1Ideal.main_arg3)) 1,
    fun c => arr (m ((c : Thread Cert.Down1Ideal.nD Cert.Down1Ideal.τ).loc Cert.Down1Ideal.main_arg2)) (m ((c : Thread Cert.Down1Ideal.nD Cert.Down1Ideal.τ).loc Cert.Down1Ideal.main_arg0)) (m ((c : Thread Cert.Down1Ideal.nD Cert.Down1Ideal.τ).loc Cert.Down1Ideal.main_arg1)) (m ((c : Thread Cert.Down1Ideal.nD Cert.Down1Ideal.τ).loc Cert.Down1Ideal.main_arg3)) 1, ?_, ?_⟩
  · refine (θ_run (Cert.Down1Ideal.defs (F := Ideal)) _ _).mono (fun r h c => ?_) (Cert.Down1Ideal.Value.run_blocks (F := Ideal) m g)
    obtain ⟨hv, hw, hs⟩ := h c
    exact ⟨hv.trans (Cert.Down1Ideal.Value.final4 m c), hw.trans (Cert.Down1Ideal.Value.final5 m c), hs⟩
  · refine (θ_run (Cert.Down1RefIdeal.defs (F := Ideal)) _ _).mono (fun r h c => ?_) (Cert.Down1RefIdeal.Value.run (F := Ideal) m' g')
    obtain ⟨hv, hw, hs⟩ := h c
    refine ⟨hv.trans ?_, hw.trans ?_, hs⟩
    · rw [(hargs c).1, (hargs c).2.1, (hargs c).2.2.1, (hargs c).2.2.2]
      exact reference1 ..
    · rw [(hargs c).1, (hargs c).2.1, (hargs c).2.2.1, (hargs c).2.2.2]
      exact reference_copy1 ..

end Cert.Down

end
-- ==== Proof.Merge.Point.lean ====
/-
  What one grid point of the merge projection leaves in its result block: the widened weight tile as a matrix of blocks,
  and the block as the running sum plus one product. The two depths share it, since their kernels differ only in which
  slice of the weights they stage.
-/
module

public import proofs.«01_k».proof.Proof.Widen
public import proofs.«01_k».proof.Proof.Gen.Merge0Ideal.Value
public import proofs.«01_k».proof.Proof.Gen.Merge1Ideal.Value
public import Idealize.ShloMosaic.Lib.Tactic

@[expose] public section

noncomputable section

namespace Cert.Merge

open Cert.Merge0Ideal Cert.Merge0Ideal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- Block `(r, c)` of the tile's codes lies inside the tile. -/
theorem codes_inb (r : Fin 20) (c : Fin 4) : ∀ a, (![0, 128 * r.val, 128 * c.val] : Fin 3 → Nat) a + S1x128x128.size a ≤ S1x2560x512.size a := by
  have := r.isLt; have := c.isLt
  intro a; fin_cases a <;> simp <;> omega

/-- Block `(r, c)` of the tile's weight: its codes times its scale. -/
def piece (i : grid0.Coords) (x0 : Vec F S1x80x40 .f32) (x2 : Vec F S1x2560x512 .fp8e4m3) (r : Fin 20) (c : Fin 4) : FVec F S128x128 .bf16 :=
  mulf (extf .bf16 (shapeCast S128x128 (View.ld x2 (Rect.unit (s := S1x2560x512) ![0, 128 * r.val, 128 * c.val] S1x128x128.size (codes_inb r c))) shapeCasts_S1x128x128_S128x128 : FVec F S128x128 .fp8e4m3) bitsLt_fp8e4m3_bf16)
    (truncf .bf16 (broadcast S128x128 (View.ld x0 (Rect.unit (s := S1x80x40) (k0_off1 i (BitVec.ofNat 32 r.val) (BitVec.ofNat 32 c.val)) S1x1x1.size (k0_off1_inb i r c)) (Shape.Idx.first (show 0 < S1x1x1.numel by decide))) : FVec F S128x128 .f32) bitsLt_bf16_f32)

/-- The tile's widened weight: 20 rows of 4 blocks. -/
def wide (i : grid0.Coords) (x0 : Vec F S1x80x40 .f32) (x2 : Vec F S1x2560x512 .fp8e4m3) : FVec F S2560x512 .bf16 :=
  Widen.tiles (R := 20) (C := 4) (by decide) (by decide) rfl rfl (piece i x0 x2)

/-- A point's block: what it starts from plus the product of the staged rows with the widened tile. -/
def block (i : grid0.Coords) (x0 : Vec F S1x80x40 .f32) (x1 : Vec F S1920x2560 .bf16) (x2 : Vec F S1x2560x512 .fp8e4m3) (x : Vec F S1920x512 .f32) : FVec F S1920x512 .f32 :=
  k0_pay3 (wide i x0 x2) x x1

/-- Zeros, what the first point of a column starts from. -/
def start : FVec F S1920x512 .f32 := k0_pay2

end Cert.Merge

namespace Cert.Merge0Ideal.Value

open Cert.Merge0Ideal Cert.Merge0Ideal.Gen Cert.Merge Idealize.ShloMosaic Idealize.ShloMosaic.TcCoe Idealize.SL.Sem

variable {F : FTy → Type} [FloatOps F]

set_option maxRecDepth 65536 in
/-- The first point of a column starts from zeros. -/
theorem out_A (c : Dev nD) (i : grid0.Coords) (arg2 : Memref sig .tc .smem S1x80x40 .f32) (harg2 : arg2.IsWhole) (arg3 : Memref sig .tc .vmem S1920x2560 .bf16) (harg3 : arg3.IsWhole) (arg4 : Memref sig .tc .vmem S1x2560x512 .fp8e4m3) (harg4 : arg4.IsWhole) (arg5 : Memref sig .tc .vmem S1920x512 .f32) (harg5 : arg5.IsWhole) (hc0 : cond0_0 i)
    (x0 : Vec F S1x80x40 .f32) (x1 : Vec F S1920x2560 .bf16) (x2 : Vec F S1x2560x512 .fp8e4m3) :
    out0_A_3 c i arg2 harg2 arg3 harg3 arg4 harg4 arg5 harg5 hc0 x0 x1 x2 = block i x0 x1 x2 start := by
  unfold out0_A_3
  rw [View.read_writes_eq_canon _ _ _ (fun y => cover0_A_3 c i arg2 harg2 arg3 harg3 arg4 harg4 arg5 harg5 hc0 x0 x1 x2 y)]
  unfold kernelRun0_A
  dsimp only
  sl_unfold_words
  rw [View.canon_cons_unit_zero (S := S1920x512) hz, View.readCov_unit_zero (S := S1920x512) _ hz]
  simp only [View.readAt_eq_ld]
  rw [harg2.read_unread x0, harg3.read_unread x1, harg4.read_unread x2, View.ld_unit_zero (S := S1920x2560) hz]
  sl_kernel_rfl

set_option maxRecDepth 65536 in
/-- Every other point adds its product to what the point before left. -/
theorem out_B (c : Dev nD) (i : grid0.Coords) (arg2 : Memref sig .tc .smem S1x80x40 .f32) (harg2 : arg2.IsWhole) (arg3 : Memref sig .tc .vmem S1920x2560 .bf16) (harg3 : arg3.IsWhole) (arg4 : Memref sig .tc .vmem S1x2560x512 .fp8e4m3) (harg4 : arg4.IsWhole) (arg5 : Memref sig .tc .vmem S1920x512 .f32) (harg5 : arg5.IsWhole) (hc0 : ¬cond0_0 i)
    (x0 : Vec F S1x80x40 .f32) (x1 : Vec F S1920x2560 .bf16) (x2 : Vec F S1x2560x512 .fp8e4m3) (xo3 : Vec F S1920x512 .f32) :
    out0_B_3 c i arg2 harg2 arg3 harg3 arg4 harg4 arg5 harg5 hc0 x0 x1 x2 xo3 = block i x0 x1 x2 xo3 := by
  unfold out0_B_3
  rw [View.read_writes_eq_canon _ _ _ (fun y => cover0_B_3 c i arg2 harg2 arg3 harg3 arg4 harg4 arg5 harg5 hc0 x0 x1 x2 xo3 y)]
  unfold kernelRun0_B
  dsimp only
  sl_unfold_words
  rw [View.canon_unit_zero hz]
  simp only [View.readAt_eq_ld]
  rw [harg2.read_unread x0, harg3.read_unread x1, harg4.read_unread x2, harg5.read_unread xo3, View.ld_unit_zero (S := S1920x512) hz, View.ld_unit_zero (S := S1920x2560) hz]
  sl_kernel_rfl

end Cert.Merge0Ideal.Value

namespace Cert.Merge1Ideal.Value

open Cert.Merge1Ideal Cert.Merge1Ideal.Gen Cert.Merge Idealize.ShloMosaic Idealize.ShloMosaic.TcCoe Idealize.SL.Sem

variable {F : FTy → Type} [FloatOps F]

set_option maxRecDepth 65536 in
/-- The first point of a column starts from zeros. -/
theorem out_A (c : Dev nD) (i : grid0.Coords) (arg2 : Memref sig .tc .smem S1x80x40 .f32) (harg2 : arg2.IsWhole) (arg3 : Memref sig .tc .vmem S1920x2560 .bf16) (harg3 : arg3.IsWhole) (arg4 : Memref sig .tc .vmem S1x2560x512 .fp8e4m3) (harg4 : arg4.IsWhole) (arg5 : Memref sig .tc .vmem S1920x512 .f32) (harg5 : arg5.IsWhole) (hc0 : cond0_0 i)
    (x0 : Vec F S1x80x40 .f32) (x1 : Vec F S1920x2560 .bf16) (x2 : Vec F S1x2560x512 .fp8e4m3) :
    out0_A_3 c i arg2 harg2 arg3 harg3 arg4 harg4 arg5 harg5 hc0 x0 x1 x2 = block i x0 x1 x2 start :=
  Cert.Merge0Ideal.Value.out_A c i arg2 harg2 arg3 harg3 arg4 harg4 arg5 harg5 hc0 x0 x1 x2

set_option maxRecDepth 65536 in
/-- Every other point adds its product to what the point before left. -/
theorem out_B (c : Dev nD) (i : grid0.Coords) (arg2 : Memref sig .tc .smem S1x80x40 .f32) (harg2 : arg2.IsWhole) (arg3 : Memref sig .tc .vmem S1920x2560 .bf16) (harg3 : arg3.IsWhole) (arg4 : Memref sig .tc .vmem S1x2560x512 .fp8e4m3) (harg4 : arg4.IsWhole) (arg5 : Memref sig .tc .vmem S1920x512 .f32) (harg5 : arg5.IsWhole) (hc0 : ¬cond0_0 i)
    (x0 : Vec F S1x80x40 .f32) (x1 : Vec F S1920x2560 .bf16) (x2 : Vec F S1x2560x512 .fp8e4m3) (xo3 : Vec F S1920x512 .f32) :
    out0_B_3 c i arg2 harg2 arg3 harg3 arg4 harg4 arg5 harg5 hc0 x0 x1 x2 xo3 = block i x0 x1 x2 xo3 :=
  Cert.Merge0Ideal.Value.out_B c i arg2 harg2 arg3 harg3 arg4 harg4 arg5 harg5 hc0 x0 x1 x2 xo3

end Cert.Merge1Ideal.Value

end
-- ==== Proof.Merge.Product.lean ====
/-
  The merge projection as mathematics, `u · weight`, and the references' arrays as that.
-/
module

public import proofs.«01_k».proof.Proof.Gen.Merge0RefIdeal.Value
public import proofs.«01_k».proof.Proof.Gen.Merge1RefIdeal.Value
public import proofs.«01_k».proof.Proof.Widen
public import Idealize.ShloMosaic.PureOps.Ideal
public import Idealize.ShloMosaic.Lib.Pointwise

@[expose] public section

noncomputable section

namespace Cert.Merge

open Cert.Merge0RefIdeal Idealize.ShloMosaic Idealize.ShloMosaic.TcCoe Idealize.SL.Sem

/-- The weight of depth `d` at `(k, n)`: its code times the scale of its 128 x 128 block. -/
def weight (scales : Vec Ideal S2x80x40 .f32) (codes : Vec Ideal S2x10240x5120 .fp8e4m3) (d : Fin 2) (k : Fin 10240) (n : Fin 5120) : EReal :=
  (codes (ix3 d k n) : EReal) * (scales (ix3 d ⟨k.val / 128, by omega⟩ ⟨n.val / 128, by omega⟩) : EReal)

/-- The merge projection at `(p, n)`: the row's product with the weight's column. -/
def product (scales : Vec Ideal S2x80x40 .f32) (act : Vec Ideal S1920x10240 .bf16) (codes : Vec Ideal S2x10240x5120 .fp8e4m3)
    (d : Fin 2) (p : Fin 1920) (n : Fin 5120) : EReal :=
  ∑ k : Fin 10240, (act (ix2 p k) : EReal) * weight scales codes d k n

/-- It as an array. -/
def arr (scales : Vec Ideal S2x80x40 .f32) (act : Vec Ideal S1920x10240 .bf16) (codes : Vec Ideal S2x10240x5120 .fp8e4m3)
    (d : Fin 2) : S1920x5120.Idx → EReal := fun y => product scales act codes d (y 0) (y 1)

/-- The reference of depth 0 computes it. -/
theorem reference0 (scales : Vec Ideal S2x80x40 .f32) (act : Vec Ideal S1920x10240 .bf16) (codes : Vec Ideal S2x10240x5120 .fp8e4m3) :
    Cert.Merge0RefIdeal.Value.G3 (F := Ideal) scales act codes = arr scales act codes 0 := by
  funext y
  idx_vars y
  unfold Cert.Merge0RefIdeal.Value.G3
  pointwise [Cert.Merge0RefIdeal.Gen.k0_pay1]
  rfl

/-- The reference of depth 1 computes it. -/
theorem reference1 (scales : Vec Ideal S2x80x40 .f32) (act : Vec Ideal S1920x10240 .bf16) (codes : Vec Ideal S2x10240x5120 .fp8e4m3) :
    Cert.Merge1RefIdeal.Value.G3 (F := Ideal) scales act codes = arr scales act codes 1 := by
  funext y
  idx_vars y
  unfold Cert.Merge1RefIdeal.Value.G3
  pointwise [Cert.Merge1RefIdeal.Gen.k0_pay1]
  rfl

/-- The products of stretch `s` of 2560 of the 10240 inner positions. -/
def part (scales : Vec Ideal S2x80x40 .f32) (act : Vec Ideal S1920x10240 .bf16) (codes : Vec Ideal S2x10240x5120 .fp8e4m3)
    (d : Fin 2) (s : Fin 4) (p : Fin 1920) (n : Fin 5120) : EReal :=
  ∑ k : Fin 2560, (act (ix2 p ⟨s.val * 2560 + k.val, by omega⟩) : EReal) * weight scales codes d ⟨s.val * 2560 + k.val, by omega⟩ n

/-- The merge projection adds the four stretches in turn. -/
theorem product_eq (scales : Vec Ideal S2x80x40 .f32) (act : Vec Ideal S1920x10240 .bf16) (codes : Vec Ideal S2x10240x5120 .fp8e4m3)
    (d : Fin 2) (p : Fin 1920) (n : Fin 5120) :
    product scales act codes d p n = 0 + part scales act codes d 0 p n + part scales act codes d 1 p n
      + part scales act codes d 2 p n + part scales act codes d 3 p n := by
  unfold product
  rw [Widen.sum_stretches 4 2560, Fin.sum_univ_four, zero_add]
  rfl

end Cert.Merge

end
-- ==== Proof.Merge.Block.lean ====
/-
  A column of the merge projection's kernel over the extended reals: whatever blocks its four points stage, provided they
  are the blocks of the arrays, the column they leave is the merge projection's.
-/
module

public import proofs.«01_k».proof.Proof.Merge.Point
public import proofs.«01_k».proof.Proof.Merge.Product

@[expose] public section

noncomputable section

namespace Cert.Merge

open Cert.Merge0Ideal Cert.Merge0Ideal.Gen Idealize.ShloMosaic Idealize.ShloMosaic.TcCoe Idealize.SL.Sem

/-- A block of the tile's widened weight at `(p, q)`: the code there times the block's scale. -/
theorem piece_apply (i : grid0.Coords) (x0 : Vec Ideal S1x80x40 .f32) (x2 : Vec Ideal S1x2560x512 .fp8e4m3) (r : Fin 20) (c : Fin 4) (p q : Fin 128)
    (k : Fin 2560) (n : Fin 512) (a : Fin 80) (b : Fin 40) (hk : k.val = 128 * r.val + p.val) (hn : n.val = 128 * c.val + q.val)
    (ha : a.val = 20 * (i 1).val + r.val) (hb : b.val = 4 * (i 0).val + c.val) :
    piece (F := Ideal) i x0 x2 r c (ix2 p q) = (x2 (ix3 0 k n) : EReal) * (x0 (ix3 0 a b) : EReal) := by
  have ho := k0_off1_eq i r c
  unfold piece
  rw [mulf_apply, extf_apply, truncf_apply]
  refine congrArg₂ (fun u v : EReal => u * v) ?_ ?_
  · exact Widen.codes_apply (α := EReal) x2 _ _ _ p q k n rfl hk hn
  · exact Widen.scale_apply (α := EReal) x0 _ _ _ a b (congrFun ho 0) (ha.trans (congrFun ho 1).symm) (hb.trans (congrFun ho 2).symm)

/-- The tile's widened weight at `(k, n)`: the code there times the scale of its 128 x 128 block. -/
theorem wide_apply (i : grid0.Coords) (x0 : Vec Ideal S1x80x40 .f32) (x2 : Vec Ideal S1x2560x512 .fp8e4m3) (k : Fin 2560) (n : Fin 512)
    (a : Fin 80) (b : Fin 40) (ha : a.val = 20 * (i 1).val + k.val / 128) (hb : b.val = 4 * (i 0).val + n.val / 128) :
    wide (F := Ideal) i x0 x2 (ix2 k n) = (x2 (ix3 0 k n) : EReal) * (x0 (ix3 0 a b) : EReal) := by
  have hk := k.isLt; have hn := n.isLt
  have hr : k.val / 128 < 20 := by omega
  have hc : n.val / 128 < 4 := by omega
  unfold wide
  rw [Widen.tiles_apply (R := 20) (C := 4) (by decide) (by decide) rfl rfl _ k n ⟨k.val / 128, hr⟩ ⟨n.val / 128, hc⟩ rfl rfl]
  exact piece_apply i x0 x2 _ _ _ _ k n a b (Nat.div_add_mod _ _).symm (Nat.div_add_mod _ _).symm ha hb

/-- A point's block at `(p, n)`: what it starts from plus the row's product with the tile's column. -/
theorem block_apply (i : grid0.Coords) (x0 : Vec Ideal S1x80x40 .f32) (x1 : Vec Ideal S1920x2560 .bf16) (x2 : Vec Ideal S1x2560x512 .fp8e4m3)
    (x : Vec Ideal S1920x512 .f32) (p : Fin 1920) (n : Fin 512) :
    block (F := Ideal) i x0 x1 x2 x (ix2 p n) = (x (ix2 p n) : EReal) + ∑ k : Fin 2560, (x1 (ix2 p k) : EReal) * wide (F := Ideal) i x0 x2 (ix2 k n) := by
  unfold block
  generalize wide i x0 x2 = w
  pointwise [k0_pay3]

/-- Zeros are zero. -/
theorem start_apply (p : Fin 1920) (n : Fin 512) : start (F := Ideal) (ix2 p n) = (0 : EReal) := by
  unfold start
  pointwise [k0_pay2]

/-- The blocks that the grid's points stage, as blocks of depth `d` of the arrays. -/
structure Staged (scales : Vec Ideal S2x80x40 .f32) (act : Vec Ideal S1920x10240 .bf16) (codes : Vec Ideal S2x10240x5120 .fp8e4m3) (d : Fin 2)
    (b0 : Fin cfg0.N → Vec Ideal S1x80x40 .f32) (b1 : Fin cfg0.N → Vec Ideal S1920x2560 .bf16) (b2 : Fin cfg0.N → Vec Ideal S1x2560x512 .fp8e4m3) : Prop where
  /-- The scales are staged whole. -/
  scales : ∀ t a b, b0 t (ix3 0 a b) = scales (ix3 d a b)
  /-- The activations are staged in four stretches of columns. -/
  act : ∀ (t : Fin cfg0.N) (p : Fin 1920) (k : Fin 2560) (k' : Fin 10240), k'.val = t.val % 4 * 2560 + k.val → b1 t (ix2 p k) = act (ix2 p k')
  /-- The codes are staged in tiles of 2560 x 512. -/
  codes : ∀ (t : Fin cfg0.N) (k : Fin 2560) (n : Fin 512) (k' : Fin 10240) (n' : Fin 5120), k'.val = t.val % 4 * 2560 + k.val →
    n'.val = t.val / 4 * 512 + n.val → b2 t (ix3 0 k n) = codes (ix3 d k' n')

/-- Grid point `t` is step `t % 4` of column `t / 4`. -/
theorem coords_eq : ∀ t : Fin cfg0.N, (grid0.coords t 0).val = t.val / 4 ∧ (grid0.coords t 1).val = t.val % 4 :=
  (by decide +kernel : ∀ t : Fin grid0.N, _)

section
variable {scales : Vec Ideal S2x80x40 .f32} {act : Vec Ideal S1920x10240 .bf16} {codes : Vec Ideal S2x10240x5120 .fp8e4m3} {d : Fin 2}
  {b0 : Fin cfg0.N → Vec Ideal S1x80x40 .f32} {b1 : Fin cfg0.N → Vec Ideal S1920x2560 .bf16} {b2 : Fin cfg0.N → Vec Ideal S1x2560x512 .fp8e4m3}

/-- A point adds the products of its stretch. -/
theorem Staged.point (h : Staged scales act codes d b0 b1 b2) (t : Fin cfg0.N) (x : Vec Ideal S1920x512 .f32) (p : Fin 1920) (n : Fin 512) (n' : Fin 5120)
    (hn : n'.val = t.val / 4 * 512 + n.val) (s : Fin 4) (hs : s.val = t.val % 4) :
    block (F := Ideal) (grid0.coords t) (b0 t) (b1 t) (b2 t) x (ix2 p n) = (x (ix2 p n) : EReal) + part scales act codes d s p n' := by
  obtain ⟨e0, e1⟩ := coords_eq t
  have ht : t.val < 40 := lt_of_lt_of_eq t.isLt N_0
  rw [block_apply]
  refine congrArg (fun u : EReal => (x (ix2 p n) : EReal) + u) (Finset.sum_congr rfl fun k _ => ?_)
  rw [h.act t p k ⟨s.val * 2560 + k.val, by omega⟩ (by simp only [hs]),
    wide_apply (grid0.coords t) (b0 t) (b2 t) k n ⟨(s.val * 2560 + k.val) / 128, by omega⟩ ⟨n'.val / 128, by omega⟩ (by simp only; omega) (by simp only; omega),
    h.codes t k n ⟨s.val * 2560 + k.val, by omega⟩ n' (by simp only [hs]) hn, h.scales]
  rfl

/-- After the last point of a column its block is the merge projection's. -/
theorem Staged.column (h : Staged scales act codes d b0 b1 b2) (outs : (n : ℕ) → n < cfg0.N → Vec Ideal S1920x512 .f32)
    (first : ∀ t : Fin cfg0.N, t.val % 4 = 0 → outs t.val t.isLt = block (grid0.coords t) (b0 t) (b1 t) (b2 t) (start (F := Ideal)))
    (next : ∀ (t : Fin cfg0.N) (u : ℕ) (lu : u < cfg0.N), ¬t.val % 4 = 0 → u + 1 = t.val → outs t.val t.isLt = block (grid0.coords t) (b0 t) (b1 t) (b2 t) (outs u lu))
    (t : Fin cfg0.N) (h1 : t.val % 4 = 3) (p : Fin 1920) (n : Fin 512) (n' : Fin 5120) (hn : n'.val = t.val / 4 * 512 + n.val) :
    outs t.val t.isLt (ix2 p n) = product scales act codes d p n' := by
  obtain ⟨q, hq⟩ : ∃ q, t.val = q + 3 := ⟨t.val - 3, by omega⟩
  have l2 : q + 2 < cfg0.N := by have := t.isLt; omega
  have l1 : q + 1 < cfg0.N := by omega
  have l0 : q < cfg0.N := by omega
  rw [next t (q + 2) l2 (by omega) (by omega), h.point t _ p n n' hn 3 h1.symm,
    next ⟨q + 2, l2⟩ (q + 1) l1 (by simp only; omega) rfl, h.point ⟨q + 2, l2⟩ _ p n n' (by simp only; omega) 2 (show 2 = (q + 2) % 4 by omega),
    next ⟨q + 1, l1⟩ q l0 (by simp only; omega) rfl, h.point ⟨q + 1, l1⟩ _ p n n' (by simp only; omega) 1 (show 1 = (q + 1) % 4 by omega),
    first ⟨q, l0⟩ (by simp only; omega), h.point ⟨q, l0⟩ _ p n n' (by simp only; omega) 0 (show 0 = q % 4 by omega), start_apply, product_eq]
end

end Cert.Merge

end
-- ==== Proof.Merge.Array0.lean ====
/-
  The array that the merge projection's kernel of depth 0 ends with.
-/
module

public import proofs.«01_k».proof.Proof.Merge.Block

@[expose] public section

noncomputable section

namespace Cert.Merge0Ideal.Value

open Cert.Merge0Ideal Cert.Merge0Ideal.Gen Idealize.ShloMosaic Idealize.ShloMosaic.TcCoe Idealize.SL.Sem

variable (m : (ℓ : Loc nD τ sig) → Buf (Elt Ideal) ℓ)

/-- Where each window lies at point `t`. -/
theorem index_eq : ∀ t : Fin cfg0.N, win0_0.index t = ![0, 0, 0] ∧ win0_1.index t = ![0, t.val % 4] ∧ win0_2.index t = ![0, t.val % 4, t.val / 4]
    ∧ win0_3.index t = ![0, t.val / 4] :=
  (by decide +kernel : ∀ t : Fin grid0.N, _)

/-- The staged blocks are blocks of depth 0. -/
theorem staged (c : Dev nD) : Merge.Staged (m ((c : Thread nD τ).loc main_arg2)) (m ((c : Thread nD τ).loc main_arg0)) (m ((c : Thread nD τ).loc main_arg1)) 0
    (fun t => iblk m c 0 t) (fun t => iblk m c 1 t) (fun t => iblk m c 2 t) := by
  refine ⟨fun t a b => ?_, fun t p k k' hk => ?_, fun t k n k' n' hk hn => ?_⟩
  · rw [← V_main_arg2 m c]
    refine congrArg (V m c main_arg2) (funext fun d => Fin.ext ?_)
    match d with
    | ⟨0, _⟩ => show win0_0.index t (0 : Fin 3) * 1 + 1 * 0 = 0; rw [(index_eq t).1]; rfl
    | ⟨1, _⟩ => show win0_0.index t (1 : Fin 3) * 80 + 1 * a.val = a.val; rw [(index_eq t).1]; simp
    | ⟨2, _⟩ => show win0_0.index t (2 : Fin 3) * 40 + 1 * b.val = b.val; rw [(index_eq t).1]; simp
  · rw [← V_main_arg0 m c]
    refine congrArg (V m c main_arg0) (funext fun d => Fin.ext ?_)
    match d with
    | ⟨0, _⟩ => show win0_1.index t (0 : Fin 2) * 1920 + 1 * p.val = p.val; rw [(index_eq t).2.1]; simp
    | ⟨1, _⟩ => show win0_1.index t (1 : Fin 2) * 2560 + 1 * k.val = k'.val; rw [(index_eq t).2.1, hk]; simp
  · rw [← V_main_arg1 m c]
    refine congrArg (V m c main_arg1) (funext fun d => Fin.ext ?_)
    match d with
    | ⟨0, _⟩ => show win0_2.index t (0 : Fin 3) * 1 + 1 * 0 = 0; rw [(index_eq t).2.2.1]; rfl
    | ⟨1, _⟩ => show win0_2.index t (1 : Fin 3) * 2560 + 1 * k.val = k'.val; rw [(index_eq t).2.2.1, hk]; simp
    | ⟨2, _⟩ => show win0_2.index t (2 : Fin 3) * 512 + 1 * n.val = n'.val; rw [(index_eq t).2.2.1, hn]; simp

/-- After the last point of a column its block is the merge projection's. -/
theorem column_apply (c : Dev nD) (t : Fin cfg0.N) (h1 : t.val % 4 = 3) (p : Fin 1920) (n : Fin 512) (n' : Fin 5120) (hn : n'.val = t.val / 4 * 512 + n.val) :
    outsAt0 m c t.val t.isLt (ix2 p n)
      = Merge.arr (m ((c : Thread nD τ).loc main_arg2)) (m ((c : Thread nD τ).loc main_arg0)) (m ((c : Thread nD τ).loc main_arg1)) 0 (ix2 p n') := by
  refine (staged m c).column (outsAt0 m c) (fun t h0 => ?_) (fun t u lu h0 hu => ?_) t h1 p n n' hn
  · exact (outsAt0_A m c t h0).trans (out_A ..)
  · obtain rfl : u = t.val - 1 := by omega
    exact (outsAt0_B m c t h0).trans (out_B ..)

/-- Where a block's element lies in the result. -/
theorem emb_eq (t : Fin cfg0.N) (p : Fin 1920) (n : Fin 512) (n' : Fin 5120) (hn : n'.val = t.val / 4 * 512 + n.val) :
    ((cfg0.win 3).blk t).view.emb (ix2 p n) = (ix2 p n' : S1920x5120.Idx) := by
  refine funext fun d => Fin.ext ?_
  match d with
  | ⟨0, _⟩ => show win0_3.index t (0 : Fin 2) * 1920 + 1 * p.val = p.val; rw [(index_eq t).2.2.2]; simp
  | ⟨1, _⟩ => show win0_3.index t (1 : Fin 2) * 512 + 1 * n.val = n'.val; rw [(index_eq t).2.2.2, hn]; simp

/-- Each column's last point is in the grid. -/
theorem last_lt (n : Fin 5120) : 4 * (n.val / 512) + 3 < cfg0.N := by rw [show cfg0.N = 40 from N_0]; omega

/-- The array after the run. -/
theorem final (c : Dev nD) : (dats m 0 c).arrAt 3 cfg0.N
    = Merge.arr (m ((c : Thread nD τ).loc main_arg2)) (m ((c : Thread nD τ).loc main_arg0)) (m ((c : Thread nD τ).loc main_arg1)) 0 := by
  refine (dats m 0 c).arrAt_eq_of_cover 3 _ (fun t hf => ?_) fun i => ?_
  · have h1 := (flush0_3 t).1 hf
    have ht : t.val < 40 := lt_of_lt_of_eq t.isLt N_0
    rw [flushed3]
    funext (j : S1920x512.Idx)
    idx_vars j
    revert j0 j1; intro p n
    have e := column_apply m c t h1 p n ⟨t.val / 4 * 512 + n.val, by omega⟩ rfl
    rw [← emb_eq t p n ⟨t.val / 4 * 512 + n.val, by omega⟩ rfl] at e
    generalize Merge.arr _ _ _ 0 = a at e ⊢
    exact e
  · change S1920x5120.Idx at i
    idx_vars i
    revert i0 i1; intro p n
    refine ⟨⟨4 * (n.val / 512) + 3, last_lt n⟩, (flush0_3 _).2 (by simp only; omega), ?_⟩
    rw [← emb_eq ⟨4 * (n.val / 512) + 3, last_lt n⟩ p ⟨n.val % 512, by omega⟩ n (by simp only; omega)]
    exact View.emb_mem_set _ _

end Cert.Merge0Ideal.Value

end
-- ==== Proof.Merge.Array1.lean ====
/-
  The array that the merge projection's kernel of depth 1 ends with.
-/
module

public import proofs.«01_k».proof.Proof.Merge.Block

@[expose] public section

noncomputable section

namespace Cert.Merge1Ideal.Value

open Cert.Merge1Ideal Cert.Merge1Ideal.Gen Idealize.ShloMosaic Idealize.ShloMosaic.TcCoe Idealize.SL.Sem

variable (m : (ℓ : Loc nD τ sig) → Buf (Elt Ideal) ℓ)

/-- Where each window lies at point `t`. -/
theorem index_eq : ∀ t : Fin cfg0.N, win0_0.index t = ![1, 0, 0] ∧ win0_1.index t = ![0, t.val % 4] ∧ win0_2.index t = ![1, t.val % 4, t.val / 4]
    ∧ win0_3.index t = ![0, t.val / 4] :=
  (by decide +kernel : ∀ t : Fin grid0.N, _)

/-- The staged blocks are blocks of depth 1. -/
theorem staged (c : Dev nD) : Merge.Staged (m ((c : Thread nD τ).loc main_arg2)) (m ((c : Thread nD τ).loc main_arg0)) (m ((c : Thread nD τ).loc main_arg1)) 1
    (fun t => iblk m c 0 t) (fun t => iblk m c 1 t) (fun t => iblk m c 2 t) := by
  refine ⟨fun t a b => ?_, fun t p k k' hk => ?_, fun t k n k' n' hk hn => ?_⟩
  · rw [← V_main_arg2 m c]
    refine congrArg (V m c main_arg2) (funext fun d => Fin.ext ?_)
    match d with
    | ⟨0, _⟩ => show win0_0.index t (0 : Fin 3) * 1 + 1 * 0 = 1; rw [(index_eq t).1]; rfl
    | ⟨1, _⟩ => show win0_0.index t (1 : Fin 3) * 80 + 1 * a.val = a.val; rw [(index_eq t).1]; simp
    | ⟨2, _⟩ => show win0_0.index t (2 : Fin 3) * 40 + 1 * b.val = b.val; rw [(index_eq t).1]; simp
  · rw [← V_main_arg0 m c]
    refine congrArg (V m c main_arg0) (funext fun d => Fin.ext ?_)
    match d with
    | ⟨0, _⟩ => show win0_1.index t (0 : Fin 2) * 1920 + 1 * p.val = p.val; rw [(index_eq t).2.1]; simp
    | ⟨1, _⟩ => show win0_1.index t (1 : Fin 2) * 2560 + 1 * k.val = k'.val; rw [(index_eq t).2.1, hk]; simp
  · rw [← V_main_arg1 m c]
    refine congrArg (V m c main_arg1) (funext fun d => Fin.ext ?_)
    match d with
    | ⟨0, _⟩ => show win0_2.index t (0 : Fin 3) * 1 + 1 * 0 = 1; rw [(index_eq t).2.2.1]; rfl
    | ⟨1, _⟩ => show win0_2.index t (1 : Fin 3) * 2560 + 1 * k.val = k'.val; rw [(index_eq t).2.2.1, hk]; simp
    | ⟨2, _⟩ => show win0_2.index t (2 : Fin 3) * 512 + 1 * n.val = n'.val; rw [(index_eq t).2.2.1, hn]; simp

/-- After the last point of a column its block is the merge projection's. -/
theorem column_apply (c : Dev nD) (t : Fin cfg0.N) (h1 : t.val % 4 = 3) (p : Fin 1920) (n : Fin 512) (n' : Fin 5120) (hn : n'.val = t.val / 4 * 512 + n.val) :
    outsAt0 m c t.val t.isLt (ix2 p n)
      = Merge.arr (m ((c : Thread nD τ).loc main_arg2)) (m ((c : Thread nD τ).loc main_arg0)) (m ((c : Thread nD τ).loc main_arg1)) 1 (ix2 p n') := by
  refine (staged m c).column (outsAt0 m c) (fun t h0 => ?_) (fun t u lu h0 hu => ?_) t h1 p n n' hn
  · exact (outsAt0_A m c t h0).trans (out_A ..)
  · obtain rfl : u = t.val - 1 := by omega
    exact (outsAt0_B m c t h0).trans (out_B ..)

/-- Where a block's element lies in the result. -/
theorem emb_eq (t : Fin cfg0.N) (p : Fin 1920) (n : Fin 512) (n' : Fin 5120) (hn : n'.val = t.val / 4 * 512 + n.val) :
    ((cfg0.win 3).blk t).view.emb (ix2 p n) = (ix2 p n' : S1920x5120.Idx) := by
  refine funext fun d => Fin.ext ?_
  match d with
  | ⟨0, _⟩ => show win0_3.index t (0 : Fin 2) * 1920 + 1 * p.val = p.val; rw [(index_eq t).2.2.2]; simp
  | ⟨1, _⟩ => show win0_3.index t (1 : Fin 2) * 512 + 1 * n.val = n'.val; rw [(index_eq t).2.2.2, hn]; simp

/-- Each column's last point is in the grid. -/
theorem last_lt (n : Fin 5120) : 4 * (n.val / 512) + 3 < cfg0.N := by rw [show cfg0.N = 40 from N_0]; omega

/-- The array after the run. -/
theorem final (c : Dev nD) : (dats m 0 c).arrAt 3 cfg0.N
    = Merge.arr (m ((c : Thread nD τ).loc main_arg2)) (m ((c : Thread nD τ).loc main_arg0)) (m ((c : Thread nD τ).loc main_arg1)) 1 := by
  refine (dats m 0 c).arrAt_eq_of_cover 3 _ (fun t hf => ?_) fun i => ?_
  · have h1 := (flush0_3 t).1 hf
    have ht : t.val < 40 := lt_of_lt_of_eq t.isLt N_0
    rw [flushed3]
    funext (j : S1920x512.Idx)
    idx_vars j
    revert j0 j1; intro p n
    have e := column_apply m c t h1 p n ⟨t.val / 4 * 512 + n.val, by omega⟩ rfl
    rw [← emb_eq t p n ⟨t.val / 4 * 512 + n.val, by omega⟩ rfl] at e
    generalize Merge.arr _ _ _ 1 = a at e ⊢
    exact e
  · change S1920x5120.Idx at i
    idx_vars i
    revert i0 i1; intro p n
    refine ⟨⟨4 * (n.val / 512) + 3, last_lt n⟩, (flush0_3 _).2 (by simp only; omega), ?_⟩
    rw [← emb_eq ⟨4 * (n.val / 512) + 3, last_lt n⟩ p ⟨n.val % 512, by omega⟩ n (by simp only; omega)]
    exact View.emb_mem_set _ _

end Cert.Merge1Ideal.Value

end
-- ==== Proof.Merge.Equation.lean ====
/-
  The merge projection's kernels and their references end with equal arrays.
-/
module

public import proofs.«01_k».proof.Defs
public import proofs.«01_k».proof.Proof.Merge.Array0
public import proofs.«01_k».proof.Proof.Merge.Array1

@[expose] public section

noncomputable section

namespace Cert.Merge

open Idealize.ShloMosaic Idealize.ShloMosaic.TcCoe Idealize.SL.Sem

/-- From equal arguments the kernel of depth 0 and its reference both end with the merge projection. -/
theorem algebraic0 : Cert.algebraic_Merge0Ideal_Merge0RefIdeal (hMerge0Ideal := Cert.Merge0Ideal.Gen.facts) (hMerge0RefIdeal := Cert.Merge0RefIdeal.Gen.facts) := by
  intro m g m' g' _ hargs
  refine ⟨fun c => arr (m ((c : Thread Cert.Merge0Ideal.nD Cert.Merge0Ideal.τ).loc Cert.Merge0Ideal.main_arg2)) (m ((c : Thread Cert.Merge0Ideal.nD Cert.Merge0Ideal.τ).loc Cert.Merge0Ideal.main_arg0))
    (m ((c : Thread Cert.Merge0Ideal.nD Cert.Merge0Ideal.τ).loc Cert.Merge0Ideal.main_arg1)) 0, ?_, ?_⟩
  · refine (θ_run (Cert.Merge0Ideal.defs (F := Ideal)) _ _).mono (fun r h c => ?_) (Cert.Merge0Ideal.Value.run_blocks (F := Ideal) m g)
    exact ⟨(h c).1.trans (Cert.Merge0Ideal.Value.final m c), (h c).2⟩
  · refine (θ_run (Cert.Merge0RefIdeal.defs (F := Ideal)) _ _).mono (fun r h c => ?_) (Cert.Merge0RefIdeal.Value.run (F := Ideal) m' g')
    refine ⟨(h c).1.trans ?_, (h c).2⟩
    rw [(hargs c).1, (hargs c).2.1, (hargs c).2.2]
    exact reference0 ..

/-- From equal arguments the kernel of depth 1 and its reference both end with the merge projection. -/
theorem algebraic1 : Cert.algebraic_Merge1Ideal_Merge1RefIdeal (hMerge1Ideal := Cert.Merge1Ideal.Gen.facts) (hMerge1RefIdeal := Cert.Merge1RefIdeal.Gen.facts) := by
  intro m g m' g' _ hargs
  refine ⟨fun c => arr (m ((c : Thread Cert.Merge1Ideal.nD Cert.Merge1Ideal.τ).loc Cert.Merge1Ideal.main_arg2)) (m ((c : Thread Cert.Merge1Ideal.nD Cert.Merge1Ideal.τ).loc Cert.Merge1Ideal.main_arg0))
    (m ((c : Thread Cert.Merge1Ideal.nD Cert.Merge1Ideal.τ).loc Cert.Merge1Ideal.main_arg1)) 1, ?_, ?_⟩
  · refine (θ_run (Cert.Merge1Ideal.defs (F := Ideal)) _ _).mono (fun r h c => ?_) (Cert.Merge1Ideal.Value.run_blocks (F := Ideal) m g)
    exact ⟨(h c).1.trans (Cert.Merge1Ideal.Value.final m c), (h c).2⟩
  · refine (θ_run (Cert.Merge1RefIdeal.defs (F := Ideal)) _ _).mono (fun r h c => ?_) (Cert.Merge1RefIdeal.Value.run (F := Ideal) m' g')
    refine ⟨(h c).1.trans ?_, (h c).2⟩
    rw [(hargs c).1, (hargs c).2.1, (hargs c).2.2]
    exact reference1 ..

end Cert.Merge

end
-- ==== Proof.Out.Point.lean ====
/-
  What one grid point of the attention's output projection leaves in its result block: the widened weight tile as a
  matrix of blocks, and the block as a product plus the residual. The two depths share it, since their kernels differ only
  in which slice of the weights they stage.
-/
module

public import proofs.«01_k».proof.Proof.Widen
public import proofs.«01_k».proof.Proof.Gen.Out0Ideal.Value
public import proofs.«01_k».proof.Proof.Gen.Out1Ideal.Value
public import Idealize.ShloMosaic.Lib.Tactic

@[expose] public section

noncomputable section

namespace Cert.Out

open Cert.Out0Ideal Cert.Out0Ideal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- Block `(r, c)` of the tile's codes lies inside the tile. -/
theorem codes_inb (r : Fin 32) (c : Fin 4) : ∀ a, (![0, 128 * r.val, 128 * c.val] : Fin 3 → Nat) a + S1x128x128.size a ≤ S1x4096x512.size a := by
  have := r.isLt; have := c.isLt
  intro a; fin_cases a <;> simp <;> omega

/-- Where the scale of block `(r, c)` lies in the array of scales. -/
def scaleAt (i : grid0.Coords) (r : Fin 32) (c : Fin 4) : Fin 3 → Nat :=
  ![0, r.val, k0_off1 i (BitVec.ofNat 32 c.val) 2]

/-- As a number: the row of blocks, and four columns of blocks a tile. -/
theorem scaleAt_eq (i : grid0.Coords) (r : Fin 32) (c : Fin 4) : scaleAt i r c = ![0, r.val, 4 * (i 0).val + c.val] := by
  unfold scaleAt
  rw [k0_off1_eq i c]; rfl

/-- It lies inside that array. -/
theorem scaleAt_inb (i : grid0.Coords) (r : Fin 32) (c : Fin 4) : ∀ a, scaleAt i r c a + S1x1x1.size a ≤ S1x32x40.size a := by
  have := r.isLt; have := c.isLt
  have h : (i 0).val < 10 := (i 0).isLt
  rw [scaleAt_eq]
  intro a; fin_cases a <;> simp <;> omega

/-- Block `(r, c)` of the tile's weight: its codes times its scale. -/
def piece (i : grid0.Coords) (x0 : Vec F S1x32x40 .f32) (x2 : Vec F S1x4096x512 .fp8e4m3) (r : Fin 32) (c : Fin 4) : FVec F S128x128 .bf16 :=
  mulf (extf .bf16 (shapeCast S128x128 (View.ld x2 (Rect.unit (s := S1x4096x512) ![0, 128 * r.val, 128 * c.val] S1x128x128.size (codes_inb r c))) shapeCasts_S1x128x128_S128x128 : FVec F S128x128 .fp8e4m3) bitsLt_fp8e4m3_bf16)
    (truncf .bf16 (broadcast S128x128 (View.ld x0 (Rect.unit (s := S1x32x40) (scaleAt i r c) S1x1x1.size (scaleAt_inb i r c)) (Shape.Idx.first (show 0 < S1x1x1.numel by decide))) : FVec F S128x128 .f32) bitsLt_bf16_f32)

/-- The tile's widened weight: 32 rows of 4 blocks. -/
def wide (i : grid0.Coords) (x0 : Vec F S1x32x40 .f32) (x2 : Vec F S1x4096x512 .fp8e4m3) : FVec F S4096x512 .bf16 :=
  Widen.tiles (R := 32) (C := 4) (by decide) (by decide) rfl rfl (piece i x0 x2)

/-- A point's block: the product of the staged rows with the widened tile, plus the residual. -/
def block (i : grid0.Coords) (x0 : Vec F S1x32x40 .f32) (x1 : Vec F S1920x4096 .bf16) (x2 : Vec F S1x4096x512 .fp8e4m3) (x3 : Vec F S1920x512 .f32) : FVec F S1920x512 .f32 :=
  k0_pay2 (wide i x0 x2) x1 x3

end Cert.Out

namespace Cert.Out0Ideal.Value

open Cert.Out0Ideal Cert.Out0Ideal.Gen Cert.Out Idealize.ShloMosaic Idealize.ShloMosaic.TcCoe Idealize.SL.Sem

variable {F : FTy → Type} [FloatOps F]

set_option maxRecDepth 65536 in
/-- A point leaves its block. -/
theorem out_A (c : Dev nD) (i : grid0.Coords) (arg1 : Memref sig .tc .smem S1x32x40 .f32) (harg1 : arg1.IsWhole) (arg2 : Memref sig .tc .vmem S1920x4096 .bf16) (harg2 : arg2.IsWhole) (arg3 : Memref sig .tc .vmem S1x4096x512 .fp8e4m3) (harg3 : arg3.IsWhole) (arg4 : Memref sig .tc .vmem S1920x512 .f32) (harg4 : arg4.IsWhole) (arg5 : Memref sig .tc .vmem S1920x512 .f32) (harg5 : arg5.IsWhole)
    (x0 : Vec F S1x32x40 .f32) (x1 : Vec F S1920x4096 .bf16) (x2 : Vec F S1x4096x512 .fp8e4m3) (x3 : Vec F S1920x512 .f32) :
    out0_A_4 c i arg1 harg1 arg2 harg2 arg3 harg3 arg4 harg4 arg5 harg5 x0 x1 x2 x3 = block i x0 x1 x2 x3 := by
  unfold out0_A_4
  rw [View.read_writes_eq_canon _ _ _ (fun y => cover0_A_4 c i arg1 harg1 arg2 harg2 arg3 harg3 arg4 harg4 arg5 harg5 x0 x1 x2 x3 y)]
  unfold kernelRun0_A
  dsimp only
  sl_unfold_words
  rw [View.canon_unit_zero hz]
  simp only [View.readAt_eq_ld]
  rw [harg1.read_unread x0, harg2.read_unread x1, harg3.read_unread x2, harg4.read_unread x3, View.ld_unit_zero (S := S1920x512) hz, View.ld_unit_zero (S := S1920x4096) hz]
  sl_kernel_rfl

end Cert.Out0Ideal.Value

namespace Cert.Out1Ideal.Value

open Cert.Out1Ideal Cert.Out1Ideal.Gen Cert.Out Idealize.ShloMosaic Idealize.ShloMosaic.TcCoe Idealize.SL.Sem

variable {F : FTy → Type} [FloatOps F]

set_option maxRecDepth 65536 in
/-- A point leaves its block. -/
theorem out_A (c : Dev nD) (i : grid0.Coords) (arg1 : Memref sig .tc .smem S1x32x40 .f32) (harg1 : arg1.IsWhole) (arg2 : Memref sig .tc .vmem S1920x4096 .bf16) (harg2 : arg2.IsWhole) (arg3 : Memref sig .tc .vmem S1x4096x512 .fp8e4m3) (harg3 : arg3.IsWhole) (arg4 : Memref sig .tc .vmem S1920x512 .f32) (harg4 : arg4.IsWhole) (arg5 : Memref sig .tc .vmem S1920x512 .f32) (harg5 : arg5.IsWhole)
    (x0 : Vec F S1x32x40 .f32) (x1 : Vec F S1920x4096 .bf16) (x2 : Vec F S1x4096x512 .fp8e4m3) (x3 : Vec F S1920x512 .f32) :
    out0_A_4 c i arg1 harg1 arg2 harg2 arg3 harg3 arg4 harg4 arg5 harg5 x0 x1 x2 x3 = block i x0 x1 x2 x3 :=
  Cert.Out0Ideal.Value.out_A c i arg1 harg1 arg2 harg2 arg3 harg3 arg4 harg4 arg5 harg5 x0 x1 x2 x3

end Cert.Out1Ideal.Value

end
-- ==== Proof.Out.Product.lean ====
/-
  The attention's output projection as mathematics, `residual + heads · weight`, and the references' arrays as that.
-/
module

public import proofs.«01_k».proof.Proof.Gen.Out0RefIdeal.Value
public import proofs.«01_k».proof.Proof.Gen.Out1RefIdeal.Value
public import proofs.«01_k».proof.Proof.Widen
public import Idealize.ShloMosaic.PureOps.Ideal
public import Idealize.ShloMosaic.Lib.Pointwise

@[expose] public section

noncomputable section

namespace Cert.Out

open Cert.Out0RefIdeal Idealize.ShloMosaic Idealize.ShloMosaic.TcCoe Idealize.SL.Sem

/-- The weight of depth `d` at `(k, n)`: its code times the scale of its 128 x 128 block. -/
def weight (scales : Vec Ideal S2x32x40 .f32) (codes : Vec Ideal S2x4096x5120 .fp8e4m3) (d : Fin 2) (k : Fin 4096) (n : Fin 5120) : EReal :=
  (codes (ix3 d k n) : EReal) * (scales (ix3 d ⟨k.val / 128, by omega⟩ ⟨n.val / 128, by omega⟩) : EReal)

/-- The output projection at `(p, n)`: the residual there plus the row's product with the weight's column. -/
def h (scales : Vec Ideal S2x32x40 .f32) (act : Vec Ideal S1920x4096 .bf16) (codes : Vec Ideal S2x4096x5120 .fp8e4m3) (res : Vec Ideal S1920x5120 .f32)
    (d : Fin 2) (p : Fin 1920) (n : Fin 5120) : EReal :=
  (res (ix2 p n) : EReal) + ∑ k : Fin 4096, (act (ix2 p k) : EReal) * weight scales codes d k n

/-- It as an array. -/
def arr (scales : Vec Ideal S2x32x40 .f32) (act : Vec Ideal S1920x4096 .bf16) (codes : Vec Ideal S2x4096x5120 .fp8e4m3) (res : Vec Ideal S1920x5120 .f32)
    (d : Fin 2) : S1920x5120.Idx → EReal := fun y => h scales act codes res d (y 0) (y 1)

/-- The reference of depth 0 computes it. -/
theorem reference0 (scales : Vec Ideal S2x32x40 .f32) (act : Vec Ideal S1920x4096 .bf16) (codes : Vec Ideal S2x4096x5120 .fp8e4m3) (res : Vec Ideal S1920x5120 .f32) :
    Cert.Out0RefIdeal.Value.G4 (F := Ideal) scales act codes res = arr scales act codes res 0 := by
  funext y
  idx_vars y
  unfold Cert.Out0RefIdeal.Value.G4
  pointwise [Cert.Out0RefIdeal.Gen.k0_pay1]
  rfl

/-- The reference of depth 1 computes it. -/
theorem reference1 (scales : Vec Ideal S2x32x40 .f32) (act : Vec Ideal S1920x4096 .bf16) (codes : Vec Ideal S2x4096x5120 .fp8e4m3) (res : Vec Ideal S1920x5120 .f32) :
    Cert.Out1RefIdeal.Value.G4 (F := Ideal) scales act codes res = arr scales act codes res 1 := by
  funext y
  idx_vars y
  unfold Cert.Out1RefIdeal.Value.G4
  pointwise [Cert.Out1RefIdeal.Gen.k0_pay1]
  rfl

end Cert.Out

end
-- ==== Proof.Out.Block.lean ====
/-
  A block of the output projection's kernel over the extended reals: whatever a point stages, provided it is the blocks
  of the arrays, what it leaves is the output projection's block.
-/
module

public import proofs.«01_k».proof.Proof.Out.Point
public import proofs.«01_k».proof.Proof.Out.Product

@[expose] public section

noncomputable section

namespace Cert.Out

open Cert.Out0Ideal Cert.Out0Ideal.Gen Idealize.ShloMosaic Idealize.ShloMosaic.TcCoe Idealize.SL.Sem

/-- A block of the tile's widened weight at `(p, q)`: the code there times the block's scale. -/
theorem piece_apply (i : grid0.Coords) (x0 : Vec Ideal S1x32x40 .f32) (x2 : Vec Ideal S1x4096x512 .fp8e4m3) (r : Fin 32) (c : Fin 4) (p q : Fin 128)
    (k : Fin 4096) (n : Fin 512) (a : Fin 32) (b : Fin 40) (hk : k.val = 128 * r.val + p.val) (hn : n.val = 128 * c.val + q.val)
    (ha : a.val = r.val) (hb : b.val = 4 * (i 0).val + c.val) :
    piece (F := Ideal) i x0 x2 r c (ix2 p q) = (x2 (ix3 0 k n) : EReal) * (x0 (ix3 0 a b) : EReal) := by
  have ho := scaleAt_eq i r c
  unfold piece
  rw [mulf_apply, extf_apply, truncf_apply]
  refine congrArg₂ (fun u v : EReal => u * v) ?_ ?_
  · exact Widen.codes_apply (α := EReal) x2 _ _ _ p q k n rfl hk hn
  · exact Widen.scale_apply (α := EReal) x0 _ _ _ a b (congrFun ho 0) (ha.trans (congrFun ho 1).symm) (hb.trans (congrFun ho 2).symm)

/-- The tile's widened weight at `(k, n)`: the code there times the scale of its 128 x 128 block. -/
theorem wide_apply (i : grid0.Coords) (x0 : Vec Ideal S1x32x40 .f32) (x2 : Vec Ideal S1x4096x512 .fp8e4m3) (k : Fin 4096) (n : Fin 512)
    (a : Fin 32) (b : Fin 40) (ha : a.val = k.val / 128) (hb : b.val = 4 * (i 0).val + n.val / 128) :
    wide (F := Ideal) i x0 x2 (ix2 k n) = (x2 (ix3 0 k n) : EReal) * (x0 (ix3 0 a b) : EReal) := by
  have hk := k.isLt; have hn := n.isLt
  have hr : k.val / 128 < 32 := by omega
  have hc : n.val / 128 < 4 := by omega
  unfold wide
  rw [Widen.tiles_apply (R := 32) (C := 4) (by decide) (by decide) rfl rfl _ k n ⟨k.val / 128, hr⟩ ⟨n.val / 128, hc⟩ rfl rfl]
  exact piece_apply i x0 x2 _ _ _ _ k n a b (Nat.div_add_mod _ _).symm (Nat.div_add_mod _ _).symm ha hb

/-- A point's block at `(p, n)`: the residual plus the row's product with the tile's column. -/
theorem block_apply (i : grid0.Coords) (x0 : Vec Ideal S1x32x40 .f32) (x1 : Vec Ideal S1920x4096 .bf16) (x2 : Vec Ideal S1x4096x512 .fp8e4m3)
    (x3 : Vec Ideal S1920x512 .f32) (p : Fin 1920) (n : Fin 512) :
    block (F := Ideal) i x0 x1 x2 x3 (ix2 p n) = (x3 (ix2 p n) : EReal) + ∑ k : Fin 4096, (x1 (ix2 p k) : EReal) * wide (F := Ideal) i x0 x2 (ix2 k n) := by
  unfold block
  generalize wide i x0 x2 = w
  rw [add_comm]
  pointwise [k0_pay2]

/-- The blocks that point `t` stages, as blocks of depth `d` of the arrays. -/
structure Staged (scales : Vec Ideal S2x32x40 .f32) (act : Vec Ideal S1920x4096 .bf16) (codes : Vec Ideal S2x4096x5120 .fp8e4m3) (res : Vec Ideal S1920x5120 .f32)
    (d : Fin 2) (t : Fin cfg0.N) (b0 : Vec Ideal S1x32x40 .f32) (b1 : Vec Ideal S1920x4096 .bf16) (b2 : Vec Ideal S1x4096x512 .fp8e4m3) (b3 : Vec Ideal S1920x512 .f32) : Prop where
  /-- The scales are staged whole. -/
  scales : ∀ a b, b0 (ix3 0 a b) = scales (ix3 d a b)
  /-- So are the activations. -/
  act : ∀ p k, b1 (ix2 p k) = act (ix2 p k)
  /-- The codes are staged in columns of 512. -/
  codes : ∀ (k : Fin 4096) (n : Fin 512) (n' : Fin 5120), n'.val = t.val * 512 + n.val → b2 (ix3 0 k n) = codes (ix3 d k n')
  /-- So is the residual. -/
  res : ∀ (p : Fin 1920) (n : Fin 512) (n' : Fin 5120), n'.val = t.val * 512 + n.val → b3 (ix2 p n) = res (ix2 p n')

/-- Grid point `t` is column `t`. -/
theorem coords_eq : ∀ t : Fin cfg0.N, (grid0.coords t 0).val = t.val :=
  (by decide +kernel : ∀ t : Fin grid0.N, _)

/-- A point's block is the output projection's. -/
theorem Staged.point {scales : Vec Ideal S2x32x40 .f32} {act : Vec Ideal S1920x4096 .bf16} {codes : Vec Ideal S2x4096x5120 .fp8e4m3} {res : Vec Ideal S1920x5120 .f32}
    {d : Fin 2} {t : Fin cfg0.N} {b0 : Vec Ideal S1x32x40 .f32} {b1 : Vec Ideal S1920x4096 .bf16} {b2 : Vec Ideal S1x4096x512 .fp8e4m3} {b3 : Vec Ideal S1920x512 .f32}
    (h : Staged scales act codes res d t b0 b1 b2 b3) (p : Fin 1920) (n : Fin 512) (n' : Fin 5120) (hn : n'.val = t.val * 512 + n.val) :
    block (F := Ideal) (grid0.coords t) b0 b1 b2 b3 (ix2 p n) = arr scales act codes res d (ix2 p n') := by
  have e := coords_eq t
  have ht : t.val < 10 := lt_of_lt_of_eq t.isLt N_0
  rw [block_apply, h.res p n n' hn]
  refine congrArg (fun u : EReal => (res (ix2 p n') : EReal) + u) (Finset.sum_congr rfl fun k _ => ?_)
  rw [h.act p k, wide_apply (grid0.coords t) b0 b2 k n ⟨k.val / 128, by omega⟩ ⟨n'.val / 128, by omega⟩ rfl (by simp only; omega), h.codes k n n' hn, h.scales]
  rfl

end Cert.Out

end
-- ==== Proof.Out.Array0.lean ====
/-
  The array that the output projection's kernel of depth 0 ends with.
-/
module

public import proofs.«01_k».proof.Proof.Out.Block

@[expose] public section

noncomputable section

namespace Cert.Out0Ideal.Value

open Cert.Out0Ideal Cert.Out0Ideal.Gen Idealize.ShloMosaic Idealize.ShloMosaic.TcCoe Idealize.SL.Sem

variable (m : (ℓ : Loc nD τ sig) → Buf (Elt Ideal) ℓ)

/-- Where each window lies at point `t`. -/
theorem index_eq : ∀ t : Fin cfg0.N, win0_0.index t = ![0, 0, 0] ∧ win0_1.index t = ![0, 0] ∧ win0_2.index t = ![0, 0, t.val]
    ∧ win0_3.index t = ![0, t.val] ∧ win0_4.index t = ![0, t.val] :=
  (by decide +kernel : ∀ t : Fin grid0.N, _)

/-- The staged blocks are blocks of depth 0. -/
theorem staged (c : Dev nD) (t : Fin cfg0.N) : Out.Staged (m ((c : Thread nD τ).loc main_arg2)) (m ((c : Thread nD τ).loc main_arg0)) (m ((c : Thread nD τ).loc main_arg1))
    (m ((c : Thread nD τ).loc main_arg3)) 0 t (iblk m c 0 t) (iblk m c 1 t) (iblk m c 2 t) (iblk m c 3 t) := by
  obtain ⟨e0, e1, e2, e3, -⟩ := index_eq t
  refine ⟨fun a b => ?_, fun p k => ?_, fun k n n' hn => ?_, fun p n n' hn => ?_⟩
  · rw [← V_main_arg2 m c]
    refine congrArg (V m c main_arg2) (funext fun d => Fin.ext ?_)
    match d with
    | ⟨0, _⟩ => show win0_0.index t (0 : Fin 3) * 1 + 1 * 0 = 0; rw [e0]; rfl
    | ⟨1, _⟩ => show win0_0.index t (1 : Fin 3) * 32 + 1 * a.val = a.val; rw [e0]; simp
    | ⟨2, _⟩ => show win0_0.index t (2 : Fin 3) * 40 + 1 * b.val = b.val; rw [e0]; simp
  · rw [← V_main_arg0 m c]
    refine congrArg (V m c main_arg0) (funext fun d => Fin.ext ?_)
    match d with
    | ⟨0, _⟩ => show win0_1.index t (0 : Fin 2) * 1920 + 1 * p.val = p.val; rw [e1]; simp
    | ⟨1, _⟩ => show win0_1.index t (1 : Fin 2) * 4096 + 1 * k.val = k.val; rw [e1]; simp
  · rw [← V_main_arg1 m c]
    refine congrArg (V m c main_arg1) (funext fun d => Fin.ext ?_)
    match d with
    | ⟨0, _⟩ => show win0_2.index t (0 : Fin 3) * 1 + 1 * 0 = 0; rw [e2]; rfl
    | ⟨1, _⟩ => show win0_2.index t (1 : Fin 3) * 4096 + 1 * k.val = k.val; rw [e2]; simp
    | ⟨2, _⟩ => show win0_2.index t (2 : Fin 3) * 512 + 1 * n.val = n'.val; rw [e2, hn]; simp
  · rw [← V_main_arg3 m c]
    refine congrArg (V m c main_arg3) (funext fun d => Fin.ext ?_)
    match d with
    | ⟨0, _⟩ => show win0_3.index t (0 : Fin 2) * 1920 + 1 * p.val = p.val; rw [e3]; simp
    | ⟨1, _⟩ => show win0_3.index t (1 : Fin 2) * 512 + 1 * n.val = n'.val; rw [e3, hn]; simp

/-- Where a block's element lies in the result. -/
theorem emb_eq (t : Fin cfg0.N) (p : Fin 1920) (n : Fin 512) (n' : Fin 5120) (hn : n'.val = t.val * 512 + n.val) :
    ((cfg0.win 4).blk t).view.emb (ix2 p n) = (ix2 p n' : S1920x5120.Idx) := by
  obtain ⟨-, -, -, -, e⟩ := index_eq t
  refine funext fun d => Fin.ext ?_
  match d with
  | ⟨0, _⟩ => show win0_4.index t (0 : Fin 2) * 1920 + 1 * p.val = p.val; rw [e]; simp
  | ⟨1, _⟩ => show win0_4.index t (1 : Fin 2) * 512 + 1 * n.val = n'.val; rw [e, hn]; simp

/-- The array after the run. -/
theorem final (c : Dev nD) : (dats m 0 c).arrAt 4 cfg0.N
    = Out.arr (m ((c : Thread nD τ).loc main_arg2)) (m ((c : Thread nD τ).loc main_arg0)) (m ((c : Thread nD τ).loc main_arg1)) (m ((c : Thread nD τ).loc main_arg3)) 0 := by
  refine (dats m 0 c).arrAt_eq_of_cover 4 _ (fun t hf => ?_) fun i => ?_
  · have ht : t.val < 10 := lt_of_lt_of_eq t.isLt N_0
    rw [flushed4_A, out_A]
    funext (j : S1920x512.Idx)
    idx_vars j
    revert j0 j1; intro p n
    have e := (staged m c t).point p n ⟨t.val * 512 + n.val, by omega⟩ rfl
    rw [← emb_eq t p n ⟨t.val * 512 + n.val, by omega⟩ rfl] at e
    generalize Out.arr _ _ _ _ 0 = a at e ⊢
    exact e
  · change S1920x5120.Idx at i
    idx_vars i
    revert i0 i1; intro p n
    have lt : n.val / 512 < cfg0.N := by rw [show cfg0.N = 10 from N_0]; omega
    refine ⟨⟨n.val / 512, lt⟩, flush0_4 _, ?_⟩
    rw [← emb_eq ⟨n.val / 512, lt⟩ p ⟨n.val % 512, by omega⟩ n (by simp only; omega)]
    exact View.emb_mem_set _ _

end Cert.Out0Ideal.Value

end
-- ==== Proof.Out.Array1.lean ====
/-
  The array that the output projection's kernel of depth 1 ends with.
-/
module

public import proofs.«01_k».proof.Proof.Out.Block

@[expose] public section

noncomputable section

namespace Cert.Out1Ideal.Value

open Cert.Out1Ideal Cert.Out1Ideal.Gen Idealize.ShloMosaic Idealize.ShloMosaic.TcCoe Idealize.SL.Sem

variable (m : (ℓ : Loc nD τ sig) → Buf (Elt Ideal) ℓ)

/-- Where each window lies at point `t`. -/
theorem index_eq : ∀ t : Fin cfg0.N, win0_0.index t = ![1, 0, 0] ∧ win0_1.index t = ![0, 0] ∧ win0_2.index t = ![1, 0, t.val]
    ∧ win0_3.index t = ![0, t.val] ∧ win0_4.index t = ![0, t.val] :=
  (by decide +kernel : ∀ t : Fin grid0.N, _)

/-- The staged blocks are blocks of depth 1. -/
theorem staged (c : Dev nD) (t : Fin cfg0.N) : Out.Staged (m ((c : Thread nD τ).loc main_arg2)) (m ((c : Thread nD τ).loc main_arg0)) (m ((c : Thread nD τ).loc main_arg1))
    (m ((c : Thread nD τ).loc main_arg3)) 1 t (iblk m c 0 t) (iblk m c 1 t) (iblk m c 2 t) (iblk m c 3 t) := by
  obtain ⟨e0, e1, e2, e3, -⟩ := index_eq t
  refine ⟨fun a b => ?_, fun p k => ?_, fun k n n' hn => ?_, fun p n n' hn => ?_⟩
  · rw [← V_main_arg2 m c]
    refine congrArg (V m c main_arg2) (funext fun d => Fin.ext ?_)
    match d with
    | ⟨0, _⟩ => show win0_0.index t (0 : Fin 3) * 1 + 1 * 0 = 1; rw [e0]; rfl
    | ⟨1, _⟩ => show win0_0.index t (1 : Fin 3) * 32 + 1 * a.val = a.val; rw [e0]; simp
    | ⟨2, _⟩ => show win0_0.index t (2 : Fin 3) * 40 + 1 * b.val = b.val; rw [e0]; simp
  · rw [← V_main_arg0 m c]
    refine congrArg (V m c main_arg0) (funext fun d => Fin.ext ?_)
    match d with
    | ⟨0, _⟩ => show win0_1.index t (0 : Fin 2) * 1920 + 1 * p.val = p.val; rw [e1]; simp
    | ⟨1, _⟩ => show win0_1.index t (1 : Fin 2) * 4096 + 1 * k.val = k.val; rw [e1]; simp
  · rw [← V_main_arg1 m c]
    refine congrArg (V m c main_arg1) (funext fun d => Fin.ext ?_)
    match d with
    | ⟨0, _⟩ => show win0_2.index t (0 : Fin 3) * 1 + 1 * 0 = 1; rw [e2]; rfl
    | ⟨1, _⟩ => show win0_2.index t (1 : Fin 3) * 4096 + 1 * k.val = k.val; rw [e2]; simp
    | ⟨2, _⟩ => show win0_2.index t (2 : Fin 3) * 512 + 1 * n.val = n'.val; rw [e2, hn]; simp
  · rw [← V_main_arg3 m c]
    refine congrArg (V m c main_arg3) (funext fun d => Fin.ext ?_)
    match d with
    | ⟨0, _⟩ => show win0_3.index t (0 : Fin 2) * 1920 + 1 * p.val = p.val; rw [e3]; simp
    | ⟨1, _⟩ => show win0_3.index t (1 : Fin 2) * 512 + 1 * n.val = n'.val; rw [e3, hn]; simp

/-- Where a block's element lies in the result. -/
theorem emb_eq (t : Fin cfg0.N) (p : Fin 1920) (n : Fin 512) (n' : Fin 5120) (hn : n'.val = t.val * 512 + n.val) :
    ((cfg0.win 4).blk t).view.emb (ix2 p n) = (ix2 p n' : S1920x5120.Idx) := by
  obtain ⟨-, -, -, -, e⟩ := index_eq t
  refine funext fun d => Fin.ext ?_
  match d with
  | ⟨0, _⟩ => show win0_4.index t (0 : Fin 2) * 1920 + 1 * p.val = p.val; rw [e]; simp
  | ⟨1, _⟩ => show win0_4.index t (1 : Fin 2) * 512 + 1 * n.val = n'.val; rw [e, hn]; simp

/-- The array after the run. -/
theorem final (c : Dev nD) : (dats m 0 c).arrAt 4 cfg0.N
    = Out.arr (m ((c : Thread nD τ).loc main_arg2)) (m ((c : Thread nD τ).loc main_arg0)) (m ((c : Thread nD τ).loc main_arg1)) (m ((c : Thread nD τ).loc main_arg3)) 1 := by
  refine (dats m 0 c).arrAt_eq_of_cover 4 _ (fun t hf => ?_) fun i => ?_
  · have ht : t.val < 10 := lt_of_lt_of_eq t.isLt N_0
    rw [flushed4_A, out_A]
    funext (j : S1920x512.Idx)
    idx_vars j
    revert j0 j1; intro p n
    have e := (staged m c t).point p n ⟨t.val * 512 + n.val, by omega⟩ rfl
    rw [← emb_eq t p n ⟨t.val * 512 + n.val, by omega⟩ rfl] at e
    generalize Out.arr _ _ _ _ 1 = a at e ⊢
    exact e
  · change S1920x5120.Idx at i
    idx_vars i
    revert i0 i1; intro p n
    have lt : n.val / 512 < cfg0.N := by rw [show cfg0.N = 10 from N_0]; omega
    refine ⟨⟨n.val / 512, lt⟩, flush0_4 _, ?_⟩
    rw [← emb_eq ⟨n.val / 512, lt⟩ p ⟨n.val % 512, by omega⟩ n (by simp only; omega)]
    exact View.emb_mem_set _ _

end Cert.Out1Ideal.Value

end
-- ==== Proof.Out.Equation.lean ====
/-
  The output projection's kernels and their references end with equal arrays.
-/
module

public import proofs.«01_k».proof.Defs
public import proofs.«01_k».proof.Proof.Out.Array0
public import proofs.«01_k».proof.Proof.Out.Array1

@[expose] public section

noncomputable section

namespace Cert.Out

open Idealize.ShloMosaic Idealize.ShloMosaic.TcCoe Idealize.SL.Sem

/-- From equal arguments the kernel of depth 0 and its reference both end with the output projection. -/
theorem algebraic0 : Cert.algebraic_Out0Ideal_Out0RefIdeal (hOut0Ideal := Cert.Out0Ideal.Gen.facts) (hOut0RefIdeal := Cert.Out0RefIdeal.Gen.facts) := by
  intro m g m' g' _ hargs
  refine ⟨fun c => arr (m ((c : Thread Cert.Out0Ideal.nD Cert.Out0Ideal.τ).loc Cert.Out0Ideal.main_arg2)) (m ((c : Thread Cert.Out0Ideal.nD Cert.Out0Ideal.τ).loc Cert.Out0Ideal.main_arg0))
    (m ((c : Thread Cert.Out0Ideal.nD Cert.Out0Ideal.τ).loc Cert.Out0Ideal.main_arg1)) (m ((c : Thread Cert.Out0Ideal.nD Cert.Out0Ideal.τ).loc Cert.Out0Ideal.main_arg3)) 0, ?_, ?_⟩
  · refine (θ_run (Cert.Out0Ideal.defs (F := Ideal)) _ _).mono (fun r h c => ?_) (Cert.Out0Ideal.Value.run_blocks (F := Ideal) m g)
    exact ⟨(h c).1.trans (Cert.Out0Ideal.Value.final m c), (h c).2⟩
  · refine (θ_run (Cert.Out0RefIdeal.defs (F := Ideal)) _ _).mono (fun r h c => ?_) (Cert.Out0RefIdeal.Value.run (F := Ideal) m' g')
    refine ⟨(h c).1.trans ?_, (h c).2⟩
    rw [(hargs c).1, (hargs c).2.1, (hargs c).2.2.1, (hargs c).2.2.2]
    exact reference0 ..

/-- From equal arguments the kernel of depth 1 and its reference both end with the output projection. -/
theorem algebraic1 : Cert.algebraic_Out1Ideal_Out1RefIdeal (hOut1Ideal := Cert.Out1Ideal.Gen.facts) (hOut1RefIdeal := Cert.Out1RefIdeal.Gen.facts) := by
  intro m g m' g' _ hargs
  refine ⟨fun c => arr (m ((c : Thread Cert.Out1Ideal.nD Cert.Out1Ideal.τ).loc Cert.Out1Ideal.main_arg2)) (m ((c : Thread Cert.Out1Ideal.nD Cert.Out1Ideal.τ).loc Cert.Out1Ideal.main_arg0))
    (m ((c : Thread Cert.Out1Ideal.nD Cert.Out1Ideal.τ).loc Cert.Out1Ideal.main_arg1)) (m ((c : Thread Cert.Out1Ideal.nD Cert.Out1Ideal.τ).loc Cert.Out1Ideal.main_arg3)) 1, ?_, ?_⟩
  · refine (θ_run (Cert.Out1Ideal.defs (F := Ideal)) _ _).mono (fun r h c => ?_) (Cert.Out1Ideal.Value.run_blocks (F := Ideal) m g)
    exact ⟨(h c).1.trans (Cert.Out1Ideal.Value.final m c), (h c).2⟩
  · refine (θ_run (Cert.Out1RefIdeal.defs (F := Ideal)) _ _).mono (fun r h c => ?_) (Cert.Out1RefIdeal.Value.run (F := Ideal) m' g')
    refine ⟨(h c).1.trans ?_, (h c).2⟩
    rw [(hargs c).1, (hargs c).2.1, (hargs c).2.2.1, (hargs c).2.2.2]
    exact reference1 ..

end Cert.Out

end
-- ==== Proof.Qkv.Point.lean ====
/-
  What one grid point of the projection to queries, keys and values leaves in its result block: the widened weight tile as a
  matrix of blocks, four stretches of 480 rows with their products, and in each four heads of 128 columns, turned by the
  positions' angles unless the tile holds values. The two depths share it, since their kernels differ only in which slice
  of the weights they stage.
-/
module

public import proofs.«01_k».proof.Proof.Widen
public import proofs.«01_k».proof.Proof.Gen.Qkv0Ideal.Value
public import proofs.«01_k».proof.Proof.Gen.Qkv1Ideal.Value
public import Idealize.ShloMosaic.Lib.Tactic

@[expose] public section

noncomputable section

namespace Cert.Qkv

open Cert.Qkv0Ideal Cert.Qkv0Ideal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- Block `(r, c)` of the tile's codes lies inside the tile. -/
theorem codes_inb (r : Fin 40) (c : Fin 4) : ∀ a, (![0, 128 * r.val, 128 * c.val] : Fin 3 → Nat) a + S1x128x128.size a ≤ S1x5120x512.size a := by
  have := r.isLt; have := c.isLt
  intro a; fin_cases a <;> simp <;> omega

/-- Where the scale of block `(r, c)` lies in the array of scales. -/
def scaleAt (i : grid0.Coords) (r : Fin 40) (c : Fin 4) : Fin 3 → Nat :=
  ![0, r.val, k0_off1 i (BitVec.ofNat 32 c.val) 2]

/-- As a number: the row of blocks, and four columns of blocks a tile. -/
theorem scaleAt_eq (i : grid0.Coords) (r : Fin 40) (c : Fin 4) : scaleAt i r c = ![0, r.val, 4 * (i 0).val + c.val] := by
  unfold scaleAt
  rw [k0_off1_eq i c]; rfl

/-- It lies inside that array. -/
theorem scaleAt_inb (i : grid0.Coords) (r : Fin 40) (c : Fin 4) : ∀ a, scaleAt i r c a + S1x1x1.size a ≤ S1x40x48.size a := by
  have := r.isLt; have := c.isLt
  have h : (i 0).val < 12 := (i 0).isLt
  rw [scaleAt_eq]
  intro a; fin_cases a <;> simp <;> omega

/-- Block `(r, c)` of the tile's weight: its codes times its scale. -/
def piece (i : grid0.Coords) (x0 : Vec F S1x40x48 .f32) (x2 : Vec F S1x5120x512 .fp8e4m3) (r : Fin 40) (c : Fin 4) : FVec F S128x128 .bf16 :=
  mulf (extf .bf16 (shapeCast S128x128 (View.ld x2 (Rect.unit (s := S1x5120x512) ![0, 128 * r.val, 128 * c.val] S1x128x128.size (codes_inb r c))) shapeCasts_S1x128x128_S128x128 : FVec F S128x128 .fp8e4m3) bitsLt_fp8e4m3_bf16)
    (truncf .bf16 (broadcast S128x128 (View.ld x0 (Rect.unit (s := S1x40x48) (scaleAt i r c) S1x1x1.size (scaleAt_inb i r c)) (Shape.Idx.first (show 0 < S1x1x1.numel by decide))) : FVec F S128x128 .f32) bitsLt_bf16_f32)

/-- The tile's widened weight: 40 rows of 4 blocks. -/
def wide (i : grid0.Coords) (x0 : Vec F S1x40x48 .f32) (x2 : Vec F S1x5120x512 .fp8e4m3) : FVec F S5120x512 .bf16 :=
  Widen.tiles (R := 40) (C := 4) (by decide) (by decide) rfl rfl (piece i x0 x2)

/-- Rows `480 r` up to `480 r + 479` of `n` columns. -/
abbrev rows (n : Nat) (r : Fin 4) : Rect ⟨2, ![1920, n]⟩ :=
  Rect.unit (s := ⟨2, ![1920, n]⟩) ![480 * r.val, 0] ![480, n] (by
    have := r.isLt
    intro a; fin_cases a <;> simp; omega)

/-- The place of head `h` of those rows in the result block. -/
abbrev spot (r h : Fin 4) : Rect S1920x512 :=
  Rect.unit (s := S1920x512) ![480 * r.val, 128 * h.val] S480x128.size (by
    have := r.isLt; have := h.isLt
    intro a; fin_cases a <;> simp <;> omega)

/-- The columns of head `h`. -/
theorem head_slices (h : Fin 4) : S480x512.Slices ![0, 128 * h.val] S480x128 := by
  fin_cases h
  · exact slices_S480x512_o0_0_S480x128
  · exact slices_S480x512_o0_128_S480x128
  · exact slices_S480x512_o0_256_S480x128
  · exact slices_S480x512_o0_384_S480x128

/-- A head of a stretch's product, turned unless the tile holds values. -/
def turn (i : grid0.Coords) (y : FVec F S480x512 .f32) (cos sin : FVec F S480x128 .f32) (h : Fin 4) : FVec F S480x128 .bf16 :=
  truncf .bf16 (Scalar.select (Scalar.cmpi .slt (BitVec.ofNat 32 (i 0).val) 10#32)
    (addf (mulf (extractStridedSlice S480x128 ![0, 128 * h.val] y (head_slices h)) cos)
      (mulf (dynamicRotate 1 64#32 none (extractStridedSlice S480x128 ![0, 128 * h.val] y (head_slices h)) rotates_S480x128_d1) sin))
    (extractStridedSlice S480x128 ![0, 128 * h.val] y (head_slices h))) bitsLt_bf16_f32

/-- Head `h` of stretch `r` of the result block. -/
def head (i : grid0.Coords) (w : FVec F S5120x512 .bf16) (x1 : Vec F S1920x5120 .bf16) (x3 x4 : Vec F S1920x128 .f32) (r h : Fin 4) : FVec F S480x128 .bf16 :=
  turn i (k0_pay180 w (View.ld x1 (rows 5120 r))) (k0_pay181 (View.ld x3 (rows 128 r))) (k0_pay182 (View.ld x4 (rows 128 r))) h

/-- Sixteen stores, stretch after stretch and head after head, the last one first. -/
abbrev stores (f : Fin 4 → Fin 4 → S480x128.Idx → Elt F .bf16) : List (View.Piece (Elt F) S1920x512 .bf16) :=
  [⟨spot 3 3, f 3 3⟩, ⟨spot 3 2, f 3 2⟩, ⟨spot 3 1, f 3 1⟩, ⟨spot 3 0, f 3 0⟩, ⟨spot 2 3, f 2 3⟩, ⟨spot 2 2, f 2 2⟩, ⟨spot 2 1, f 2 1⟩, ⟨spot 2 0, f 2 0⟩, ⟨spot 1 3, f 1 3⟩, ⟨spot 1 2, f 1 2⟩, ⟨spot 1 1, f 1 1⟩, ⟨spot 1 0, f 1 0⟩, ⟨spot 0 3, f 0 3⟩, ⟨spot 0 2, f 0 2⟩, ⟨spot 0 1, f 0 1⟩, ⟨spot 0 0, f 0 0⟩]

/-- A point's block. -/
def block (i : grid0.Coords) (x0 : Vec F S1x40x48 .f32) (x1 : Vec F S1920x5120 .bf16) (x2 : Vec F S1x5120x512 .fp8e4m3) (x3 x4 : Vec F S1920x128 .f32) : Vec F S1920x512 .bf16 :=
  View.canon (stores (head i (wide i x0 x2) x1 x3 x4))

/-- What the stores leave at row `480 r + q` and column `128 h + l`: head `h` of stretch `r` at `(q, l)`. -/
theorem stores_apply (f : Fin 4 → Fin 4 → S480x128.Idx → Elt F .bf16) (p : Fin 1920) (n : Fin 512) (r h : Fin 4) (q : Fin 480) (l : Fin 128)
    (hp : p.val = 480 * r.val + q.val) (hn : n.val = 128 * h.val + l.val) : View.canon (stores f) (ix2 p n) = f r h (ix2 q l) := by
  have hq := q.isLt; have hl := l.isLt
  have hit : ix2 p n = (spot r h).emb (ix2 q l) := by
    funext a
    refine Fin.ext ?_
    fin_cases a
    · show p.val = 480 * r.val + 1 * q.val; omega
    · show n.val = 128 * h.val + 1 * l.val; omega
  have miss : ∀ s g : Fin 4, ¬(s = r ∧ g = h) → ix2 p n ∉ (spot s g).set := by
    intro s g hs hm
    have h0 := (Rect.mem_set_unit.1 hm) 0
    have h1 := (Rect.mem_set_unit.1 hm) 1
    have a1 : 480 * s.val ≤ p.val := h0.1
    have a2 : p.val < 480 * s.val + 480 := h0.2
    have b1 : 128 * g.val ≤ n.val := h1.1
    have b2 : n.val < 128 * g.val + 128 := h1.2
    exact hs ⟨Fin.ext (by omega), Fin.ext (by omega)⟩
  have key : ∀ s g : Fin 4, ∀ M : List (View.Piece (Elt F) S1920x512 .bf16), (¬(s = r ∧ g = h) → View.canon M (ix2 p n) = f r h (ix2 q l)) →
      View.canon (⟨spot s g, f s g⟩ :: M) (ix2 p n) = f r h (ix2 q l) := by
    intro s g M hM
    by_cases hs : s = r ∧ g = h
    · obtain ⟨rfl, rfl⟩ := hs
      rw [hit]; exact View.canon_cons_emb _ _ _ _
    · exact (View.canon_cons_of_not_mem (⟨spot s g, f s g⟩ : View.Piece (Elt F) S1920x512 .bf16) M (miss s g hs)).trans (hM hs)
  refine key 3 3 _ fun n33 => key 3 2 _ fun n32 => key 3 1 _ fun n31 => key 3 0 _ fun n30 =>
    key 2 3 _ fun n23 => key 2 2 _ fun n22 => key 2 1 _ fun n21 => key 2 0 _ fun n20 =>
    key 1 3 _ fun n13 => key 1 2 _ fun n12 => key 1 1 _ fun n11 => key 1 0 _ fun n10 =>
    key 0 3 _ fun n03 => key 0 2 _ fun n02 => key 0 1 _ fun n01 => key 0 0 _ fun n00 => ?_
  exfalso
  have hr := r.isLt; have hh := h.isLt
  obtain ⟨r, lr⟩ := r
  obtain ⟨h, lh⟩ := h
  simp only [Fin.ext_iff, Fin.isValue] at n33 n32 n31 n30 n23 n22 n21 n20 n13 n12 n11 n10 n03 n02 n01 n00
  interval_cases r <;> interval_cases h <;> simp_all

end Cert.Qkv

namespace Cert.Qkv0Ideal.Value

open Cert.Qkv0Ideal Cert.Qkv0Ideal.Gen Cert.Qkv Idealize.ShloMosaic Idealize.ShloMosaic.TcCoe Idealize.SL.Sem

variable {F : FTy → Type} [FloatOps F]

set_option maxRecDepth 65536 in
/-- A point leaves its block. -/
theorem out_A (c : Dev nD) (i : grid0.Coords) (arg1 : Memref sig .tc .smem S1x40x48 .f32) (harg1 : arg1.IsWhole) (arg2 : Memref sig .tc .vmem S1920x5120 .bf16) (harg2 : arg2.IsWhole) (arg3 : Memref sig .tc .vmem S1x5120x512 .fp8e4m3) (harg3 : arg3.IsWhole) (arg4 : Memref sig .tc .vmem S1920x128 .f32) (harg4 : arg4.IsWhole) (arg5 : Memref sig .tc .vmem S1920x128 .f32) (harg5 : arg5.IsWhole) (arg6 : Memref sig .tc .vmem S1920x512 .bf16) (harg6 : arg6.IsWhole)
    (x0 : Vec F S1x40x48 .f32) (x1 : Vec F S1920x5120 .bf16) (x2 : Vec F S1x5120x512 .fp8e4m3) (x3 : Vec F S1920x128 .f32) (x4 : Vec F S1920x128 .f32) :
    out0_A_5 c i arg1 harg1 arg2 harg2 arg3 harg3 arg4 harg4 arg5 harg5 arg6 harg6 x0 x1 x2 x3 x4 = block i x0 x1 x2 x3 x4 := by
  unfold out0_A_5
  rw [View.read_writes_junk_eq_canon]
  unfold kernelRun0_A
  dsimp only
  sl_unfold_words
  simp only [View.readAt_eq_ld]
  rw [harg1.read_unread x0, harg2.read_unread x1, harg3.read_unread x2, harg4.read_unread x3, harg5.read_unread x4]
  sl_kernel_rfl

end Cert.Qkv0Ideal.Value

namespace Cert.Qkv1Ideal.Value

open Cert.Qkv1Ideal Cert.Qkv1Ideal.Gen Cert.Qkv Idealize.ShloMosaic Idealize.ShloMosaic.TcCoe Idealize.SL.Sem

variable {F : FTy → Type} [FloatOps F]

set_option maxRecDepth 65536 in
/-- A point leaves its block. -/
theorem out_A (c : Dev nD) (i : grid0.Coords) (arg1 : Memref sig .tc .smem S1x40x48 .f32) (harg1 : arg1.IsWhole) (arg2 : Memref sig .tc .vmem S1920x5120 .bf16) (harg2 : arg2.IsWhole) (arg3 : Memref sig .tc .vmem S1x5120x512 .fp8e4m3) (harg3 : arg3.IsWhole) (arg4 : Memref sig .tc .vmem S1920x128 .f32) (harg4 : arg4.IsWhole) (arg5 : Memref sig .tc .vmem S1920x128 .f32) (harg5 : arg5.IsWhole) (arg6 : Memref sig .tc .vmem S1920x512 .bf16) (harg6 : arg6.IsWhole)
    (x0 : Vec F S1x40x48 .f32) (x1 : Vec F S1920x5120 .bf16) (x2 : Vec F S1x5120x512 .fp8e4m3) (x3 : Vec F S1920x128 .f32) (x4 : Vec F S1920x128 .f32) :
    out0_A_5 c i arg1 harg1 arg2 harg2 arg3 harg3 arg4 harg4 arg5 harg5 arg6 harg6 x0 x1 x2 x3 x4 = block i x0 x1 x2 x3 x4 :=
  Cert.Qkv0Ideal.Value.out_A c i arg1 harg1 arg2 harg2 arg3 harg3 arg4 harg4 arg5 harg5 arg6 harg6 x0 x1 x2 x3 x4

end Cert.Qkv1Ideal.Value

end
-- ==== Proof.Qkv.Product.lean ====
/-
  The projection to queries, keys and values as mathematics: `act · weight`, and in the heads of queries and keys each pair
  of halves turned by the position's angles.
-/
module

public import proofs.«01_k».proof.Proof.Gen.Qkv0RefIdeal.Value
public import proofs.«01_k».proof.Proof.Gen.Qkv1RefIdeal.Value
public import proofs.«01_k».proof.Proof.Widen
public import Idealize.ShloMosaic.PureOps.Ideal
public import Idealize.ShloMosaic.Lib.Pointwise

@[expose] public section

noncomputable section

namespace Cert.Qkv

open Cert.Qkv0RefIdeal Idealize.ShloMosaic Idealize.ShloMosaic.TcCoe Idealize.SL.Sem

/-- The weight of depth `d` at `(k, n)`: its code times the scale of its 128 x 128 block. -/
def weight (scales : Vec Ideal S2x40x48 .f32) (codes : Vec Ideal S2x5120x6144 .fp8e4m3) (d : Fin 2) (k : Fin 5120) (n : Fin 6144) : EReal :=
  (codes (ix3 d k n) : EReal) * (scales (ix3 d ⟨k.val / 128, by omega⟩ ⟨n.val / 128, by omega⟩) : EReal)

/-- The product at `(p, n)`. -/
def proj (scales : Vec Ideal S2x40x48 .f32) (act : Vec Ideal S1920x5120 .bf16) (codes : Vec Ideal S2x5120x6144 .fp8e4m3) (d : Fin 2) (p : Fin 1920) (n : Fin 6144) : EReal :=
  ∑ k : Fin 5120, (act (ix2 p k) : EReal) * weight scales codes d k n

/-- Row `p` of a table over the positions of five sequences of 384. -/
def row (table : Vec Ideal S5x384x64 .f32) (p : Fin 1920) (l : Fin 64) : EReal :=
  table (ix3 ⟨p.val / 384, by omega⟩ ⟨p.val % 384, by omega⟩ l)

/-- The column of the head's other half that is turned together with column `n`. -/
def partner (n : Fin 6144) : Fin 6144 := ⟨if n.val % 128 < 64 then n.val + 64 else n.val - 64, by split <;> omega⟩

/-- Numbers `y` turned: in a query's or key's head each is turned with its partner by the position's angle, in a value's
    it stays. -/
def rotary (y : Fin 1920 → Fin 6144 → EReal) (cos sin : Fin 1920 → Fin 64 → EReal) (p : Fin 1920) (n : Fin 6144) : EReal :=
  if n.val < 5120 then
    y p n * cos p ⟨n.val % 64, by omega⟩ + y p (partner n) * (if n.val % 128 < 64 then -sin p ⟨n.val % 64, by omega⟩ else sin p ⟨n.val % 64, by omega⟩)
  else y p n

/-- The result at `(p, n)`. -/
def h (scales : Vec Ideal S2x40x48 .f32) (act : Vec Ideal S1920x5120 .bf16) (codes : Vec Ideal S2x5120x6144 .fp8e4m3) (cos sin : Vec Ideal S5x384x64 .f32) (d : Fin 2)
    (p : Fin 1920) (n : Fin 6144) : EReal := rotary (proj scales act codes d) (row cos) (row sin) p n

/-- It as an array. -/
def arr (scales : Vec Ideal S2x40x48 .f32) (act : Vec Ideal S1920x5120 .bf16) (codes : Vec Ideal S2x5120x6144 .fp8e4m3) (cos sin : Vec Ideal S5x384x64 .f32) (d : Fin 2) : S1920x6144.Idx → EReal :=
  fun y => h scales act codes cos sin d (y 0) (y 1)

end Cert.Qkv

end
-- ==== Proof.Qkv.Block.lean ====
/-
  A block of the projection's kernel over the extended reals: whatever a point stages, provided it is the blocks of the
  arrays, what it leaves is the projection's block.
-/
module

public import proofs.«01_k».proof.Proof.Qkv.Point
public import proofs.«01_k».proof.Proof.Qkv.Product
public import Idealize.ShloMosaic.Lib.KernelVsHost

@[expose] public section

noncomputable section

namespace Cert.Qkv

open Cert.Qkv0Ideal Cert.Qkv0Ideal.Gen Idealize.ShloMosaic Idealize.ShloMosaic.TcCoe Idealize.SL.Sem

/-- A block of the tile's widened weight at `(p, q)`: the code there times the block's scale. -/
theorem piece_apply (i : grid0.Coords) (x0 : Vec Ideal S1x40x48 .f32) (x2 : Vec Ideal S1x5120x512 .fp8e4m3) (r : Fin 40) (c : Fin 4) (p q : Fin 128)
    (k : Fin 5120) (n : Fin 512) (a : Fin 40) (b : Fin 48) (hk : k.val = 128 * r.val + p.val) (hn : n.val = 128 * c.val + q.val)
    (ha : a.val = r.val) (hb : b.val = 4 * (i 0).val + c.val) :
    piece (F := Ideal) i x0 x2 r c (ix2 p q) = (x2 (ix3 0 k n) : EReal) * (x0 (ix3 0 a b) : EReal) := by
  have ho := scaleAt_eq i r c
  unfold piece
  rw [mulf_apply, extf_apply, truncf_apply]
  refine congrArg₂ (fun u v : EReal => u * v) ?_ ?_
  · exact Widen.codes_apply (α := EReal) x2 _ _ _ p q k n rfl hk hn
  · exact Widen.scale_apply (α := EReal) x0 _ _ _ a b (congrFun ho 0) (ha.trans (congrFun ho 1).symm) (hb.trans (congrFun ho 2).symm)

/-- The tile's widened weight at `(k, n)`: the code there times the scale of its 128 x 128 block. -/
theorem wide_apply (i : grid0.Coords) (x0 : Vec Ideal S1x40x48 .f32) (x2 : Vec Ideal S1x5120x512 .fp8e4m3) (k : Fin 5120) (n : Fin 512)
    (a : Fin 40) (b : Fin 48) (ha : a.val = k.val / 128) (hb : b.val = 4 * (i 0).val + n.val / 128) :
    wide (F := Ideal) i x0 x2 (ix2 k n) = (x2 (ix3 0 k n) : EReal) * (x0 (ix3 0 a b) : EReal) := by
  have hk := k.isLt; have hn := n.isLt
  have hr : k.val / 128 < 40 := by omega
  have hc : n.val / 128 < 4 := by omega
  unfold wide
  rw [Widen.tiles_apply (R := 40) (C := 4) (by decide) (by decide) rfl rfl _ k n ⟨k.val / 128, hr⟩ ⟨n.val / 128, hc⟩ rfl rfl]
  exact piece_apply i x0 x2 _ _ _ _ k n a b (Nat.div_add_mod _ _).symm (Nat.div_add_mod _ _).symm ha hb

/-- A stretch's product at `(q, n)`. -/
theorem prod_apply (w : FVec Ideal S5120x512 .bf16) (x1 : Vec Ideal S1920x5120 .bf16) (r : Fin 4) (q : Fin 480) (n : Fin 512) (p : Fin 1920)
    (hp : p.val = 480 * r.val + q.val) :
    k0_pay180 (F := Ideal) w (View.ld x1 (rows 5120 r)) (ix2 q n) = ∑ k : Fin 5120, (x1 (ix2 p k) : EReal) * w (ix2 k n) := by
  have e : ∀ k : Fin 5120, (View.ld x1 (rows 5120 r) : Vec Ideal S480x5120 .bf16) (ix2 q k) = x1 (ix2 p k) := by
    intro k
    refine congrArg x1 (funext fun a => Fin.ext ?_)
    match a with
    | ⟨0, _⟩ => show 480 * r.val + 1 * q.val = p.val; omega
    | ⟨1, _⟩ => show 0 + 1 * k.val = k.val; omega
  generalize (View.ld x1 (rows 5120 r) : Vec Ideal S480x5120 .bf16) = v at e ⊢
  have g : k0_pay180 (F := Ideal) w v (ix2 q n) = ∑ k : Fin 5120, (v (ix2 q k) : EReal) * w (ix2 k n) := by
    pointwise [k0_pay180]
  rw [g]
  exact Finset.sum_congr rfl fun k _ => by rw [e k]

/-- Rows of a table. -/
theorem table_apply (x : Vec Ideal S1920x128 .f32) (r : Fin 4) (q : Fin 480) (l : Fin 128) (p : Fin 1920) (hp : p.val = 480 * r.val + q.val) :
    (View.ld x (rows 128 r) : Vec Ideal S480x128 .f32) (ix2 q l) = x (ix2 p l) := by
  refine congrArg x (funext fun a => Fin.ext ?_)
  match a with
  | ⟨0, _⟩ => show 480 * r.val + 1 * q.val = p.val; omega
  | ⟨1, _⟩ => show 0 + 1 * l.val = l.val; omega

/-- The tiles before the tenth hold queries and keys. -/
theorem turned (j : Fin 12) : Scalar.cmpi .slt (BitVec.ofNat 32 j.val) 10#32 = if j.val < 10 then 1#1 else 0#1 := by
  revert j; decide

/-- The half of a head that lane `l` is turned with. -/
def lane (l : Fin 128) : Fin 128 := ⟨(l.val + 64) % 128, by omega⟩

/-- The turned number where a tile holds queries or keys, the number itself elsewhere. -/
theorem choose_apply (i : grid0.Coords) (x x' cos sin : FVec Ideal S480x128 .f32) (q : Fin 480) (l : Fin 128) :
    truncf .bf16 (Scalar.select (Scalar.cmpi .slt (BitVec.ofNat 32 (i 0).val) 10#32) (addf (mulf x cos) (mulf x' sin)) x) bitsLt_bf16_f32 (ix2 q l)
      = if (i 0).val < 10 then (x (ix2 q l) : EReal) * (cos (ix2 q l) : EReal) + (x' (ix2 q l) : EReal) * (sin (ix2 q l) : EReal) else (x (ix2 q l) : EReal) := by
  rw [turned (i 0)]
  by_cases hi : (i 0).val < 10
  · rw [if_pos hi, if_pos hi]; rfl
  · rw [if_neg hi, if_neg hi]; rfl

/-- A head at `(q, l)`. -/
theorem turn_apply (i : grid0.Coords) (y : FVec Ideal S480x512 .f32) (cos sin : FVec Ideal S480x128 .f32) (h : Fin 4) (q : Fin 480) (l : Fin 128)
    (n n' : Fin 512) (hn : n.val = 128 * h.val + l.val) (hn' : n'.val = 128 * h.val + (l.val + 64) % 128) :
    turn (F := Ideal) i y cos sin h (ix2 q l)
      = if (i 0).val < 10 then (y (ix2 q n) : EReal) * (cos (ix2 q l) : EReal) + (y (ix2 q n') : EReal) * (sin (ix2 q l) : EReal) else (y (ix2 q n) : EReal) := by
  have s : ∀ (l : Fin 128) (n : Fin 512), n.val = 128 * h.val + l.val → extractStridedSlice S480x128 ![0, 128 * h.val] y (head_slices h) (ix2 q l) = y (ix2 q n) := by
    intro l n hn
    refine extractStridedSlice_apply _ _ _ _ _ fun a => ?_
    match a with
    | ⟨0, _⟩ => show q.val = 0 + q.val; omega
    | ⟨1, _⟩ => show n.val = 128 * h.val + l.val; exact hn
  have t : dynamicRotate 1 64#32 none (extractStridedSlice S480x128 ![0, 128 * h.val] y (head_slices h)) rotates_S480x128_d1 (ix2 q l) = y (ix2 q n') := by
    rw [dynamicRotate_apply 1 64#32 _ _ (ix2 q l) (ix2 q (lane l)) fun b => ?_]
    · exact s (lane l) n' hn'
    · match b with
      | ⟨0, _⟩ => rfl
      | ⟨1, _⟩ => show (l.val + 64) % 128 = (l.val + 128 - 64 % 128) % 128; omega
  unfold turn
  rw [choose_apply, t]
  by_cases hi : (i 0).val < 10
  · rw [if_pos hi, if_pos hi, s l n hn]
  · rw [if_neg hi, if_neg hi, s l n hn]

/-- The blocks that point `t` stages, as blocks of depth `d` of the arrays. -/
structure Staged (scales : Vec Ideal S2x40x48 .f32) (act : Vec Ideal S1920x5120 .bf16) (codes : Vec Ideal S2x5120x6144 .fp8e4m3) (cos sin : Vec Ideal S5x384x64 .f32)
    (d : Fin 2) (t : Fin cfg0.N) (b0 : Vec Ideal S1x40x48 .f32) (b1 : Vec Ideal S1920x5120 .bf16) (b2 : Vec Ideal S1x5120x512 .fp8e4m3) (b3 b4 : Vec Ideal S1920x128 .f32) : Prop where
  /-- The scales are staged whole. -/
  scales : ∀ a b, b0 (ix3 0 a b) = scales (ix3 d a b)
  /-- So are the activations. -/
  act : ∀ p k, b1 (ix2 p k) = act (ix2 p k)
  /-- The codes are staged in columns of 512. -/
  codes : ∀ (k : Fin 5120) (n : Fin 512) (n' : Fin 6144), n'.val = t.val * 512 + n.val → b2 (ix3 0 k n) = codes (ix3 d k n')
  /-- The cosines stand twice side by side. -/
  cos : ∀ (p : Fin 1920) (l : Fin 128), (b3 (ix2 p l) : EReal) = row cos p ⟨l.val % 64, by omega⟩
  /-- So do the sines, the first time negated. -/
  sin : ∀ (p : Fin 1920) (l : Fin 128), (b4 (ix2 p l) : EReal) = if l.val < 64 then -row sin p ⟨l.val % 64, by omega⟩ else row sin p ⟨l.val % 64, by omega⟩

/-- Grid point `t` is column `t`. -/
theorem coords_eq : ∀ t : Fin cfg0.N, (grid0.coords t 0).val = t.val :=
  (by decide +kernel : ∀ t : Fin grid0.N, _)

section
variable {scales : Vec Ideal S2x40x48 .f32} {act : Vec Ideal S1920x5120 .bf16} {codes : Vec Ideal S2x5120x6144 .fp8e4m3} {cos sin : Vec Ideal S5x384x64 .f32}
    {d : Fin 2} {t : Fin cfg0.N} {b0 : Vec Ideal S1x40x48 .f32} {b1 : Vec Ideal S1920x5120 .bf16} {b2 : Vec Ideal S1x5120x512 .fp8e4m3} {b3 b4 : Vec Ideal S1920x128 .f32}

/-- A stretch's product is the projection's. -/
theorem Staged.prod (st : Staged scales act codes cos sin d t b0 b1 b2 b3 b4) (r : Fin 4) (q : Fin 480) (p : Fin 1920) (n : Fin 512) (n' : Fin 6144)
    (hp : p.val = 480 * r.val + q.val) (hn : n'.val = t.val * 512 + n.val) :
    k0_pay180 (F := Ideal) (wide (grid0.coords t) b0 b2) (View.ld b1 (rows 5120 r)) (ix2 q n) = proj scales act codes d p n' := by
  have e := coords_eq t
  have ht : t.val < 12 := lt_of_lt_of_eq t.isLt N_0
  rw [prod_apply _ _ r q n p hp]
  refine Finset.sum_congr rfl fun k _ => ?_
  rw [st.act p k, wide_apply (grid0.coords t) b0 b2 k n ⟨k.val / 128, by omega⟩ ⟨n'.val / 128, by omega⟩ rfl (by simp only; omega), st.codes k n n' hn, st.scales]
  rfl

/-- A point's block is the projection's. -/
theorem Staged.point (st : Staged scales act codes cos sin d t b0 b1 b2 b3 b4) (p : Fin 1920) (n : Fin 512) (n' : Fin 6144) (hn : n'.val = t.val * 512 + n.val) :
    block (F := Ideal) (grid0.coords t) b0 b1 b2 b3 b4 (ix2 p n) = arr scales act codes cos sin d (ix2 p n') := by
  have e := coords_eq t
  have ht : t.val < 12 := lt_of_lt_of_eq t.isLt N_0
  have hp : p.val = 480 * (p.val / 480) + p.val % 480 := (Nat.div_add_mod _ _).symm
  have hq : n.val = 128 * (n.val / 128) + n.val % 128 := (Nat.div_add_mod _ _).symm
  show _ = h scales act codes cos sin d p n'
  unfold block
  rw [stores_apply _ p n ⟨p.val / 480, by omega⟩ ⟨n.val / 128, by omega⟩ ⟨p.val % 480, by omega⟩ ⟨n.val % 128, by omega⟩ hp hq]
  unfold head
  rw [turn_apply _ _ _ _ _ _ _ n ⟨128 * (n.val / 128) + (n.val % 128 + 64) % 128, by omega⟩ hq rfl,
    st.prod _ _ p n n' hp hn, st.prod _ _ p _ (partner n') hp (by unfold partner; simp only; split <;> omega), e]
  have ec : k0_pay181 (F := Ideal) (View.ld b3 (rows 128 ⟨p.val / 480, by omega⟩)) (ix2 ⟨p.val % 480, by omega⟩ ⟨n.val % 128, by omega⟩) = row cos p ⟨n'.val % 64, by omega⟩ := by
    unfold k0_pay181
    rw [shapeCast_self, table_apply b3 _ _ _ p hp, st.cos]
    exact congrArg (row cos p) (Fin.ext (by simp only; omega))
  have es : k0_pay182 (F := Ideal) (View.ld b4 (rows 128 ⟨p.val / 480, by omega⟩)) (ix2 ⟨p.val % 480, by omega⟩ ⟨n.val % 128, by omega⟩)
      = if n'.val % 128 < 64 then -row sin p ⟨n'.val % 64, by omega⟩ else row sin p ⟨n'.val % 64, by omega⟩ := by
    have a : n.val % 128 % 64 = n'.val % 64 := by omega
    have b : n.val % 128 = n'.val % 128 := by omega
    unfold k0_pay182
    rw [shapeCast_self, table_apply b4 _ _ _ p hp, st.sin]
    simp only [a]
    simp only [b]
  rw [ec, es]
  unfold h rotary
  exact if_congr (by omega) rfl rfl
end

end Cert.Qkv

end
-- ==== Proof.Qkv.Tables.lean ====
/-
  The tables that the projection's kernel stages: the cosines twice side by side, and the sines, negated and as they are.
-/
module

public import proofs.«01_k».proof.Proof.Qkv.Block

@[expose] public section

noncomputable section

namespace Cert.Qkv

open Cert.Qkv0Ideal Idealize.ShloMosaic Idealize.ShloMosaic.TcCoe Idealize.SL.Sem

/-- A row of two rows side by side. -/
theorem sides (f g : Fin 64 → EReal) (l : Fin 128) :
    (if h : l.val < 64 then f ⟨l.val, h⟩ else g ⟨l.val - 64, by omega⟩) = if l.val < 64 then f ⟨l.val % 64, by omega⟩ else g ⟨l.val % 64, by omega⟩ := by
  have hl := l.isLt
  by_cases h : l.val < 64
  · rw [dif_pos h, if_pos h]
    exact congrArg f (Fin.ext (by simp only; omega))
  · rw [dif_neg h, if_neg h]
    exact congrArg g (Fin.ext (by simp only; omega))

end Cert.Qkv

end
-- ==== Proof.Qkv.Array0.lean ====
/-
  The array that the projection's kernel of depth 0 ends with.
-/
module

public import proofs.«01_k».proof.Proof.Qkv.Tables
public import Idealize.ShloMosaic.Lib.StableHlo.ReadAt

@[expose] public section

noncomputable section

namespace Cert.Qkv0Ideal.Value

open Cert.Qkv0Ideal Cert.Qkv0Ideal.Gen Idealize.ShloMosaic Idealize.ShloMosaic.TcCoe Idealize.SL.Sem

variable (m : (ℓ : Loc nD τ sig) → Buf (Elt Ideal) ℓ)

/-- Where each window lies at point `t`. -/
theorem index_eq : ∀ t : Fin cfg0.N, win0_0.index t = ![0, 0, 0] ∧ win0_1.index t = ![0, 0] ∧ win0_2.index t = ![0, 0, t.val]
    ∧ win0_3.index t = ![0, 0] ∧ win0_4.index t = ![0, 0] ∧ win0_5.index t = ![0, t.val] :=
  (by decide +kernel : ∀ t : Fin grid0.N, _)

/-- The staged blocks are blocks of depth 0. -/
theorem staged (c : Dev nD) (t : Fin cfg0.N) : Qkv.Staged (m ((c : Thread nD τ).loc main_arg2)) (m ((c : Thread nD τ).loc main_arg0)) (m ((c : Thread nD τ).loc main_arg1))
    (m ((c : Thread nD τ).loc main_arg3)) (m ((c : Thread nD τ).loc main_arg4)) 0 t
    (iblk m c 0 t) (iblk m c 1 t) (iblk m c 2 t) (iblk m c 3 t) (iblk m c 4 t) := by
  obtain ⟨e0, e1, e2, e3, e4, -⟩ := index_eq t
  refine ⟨fun a b => ?_, fun p k => ?_, fun k n n' hn => ?_, fun p l => ?_, fun p l => ?_⟩
  · rw [← V_main_arg2 m c]
    refine congrArg (V m c main_arg2) (funext fun d => Fin.ext ?_)
    match d with
    | ⟨0, _⟩ => show win0_0.index t (0 : Fin 3) * 1 + 1 * 0 = 0; rw [e0]; rfl
    | ⟨1, _⟩ => show win0_0.index t (1 : Fin 3) * 40 + 1 * a.val = a.val; rw [e0]; simp
    | ⟨2, _⟩ => show win0_0.index t (2 : Fin 3) * 48 + 1 * b.val = b.val; rw [e0]; simp
  · rw [← V_main_arg0 m c]
    refine congrArg (V m c main_arg0) (funext fun d => Fin.ext ?_)
    match d with
    | ⟨0, _⟩ => show win0_1.index t (0 : Fin 2) * 1920 + 1 * p.val = p.val; rw [e1]; simp
    | ⟨1, _⟩ => show win0_1.index t (1 : Fin 2) * 5120 + 1 * k.val = k.val; rw [e1]; simp
  · rw [← V_main_arg1 m c]
    refine congrArg (V m c main_arg1) (funext fun d => Fin.ext ?_)
    match d with
    | ⟨0, _⟩ => show win0_2.index t (0 : Fin 3) * 1 + 1 * 0 = 0; rw [e2]; rfl
    | ⟨1, _⟩ => show win0_2.index t (1 : Fin 3) * 5120 + 1 * k.val = k.val; rw [e2]; simp
    | ⟨2, _⟩ => show win0_2.index t (2 : Fin 3) * 512 + 1 * n.val = n'.val; rw [e2, hn]; simp
  · have h : ((cfg0.win 3).blk t).view.emb (ix2 p l) = (ix2 p l : S1920x128.Idx) := by
      refine funext fun d => Fin.ext ?_
      match d with
      | ⟨0, _⟩ => show win0_3.index t (0 : Fin 2) * 1920 + 1 * p.val = p.val; rw [e3]; simp
      | ⟨1, _⟩ => show win0_3.index t (1 : Fin 2) * 128 + 1 * l.val = l.val; rw [e3]; simp
    show (V m c main_v2 (((cfg0.win 3).blk t).view.emb (ix2 p l)) : EReal) = _
    rw [h]
    unfold V
    after_reads_at
    exact (Qkv.sides (Qkv.row (m ((c : Thread nD τ).loc main_arg3)) p) (Qkv.row (m ((c : Thread nD τ).loc main_arg3)) p) l).trans (ite_self _)
  · have h : ((cfg0.win 4).blk t).view.emb (ix2 p l) = (ix2 p l : S1920x128.Idx) := by
      refine funext fun d => Fin.ext ?_
      match d with
      | ⟨0, _⟩ => show win0_4.index t (0 : Fin 2) * 1920 + 1 * p.val = p.val; rw [e4]; simp
      | ⟨1, _⟩ => show win0_4.index t (1 : Fin 2) * 128 + 1 * l.val = l.val; rw [e4]; simp
    show (V m c main_v4 (((cfg0.win 4).blk t).view.emb (ix2 p l)) : EReal) = _
    rw [h]
    unfold V
    after_reads_at
    exact Qkv.sides (fun l => -Qkv.row (m ((c : Thread nD τ).loc main_arg4)) p l) (Qkv.row (m ((c : Thread nD τ).loc main_arg4)) p) l

/-- Where a block's element lies in the result. -/
theorem emb_eq (t : Fin cfg0.N) (p : Fin 1920) (n : Fin 512) (n' : Fin 6144) (hn : n'.val = t.val * 512 + n.val) :
    ((cfg0.win 5).blk t).view.emb (ix2 p n) = (ix2 p n' : S1920x6144.Idx) := by
  obtain ⟨-, -, -, -, -, e⟩ := index_eq t
  refine funext fun d => Fin.ext ?_
  match d with
  | ⟨0, _⟩ => show win0_5.index t (0 : Fin 2) * 1920 + 1 * p.val = p.val; rw [e]; simp
  | ⟨1, _⟩ => show win0_5.index t (1 : Fin 2) * 512 + 1 * n.val = n'.val; rw [e, hn]; simp

/-- The array after the run. -/
theorem final (c : Dev nD) : (dats m 0 c).arrAt 5 cfg0.N
    = Qkv.arr (m ((c : Thread nD τ).loc main_arg2)) (m ((c : Thread nD τ).loc main_arg0)) (m ((c : Thread nD τ).loc main_arg1))
    (m ((c : Thread nD τ).loc main_arg3)) (m ((c : Thread nD τ).loc main_arg4)) 0 := by
  refine (dats m 0 c).arrAt_eq_of_cover 5 _ (fun t hf => ?_) fun i => ?_
  · have ht : t.val < 12 := lt_of_lt_of_eq t.isLt N_0
    rw [flushed5_A, out_A]
    funext (j : S1920x512.Idx)
    idx_vars j
    revert j0 j1; intro p n
    have e := (staged m c t).point p n ⟨t.val * 512 + n.val, by omega⟩ rfl
    rw [← emb_eq t p n ⟨t.val * 512 + n.val, by omega⟩ rfl] at e
    generalize Qkv.arr _ _ _ _ _ 0 = a at e ⊢
    exact e
  · change S1920x6144.Idx at i
    idx_vars i
    revert i0 i1; intro p n
    have lt : n.val / 512 < cfg0.N := by rw [show cfg0.N = 12 from N_0]; omega
    refine ⟨⟨n.val / 512, lt⟩, flush0_5 _, ?_⟩
    rw [← emb_eq ⟨n.val / 512, lt⟩ p ⟨n.val % 512, by omega⟩ n (by simp only; omega)]
    exact View.emb_mem_set _ _

end Cert.Qkv0Ideal.Value

end
-- ==== Proof.Qkv.Array1.lean ====
/-
  The array that the projection's kernel of depth 1 ends with.
-/
module

public import proofs.«01_k».proof.Proof.Qkv.Tables
public import Idealize.ShloMosaic.Lib.StableHlo.ReadAt

@[expose] public section

noncomputable section

namespace Cert.Qkv1Ideal.Value

open Cert.Qkv1Ideal Cert.Qkv1Ideal.Gen Idealize.ShloMosaic Idealize.ShloMosaic.TcCoe Idealize.SL.Sem

variable (m : (ℓ : Loc nD τ sig) → Buf (Elt Ideal) ℓ)

/-- Where each window lies at point `t`. -/
theorem index_eq : ∀ t : Fin cfg0.N, win0_0.index t = ![1, 0, 0] ∧ win0_1.index t = ![0, 0] ∧ win0_2.index t = ![1, 0, t.val]
    ∧ win0_3.index t = ![0, 0] ∧ win0_4.index t = ![0, 0] ∧ win0_5.index t = ![0, t.val] :=
  (by decide +kernel : ∀ t : Fin grid0.N, _)

/-- The staged blocks are blocks of depth 1. -/
theorem staged (c : Dev nD) (t : Fin cfg0.N) : Qkv.Staged (m ((c : Thread nD τ).loc main_arg2)) (m ((c : Thread nD τ).loc main_arg0)) (m ((c : Thread nD τ).loc main_arg1))
    (m ((c : Thread nD τ).loc main_arg3)) (m ((c : Thread nD τ).loc main_arg4)) 1 t
    (iblk m c 0 t) (iblk m c 1 t) (iblk m c 2 t) (iblk m c 3 t) (iblk m c 4 t) := by
  obtain ⟨e0, e1, e2, e3, e4, -⟩ := index_eq t
  refine ⟨fun a b => ?_, fun p k => ?_, fun k n n' hn => ?_, fun p l => ?_, fun p l => ?_⟩
  · rw [← V_main_arg2 m c]
    refine congrArg (V m c main_arg2) (funext fun d => Fin.ext ?_)
    match d with
    | ⟨0, _⟩ => show win0_0.index t (0 : Fin 3) * 1 + 1 * 0 = 1; rw [e0]; rfl
    | ⟨1, _⟩ => show win0_0.index t (1 : Fin 3) * 40 + 1 * a.val = a.val; rw [e0]; simp
    | ⟨2, _⟩ => show win0_0.index t (2 : Fin 3) * 48 + 1 * b.val = b.val; rw [e0]; simp
  · rw [← V_main_arg0 m c]
    refine congrArg (V m c main_arg0) (funext fun d => Fin.ext ?_)
    match d with
    | ⟨0, _⟩ => show win0_1.index t (0 : Fin 2) * 1920 + 1 * p.val = p.val; rw [e1]; simp
    | ⟨1, _⟩ => show win0_1.index t (1 : Fin 2) * 5120 + 1 * k.val = k.val; rw [e1]; simp
  · rw [← V_main_arg1 m c]
    refine congrArg (V m c main_arg1) (funext fun d => Fin.ext ?_)
    match d with
    | ⟨0, _⟩ => show win0_2.index t (0 : Fin 3) * 1 + 1 * 0 = 1; rw [e2]; rfl
    | ⟨1, _⟩ => show win0_2.index t (1 : Fin 3) * 5120 + 1 * k.val = k.val; rw [e2]; simp
    | ⟨2, _⟩ => show win0_2.index t (2 : Fin 3) * 512 + 1 * n.val = n'.val; rw [e2, hn]; simp
  · have h : ((cfg0.win 3).blk t).view.emb (ix2 p l) = (ix2 p l : S1920x128.Idx) := by
      refine funext fun d => Fin.ext ?_
      match d with
      | ⟨0, _⟩ => show win0_3.index t (0 : Fin 2) * 1920 + 1 * p.val = p.val; rw [e3]; simp
      | ⟨1, _⟩ => show win0_3.index t (1 : Fin 2) * 128 + 1 * l.val = l.val; rw [e3]; simp
    show (V m c main_v2 (((cfg0.win 3).blk t).view.emb (ix2 p l)) : EReal) = _
    rw [h]
    unfold V
    after_reads_at
    exact (Qkv.sides (Qkv.row (m ((c : Thread nD τ).loc main_arg3)) p) (Qkv.row (m ((c : Thread nD τ).loc main_arg3)) p) l).trans (ite_self _)
  · have h : ((cfg0.win 4).blk t).view.emb (ix2 p l) = (ix2 p l : S1920x128.Idx) := by
      refine funext fun d => Fin.ext ?_
      match d with
      | ⟨0, _⟩ => show win0_4.index t (0 : Fin 2) * 1920 + 1 * p.val = p.val; rw [e4]; simp
      | ⟨1, _⟩ => show win0_4.index t (1 : Fin 2) * 128 + 1 * l.val = l.val; rw [e4]; simp
    show (V m c main_v4 (((cfg0.win 4).blk t).view.emb (ix2 p l)) : EReal) = _
    rw [h]
    unfold V
    after_reads_at
    exact Qkv.sides (fun l => -Qkv.row (m ((c : Thread nD τ).loc main_arg4)) p l) (Qkv.row (m ((c : Thread nD τ).loc main_arg4)) p) l

/-- Where a block's element lies in the result. -/
theorem emb_eq (t : Fin cfg0.N) (p : Fin 1920) (n : Fin 512) (n' : Fin 6144) (hn : n'.val = t.val * 512 + n.val) :
    ((cfg0.win 5).blk t).view.emb (ix2 p n) = (ix2 p n' : S1920x6144.Idx) := by
  obtain ⟨-, -, -, -, -, e⟩ := index_eq t
  refine funext fun d => Fin.ext ?_
  match d with
  | ⟨0, _⟩ => show win0_5.index t (0 : Fin 2) * 1920 + 1 * p.val = p.val; rw [e]; simp
  | ⟨1, _⟩ => show win0_5.index t (1 : Fin 2) * 512 + 1 * n.val = n'.val; rw [e, hn]; simp

/-- The array after the run. -/
theorem final (c : Dev nD) : (dats m 0 c).arrAt 5 cfg0.N
    = Qkv.arr (m ((c : Thread nD τ).loc main_arg2)) (m ((c : Thread nD τ).loc main_arg0)) (m ((c : Thread nD τ).loc main_arg1))
    (m ((c : Thread nD τ).loc main_arg3)) (m ((c : Thread nD τ).loc main_arg4)) 1 := by
  refine (dats m 0 c).arrAt_eq_of_cover 5 _ (fun t hf => ?_) fun i => ?_
  · have ht : t.val < 12 := lt_of_lt_of_eq t.isLt N_0
    rw [flushed5_A, out_A]
    funext (j : S1920x512.Idx)
    idx_vars j
    revert j0 j1; intro p n
    have e := (staged m c t).point p n ⟨t.val * 512 + n.val, by omega⟩ rfl
    rw [← emb_eq t p n ⟨t.val * 512 + n.val, by omega⟩ rfl] at e
    generalize Qkv.arr _ _ _ _ _ 1 = a at e ⊢
    exact e
  · change S1920x6144.Idx at i
    idx_vars i
    revert i0 i1; intro p n
    have lt : n.val / 512 < cfg0.N := by rw [show cfg0.N = 12 from N_0]; omega
    refine ⟨⟨n.val / 512, lt⟩, flush0_5 _, ?_⟩
    rw [← emb_eq ⟨n.val / 512, lt⟩ p ⟨n.val % 512, by omega⟩ n (by simp only; omega)]
    exact View.emb_mem_set _ _

end Cert.Qkv1Ideal.Value

end
-- ==== Proof.Qkv.Rotary.lean ====
/-
  What the projection's references compute: the product with the widened weight, turned head by head.
-/
module

public import proofs.«01_k».proof.Proof.Qkv.Product

@[expose] public section

noncomputable section

namespace Cert.Qkv

open Cert.Qkv0RefIdeal Cert.Qkv0RefIdeal.Gen Idealize.ShloMosaic Idealize.ShloMosaic.TcCoe Idealize.SL.Sem

/-- The product at `(p, n)`. -/
theorem prod_reference (v0 : Vec Ideal S1920x5120 .bf16) (v1 : Vec Ideal S1x5120x6144 .fp8e4m3) (v3 : Vec Ideal S1x40x48 .f32) (p : Fin 1920) (n : Fin 6144) :
    k0_pay2 (F := Ideal) v0 v1 v3 (ix2 p n)
      = ∑ k : Fin 5120, (v0 (ix2 p k) : EReal) * ((v1 (ix3 0 k n) : EReal) * (v3 (ix3 0 ⟨k.val / 128, by omega⟩ ⟨n.val / 128, by omega⟩) : EReal)) := by
  pointwise [k0_pay2]

section
variable (y : Fin 1920 → Fin 6144 → EReal) (cos sin : Fin 1920 → Fin 64 → EReal) (p : Fin 1920) (n a b : Fin 6144) (l : Fin 64)

/-- The first half of a head. -/
theorem rotary_first (h5 : n.val < 5120) (hh : n.val % 128 < 64) (ha : a.val = n.val) (hb : b.val = n.val + 64) (hl : l.val = n.val % 64) :
    y p a * cos p l - y p b * sin p l = rotary y cos sin p n := by
  obtain rfl : a = n := Fin.ext ha
  obtain rfl : b = partner a := Fin.ext (by unfold partner; simp only [if_pos hh]; exact hb)
  rw [show l = ⟨a.val % 64, by omega⟩ from Fin.ext hl]
  unfold rotary
  rw [if_pos h5, if_pos hh, mul_neg]
  rfl

/-- The second half. -/
theorem rotary_second (h5 : n.val < 5120) (hh : ¬n.val % 128 < 64) (ha : a.val = n.val) (hb : b.val = n.val - 64) (hl : l.val = n.val % 64) :
    y p a * cos p l + y p b * sin p l = rotary y cos sin p n := by
  obtain rfl : a = n := Fin.ext ha
  obtain rfl : b = partner a := Fin.ext (by unfold partner; simp only [if_neg hh]; exact hb)
  rw [show l = ⟨a.val % 64, by omega⟩ from Fin.ext hl]
  unfold rotary
  rw [if_pos h5, if_neg hh]
end

/-- Three arrays side by side. -/
theorem join_apply (q : FVec Ideal S1920x4096 .f32) (k v : FVec Ideal S1920x1024 .f32) (p : Fin 1920) (n : Fin 6144) :
    concatenate S1920x6144 1 [⟨S1920x4096, q⟩, ⟨S1920x1024, k⟩, ⟨S1920x1024, v⟩] concatenates_S1920x4096_S1920x1024_S1920x1024_S1920x6144_d1 (ix2 p n)
      = if h : n.val < 4096 then q (ix2 p ⟨n.val, h⟩)
        else if h' : n.val < 5120 then k (ix2 p ⟨n.val - 4096, by omega⟩) else v (ix2 p ⟨n.val - 5120, by omega⟩) := by
  by_cases h : n.val < 4096
  · rw [dif_pos h]
    refine concatenate_apply_piece 1 _ _ (ix2 p n) 0 (by simp) S1920x4096 q rfl rfl 0 rfl _ (fun c hc => ?_) (by show 0 + n.val = n.val; omega)
    match c with
    | ⟨0, _⟩ => rfl
    | ⟨1, _⟩ => exact absurd rfl hc
  rw [dif_neg h]
  by_cases h' : n.val < 5120
  · rw [dif_pos h']
    refine concatenate_apply_piece 1 _ _ (ix2 p n) 1 (by simp) S1920x1024 k rfl rfl 4096 rfl _ (fun c hc => ?_) (by show 4096 + (n.val - 4096) = n.val; omega)
    match c with
    | ⟨0, _⟩ => rfl
    | ⟨1, _⟩ => exact absurd rfl hc
  · rw [dif_neg h']
    refine concatenate_apply_piece 1 _ _ (ix2 p n) 2 (by simp) S1920x1024 v rfl rfl 5120 rfl _ (fun c hc => ?_) (by show 5120 + (n.val - 5120) = n.val; omega)
    match c with
    | ⟨0, _⟩ => rfl
    | ⟨1, _⟩ => exact absurd rfl hc

section
variable (v0 : Vec Ideal S1920x5120 .bf16) (v1 : Vec Ideal S1x5120x6144 .fp8e4m3) (v3 : Vec Ideal S1x40x48 .f32) (v16 v18 : Vec Ideal S1920x64 .f32)

/-- The queries. -/
theorem queries_apply (p : Fin 1920) (n : Fin 4096) (n' : Fin 6144) (hn : n'.val = n.val) :
    (k0_pay6 (F := Ideal) v0 v1 v3 v16 v18 (ix2 p n) : EReal)
      = rotary (fun p n => k0_pay2 (F := Ideal) v0 v1 v3 (ix2 p n)) (fun p l => v16 (ix2 p l)) (fun p l => v18 (ix2 p l)) p n' := by
  have hlt := n.isLt
  unfold k0_pay6
  generalize k0_pay2 (F := Ideal) v0 v1 v3 = y
  pointwise [k0_pay4, k0_pay5]
  by_cases hh : n.val % 128 < 64
  · rw [dif_pos hh]
    exact rotary_first (fun p n => y (ix2 p n)) (fun p l => v16 (ix2 p l)) (fun p l => v18 (ix2 p l)) p n' _ _ _ (by omega) (by omega) (by simp only; omega) (by simp only; omega) (by simp only; omega)
  · rw [dif_neg hh]
    exact rotary_second (fun p n => y (ix2 p n)) (fun p l => v16 (ix2 p l)) (fun p l => v18 (ix2 p l)) p n' _ _ _ (by omega) (by omega) (by simp only; omega) (by simp only; omega) (by simp only; omega)

/-- The keys. -/
theorem keys_apply (p : Fin 1920) (n : Fin 1024) (n' : Fin 6144) (hn : n'.val = 4096 + n.val) :
    (shapeCast S1920x1024 (concatenate S1920x8x128 2 [⟨S1920x8x64, k0_pay12 (F := Ideal) v0 v1 v3 v16 v18⟩,
      ⟨S1920x8x64, addf (mulf (k0_pay9 (F := Ideal) v0 v1 v3) (broadcastTo S1920x8x64 (k0_pay10 v16) broadcasts_S1920x1x64_S1920x8x64))
        (mulf (k0_pay8 (F := Ideal) v0 v1 v3) (broadcastTo S1920x8x64 (k0_pay11 v18) broadcasts_S1920x1x64_S1920x8x64))⟩]
      concatenates_S1920x8x64_S1920x8x64_S1920x8x128_d2) shapeCasts_S1920x8x128_S1920x1024 (ix2 p n) : EReal)
      = rotary (fun p n => k0_pay2 (F := Ideal) v0 v1 v3 (ix2 p n)) (fun p l => v16 (ix2 p l)) (fun p l => v18 (ix2 p l)) p n' := by
  have hlt := n.isLt
  unfold k0_pay12 k0_pay9 k0_pay8 k0_pay7
  generalize k0_pay2 (F := Ideal) v0 v1 v3 = y
  pointwise [k0_pay4, k0_pay5, k0_pay10, k0_pay11]
  by_cases hh : n.val % 128 < 64
  · rw [dif_pos hh]
    exact rotary_first (fun p n => y (ix2 p n)) (fun p l => v16 (ix2 p l)) (fun p l => v18 (ix2 p l)) p n' _ _ _ (by omega) (by omega) (by simp only; omega) (by simp only; omega) (by simp only; omega)
  · rw [dif_neg hh]
    exact rotary_second (fun p n => y (ix2 p n)) (fun p l => v16 (ix2 p l)) (fun p l => v18 (ix2 p l)) p n' _ _ _ (by omega) (by omega) (by simp only; omega) (by simp only; omega) (by simp only; omega)

/-- The whole result at `(p, n)`: the product, turned. -/
theorem body_apply (p : Fin 1920) (n : Fin 6144) :
    (k0_pay1 (F := Ideal) (k0_pay3 v0 v1 v3) (k0_pay6 v0 v1 v3 v16 v18) (k0_pay8 v0 v1 v3) (k0_pay9 v0 v1 v3) (k0_pay10 v16) (k0_pay11 v18) (k0_pay12 v0 v1 v3 v16 v18) (ix2 p n) : EReal)
      = rotary (fun p n => k0_pay2 (F := Ideal) v0 v1 v3 (ix2 p n)) (fun p l => v16 (ix2 p l)) (fun p l => v18 (ix2 p l)) p n := by
  unfold k0_pay1
  refine (join_apply _ _ _ p n).trans ?_
  by_cases h : n.val < 4096
  · rw [dif_pos h]
    exact queries_apply v0 v1 v3 v16 v18 p _ n rfl
  rw [dif_neg h]
  by_cases h' : n.val < 5120
  · rw [dif_pos h']
    exact keys_apply v0 v1 v3 v16 v18 p _ n (by simp only; omega)
  · rw [dif_neg h']
    unfold rotary
    rw [if_neg h']
    unfold k0_pay3
    exact extractStridedSlice_apply _ _ _ _ (ix2 p n) fun a => by
      match a with
      | ⟨0, _⟩ => show p.val = 0 + p.val; omega
      | ⟨1, _⟩ => show n.val = 5120 + (n.val - 5120); omega
end

end Cert.Qkv

end
-- ==== Proof.Qkv.RefArray0.lean ====
/-
  The array that the projection's reference of depth 0 ends with.
-/
module

public import proofs.«01_k».proof.Proof.Qkv.Rotary
public import Idealize.ShloMosaic.Lib.StableHlo.ReadAt

@[expose] public section

noncomputable section

namespace Cert.Qkv0RefIdeal.Value

open Cert.Qkv0RefIdeal Cert.Qkv0RefIdeal.Gen Idealize.ShloMosaic Idealize.ShloMosaic.TcCoe Idealize.SL.Sem

variable (m : (ℓ : Loc nD τ sig) → Buf (Elt Ideal) ℓ)

theorem hz : (![0, 0] : Fin 2 → Nat) = fun _ => 0 := funext fun a => by fin_cases a <;> rfl

/-- Every window stages its whole array. -/
theorem index_zero : ∀ t : Fin cfg0.N, win0_0.index t = ![0, 0, 0] ∧ win0_1.index t = ![0, 0] ∧ win0_2.index t = ![0, 0, 0] ∧ win0_3.index t = ![0, 0]
    ∧ win0_4.index t = ![0, 0] ∧ win0_5.index t = ![0, 0] :=
  (by decide +kernel : ∀ t : Fin grid0.N, _)

theorem scales_eq (c : Dev nD) (t : Fin cfg0.N) : (iblk m c 0 t : Vec Ideal S2x40x48 .f32) = m ((c : Thread nD τ).loc main_arg2) := by
  have e := (index_zero t).1
  rw [← V_main_arg2 m c]
  funext (j : S2x40x48.Idx)
  show V m c main_arg2 (((cfg0.win 0).blk t).view.emb j) = V m c main_arg2 j
  refine congrArg _ (funext fun d => Fin.ext ?_)
  match d with
  | ⟨0, _⟩ => show win0_0.index t (0 : Fin 3) * 2 + 1 * (j 0).val = (j 0).val; rw [e]; simp
  | ⟨1, _⟩ => show win0_0.index t (1 : Fin 3) * 40 + 1 * (j 1).val = (j 1).val; rw [e]; simp
  | ⟨2, _⟩ => show win0_0.index t (2 : Fin 3) * 48 + 1 * (j 2).val = (j 2).val; rw [e]; simp

theorem act_eq (c : Dev nD) (t : Fin cfg0.N) : (iblk m c 1 t : Vec Ideal S1920x5120 .bf16) = m ((c : Thread nD τ).loc main_arg0) := by
  have e := (index_zero t).2.1
  rw [← V_main_arg0 m c]
  funext (j : S1920x5120.Idx)
  show V m c main_arg0 (((cfg0.win 1).blk t).view.emb j) = V m c main_arg0 j
  refine congrArg _ (funext fun d => Fin.ext ?_)
  match d with
  | ⟨0, _⟩ => show win0_1.index t (0 : Fin 2) * 1920 + 1 * (j 0).val = (j 0).val; rw [e]; simp
  | ⟨1, _⟩ => show win0_1.index t (1 : Fin 2) * 5120 + 1 * (j 1).val = (j 1).val; rw [e]; simp

theorem codes_eq (c : Dev nD) (t : Fin cfg0.N) : (iblk m c 2 t : Vec Ideal S2x5120x6144 .fp8e4m3) = m ((c : Thread nD τ).loc main_arg1) := by
  have e := (index_zero t).2.2.1
  rw [← V_main_arg1 m c]
  funext (j : S2x5120x6144.Idx)
  show V m c main_arg1 (((cfg0.win 2).blk t).view.emb j) = V m c main_arg1 j
  refine congrArg _ (funext fun d => Fin.ext ?_)
  match d with
  | ⟨0, _⟩ => show win0_2.index t (0 : Fin 3) * 2 + 1 * (j 0).val = (j 0).val; rw [e]; simp
  | ⟨1, _⟩ => show win0_2.index t (1 : Fin 3) * 5120 + 1 * (j 1).val = (j 1).val; rw [e]; simp
  | ⟨2, _⟩ => show win0_2.index t (2 : Fin 3) * 6144 + 1 * (j 2).val = (j 2).val; rw [e]; simp

theorem cos_apply (c : Dev nD) (t : Fin cfg0.N) (p : Fin 1920) (l : Fin 64) :
    ((iblk m c 3 t : Vec Ideal S1920x64 .f32) (ix2 p l) : EReal) = Qkv.row (m ((c : Thread nD τ).loc main_arg3)) p l := by
  have e := (index_zero t).2.2.2.1
  have h : ((cfg0.win 3).blk t).view.emb (ix2 p l) = (ix2 p l : S1920x64.Idx) := by
    refine funext fun d => Fin.ext ?_
    match d with
    | ⟨0, _⟩ => show win0_3.index t (0 : Fin 2) * 1920 + 1 * p.val = p.val; rw [e]; simp
    | ⟨1, _⟩ => show win0_3.index t (1 : Fin 2) * 64 + 1 * l.val = l.val; rw [e]; simp
  show (V m c main_v0 (((cfg0.win 3).blk t).view.emb (ix2 p l)) : EReal) = _
  rw [h]
  unfold V
  after_reads_at
  rfl

theorem sin_apply (c : Dev nD) (t : Fin cfg0.N) (p : Fin 1920) (l : Fin 64) :
    ((iblk m c 4 t : Vec Ideal S1920x64 .f32) (ix2 p l) : EReal) = Qkv.row (m ((c : Thread nD τ).loc main_arg4)) p l := by
  have e := (index_zero t).2.2.2.2.1
  have h : ((cfg0.win 4).blk t).view.emb (ix2 p l) = (ix2 p l : S1920x64.Idx) := by
    refine funext fun d => Fin.ext ?_
    match d with
    | ⟨0, _⟩ => show win0_4.index t (0 : Fin 2) * 1920 + 1 * p.val = p.val; rw [e]; simp
    | ⟨1, _⟩ => show win0_4.index t (1 : Fin 2) * 64 + 1 * l.val = l.val; rw [e]; simp
  show (V m c main_v1 (((cfg0.win 4).blk t).view.emb (ix2 p l)) : EReal) = _
  rw [h]
  unfold V
  after_reads_at
  rfl

/-- The codes of depth 0. -/
theorem codes_apply (x : Vec Ideal S2x5120x6144 .fp8e4m3) (k : Fin 5120) (n : Fin 6144) : (View.ld x r0_1 : Vec Ideal S1x5120x6144 .fp8e4m3) (ix3 0 k n) = x (ix3 0 k n) := by
  refine congrArg x (funext fun a => Fin.ext ?_)
  match a with
  | ⟨0, _⟩ => rfl
  | ⟨1, _⟩ => show 0 + 1 * k.val = k.val; omega
  | ⟨2, _⟩ => show 0 + 1 * n.val = n.val; omega

/-- Its scales. -/
theorem scales_apply (x : Vec Ideal S2x40x48 .f32) (a : Fin 40) (b : Fin 48) : (View.ld x r0_2 : Vec Ideal S1x40x48 .f32) (ix3 0 a b) = x (ix3 0 a b) := by
  refine congrArg x (funext fun d => Fin.ext ?_)
  match d with
  | ⟨0, _⟩ => rfl
  | ⟨1, _⟩ => show 0 + 1 * a.val = a.val; omega
  | ⟨2, _⟩ => show 0 + 1 * b.val = b.val; omega

/-- What the reference's only point leaves at `(p, n)`. -/
theorem out_apply (scales : Vec Ideal S2x40x48 .f32) (act : Vec Ideal S1920x5120 .bf16) (codes : Vec Ideal S2x5120x6144 .fp8e4m3) (x3 x4 : Vec Ideal S1920x64 .f32)
    (p : Fin 1920) (n : Fin 6144) :
    (out0_5 (F := Ideal) scales act codes x3 x4 (ix2 p n) : EReal)
      = Qkv.rotary (Qkv.proj scales act codes 0) (fun p l => x3 (ix2 p l)) (fun p l => x4 (ix2 p l)) p n := by
  unfold out0_5
  rw [View.canon_unit_zero (S := S1920x6144) hz, View.ld_unit_zero (S := S1920x5120) hz, View.ld_unit_zero (S := S1920x64) hz, View.ld_unit_zero (S := S1920x64) hz]
  refine (Qkv.body_apply _ _ _ _ _ p n).trans (congrArg (fun y => Qkv.rotary y (fun p l => x3 (ix2 p l)) (fun p l => x4 (ix2 p l)) p n) ?_)
  funext p n
  refine (Qkv.prod_reference _ _ _ p n).trans (Finset.sum_congr rfl fun k _ => ?_)
  rw [codes_apply, scales_apply]
  rfl

/-- The only point. -/
theorem point_lt : 0 < cfg0.N := by decide +kernel

/-- The array after the run. -/
theorem final (c : Dev nD) : (dats m 0 c).arrAt 5 cfg0.N
    = Qkv.arr (m ((c : Thread nD τ).loc main_arg2)) (m ((c : Thread nD τ).loc main_arg0)) (m ((c : Thread nD τ).loc main_arg1))
    (m ((c : Thread nD τ).loc main_arg3)) (m ((c : Thread nD τ).loc main_arg4)) 0 := by
  have emb : ∀ t : Fin cfg0.N, ∀ j : S1920x6144.Idx, ((cfg0.win 5).blk t).view.emb j = j := by
    intro t j
    have e := (index_zero t).2.2.2.2.2
    refine funext fun d => Fin.ext ?_
    match d with
    | ⟨0, _⟩ => show win0_5.index t (0 : Fin 2) * 1920 + 1 * (j 0).val = (j 0).val; rw [e]; simp
    | ⟨1, _⟩ => show win0_5.index t (1 : Fin 2) * 6144 + 1 * (j 1).val = (j 1).val; rw [e]; simp
  refine (dats m 0 c).arrAt_eq_of_cover 5 _ (fun t hf => ?_) fun i => ?_
  · rw [flushed5, scales_eq, act_eq, codes_eq]
    funext (j : S1920x6144.Idx)
    show out0_5 (F := Ideal) _ _ _ _ _ j = Qkv.arr _ _ _ _ _ 0 (((cfg0.win 5).blk t).view.emb j)
    rw [emb]
    idx_vars j
    revert j0 j1; intro p n
    refine (out_apply _ _ _ _ _ p n).trans ?_
    simp only [cos_apply, sin_apply]
    rfl
  · refine ⟨⟨0, point_lt⟩, flush0_5 _, ?_⟩
    have := View.emb_mem_set ((cfg0.win 5).blk ⟨0, point_lt⟩).view i
    rwa [emb] at this

end Cert.Qkv0RefIdeal.Value

end
-- ==== Proof.Qkv.RefArray1.lean ====
/-
  The array that the projection's reference of depth 1 ends with.
-/
module

public import proofs.«01_k».proof.Proof.Qkv.Rotary
public import Idealize.ShloMosaic.Lib.StableHlo.ReadAt

@[expose] public section

noncomputable section

namespace Cert.Qkv1RefIdeal.Value

open Cert.Qkv1RefIdeal Cert.Qkv1RefIdeal.Gen Idealize.ShloMosaic Idealize.ShloMosaic.TcCoe Idealize.SL.Sem

variable (m : (ℓ : Loc nD τ sig) → Buf (Elt Ideal) ℓ)

theorem hz : (![0, 0] : Fin 2 → Nat) = fun _ => 0 := funext fun a => by fin_cases a <;> rfl

/-- Every window stages its whole array. -/
theorem index_zero : ∀ t : Fin cfg0.N, win0_0.index t = ![0, 0, 0] ∧ win0_1.index t = ![0, 0] ∧ win0_2.index t = ![0, 0, 0] ∧ win0_3.index t = ![0, 0]
    ∧ win0_4.index t = ![0, 0] ∧ win0_5.index t = ![0, 0] :=
  (by decide +kernel : ∀ t : Fin grid0.N, _)

theorem scales_eq (c : Dev nD) (t : Fin cfg0.N) : (iblk m c 0 t : Vec Ideal S2x40x48 .f32) = m ((c : Thread nD τ).loc main_arg2) := by
  have e := (index_zero t).1
  rw [← V_main_arg2 m c]
  funext (j : S2x40x48.Idx)
  show V m c main_arg2 (((cfg0.win 0).blk t).view.emb j) = V m c main_arg2 j
  refine congrArg _ (funext fun d => Fin.ext ?_)
  match d with
  | ⟨0, _⟩ => show win0_0.index t (0 : Fin 3) * 2 + 1 * (j 0).val = (j 0).val; rw [e]; simp
  | ⟨1, _⟩ => show win0_0.index t (1 : Fin 3) * 40 + 1 * (j 1).val = (j 1).val; rw [e]; simp
  | ⟨2, _⟩ => show win0_0.index t (2 : Fin 3) * 48 + 1 * (j 2).val = (j 2).val; rw [e]; simp

theorem act_eq (c : Dev nD) (t : Fin cfg0.N) : (iblk m c 1 t : Vec Ideal S1920x5120 .bf16) = m ((c : Thread nD τ).loc main_arg0) := by
  have e := (index_zero t).2.1
  rw [← V_main_arg0 m c]
  funext (j : S1920x5120.Idx)
  show V m c main_arg0 (((cfg0.win 1).blk t).view.emb j) = V m c main_arg0 j
  refine congrArg _ (funext fun d => Fin.ext ?_)
  match d with
  | ⟨0, _⟩ => show win0_1.index t (0 : Fin 2) * 1920 + 1 * (j 0).val = (j 0).val; rw [e]; simp
  | ⟨1, _⟩ => show win0_1.index t (1 : Fin 2) * 5120 + 1 * (j 1).val = (j 1).val; rw [e]; simp

theorem codes_eq (c : Dev nD) (t : Fin cfg0.N) : (iblk m c 2 t : Vec Ideal S2x5120x6144 .fp8e4m3) = m ((c : Thread nD τ).loc main_arg1) := by
  have e := (index_zero t).2.2.1
  rw [← V_main_arg1 m c]
  funext (j : S2x5120x6144.Idx)
  show V m c main_arg1 (((cfg0.win 2).blk t).view.emb j) = V m c main_arg1 j
  refine congrArg _ (funext fun d => Fin.ext ?_)
  match d with
  | ⟨0, _⟩ => show win0_2.index t (0 : Fin 3) * 2 + 1 * (j 0).val = (j 0).val; rw [e]; simp
  | ⟨1, _⟩ => show win0_2.index t (1 : Fin 3) * 5120 + 1 * (j 1).val = (j 1).val; rw [e]; simp
  | ⟨2, _⟩ => show win0_2.index t (2 : Fin 3) * 6144 + 1 * (j 2).val = (j 2).val; rw [e]; simp

theorem cos_apply (c : Dev nD) (t : Fin cfg0.N) (p : Fin 1920) (l : Fin 64) :
    ((iblk m c 3 t : Vec Ideal S1920x64 .f32) (ix2 p l) : EReal) = Qkv.row (m ((c : Thread nD τ).loc main_arg3)) p l := by
  have e := (index_zero t).2.2.2.1
  have h : ((cfg0.win 3).blk t).view.emb (ix2 p l) = (ix2 p l : S1920x64.Idx) := by
    refine funext fun d => Fin.ext ?_
    match d with
    | ⟨0, _⟩ => show win0_3.index t (0 : Fin 2) * 1920 + 1 * p.val = p.val; rw [e]; simp
    | ⟨1, _⟩ => show win0_3.index t (1 : Fin 2) * 64 + 1 * l.val = l.val; rw [e]; simp
  show (V m c main_v0 (((cfg0.win 3).blk t).view.emb (ix2 p l)) : EReal) = _
  rw [h]
  unfold V
  after_reads_at
  rfl

theorem sin_apply (c : Dev nD) (t : Fin cfg0.N) (p : Fin 1920) (l : Fin 64) :
    ((iblk m c 4 t : Vec Ideal S1920x64 .f32) (ix2 p l) : EReal) = Qkv.row (m ((c : Thread nD τ).loc main_arg4)) p l := by
  have e := (index_zero t).2.2.2.2.1
  have h : ((cfg0.win 4).blk t).view.emb (ix2 p l) = (ix2 p l : S1920x64.Idx) := by
    refine funext fun d => Fin.ext ?_
    match d with
    | ⟨0, _⟩ => show win0_4.index t (0 : Fin 2) * 1920 + 1 * p.val = p.val; rw [e]; simp
    | ⟨1, _⟩ => show win0_4.index t (1 : Fin 2) * 64 + 1 * l.val = l.val; rw [e]; simp
  show (V m c main_v1 (((cfg0.win 4).blk t).view.emb (ix2 p l)) : EReal) = _
  rw [h]
  unfold V
  after_reads_at
  rfl

/-- The codes of depth 1. -/
theorem codes_apply (x : Vec Ideal S2x5120x6144 .fp8e4m3) (k : Fin 5120) (n : Fin 6144) : (View.ld x r0_1 : Vec Ideal S1x5120x6144 .fp8e4m3) (ix3 0 k n) = x (ix3 1 k n) := by
  refine congrArg x (funext fun a => Fin.ext ?_)
  match a with
  | ⟨0, _⟩ => rfl
  | ⟨1, _⟩ => show 0 + 1 * k.val = k.val; omega
  | ⟨2, _⟩ => show 0 + 1 * n.val = n.val; omega

/-- Its scales. -/
theorem scales_apply (x : Vec Ideal S2x40x48 .f32) (a : Fin 40) (b : Fin 48) : (View.ld x r0_2 : Vec Ideal S1x40x48 .f32) (ix3 0 a b) = x (ix3 1 a b) := by
  refine congrArg x (funext fun d => Fin.ext ?_)
  match d with
  | ⟨0, _⟩ => rfl
  | ⟨1, _⟩ => show 0 + 1 * a.val = a.val; omega
  | ⟨2, _⟩ => show 0 + 1 * b.val = b.val; omega

/-- What the reference's only point leaves at `(p, n)`. -/
theorem out_apply (scales : Vec Ideal S2x40x48 .f32) (act : Vec Ideal S1920x5120 .bf16) (codes : Vec Ideal S2x5120x6144 .fp8e4m3) (x3 x4 : Vec Ideal S1920x64 .f32)
    (p : Fin 1920) (n : Fin 6144) :
    (out0_5 (F := Ideal) scales act codes x3 x4 (ix2 p n) : EReal)
      = Qkv.rotary (Qkv.proj scales act codes 1) (fun p l => x3 (ix2 p l)) (fun p l => x4 (ix2 p l)) p n := by
  unfold out0_5
  rw [View.canon_unit_zero (S := S1920x6144) hz, View.ld_unit_zero (S := S1920x5120) hz, View.ld_unit_zero (S := S1920x64) hz, View.ld_unit_zero (S := S1920x64) hz]
  refine (Qkv.body_apply _ _ _ _ _ p n).trans (congrArg (fun y => Qkv.rotary y (fun p l => x3 (ix2 p l)) (fun p l => x4 (ix2 p l)) p n) ?_)
  funext p n
  refine (Qkv.prod_reference _ _ _ p n).trans (Finset.sum_congr rfl fun k _ => ?_)
  rw [codes_apply, scales_apply]
  rfl

/-- The only point. -/
theorem point_lt : 0 < cfg0.N := by decide +kernel

/-- The array after the run. -/
theorem final (c : Dev nD) : (dats m 0 c).arrAt 5 cfg0.N
    = Qkv.arr (m ((c : Thread nD τ).loc main_arg2)) (m ((c : Thread nD τ).loc main_arg0)) (m ((c : Thread nD τ).loc main_arg1))
    (m ((c : Thread nD τ).loc main_arg3)) (m ((c : Thread nD τ).loc main_arg4)) 1 := by
  have emb : ∀ t : Fin cfg0.N, ∀ j : S1920x6144.Idx, ((cfg0.win 5).blk t).view.emb j = j := by
    intro t j
    have e := (index_zero t).2.2.2.2.2
    refine funext fun d => Fin.ext ?_
    match d with
    | ⟨0, _⟩ => show win0_5.index t (0 : Fin 2) * 1920 + 1 * (j 0).val = (j 0).val; rw [e]; simp
    | ⟨1, _⟩ => show win0_5.index t (1 : Fin 2) * 6144 + 1 * (j 1).val = (j 1).val; rw [e]; simp
  refine (dats m 0 c).arrAt_eq_of_cover 5 _ (fun t hf => ?_) fun i => ?_
  · rw [flushed5, scales_eq, act_eq, codes_eq]
    funext (j : S1920x6144.Idx)
    show out0_5 (F := Ideal) _ _ _ _ _ j = Qkv.arr _ _ _ _ _ 1 (((cfg0.win 5).blk t).view.emb j)
    rw [emb]
    idx_vars j
    revert j0 j1; intro p n
    refine (out_apply _ _ _ _ _ p n).trans ?_
    simp only [cos_apply, sin_apply]
    rfl
  · refine ⟨⟨0, point_lt⟩, flush0_5 _, ?_⟩
    have := View.emb_mem_set ((cfg0.win 5).blk ⟨0, point_lt⟩).view i
    rwa [emb] at this

end Cert.Qkv1RefIdeal.Value

end
-- ==== Proof.Qkv.Equation.lean ====
/-
  The projection's kernels and their references end with equal arrays.
-/
module

public import proofs.«01_k».proof.Defs
public import proofs.«01_k».proof.Proof.Qkv.Array0
public import proofs.«01_k».proof.Proof.Qkv.Array1
public import proofs.«01_k».proof.Proof.Qkv.RefArray0
public import proofs.«01_k».proof.Proof.Qkv.RefArray1

@[expose] public section

noncomputable section

namespace Cert.Qkv

open Idealize.ShloMosaic Idealize.ShloMosaic.TcCoe Idealize.SL.Sem

/-- From equal arguments the kernel of depth 0 and its reference both end with the projection. -/
theorem algebraic0 : Cert.algebraic_Qkv0Ideal_Qkv0RefIdeal (hQkv0Ideal := Cert.Qkv0Ideal.Gen.facts) (hQkv0RefIdeal := Cert.Qkv0RefIdeal.Gen.facts) := by
  intro m g m' g' _ hargs
  refine ⟨fun c => arr (m ((c : Thread Cert.Qkv0Ideal.nD Cert.Qkv0Ideal.τ).loc Cert.Qkv0Ideal.main_arg2)) (m ((c : Thread Cert.Qkv0Ideal.nD Cert.Qkv0Ideal.τ).loc Cert.Qkv0Ideal.main_arg0))
    (m ((c : Thread Cert.Qkv0Ideal.nD Cert.Qkv0Ideal.τ).loc Cert.Qkv0Ideal.main_arg1)) (m ((c : Thread Cert.Qkv0Ideal.nD Cert.Qkv0Ideal.τ).loc Cert.Qkv0Ideal.main_arg3))
    (m ((c : Thread Cert.Qkv0Ideal.nD Cert.Qkv0Ideal.τ).loc Cert.Qkv0Ideal.main_arg4)) 0, ?_, ?_⟩
  · refine (θ_run (Cert.Qkv0Ideal.defs (F := Ideal)) _ _).mono (fun r h c => ?_) (Cert.Qkv0Ideal.Value.run_blocks (F := Ideal) m g)
    exact ⟨(h c).1.trans (Cert.Qkv0Ideal.Value.final m c), (h c).2⟩
  · refine (θ_run (Cert.Qkv0RefIdeal.defs (F := Ideal)) _ _).mono (fun r h c => ?_) (Cert.Qkv0RefIdeal.Value.run_blocks (F := Ideal) m' g')
    refine ⟨(h c).1.trans ?_, (h c).2⟩
    refine (Cert.Qkv0RefIdeal.Value.final m' c).trans ?_
    rw [(hargs c).1, (hargs c).2.1, (hargs c).2.2.1, (hargs c).2.2.2.1, (hargs c).2.2.2.2]

/-- From equal arguments the kernel of depth 1 and its reference both end with the projection. -/
theorem algebraic1 : Cert.algebraic_Qkv1Ideal_Qkv1RefIdeal (hQkv1Ideal := Cert.Qkv1Ideal.Gen.facts) (hQkv1RefIdeal := Cert.Qkv1RefIdeal.Gen.facts) := by
  intro m g m' g' _ hargs
  refine ⟨fun c => arr (m ((c : Thread Cert.Qkv1Ideal.nD Cert.Qkv1Ideal.τ).loc Cert.Qkv1Ideal.main_arg2)) (m ((c : Thread Cert.Qkv1Ideal.nD Cert.Qkv1Ideal.τ).loc Cert.Qkv1Ideal.main_arg0))
    (m ((c : Thread Cert.Qkv1Ideal.nD Cert.Qkv1Ideal.τ).loc Cert.Qkv1Ideal.main_arg1)) (m ((c : Thread Cert.Qkv1Ideal.nD Cert.Qkv1Ideal.τ).loc Cert.Qkv1Ideal.main_arg3))
    (m ((c : Thread Cert.Qkv1Ideal.nD Cert.Qkv1Ideal.τ).loc Cert.Qkv1Ideal.main_arg4)) 1, ?_, ?_⟩
  · refine (θ_run (Cert.Qkv1Ideal.defs (F := Ideal)) _ _).mono (fun r h c => ?_) (Cert.Qkv1Ideal.Value.run_blocks (F := Ideal) m g)
    exact ⟨(h c).1.trans (Cert.Qkv1Ideal.Value.final m c), (h c).2⟩
  · refine (θ_run (Cert.Qkv1RefIdeal.defs (F := Ideal)) _ _).mono (fun r h c => ?_) (Cert.Qkv1RefIdeal.Value.run_blocks (F := Ideal) m' g')
    refine ⟨(h c).1.trans ?_, (h c).2⟩
    refine (Cert.Qkv1RefIdeal.Value.final m' c).trans ?_
    rw [(hargs c).1, (hargs c).2.1, (hargs c).2.2.1, (hargs c).2.2.2.1, (hargs c).2.2.2.2]

end Cert.Qkv

end
-- ==== Proof.lean ====
/-
  The certificate: the frames of the programs, and that each kernel at the ideal instance computes what its reference does.
-/
module

public import proofs.«01_k».proof.Defs
public import proofs.«01_k».proof.Proof.Gen.Down0
public import proofs.«01_k».proof.Proof.Gen.Down0.Skeleton
public import proofs.«01_k».proof.Proof.Gen.Down0.Launch
public import proofs.«01_k».proof.Proof.Gen.Down0.Points
public import proofs.«01_k».proof.Proof.Gen.Down0.Frame
public import proofs.«01_k».proof.Proof.Gen.Down0Ideal
public import proofs.«01_k».proof.Proof.Gen.Down0Ideal.Skeleton
public import proofs.«01_k».proof.Proof.Gen.Down0Ideal.Launch
public import proofs.«01_k».proof.Proof.Gen.Down0Ideal.Points
public import proofs.«01_k».proof.Proof.Gen.Down0Ideal.Frame
public import proofs.«01_k».proof.Proof.Gen.Down0RefIdeal
public import proofs.«01_k».proof.Proof.Gen.Down0RefIdeal.Skeleton
public import proofs.«01_k».proof.Proof.Gen.Down0RefIdeal.Launch
public import proofs.«01_k».proof.Proof.Gen.Down0RefIdeal.Points
public import proofs.«01_k».proof.Proof.Gen.Down0RefIdeal.Frame
public import proofs.«01_k».proof.Proof.Gen.Down0Ideal.Value
public import proofs.«01_k».proof.Proof.Gen.Down0RefIdeal.Value
public import proofs.«01_k».proof.Proof.Gen.Logits
public import proofs.«01_k».proof.Proof.Gen.Logits.Skeleton
public import proofs.«01_k».proof.Proof.Gen.Logits.Launch
public import proofs.«01_k».proof.Proof.Gen.Logits.Points
public import proofs.«01_k».proof.Proof.Gen.Logits.Frame
public import proofs.«01_k».proof.Proof.Gen.LogitsIdeal
public import proofs.«01_k».proof.Proof.Gen.LogitsIdeal.Skeleton
public import proofs.«01_k».proof.Proof.Gen.LogitsIdeal.Launch
public import proofs.«01_k».proof.Proof.Gen.LogitsIdeal.Points
public import proofs.«01_k».proof.Proof.Gen.LogitsIdeal.Frame
public import proofs.«01_k».proof.Proof.Gen.LogitsRefIdeal
public import proofs.«01_k».proof.Proof.Gen.LogitsRefIdeal.Skeleton
public import proofs.«01_k».proof.Proof.Gen.LogitsRefIdeal.Launch
public import proofs.«01_k».proof.Proof.Gen.LogitsRefIdeal.Points
public import proofs.«01_k».proof.Proof.Gen.LogitsRefIdeal.Frame
public import proofs.«01_k».proof.Proof.Gen.LogitsIdeal.Value
public import proofs.«01_k».proof.Proof.Gen.LogitsRefIdeal.Value
public import proofs.«01_k».proof.Proof.Gen.Down1
public import proofs.«01_k».proof.Proof.Gen.Down1.Skeleton
public import proofs.«01_k».proof.Proof.Gen.Down1.Launch
public import proofs.«01_k».proof.Proof.Gen.Down1.Points
public import proofs.«01_k».proof.Proof.Gen.Down1.Frame
public import proofs.«01_k».proof.Proof.Gen.Down1Ideal
public import proofs.«01_k».proof.Proof.Gen.Down1Ideal.Skeleton
public import proofs.«01_k».proof.Proof.Gen.Down1Ideal.Launch
public import proofs.«01_k».proof.Proof.Gen.Down1Ideal.Points
public import proofs.«01_k».proof.Proof.Gen.Down1Ideal.Frame
public import proofs.«01_k».proof.Proof.Gen.Down1RefIdeal
public import proofs.«01_k».proof.Proof.Gen.Down1RefIdeal.Skeleton
public import proofs.«01_k».proof.Proof.Gen.Down1RefIdeal.Launch
public import proofs.«01_k».proof.Proof.Gen.Down1RefIdeal.Points
public import proofs.«01_k».proof.Proof.Gen.Down1RefIdeal.Frame
public import proofs.«01_k».proof.Proof.Gen.Merge0
public import proofs.«01_k».proof.Proof.Gen.Merge0.Skeleton
public import proofs.«01_k».proof.Proof.Gen.Merge0.Launch
public import proofs.«01_k».proof.Proof.Gen.Merge0.Points
public import proofs.«01_k».proof.Proof.Gen.Merge0.Frame
public import proofs.«01_k».proof.Proof.Gen.Merge0Ideal
public import proofs.«01_k».proof.Proof.Gen.Merge0Ideal.Skeleton
public import proofs.«01_k».proof.Proof.Gen.Merge0Ideal.Launch
public import proofs.«01_k».proof.Proof.Gen.Merge0Ideal.Points
public import proofs.«01_k».proof.Proof.Gen.Merge0Ideal.Frame
public import proofs.«01_k».proof.Proof.Gen.Merge0RefIdeal
public import proofs.«01_k».proof.Proof.Gen.Merge0RefIdeal.Skeleton
public import proofs.«01_k».proof.Proof.Gen.Merge0RefIdeal.Launch
public import proofs.«01_k».proof.Proof.Gen.Merge0RefIdeal.Points
public import proofs.«01_k».proof.Proof.Gen.Merge0RefIdeal.Frame
public import proofs.«01_k».proof.Proof.Gen.Merge1
public import proofs.«01_k».proof.Proof.Gen.Merge1.Skeleton
public import proofs.«01_k».proof.Proof.Gen.Merge1.Launch
public import proofs.«01_k».proof.Proof.Gen.Merge1.Points
public import proofs.«01_k».proof.Proof.Gen.Merge1.Frame
public import proofs.«01_k».proof.Proof.Gen.Merge1Ideal
public import proofs.«01_k».proof.Proof.Gen.Merge1Ideal.Skeleton
public import proofs.«01_k».proof.Proof.Gen.Merge1Ideal.Launch
public import proofs.«01_k».proof.Proof.Gen.Merge1Ideal.Points
public import proofs.«01_k».proof.Proof.Gen.Merge1Ideal.Frame
public import proofs.«01_k».proof.Proof.Gen.Merge1RefIdeal
public import proofs.«01_k».proof.Proof.Gen.Merge1RefIdeal.Skeleton
public import proofs.«01_k».proof.Proof.Gen.Merge1RefIdeal.Launch
public import proofs.«01_k».proof.Proof.Gen.Merge1RefIdeal.Points
public import proofs.«01_k».proof.Proof.Gen.Merge1RefIdeal.Frame
public import proofs.«01_k».proof.Proof.Gen.Out0
public import proofs.«01_k».proof.Proof.Gen.Out0.Skeleton
public import proofs.«01_k».proof.Proof.Gen.Out0.Launch
public import proofs.«01_k».proof.Proof.Gen.Out0.Points
public import proofs.«01_k».proof.Proof.Gen.Out0.Frame
public import proofs.«01_k».proof.Proof.Gen.Out0Ideal
public import proofs.«01_k».proof.Proof.Gen.Out0Ideal.Skeleton
public import proofs.«01_k».proof.Proof.Gen.Out0Ideal.Launch
public import proofs.«01_k».proof.Proof.Gen.Out0Ideal.Points
public import proofs.«01_k».proof.Proof.Gen.Out0Ideal.Frame
public import proofs.«01_k».proof.Proof.Gen.Out0RefIdeal
public import proofs.«01_k».proof.Proof.Gen.Out0RefIdeal.Skeleton
public import proofs.«01_k».proof.Proof.Gen.Out0RefIdeal.Launch
public import proofs.«01_k».proof.Proof.Gen.Out0RefIdeal.Points
public import proofs.«01_k».proof.Proof.Gen.Out0RefIdeal.Frame
public import proofs.«01_k».proof.Proof.Gen.Out1
public import proofs.«01_k».proof.Proof.Gen.Out1.Skeleton
public import proofs.«01_k».proof.Proof.Gen.Out1.Launch
public import proofs.«01_k».proof.Proof.Gen.Out1.Points
public import proofs.«01_k».proof.Proof.Gen.Out1.Frame
public import proofs.«01_k».proof.Proof.Gen.Out1Ideal
public import proofs.«01_k».proof.Proof.Gen.Out1Ideal.Skeleton
public import proofs.«01_k».proof.Proof.Gen.Out1Ideal.Launch
public import proofs.«01_k».proof.Proof.Gen.Out1Ideal.Points
public import proofs.«01_k».proof.Proof.Gen.Out1Ideal.Frame
public import proofs.«01_k».proof.Proof.Gen.Out1RefIdeal
public import proofs.«01_k».proof.Proof.Gen.Out1RefIdeal.Skeleton
public import proofs.«01_k».proof.Proof.Gen.Out1RefIdeal.Launch
public import proofs.«01_k».proof.Proof.Gen.Out1RefIdeal.Points
public import proofs.«01_k».proof.Proof.Gen.Out1RefIdeal.Frame
public import proofs.«01_k».proof.Proof.Gen.Qkv0
public import proofs.«01_k».proof.Proof.Gen.Qkv0.Skeleton
public import proofs.«01_k».proof.Proof.Gen.Qkv0.Launch
public import proofs.«01_k».proof.Proof.Gen.Qkv0.Points
public import proofs.«01_k».proof.Proof.Gen.Qkv0.Frame
public import proofs.«01_k».proof.Proof.Gen.Qkv0Ideal
public import proofs.«01_k».proof.Proof.Gen.Qkv0Ideal.Skeleton
public import proofs.«01_k».proof.Proof.Gen.Qkv0Ideal.Launch
public import proofs.«01_k».proof.Proof.Gen.Qkv0Ideal.Points
public import proofs.«01_k».proof.Proof.Gen.Qkv0Ideal.Frame
public import proofs.«01_k».proof.Proof.Gen.Qkv0RefIdeal
public import proofs.«01_k».proof.Proof.Gen.Qkv0RefIdeal.Skeleton
public import proofs.«01_k».proof.Proof.Gen.Qkv0RefIdeal.Launch
public import proofs.«01_k».proof.Proof.Gen.Qkv0RefIdeal.Points
public import proofs.«01_k».proof.Proof.Gen.Qkv0RefIdeal.Frame
public import proofs.«01_k».proof.Proof.Gen.Qkv1
public import proofs.«01_k».proof.Proof.Gen.Qkv1.Skeleton
public import proofs.«01_k».proof.Proof.Gen.Qkv1.Launch
public import proofs.«01_k».proof.Proof.Gen.Qkv1.Points
public import proofs.«01_k».proof.Proof.Gen.Qkv1.Frame
public import proofs.«01_k».proof.Proof.Gen.Qkv1Ideal
public import proofs.«01_k».proof.Proof.Gen.Qkv1Ideal.Skeleton
public import proofs.«01_k».proof.Proof.Gen.Qkv1Ideal.Launch
public import proofs.«01_k».proof.Proof.Gen.Qkv1Ideal.Points
public import proofs.«01_k».proof.Proof.Gen.Qkv1Ideal.Frame
public import proofs.«01_k».proof.Proof.Gen.Qkv1RefIdeal
public import proofs.«01_k».proof.Proof.Gen.Qkv1RefIdeal.Skeleton
public import proofs.«01_k».proof.Proof.Gen.Qkv1RefIdeal.Launch
public import proofs.«01_k».proof.Proof.Gen.Qkv1RefIdeal.Points
public import proofs.«01_k».proof.Proof.Gen.Qkv1RefIdeal.Frame
public import proofs.«01_k».proof.Proof.Gen.Down1Ideal.Value
public import proofs.«01_k».proof.Proof.Gen.Down1RefIdeal.Value
public import proofs.«01_k».proof.Proof.Gen.Merge0Ideal.Value
public import proofs.«01_k».proof.Proof.Gen.Merge0RefIdeal.Value
public import proofs.«01_k».proof.Proof.Gen.Merge1Ideal.Value
public import proofs.«01_k».proof.Proof.Gen.Merge1RefIdeal.Value
public import proofs.«01_k».proof.Proof.Gen.Out0Ideal.Value
public import proofs.«01_k».proof.Proof.Gen.Out0RefIdeal.Value
public import proofs.«01_k».proof.Proof.Gen.Out1Ideal.Value
public import proofs.«01_k».proof.Proof.Gen.Out1RefIdeal.Value
public import proofs.«01_k».proof.Proof.Gen.Qkv0Ideal.Value
public import proofs.«01_k».proof.Proof.Gen.Qkv0RefIdeal.Value
public import proofs.«01_k».proof.Proof.Gen.Qkv1Ideal.Value
public import proofs.«01_k».proof.Proof.Gen.Qkv1RefIdeal.Value
public import proofs.«01_k».proof.Proof.Logits.Equation
public import proofs.«01_k».proof.Proof.Down.Equation
public import proofs.«01_k».proof.Proof.Merge.Equation
public import proofs.«01_k».proof.Proof.Out.Equation
public import proofs.«01_k».proof.Proof.Qkv.Equation
public import Idealize.ShloMosaic.Adequacy
public import Idealize.ShloMosaic.Init

@[expose] public section

noncomputable section

namespace Cert.Proof

open Idealize.ShloMosaic Idealize.SL.Sem

/-- Every claim of the certificate. -/
theorem claim : Cert.Claim := ⟨Cert.Logits.Gen.facts, Cert.LogitsIdeal.Gen.facts, Cert.LogitsRefIdeal.Gen.facts,
  Cert.Down0.Gen.facts, Cert.Down0Ideal.Gen.facts, Cert.Down0RefIdeal.Gen.facts,
  Cert.Down1.Gen.facts, Cert.Down1Ideal.Gen.facts, Cert.Down1RefIdeal.Gen.facts,
  Cert.Merge0.Gen.facts, Cert.Merge0Ideal.Gen.facts, Cert.Merge0RefIdeal.Gen.facts,
  Cert.Merge1.Gen.facts, Cert.Merge1Ideal.Gen.facts, Cert.Merge1RefIdeal.Gen.facts,
  Cert.Out0.Gen.facts, Cert.Out0Ideal.Gen.facts, Cert.Out0RefIdeal.Gen.facts,
  Cert.Out1.Gen.facts, Cert.Out1Ideal.Gen.facts, Cert.Out1RefIdeal.Gen.facts,
  Cert.Qkv0.Gen.facts, Cert.Qkv0Ideal.Gen.facts, Cert.Qkv0RefIdeal.Gen.facts,
  Cert.Qkv1.Gen.facts, Cert.Qkv1Ideal.Gen.facts, Cert.Qkv1RefIdeal.Gen.facts, by
  exact ⟨fun m ρ _ => Cert.Logits.Gen.frame m ρ, fun m ρ _ => Cert.LogitsIdeal.Gen.frame m ρ, fun m ρ _ => Cert.LogitsRefIdeal.Gen.frame m ρ,
    fun m ρ _ => Cert.Down0.Gen.frame m ρ, fun m ρ _ => Cert.Down0Ideal.Gen.frame m ρ, fun m ρ _ => Cert.Down0RefIdeal.Gen.frame m ρ,
    fun m ρ _ => Cert.Down1.Gen.frame m ρ, fun m ρ _ => Cert.Down1Ideal.Gen.frame m ρ, fun m ρ _ => Cert.Down1RefIdeal.Gen.frame m ρ,
    fun m ρ _ => Cert.Merge0.Gen.frame m ρ, fun m ρ _ => Cert.Merge0Ideal.Gen.frame m ρ, fun m ρ _ => Cert.Merge0RefIdeal.Gen.frame m ρ,
    fun m ρ _ => Cert.Merge1.Gen.frame m ρ, fun m ρ _ => Cert.Merge1Ideal.Gen.frame m ρ, fun m ρ _ => Cert.Merge1RefIdeal.Gen.frame m ρ,
    fun m ρ _ => Cert.Out0.Gen.frame m ρ, fun m ρ _ => Cert.Out0Ideal.Gen.frame m ρ, fun m ρ _ => Cert.Out0RefIdeal.Gen.frame m ρ,
    fun m ρ _ => Cert.Out1.Gen.frame m ρ, fun m ρ _ => Cert.Out1Ideal.Gen.frame m ρ, fun m ρ _ => Cert.Out1RefIdeal.Gen.frame m ρ,
    fun m ρ _ => Cert.Qkv0.Gen.frame m ρ, fun m ρ _ => Cert.Qkv0Ideal.Gen.frame m ρ, fun m ρ _ => Cert.Qkv0RefIdeal.Gen.frame m ρ,
    fun m ρ _ => Cert.Qkv1.Gen.frame m ρ, fun m ρ _ => Cert.Qkv1Ideal.Gen.frame m ρ, fun m ρ _ => Cert.Qkv1RefIdeal.Gen.frame m ρ,
    trivial, Cert.Logits.algebraic,
    trivial, Cert.Down.algebraic0,
    trivial, Cert.Down.algebraic1,
    trivial, Cert.Merge.algebraic0,
    trivial, Cert.Merge.algebraic1,
    trivial, Cert.Out.algebraic0,
    trivial, Cert.Out.algebraic1,
    trivial, Cert.Qkv.algebraic0,
    trivial, Cert.Qkv.algebraic1⟩⟩

end Cert.Proof

end
